-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v77)) (v2 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_v75) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v35) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  IdealRules.named_const.Statement Cert.Kernel10Ideal.κ "mask" .f32 0xF149F2CA#32 ⊥

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v16_0)) (v1 : (c : Dev Cert.Kernel10Ideal.nD) → Buf (Elt Ideal) ((c.tc : Thread Cert.Kernel10Ideal.nD Cert.Kernel10Ideal.τ).loc Cert.Kernel10Ideal.main_v16_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16_0) = v0 c
          ∧ r.2.mem ((c.tc : Thread Cert.Kernel10Ideal.nD Cert.Kernel10Ideal.τ).loc Cert.Kernel10Ideal.main_v16_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v21) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_v39) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v33) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v42) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8x4096x96 : Shape := ⟨3, ![8, 4096, 96]⟩
abbrev S8x4096x64 : Shape := ⟨3, ![8, 4096, 64]⟩
abbrev S4096x512 : Shape := ⟨2, ![4096, 512]⟩
abbrev S_ : Shape := ⟨0, ![]⟩

class Facts : Prop where
  bcast_S_S8x4096x96 : S_.BroadcastsInDim S8x4096x96 (![] : Fin 0 → Fin S8x4096x96.rank)
  reducesTo_S8x4096x96_S_d0_1_2 : S8x4096x96.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S8x4096x96 .f32) (main_arg1 : FVec F S8x4096x96 .f32) (main_arg2 : FVec F S8x4096x64 .f32) (main_arg3 : FVec F S4096x512 .f32) : IVec S_ 1 :=
  let main_v0 : FVec F S8x4096x96 .f32 := Host.absf main_arg0
  let main_cst : FVec F S_ .f32 := constant S_ .f32 0x7F800000#32
  let main_v1 : FVec F S8x4096x96 .f32 := broadcastInDim S8x4096x96 ![] bcast_S_S8x4096x96 main_cst
  let main_v2 : IVec S8x4096x96 1 := cmpf .olt main_v0 main_v1
  let main_c : IVec S_ 1 := constantI S_ 1 1#1
  let main_v3 : IVec S_ 1 := (fun x v => Host.reduce IntOp.andi x v reducesTo_S8x4096x96_S_d0_1_2 h_S_) main_v2 main_c
  let main_v4 : FVec F S8x4096x96 .f32 := Host.absf main_arg1
  let main_cst_0 : FVec F S_ .f32 := constant S_ .f32 0x7F800000#32
  let main_v5 : FVec F S8x4096x96 .f32 := broadcastInDim S8x4096x96 ![] bcast_S_S8x4096x96 main_cst_0
  let main_v6 : IVec S8x4096x96 1 := cmpf .olt main_v4 main_v5
  let main_c_1 : IVec S_ 1 := constantI S_ 1 1#1
  let main_v7 : IVec S_ 1 := (fun x v => Host.reduce IntOp.andi x v reducesTo_S8x4096x96_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite10.lean ====
abbrev S8x4096x96 : Shape := ⟨3, ![8, 4096, 96]⟩
abbrev S8x4096x64 : Shape := ⟨3, ![8, 4096, 64]⟩
abbrev S_ : Shape := ⟨0, ![]⟩

class Facts : Prop where
  bcast_S_S8x4096x96 : S_.BroadcastsInDim S8x4096x96 (![] : Fin 0 → Fin S8x4096x96.rank)
  reducesTo_S8x4096x96_S_d0_1_2 : S8x4096x96.ReducesTo [0, 1, 2] S_
  h_S_ : 0 < S_.numel

variable [Facts]

def fn {F : FTy → Type} [FloatOps F] (main_arg0 : FVec F S8x4096x96 .f32) (main_arg1 : FVec F S8x4096x96 .f32) (main_arg2 : FVec F S8x4096x64 .f32) : IVec S_ 1 :=
  let main_v0 : FVec F S8x4096x96 .f32 := Host.absf main_arg0
  let main_cst : FVec F S_ .f32 := constant S_ .f32 0x7F800000#32
  let main_v1 : FVec F S8x4096x96 .f32 := broadcastInDim S8x4096x96 ![] bcast_S_S8x4096x96 main_cst
  let main_v2 : IVec S8x4096x96 1 := cmpf .olt main_v0 main_v1
  let main_c : IVec S_ 1 := constantI S_ 1 1#1
  let main_v3 : IVec S_ 1 := (fun x v => Host.reduce IntOp.andi x v reducesTo_S8x4096x96_S_d0_1_2 h_S_) main_v2 main_c
  let main_v4 : FVec F S8x4096x96 .f32 := Host.absf main_arg1
  let main_cst_0 : FVec F S_ .f32 := constant S_ .f32 0x7F800000#32
  let main_v5 : FVec F S8x4096x96 .f32 := broadcastInDim S8x4096x96 ![] bcast_S_S8x4096x96 main_cst_0
  let main_v6 : IVec S8x4096x96 1 := cmpf .olt main_v4 main_v5
  let main_c_1 : IVec S_ 1 := constantI S_ 1 1#1
  let main_v7 : IVec S_ 1 := (fun x v => Host.reduce IntOp.andi x v reducesTo_S8x4096x96_S_d0_1_2 h_S_) main_v6 main_c_1
  let main_v8 : IVec S_ 1 := andi main_v3 main_v7
  main_v8
-- ==== Kernel.lean ====
abbrev S8x4096x96 : Shape := ⟨3, ![8, 4096, 96]⟩
abbrev S8x4096x64 : Shape := ⟨3, ![8, 4096, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8x64 : Shape := ⟨3, ![4096, 8, 64]⟩
abbrev S8x4096x128 : Shape := ⟨3, ![8, 4096, 128]⟩
abbrev S4x2x4096x64 : Shape := ⟨4, ![4, 2, 4096, 64]⟩
abbrev S4x1x4096x64 : Shape := ⟨4, ![4, 1, 4096, 64]⟩
abbrev S4x4096x64 : Shape := ⟨3, ![4, 4096, 64]⟩
abbrev S4x4096x128 : Shape := ⟨3, ![4, 4096, 128]⟩
abbrev S4x1x4096x128 : Shape := ⟨4, ![4, 1, 4096, 128]⟩
abbrev S4x2x4096x128 : Shape := ⟨4, ![4, 2, 4096, 128]⟩
abbrev S8x8x512x128 : Shape := ⟨4, ![8, 8, 512, 128]⟩
abbrev S8x8x128x512 : Shape := ⟨4, ![8, 8, 128, 512]⟩
abbrev S8x512x4x128 : Shape := ⟨4, ![8, 512, 4, 128]⟩
abbrev S4x8x128x512 : Shape := ⟨4, ![4, 8, 128, 512]⟩
abbrev S1x4096x128 : Shape := ⟨3, ![1, 4096, 128]⟩
abbrev S1x8x128x512 : Shape := ⟨4, ![1, 8, 128, 512]⟩
abbrev S1x512x128 : Shape := ⟨3, ![1, 512, 128]⟩
abbrev S4096x128 : Shape := ⟨2, ![4096, 128]⟩
abbrev S1x4096x1 : Shape := ⟨3, ![1, 4096, 1]⟩
abbrev S128x512 : Shape := ⟨2, ![128, 512]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x1 : Shape := ⟨3, ![1, 512, 1]⟩
abbrev S1x1x128x512 : Shape := ⟨4, ![1, 1, 128, 512]⟩

abbrev nBuf : Space → Nat
  | .hbm => 141
  | .vmem => 24
  | .smem => 0
  | _ => 0

abbrev hbmTy0_0 (i : Nat) : BufTy := match i % 128 with
  | 0 => ⟨S8x4096x96, .f32⟩
  | 1 => ⟨S8x4096x96, .f32⟩
  | 2 => ⟨S8x4096x64, .f32⟩
  | 3 => ⟨S4096x512, .f32⟩
  | 4 => ⟨S8x4096x4096, .f32⟩
  | 5 => ⟨S_, .f32⟩
  | 6 => ⟨S8x4096x4096, .f32⟩
  | 7 => ⟨S8x4096x4096, .f32⟩
  | 8 => ⟨S4096, .i32⟩
  | 9 => ⟨S_, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S_, .i32⟩
  | 24 => ⟨S4096, .i32⟩
  | 25 => ⟨S4096, .i32⟩
  | 26 => ⟨S4096, .i32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S8x4096x4096, .i1⟩
  | 35 => ⟨S8x4096x4096, .f32⟩
  | 36 => ⟨S8x4096x4096, .f32⟩
  | 37 => ⟨S_, .f32⟩
  | 38 => ⟨S8x4096, .f32⟩
  | 39 => ⟨S8x4096x1, .f32⟩
  | 40 => ⟨S8x4096x4096, .f32⟩
  | 41 => ⟨S8x4096x4096, .f32⟩
  | 42 => ⟨S8x4096x4096, .f32⟩
  | 43 => ⟨S_, .f32⟩
  | 44 => ⟨S8x4096, .f32⟩
  | 45 => ⟨S8x4096x1, .f32⟩
  | 46 => ⟨S8x4096x1, .f32⟩
  | 47 => ⟨S8x4096x1, .f32⟩
  | 48 => ⟨S8x4096x4096, .f32⟩
  | 49 => ⟨S_, .f32⟩
  | 50 => ⟨S8x4096x4096, .f32⟩
  | 51 => ⟨S8x4096x4096, .f32⟩
  | 52 => ⟨S4096, .i32⟩
  | 53 => ⟨S_, .i32⟩
  | 54 => ⟨S_, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i1⟩
  | 61 => ⟨S4096, .i32⟩
  | 62 => ⟨S4096, .i32⟩
  | 63 => ⟨S_, .i32⟩
  | 64 => ⟨S4096, .i32⟩
  | 65 => ⟨S4096, .i1⟩
  | 66 => ⟨S4096, .i1⟩
  | 67 => ⟨S_, .i32⟩
  | 68 => ⟨S4096, .i32⟩
  | 69 => ⟨S4096, .i32⟩
  | 70 => ⟨S4096, .i32⟩
  | 71 => ⟨S1x4096, .i32⟩
  | 72 => ⟨S4096x1, .i32⟩
  | 73 => ⟨S4096x4096, .i32⟩
  | 74 => ⟨S4096x4096, .i32⟩
  | 75 => ⟨S4096x4096, .i1⟩
  | 76 => ⟨S_, .f32⟩
  | 77 => ⟨S_, .f32⟩
  | 78 => ⟨S8x4096x4096, .i1⟩
  | 79 => ⟨S8x4096x4096, .f32⟩
  | 80 => ⟨S8x4096x4096, .f32⟩
  | 81 => ⟨S_, .f32⟩
  | 82 => ⟨S8x4096, .f32⟩
  | 83 => ⟨S_, .f32⟩
  | 84 => ⟨S8x4096, .f32⟩
  | 85 => ⟨S8x4096, .f32⟩
  | 86 => ⟨S8x4096x1, .f32⟩
  | 87 => ⟨S8x4096x4096, .f32⟩
  | 88 => ⟨S8x4096x4096, .f32⟩
  | 89 => ⟨S8x4096x4096, .f32⟩
  | 90 => ⟨S_, .f32⟩
  | 91 => ⟨S8x4096, .f32⟩
  | 92 => ⟨S8x4096x1, .f32⟩
  | 93 => ⟨S8x4096x4096, .f32⟩
  | 94 => ⟨S8x4096x4096, .f32⟩
  | 95 => ⟨S8x64x4096, .f32⟩
  | 96 => ⟨S4096x8x64, .f32⟩
  | 97 => ⟨S4096x512, .f32⟩
  | 98 => ⟨S_, .i32⟩
  | 99 => ⟨S_, .f32⟩
  | 100 => ⟨S8x4096x128, .f32⟩
  | 101 => ⟨S_, .i32⟩
  | 102 => ⟨S_, .f32⟩
  | 103 => ⟨S8x4096x128, .f32⟩
  | 104 => ⟨S4x2x4096x64, .f32⟩
  | 105 => ⟨S4x1x4096x64, .f32⟩
  | 106 => ⟨S4x4096x64, .f32⟩
  | 107 => ⟨S_, .i32⟩
  | 108 => ⟨S_, .f32⟩
  | 109 => ⟨S4x4096x128, .f32⟩
  | 110 => ⟨S4x1x4096x64, .f32⟩
  | 111 => ⟨S4x4096x64, .f32⟩
  | 112 => ⟨S_, .i32⟩
  | 113 => ⟨S_, .f32⟩
  | 114 => ⟨S4x4096x128, .f32⟩
  | 115 => ⟨S4x1x4096x128, .f32⟩
  | 116 => ⟨S4x1x4096x128, .f32⟩
  | 117 => ⟨S4x2x4096x128, .f32⟩
  | 118 => ⟨S8x4096x128, .f32⟩
  | 119 => ⟨S8x4096x128, .bf16⟩
  | 120 => ⟨S8x4096x128, .bf16⟩
  | 121 => ⟨S8x4096x128, .bf16⟩
  | 122 => ⟨S8x8x512x128, .bf16⟩
  | 123 => ⟨S8x8x128x512, .bf16⟩
  | 124 => ⟨S4096x512, .bf16⟩
  | 125 => ⟨S8x512x4x128, .bf16⟩
  | 126 => ⟨S4x8x128x512, .bf16⟩
  | 127 => ⟨S8x4096x128, .f32⟩
  | _ => ⟨S8x4096x96, .f32⟩

abbrev hbmTy0_1 (i : Nat) : BufTy := match i % 128 with
  | 0 => ⟨S8x4096x128, .f32⟩
  | 1 => ⟨S8x4096x128, .f32⟩
  | 2 => ⟨S4x2x4096x128, .f32⟩
  | 3 => ⟨S4x1x4096x64, .f32⟩
  | 4 => ⟨S4x4096x64, .f32⟩
  | 5 => ⟨S4x1x4096x64, .f32⟩
  | 6 => ⟨S4x4096x64, .f32⟩
  | 7 => ⟨S4x1x4096x64, .f32⟩
  | 8 => ⟨S4x1x4096x64, .f32⟩
  | 9 => ⟨S4x2x4096x64, .f32⟩
  | 10 => ⟨S8x4096x64, .f32⟩
  | 11 => ⟨S8x4096x96, .f32⟩
  | 12 => ⟨S8x4096x96, .f32⟩
  | _ => ⟨S8x4096x96, .f32⟩

abbrev hbmTy (i : Nat) : BufTy := match i / 128 with
  | 0 => hbmTy0_0 i
  | 1 => hbmTy0_1 i
  | _ => ⟨S8x4096x96, .f32⟩

abbrev bufTy : (tb : Table) → Fin (tcTables nBuf tb) → BufTy
  | .hbm, ⟨i, _⟩ => hbmTy i
  | .local _ .vmem, ⟨0, _⟩ => ⟨S1x4096x128, .bf16⟩
  | .local _ .vmem, ⟨1, _⟩ => ⟨S1x4096x128, .bf16⟩
  | .local _ .vmem, ⟨2, _⟩ => ⟨S1x8x128x512, .bf16⟩
  | .local _ .vmem, ⟨3, _⟩ => ⟨S1x8x128x512, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S4096x128, .f32⟩
  | .local _ .vmem, ⟨9, _⟩ => ⟨S4096x128, .f32⟩
  | .local _ .vmem, ⟨10, _⟩ => ⟨S1x8x128x512, .bf16⟩
  | .local _ .vmem, ⟨11, _⟩ => ⟨S1x8x128x512, .bf16⟩
  | .local _ .vmem, ⟨12, _⟩ => ⟨S4096x128, .f32⟩
  | .local _ .vmem, ⟨13, _⟩ => ⟨S4096x128, .f32⟩
  | .local _ .vmem, ⟨14, _⟩ => ⟨S1x4096x1, .f32⟩
  | .local _ .vmem, ⟨15, _⟩ => ⟨S1x4096x1, .f32⟩
  | .local _ .vmem, ⟨16, _⟩ => ⟨S1x4096x128, .f32⟩
  | .local _ .vmem, ⟨17, _⟩ => ⟨S1x4096x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S128x512, .f32⟩
  | .local _ .vmem, ⟨23, _⟩ => ⟨S128x512, .f32⟩
  | _, _ => ⟨S8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_3 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_4 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_5 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v30 : Ref sig .tc := ⟨.hbm, 80, rfl⟩
abbrev main_cst_6 : Ref sig .tc := ⟨.hbm, 81, rfl⟩
abbrev main_v31 : Ref sig .tc := ⟨.hbm, 82, rfl⟩
abbrev main_cst_7 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_8 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_c_9 : Ref sig .tc := ⟨.hbm, 98, rfl⟩
abbrev main_call4_v0 : Ref sig .tc := ⟨.hbm, 99, rfl⟩
abbrev main_v45 : Ref sig .tc := ⟨.hbm, 100, rfl⟩
abbrev main_c_10 : Ref sig .tc := ⟨.hbm, 101, rfl⟩
abbrev main_call5_v0 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_c_11 : Ref sig .tc := ⟨.hbm, 107, rfl⟩
abbrev main_call6_v0 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_c_12 : Ref sig .tc := ⟨.hbm, 112, rfl⟩
abbrev main_call7_v0 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66_0 : Ref sig .tc := ⟨.hbm, 127, rfl⟩
abbrev main_v66_1 : Ref sig .tc := ⟨.hbm, 128, rfl⟩
abbrev main_v66_2 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let arg2 : BitVec 32 := BitVec.ofNat 32 (i 2).val
  let c512_i32 : BitVec 32 := 512#32
  let v20 : BitVec 32 := Scalar.muli arg2 c512_i32
  v20
def k0_off1 (i : grid0.Coords) : Fin 3 → Nat :=
  let c0_11 : Index := 0#32
  let arg2 : BitVec 32 := BitVec.ofNat 32 (i 2).val
  let c512_i32 : BitVec 32 := 512#32
  let v20 : BitVec 32 := Scalar.muli arg2 c512_i32
  let v21 : BitVec 32 := v20
  let v22 : Index := Scalar.indexCast v21
  let c0_12 : Index := 0#32
  ![0, v22.toNat, 0]
def k0_off2 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v25 : Index := Scalar.indexCast v21
  let c0_13 : Index := 0#32
  ![v25.toNat, 0]
def k0_off3 (i : grid0.Coords) : Fin 3 → Nat :=
  let c0_23 : Index := 0#32
  let arg2 : BitVec 32 := BitVec.ofNat 32 (i 2).val
  let c512_i32 : BitVec 32 := 512#32
  let v20 : BitVec 32 := Scalar.muli arg2 c512_i32
  let v21 : BitVec 32 := v20
  let v52 : Index := Scalar.indexCast v21
  let c0_24 : Index := 0#32
  ![0, v52.toNat, 0]
def k0_off4 (i : grid0.Coords) : Fin 4 → Nat :=
  let c0_28 : Index := 0#32
  let arg2 : BitVec 32 := BitVec.ofNat 32 (i 2).val
  let c1_i32 : BitVec 32 := 1#32
  let v66 : BitVec 32 := Scalar.muli arg2 c1_i32
  let c0_i32_27 : BitVec 32 := 0#32
  let v67 : BitVec 32 := Scalar.addi v66 c0_i32_27
  let v68 : Index := Scalar.indexCast v67
  let c0_29 : Index := 0#32
  let c0_30 : Index := 0#32
  ![0, v68.toNat, 0, 0]
def k0_off5 (i : grid0.Coords) : Fin 4 → Nat :=
  let c0_38 : Index := 0#32
  let arg2 : BitVec 32 := BitVec.ofNat 32 (i 2).val
  let v79 : Index := Scalar.indexCast arg2
  let c0_39 : Index := 0#32
  let c0_40 : Index := 0#32
  ![0, v79.toNat, 0, 0]
def k0_cond2 (i : grid0.Coords) : BitVec 1 :=
  let c7_i32 : BitVec 32 := 7#32
  let arg2 : BitVec 32 := BitVec.ofNat 32 (i 2).val
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let c1_i32_54 : BitVec 32 := 1#32
  let v107 : BitVec 1 := Scalar.cmpi .eq v106 c1_i32_54
  let v108 : BitVec 32 := Scalar.extui v107
  let c0_i32_55 : BitVec 32 := 0#32
  let v109 : BitVec 1 := Scalar.cmpi .ne v108 c0_i32_55
  v109

def k0_mult2 (i : grid0.Coords) : BitVec 32 :=
  let arg2 : BitVec 32 := BitVec.ofNat 32 (i 2).val
  let c1_i32_79 : BitVec 32 := 1#32
  let v143 : BitVec 32 := Scalar.addi arg2 c1_i32_79
  let c512_i32_80 : BitVec 32 := 512#32
  let v144 : BitVec 32 := Scalar.muli v143 c512_i32_80
  v144
def k0_off6 (i : grid0.Coords) : Fin 3 → Nat :=
  let c0_81 : Index := 0#32
  let arg2 : BitVec 32 := BitVec.ofNat 32 (i 2).val
  let c1_i32_79 : BitVec 32 := 1#32
  let v143 : BitVec 32 := Scalar.addi arg2 c1_i32_79
  let c512_i32_80 : BitVec 32 := 512#32
  let v144 : BitVec 32 := Scalar.muli v143 c512_i32_80
  let v145 : BitVec 32 := v144
  let v146 : Index := Scalar.indexCast v145
  let c0_82 : Index := 0#32
  ![0, v146.toNat, 0]
def k0_off7 (i : grid0.Coords) : Fin 2 → Nat :=
  let arg2 : BitVec 32 := BitVec.ofNat 32 (i 2).val
  let c1_i32_79 : BitVec 32 := 1#32
  let v143 : BitVec 32 := Scalar.addi arg2 c1_i32_79
  let c512_i32_80 : BitVec 32 := 512#32
  let v144 : BitVec 32 := Scalar.muli v143 c512_i32_80
  let v145 : BitVec 32 := v144
  let v149 : Index := Scalar.indexCast v145
  let c0_83 : Index := 0#32
  ![v149.toNat, 0]
def k0_off8 (i : grid0.Coords) : Fin 3 → Nat :=
  let c0_89 : Index := 0#32
  let arg2 : BitVec 32 := BitVec.ofNat 32 (i 2).val
  let c1_i32_79 : BitVec 32 := 1#32
  let v143 : BitVec 32 := Scalar.addi arg2 c1_i32_79
  let c512_i32_80 : BitVec 32 := 512#32
  let v144 : BitVec 32 := Scalar.muli v143 c512_i32_80
  let v145 : BitVec 32 := v144
  let v162 : Index := Scalar.indexCast v145
  let c0_90 : Index := 0#32
  ![0, v162.toNat, 0]
def k0_off9 (i : grid0.Coords) : Fin 4 → Nat :=
  let c0_95 : Index := 0#32
  let arg2 : BitVec 32 := BitVec.ofNat 32 (i 2).val
  let c1_i32_79 : BitVec 32 := 1#32
  let v143 : BitVec 32 := Scalar.addi arg2 c1_i32_79
  let c1_i32_93 : BitVec 32 := 1#32
  let v176 : BitVec 32 := Scalar.muli v143 c1_i32_93
  let c0_i32_94 : BitVec 32 := 0#32
  let v177 : BitVec 32 := Scalar.addi v176 c0_i32_94
  let v178 : Index := Scalar.indexCast v177
  let c0_96 : Index := 0#32
  let c0_97 : Index := 0#32
  ![0, v178.toNat, 0, 0]
def k0_off10 (i : grid0.Coords) : Fin 4 → Nat :=
  let c0_105 : Index := 0#32
  let arg2 : BitVec 32 := BitVec.ofNat 32 (i 2).val
  let c1_i32_79 : BitVec 32 := 1#32
  let v143 : BitVec 32 := Scalar.addi arg2 c1_i32_79
  let v189 : Index := Scalar.indexCast v143
  let c0_106 : Index := 0#32
  let c0_107 : Index := 0#32
  ![0, v189.toNat, 0, 0]
@[reducible] def k0_t1_loop (i : grid0.Coords) : Scf.Loop 32 :=
  let c0_i32_65 : BitVec 32 := 0#32
  let c7_i32_56 : BitVec 32 := 7#32
  let arg2 : BitVec 32 := BitVec.ofNat 32 (i 2).val
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_67 : BitVec 32 := 1#32
  ⟨c0_i32_65, v132, c1_i32_67⟩
def k0_mult3 (i : grid0.Coords) (k0_t1 : Fin (k0_t1_loop i).trips) : BitVec 32 :=
  let arg2 : BitVec 32 := BitVec.ofNat 32 (i 2).val
  let c1_i32_79 : BitVec 32 := 1#32
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c512_i32_81 : BitVec 32 := 512#32
  let v147 : BitVec 32 := Scalar.muli v146 c512_i32_81
  v147
def k0_off11 (i : grid0.Coords) (k0_t1 : Fin (k0_t1_loop i).trips) (c1_i32_79 : BitVec 32) : Fin 3 → Nat :=
  let c0_82 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v149 : Index := Scalar.indexCast v148
  let c0_83 : Index := 0#32
  ![0, v149.toNat, 0]
def k0_off12 (i : grid0.Coords) (k0_t1 : Fin (k0_t1_loop i).trips) (c1_i32_79 : BitVec 32) : Fin 2 → Nat :=
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v152 : Index := Scalar.indexCast v148
  let c0_84 : Index := 0#32
  ![v152.toNat, 0]
def k0_off13 (i : grid0.Coords) (k0_t1 : Fin (k0_t1_loop i).trips) (c1_i32_79 : BitVec 32) : Fin 3 → Nat :=
  let c0_90 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v165 : Index := Scalar.indexCast v148
  let c0_91 : Index := 0#32
  ![0, v165.toNat, 0]
def k0_off14 (i : grid0.Coords) (k0_t1 : Fin (k0_t1_loop i).trips) (c1_i32_79 : BitVec 32) : Fin 4 → Nat :=
  let c0_96 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c1_i32_94 : BitVec 32 := 1#32
  let v179 : BitVec 32 := Scalar.muli v146 c1_i32_94
  let c0_i32_95 : BitVec 32 := 0#32
  let v180 : BitVec 32 := Scalar.addi v179 c0_i32_95
  let v181 : Index := Scalar.indexCast v180
  let c0_97 : Index := 0#32
  let c0_98 : Index := 0#32
  ![0, v181.toNat, 0, 0]
def k0_off15 (i : grid0.Coords) (k0_t1 : Fin (k0_t1_loop i).trips) (c1_i32_79 : BitVec 32) : Fin 4 → Nat :=
  let c0_106 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let v192 : Index := Scalar.indexCast v146
  let c0_107 : Index := 0#32
  let c0_108 : Index := 0#32
  ![0, v192.toNat, 0, 0]
def k0_mult4 (i : grid0.Coords) (k0_t1 : Fin (k0_t1_loop i).trips) : BitVec 32 :=
  let arg2 : BitVec 32 := BitVec.ofNat 32 (i 2).val
  let c2_i32_117 : BitVec 32 := 2#32
  let v209 : BitVec 32 := Scalar.addi arg2 c2_i32_117
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v210 : BitVec 32 := Scalar.addi v209 v106
  let c2_i32_118 : BitVec 32 := 2#32
  let c0_i32_65 : BitVec 32 := 0#32
  let c1_i32_67 : BitVec 32 := 1#32
  let arg16 : BitVec 32 := Scf.iv c0_i32_65 c1_i32_67 k0_t1
  let v211 : BitVec 32 := Scalar.muli c2_i32_118 arg16
  let v212 : BitVec 32 := Scalar.addi v210 v211
  let c512_i32_119 : BitVec 32 := 512#32
  let v213 : BitVec 32 := Scalar.muli v212 c512_i32_119
  v213
@[reducible] def k0_t2_loop (i : grid0.Coords) : Scf.Loop 32 :=
  let c0_i32_65 : BitVec 32 := 0#32
  let c7_i32_56 : BitVec 32 := 7#32
  let arg2 : BitVec 32 := BitVec.ofNat 32 (i 2).val
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let v129 : BitVec 32 := Scalar.addi c0_i32_65 v128
  let c1_i32_68 : BitVec 32 := 1#32
  ⟨v132, v129, c1_i32_68⟩
def k0_mult5 (i : grid0.Coords) (k0_t2 : Fin (k0_t2_loop i).trips) : BitVec 32 :=
  let arg2 : BitVec 32 := BitVec.ofNat 32 (i 2).val
  let c1_i32_79 : BitVec 32 := 1#32
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c512_i32_81 : BitVec 32 := 512#32
  let v147 : BitVec 32 := Scalar.muli v146 c512_i32_81
  v147
def k0_off16 (i : grid0.Coords) (k0_t2 : Fin (k0_t2_loop i).trips) (c1_i32_79 : BitVec 32) : Fin 3 → Nat :=
  let c0_82 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v149 : Index := Scalar.indexCast v148
  let c0_83 : Index := 0#32
  ![0, v149.toNat, 0]
def k0_off17 (i : grid0.Coords) (k0_t2 : Fin (k0_t2_loop i).trips) (c1_i32_79 : BitVec 32) : Fin 2 → Nat :=
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v152 : Index := Scalar.indexCast v148
  let c0_84 : Index := 0#32
  ![v152.toNat, 0]
def k0_off18 (i : grid0.Coords) (k0_t2 : Fin (k0_t2_loop i).trips) (c1_i32_79 : BitVec 32) : Fin 3 → Nat :=
  let c0_90 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v165 : Index := Scalar.indexCast v148
  let c0_91 : Index := 0#32
  ![0, v165.toNat, 0]
def k0_off19 (i : grid0.Coords) (k0_t2 : Fin (k0_t2_loop i).trips) (c1_i32_79 : BitVec 32) : Fin 4 → Nat :=
  let c0_96 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c1_i32_94 : BitVec 32 := 1#32
  let v179 : BitVec 32 := Scalar.muli v146 c1_i32_94
  let c0_i32_95 : BitVec 32 := 0#32
  let v180 : BitVec 32 := Scalar.addi v179 c0_i32_95
  let v181 : Index := Scalar.indexCast v180
  let c0_97 : Index := 0#32
  let c0_98 : Index := 0#32
  ![0, v181.toNat, 0, 0]
def k0_off20 (i : grid0.Coords) (k0_t2 : Fin (k0_t2_loop i).trips) (c1_i32_79 : BitVec 32) : Fin 4 → Nat :=
  let c0_106 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let v192 : Index := Scalar.indexCast v146
  let c0_107 : Index := 0#32
  let c0_108 : Index := 0#32
  ![0, v192.toNat, 0, 0]
def k0_mult6 (i : grid0.Coords) (k0_t2 : Fin (k0_t2_loop i).trips) : BitVec 32 :=
  let arg2 : BitVec 32 := BitVec.ofNat 32 (i 2).val
  let c2_i32_117 : BitVec 32 := 2#32
  let v209 : BitVec 32 := Scalar.addi arg2 c2_i32_117
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v210 : BitVec 32 := Scalar.addi v209 v106
  let c2_i32_118 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v211 : BitVec 32 := Scalar.muli c2_i32_118 arg16
  let v212 : BitVec 32 := Scalar.addi v210 v211
  let c512_i32_119 : BitVec 32 := 512#32
  let v213 : BitVec 32 := Scalar.muli v212 c512_i32_119
  v213
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x96 : Shape := ⟨3, ![8, 4096, 96]⟩
abbrev S8x4096x64 : Shape := ⟨3, ![8, 4096, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8x64 : Shape := ⟨3, ![4096, 8, 64]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S8x4096x4096, .i1⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .i1⟩
  | .hbm, ⟨44, _⟩ => ⟨S8x4096x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .i1⟩
  | .hbm, ⟨53, _⟩ => ⟨S_, .f32⟩
  | .hbm, ⟨54, _⟩ => ⟨S8x4096, .f32⟩
  | .hbm, ⟨55, _⟩ => ⟨S8x4096, .i1⟩
  | .hbm, ⟨56, _⟩ => ⟨S_, .f32⟩
  | .hbm, ⟨57, _⟩ => ⟨S8x4096, .f32⟩
  | .hbm, ⟨58, _⟩ => ⟨S_, .f32⟩
  | .hbm, ⟨59, _⟩ => ⟨S8x4096, .f32⟩
  | .hbm, ⟨60, _⟩ => ⟨S_, .f32⟩
  | .hbm, ⟨61, _⟩ => ⟨S8x4096, .f32⟩
  | .hbm, ⟨62, _⟩ => ⟨S8x4096, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x4096, .f32⟩
  | .hbm, ⟨72, _⟩ => ⟨S8x4096x4096, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S8x64x4096, .f32⟩
  | .hbm, ⟨78, _⟩ => ⟨S4096x8x64, .f32⟩
  | .hbm, ⟨79, _⟩ => ⟨S4096x512, .f32⟩
  | .hbm, ⟨80, _⟩ => ⟨S4096x8x64, .f32⟩
  | .hbm, ⟨81, _⟩ => ⟨S8x64x4096, .f32⟩
  | .hbm, ⟨82, _⟩ => ⟨S8x4096x4096, .f32⟩
  | .hbm, ⟨83, _⟩ => ⟨S8x64x4096, .f32⟩
  | .hbm, ⟨84, _⟩ => ⟨S8x4096x64, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S8x4096x1, .f32⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096, .f32⟩
  | .hbm, ⟨96, _⟩ => ⟨S8x4096x4096, .f32⟩
  | .hbm, ⟨97, _⟩ => ⟨S8x4096x4096, .f32⟩
  | .hbm, ⟨98, _⟩ => ⟨S8x4096x4096, .f32⟩
  | .hbm, ⟨99, _⟩ => ⟨S_, .f32⟩
  | .hbm, ⟨100, _⟩ => ⟨S8x4096x4096, .f32⟩
  | .hbm, ⟨101, _⟩ => ⟨S8x4096x4096, .f32⟩
  | .hbm, ⟨102, _⟩ => ⟨S_, .f32⟩
  | .hbm, ⟨103, _⟩ => ⟨S8x4096x4096, .f32⟩
  | .hbm, ⟨104, _⟩ => ⟨S8x4096x4096, .f32⟩
  | .hbm, ⟨105, _⟩ => ⟨S8x4096x96, .f32⟩
  | .hbm, ⟨106, _⟩ => ⟨S8x4096x96, .f32⟩
  | _, _ => ⟨S8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_12 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call2_cst : Ref sig .tc := ⟨.hbm, 99, rfl⟩
abbrev main_call2_v0 : Ref sig .tc := ⟨.hbm, 100, rfl⟩
abbrev main_v59 : Ref sig .tc := ⟨.hbm, 101, rfl⟩
abbrev main_cst_13 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩

abbrev nD : Nat := 1
abbrev τ : Topo := Topo.v7x

variable {F : FTy → Type} [FloatOps F]
-- ==== Kernel2.lean ====
abbrev S4096x1024 : Shape := ⟨2, ![4096, 1024]⟩
abbrev S4096x3072 : Shape := ⟨2, ![4096, 3072]⟩
abbrev S1x1024 : Shape := ⟨2, ![1, 1024]⟩
abbrev S1x3072 : Shape := ⟨2, ![1, 3072]⟩
abbrev S1024x3072 : Shape := ⟨2, ![1024, 3072]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .f32⟩
  | .hbm, ⟨3, _⟩ => ⟨S1x1024, .f32⟩
  | .hbm, ⟨4, _⟩ => ⟨S1x3072, .f32⟩
  | .hbm, ⟨5, _⟩ => ⟨S1024x3072, .f32⟩
  | .hbm, ⟨6, _⟩ => ⟨S4096x3072, .bf16⟩
  | .hbm, ⟨7, _⟩ => ⟨S1024x3072, .bf16⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x1024 : Shape := ⟨2, ![4096, 1024]⟩
abbrev S4096x3072 : Shape := ⟨2, ![4096, 3072]⟩
abbrev S1x1024 : Shape := ⟨2, ![1, 1024]⟩
abbrev S1x3072 : Shape := ⟨2, ![1, 3072]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .f32⟩
  | .hbm, ⟨3, _⟩ => ⟨S1x1024, .f32⟩
  | .hbm, ⟨4, _⟩ => ⟨S1x3072, .f32⟩
  | .hbm, ⟨5, _⟩ => ⟨S1024x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x3072, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1x3072 : Shape := ⟨2, ![1, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x3072, .f32⟩
  | .hbm, ⟨5, _⟩ => ⟨S4096x1024, .bf16⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x1024 : Shape := ⟨2, ![4096, 1024]⟩
abbrev S1x1024 : Shape := ⟨2, ![1, 1024]⟩
abbrev S1x3072 : Shape := ⟨2, ![1, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x3072, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4x256x1024 : Shape := ⟨3, ![4, 256, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4x256x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .f32⟩
  | .local _ .vmem, ⟨4, _⟩ => ⟨S1x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S1024x1024 : Shape := ⟨2, ![1024, 1024]⟩
abbrev S4x256x1024 : Shape := ⟨3, ![4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4x256x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1024x3072 : Shape := ⟨2, ![1024, 3072]⟩
abbrev S4096x3072 : Shape := ⟨2, ![4096, 3072]⟩
abbrev S4x1024x768 : Shape := ⟨3, ![4, 1024, 768]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S4096x3072, .bf16⟩
  | .hbm, ⟨5, _⟩ => ⟨S4x1024x768, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .f32⟩
  | .local _ .vmem, ⟨4, _⟩ => ⟨S1x1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S4096x1024, .f32⟩
  | .hbm, ⟨7, _⟩ => ⟨S1024x4x768, .f32⟩
  | .hbm, ⟨8, _⟩ => ⟨S4x1024x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x3072 : Shape := ⟨2, ![1024, 3072]⟩
abbrev S4096x3072 : Shape := ⟨2, ![4096, 3072]⟩
abbrev S4096x768 : Shape := ⟨2, ![4096, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S4096x3072, .bf16⟩
  | .hbm, ⟨5, _⟩ => ⟨S1024x3072, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8x4096x96 : Shape := ⟨3, ![8, 4096, 96]⟩
abbrev S8x4096x64 : Shape := ⟨3, ![8, 4096, 64]⟩
abbrev S_ : Shape := ⟨0, ![]⟩
abbrev S8x4096x128 : Shape := ⟨3, ![8, 4096, 128]⟩
abbrev S4x2x4096x64 : Shape := ⟨4, ![4, 2, 4096, 64]⟩
abbrev S4x1x4096x64 : Shape := ⟨4, ![4, 1, 4096, 64]⟩
abbrev S4x4096x64 : Shape := ⟨3, ![4, 4096, 64]⟩
abbrev S4x4096x128 : Shape := ⟨3, ![4, 4096, 128]⟩
abbrev S4x1x4096x128 : Shape := ⟨4, ![4, 1, 4096, 128]⟩
abbrev S4x2x4096x128 : Shape := ⟨4, ![4, 2, 4096, 128]⟩
abbrev S4096x512 : Shape := ⟨2, ![4096, 512]⟩
abbrev S8x4096x1 : Shape := ⟨3, ![8, 4096, 1]⟩
abbrev S1x1024x128 : Shape := ⟨3, ![1, 1024, 128]⟩
abbrev S1x4096x128 : Shape := ⟨3, ![1, 4096, 128]⟩
abbrev S1024x128 : Shape := ⟨2, ![1024, 128]⟩
abbrev S1x1024x1 : Shape := ⟨3, ![1, 1024, 1]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S1x512x1 : Shape := ⟨3, ![1, 512, 1]⟩

abbrev nBuf : Space → Nat
  | .hbm => 29
  | .vmem => 10
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S_, .i32⟩
  | .hbm, ⟨4, _⟩ => ⟨S_, .f32⟩
  | .hbm, ⟨5, _⟩ => ⟨S8x4096x128, .f32⟩
  | .hbm, ⟨6, _⟩ => ⟨S_, .i32⟩
  | .hbm, ⟨7, _⟩ => ⟨S_, .f32⟩
  | .hbm, ⟨8, _⟩ => ⟨S8x4096x128, .f32⟩
  | .hbm, ⟨9, _⟩ => ⟨S4x2x4096x64, .f32⟩
  | .hbm, ⟨10, _⟩ => ⟨S4x1x4096x64, .f32⟩
  | .hbm, ⟨11, _⟩ => ⟨S4x4096x64, .f32⟩
  | .hbm, ⟨12, _⟩ => ⟨S_, .i32⟩
  | .hbm, ⟨13, _⟩ => ⟨S_, .f32⟩
  | .hbm, ⟨14, _⟩ => ⟨S4x4096x128, .f32⟩
  | .hbm, ⟨15, _⟩ => ⟨S4x1x4096x64, .f32⟩
  | .hbm, ⟨16, _⟩ => ⟨S4x4096x64, .f32⟩
  | .hbm, ⟨17, _⟩ => ⟨S_, .i32⟩
  | .hbm, ⟨18, _⟩ => ⟨S_, .f32⟩
  | .hbm, ⟨19, _⟩ => ⟨S4x4096x128, .f32⟩
  | .hbm, ⟨20, _⟩ => ⟨S4x1x4096x128, .f32⟩
  | .hbm, ⟨21, _⟩ => ⟨S4x1x4096x128, .f32⟩
  | .hbm, ⟨22, _⟩ => ⟨S4x2x4096x128, .f32⟩
  | .hbm, ⟨23, _⟩ => ⟨S8x4096x128, .f32⟩
  | .hbm, ⟨24, _⟩ => ⟨S8x4096x128, .bf16⟩
  | .hbm, ⟨25, _⟩ => ⟨S8x4096x128, .bf16⟩
  | .hbm, ⟨26, _⟩ => ⟨S8x4096x128, .bf16⟩
  | .hbm, ⟨27, _⟩ => ⟨S4096x512, .f32⟩
  | .hbm, ⟨28, _⟩ => ⟨S8x4096x1, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | _, _ => ⟨S8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call3_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

@[reducible] def k0_t1_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_5 : BitVec 32 := 1#32
  ⟨c0_i32_4, v12, c1_i32_5⟩
def k0_mult1 (i : grid0.Coords) (k0_t1 : Fin (k0_t1_loop i).trips) : BitVec 32 :=
  let c2_i32_75 : BitVec 32 := 2#32
  let c0_i32_4 : BitVec 32 := 0#32
  let c1_i32_5 : BitVec 32 := 1#32
  let arg8 : BitVec 32 := Scf.iv c0_i32_4 c1_i32_5 k0_t1
  let v173 : BitVec 32 := Scalar.muli c2_i32_75 arg8
  let c512_i32_76 : BitVec 32 := 512#32
  let v174 : BitVec 32 := Scalar.muli v173 c512_i32_76
  v174
def k0_off1 (i : grid0.Coords) (k0_t1 : Fin (k0_t1_loop i).trips) : Fin 3 → Nat :=
  let c0_77 : Index := 0#32
  let c2_i32_75 : BitVec 32 := 2#32
  let c0_i32_4 : BitVec 32 := 0#32
  let c1_i32_5 : BitVec 32 := 1#32
  let arg8 : BitVec 32 := Scf.iv c0_i32_4 c1_i32_5 k0_t1
  let v173 : BitVec 32 := Scalar.muli c2_i32_75 arg8
  let c512_i32_76 : BitVec 32 := 512#32
  let v174 : BitVec 32 := Scalar.muli v173 c512_i32_76
  let v175 : BitVec 32 := v174
  let v176 : Index := Scalar.indexCast v175
  let c0_78 : Index := 0#32
  ![0, v176.toNat, 0]
def k0_mult2 (i : grid0.Coords) (k0_t1 : Fin (k0_t1_loop i).trips) : BitVec 32 :=
  let c2_i32_73 : BitVec 32 := 2#32
  let c0_i32_4 : BitVec 32 := 0#32
  let c1_i32_5 : BitVec 32 := 1#32
  let arg8 : BitVec 32 := Scf.iv c0_i32_4 c1_i32_5 k0_t1
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  v202
def k0_off2 (i : grid0.Coords) (k0_t1 : Fin (k0_t1_loop i).trips) : Fin 3 → Nat :=
  let c0_87 : Index := 0#32
  let c2_i32_73 : BitVec 32 := 2#32
  let c0_i32_4 : BitVec 32 := 0#32
  let c1_i32_5 : BitVec 32 := 1#32
  let arg8 : BitVec 32 := Scf.iv c0_i32_4 c1_i32_5 k0_t1
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  let v203 : BitVec 32 := v202
  let v204 : Index := Scalar.indexCast v203
  let c0_88 : Index := 0#32
  ![0, v204.toNat, 0]
@[reducible] def k0_t2_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let v9 : BitVec 32 := Scalar.addi c0_i32_4 v8
  let c1_i32_6 : BitVec 32 := 1#32
  ⟨v12, v9, c1_i32_6⟩
def k0_mult3 (i : grid0.Coords) (k0_t2 : Fin (k0_t2_loop i).trips) : BitVec 32 :=
  let c2_i32_75 : BitVec 32 := 2#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v173 : BitVec 32 := Scalar.muli c2_i32_75 arg8
  let c512_i32_76 : BitVec 32 := 512#32
  let v174 : BitVec 32 := Scalar.muli v173 c512_i32_76
  v174
def k0_off3 (i : grid0.Coords) (k0_t2 : Fin (k0_t2_loop i).trips) : Fin 3 → Nat :=
  let c0_77 : Index := 0#32
  let c2_i32_75 : BitVec 32 := 2#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v173 : BitVec 32 := Scalar.muli c2_i32_75 arg8
  let c512_i32_76 : BitVec 32 := 512#32
  let v174 : BitVec 32 := Scalar.muli v173 c512_i32_76
  let v175 : BitVec 32 := v174
  let v176 : Index := Scalar.indexCast v175
  let c0_78 : Index := 0#32
  ![0, v176.toNat, 0]
def k0_mult4 (i : grid0.Coords) (k0_t2 : Fin (k0_t2_loop i).trips) : BitVec 32 :=
  let c2_i32_73 : BitVec 32 := 2#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  v202
def k0_off4 (i : grid0.Coords) (k0_t2 : Fin (k0_t2_loop i).trips) : Fin 3 → Nat :=
  let c0_87 : Index := 0#32
  let c2_i32_73 : BitVec 32 := 2#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  let v203 : BitVec 32 := v202
  let v204 : Index := Scalar.indexCast v203
  let c0_88 : Index := 0#32
  ![0, v204.toNat, 0]
def k0_mult5 (i : grid0.Coords) : BitVec 32 :=
  let c2_i32_7 : BitVec 32 := 2#32
  let arg1 : BitVec 32 := BitVec.ofNat 32 (i 1).val
  let v15 : BitVec 32 := Scalar.muli c2_i32_7 arg1
  let c0_i32_8 : BitVec 32 := 0#32
  let v16 : BitVec 32 := Scalar.addi v15 c0_i32_8
  let c512_i32_9 : BitVec 32 := 512#32
  let v17 : BitVec 32 := Scalar.muli v16 c512_i32_9
  v17
def k0_off5 (i : grid0.Coords) (c0_i32_8 : BitVec 32) : Fin 3 → Nat :=
  let c0_10 : Index := 0#32
  let c2_i32_7 : BitVec 32 := 2#32
  let arg1 : BitVec 32 := BitVec.ofNat 32 (i 1).val
  let v15 : BitVec 32 := Scalar.muli c2_i32_7 arg1
  let v16 : BitVec 32 := Scalar.addi v15 c0_i32_8
  let c512_i32_9 : BitVec 32 := 512#32
  let v17 : BitVec 32 := Scalar.muli v16 c512_i32_9
  let v18 : BitVec 32 := v17
  let v19 : Index := Scalar.indexCast v18
  let c0_11 : Index := 0#32
  ![0, v19.toNat, 0]
@[reducible] def k0_t3_loop (i : grid0.Coords) : Scf.Loop 32 :=
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_38 : BitVec 32 := 1#32
  ⟨c0_i32_36, v83, c1_i32_38⟩
def k0_mult6 (i : grid0.Coords) (k0_t3 : Fin (k0_t3_loop i).trips) : BitVec 32 :=
  let c2_i32_75 : BitVec 32 := 2#32
  let c0_i32_36 : BitVec 32 := 0#32
  let c1_i32_38 : BitVec 32 := 1#32
  let arg8 : BitVec 32 := Scf.iv c0_i32_36 c1_i32_38 k0_t3
  let v173 : BitVec 32 := Scalar.muli c2_i32_75 arg8
  let c512_i32_76 : BitVec 32 := 512#32
  let v174 : BitVec 32 := Scalar.muli v173 c512_i32_76
  v174
def k0_off6 (i : grid0.Coords) (k0_t3 : Fin (k0_t3_loop i).trips) : Fin 3 → Nat :=
  let c0_77 : Index := 0#32
  let c2_i32_75 : BitVec 32 := 2#32
  let c0_i32_36 : BitVec 32 := 0#32
  let c1_i32_38 : BitVec 32 := 1#32
  let arg8 : BitVec 32 := Scf.iv c0_i32_36 c1_i32_38 k0_t3
  let v173 : BitVec 32 := Scalar.muli c2_i32_75 arg8
  let c512_i32_76 : BitVec 32 := 512#32
  let v174 : BitVec 32 := Scalar.muli v173 c512_i32_76
  let v175 : BitVec 32 := v174
  let v176 : Index := Scalar.indexCast v175
  let c0_78 : Index := 0#32
  ![0, v176.toNat, 0]
def k0_mult7 (i : grid0.Coords) (k0_t3 : Fin (k0_t3_loop i).trips) : BitVec 32 :=
  let c2_i32_73 : BitVec 32 := 2#32
  let c0_i32_36 : BitVec 32 := 0#32
  let c1_i32_38 : BitVec 32 := 1#32
  let arg8 : BitVec 32 := Scf.iv c0_i32_36 c1_i32_38 k0_t3
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  v202
def k0_off7 (i : grid0.Coords) (k0_t3 : Fin (k0_t3_loop i).trips) : Fin 3 → Nat :=
  let c0_87 : Index := 0#32
  let c2_i32_73 : BitVec 32 := 2#32
  let c0_i32_36 : BitVec 32 := 0#32
  let c1_i32_38 : BitVec 32 := 1#32
  let arg8 : BitVec 32 := Scf.iv c0_i32_36 c1_i32_38 k0_t3
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  let v203 : BitVec 32 := v202
  let v204 : Index := Scalar.indexCast v203
  let c0_88 : Index := 0#32
  ![0, v204.toNat, 0]
@[reducible] def k0_t4_loop (i : grid0.Coords) : Scf.Loop 32 :=
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let v80 : BitVec 32 := Scalar.addi c0_i32_36 v79
  let c1_i32_39 : BitVec 32 := 1#32
  ⟨v83, v80, c1_i32_39⟩
def k0_mult8 (i : grid0.Coords) (k0_t4 : Fin (k0_t4_loop i).trips) : BitVec 32 :=
  let c2_i32_75 : BitVec 32 := 2#32
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg8 : BitVec 32 := Scf.iv v83 c1_i32_39 k0_t4
  let v173 : BitVec 32 := Scalar.muli c2_i32_75 arg8
  let c512_i32_76 : BitVec 32 := 512#32
  let v174 : BitVec 32 := Scalar.muli v173 c512_i32_76
  v174
def k0_off8 (i : grid0.Coords) (k0_t4 : Fin (k0_t4_loop i).trips) : Fin 3 → Nat :=
  let c0_77 : Index := 0#32
  let c2_i32_75 : BitVec 32 := 2#32
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg8 : BitVec 32 := Scf.iv v83 c1_i32_39 k0_t4
  let v173 : BitVec 32 := Scalar.muli c2_i32_75 arg8
  let c512_i32_76 : BitVec 32 := 512#32
  let v174 : BitVec 32 := Scalar.muli v173 c512_i32_76
  let v175 : BitVec 32 := v174
  let v176 : Index := Scalar.indexCast v175
  let c0_78 : Index := 0#32
  ![0, v176.toNat, 0]
def k0_mult9 (i : grid0.Coords) (k0_t4 : Fin (k0_t4_loop i).trips) : BitVec 32 :=
  let c2_i32_73 : BitVec 32 := 2#32
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg8 : BitVec 32 := Scf.iv v83 c1_i32_39 k0_t4
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  v202
def k0_off9 (i : grid0.Coords) (k0_t4 : Fin (k0_t4_loop i).trips) : Fin 3 → Nat :=
  let c0_87 : Index := 0#32
  let c2_i32_73 : BitVec 32 := 2#32
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg8 : BitVec 32 := Scf.iv v83 c1_i32_39 k0_t4
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  let v203 : BitVec 32 := v202
  let v204 : Index := Scalar.indexCast v203
  let c0_88 : Index := 0#32
  ![0, v204.toNat, 0]
def k0_mult10 (i : grid0.Coords) : BitVec 32 :=
  let c2_i32_40 : BitVec 32 := 2#32
  let arg1 : BitVec 32 := BitVec.ofNat 32 (i 1).val
  let v86 : BitVec 32 := Scalar.muli c2_i32_40 arg1
  let c512_i32_41 : BitVec 32 := 512#32
  let v87 : BitVec 32 := Scalar.muli v86 c512_i32_41
  v87
def k0_off10 (i : grid0.Coords) : Fin 3 → Nat :=
  let c0_42 : Index := 0#32
  let c2_i32_40 : BitVec 32 := 2#32
  let arg1 : BitVec 32 := BitVec.ofNat 32 (i 1).val
  let v86 : BitVec 32 := Scalar.muli c2_i32_40 arg1
  let c512_i32_41 : BitVec 32 := 512#32
  let v87 : BitVec 32 := Scalar.muli v86 c512_i32_41
  let v88 : BitVec 32 := v87
  let v89 : Index := Scalar.indexCast v88
  let c0_43 : Index := 0#32
  ![0, v89.toNat, 0]
def k0_mult11 (i : grid0.Coords) : BitVec 32 :=
  let c2_i32_51 : BitVec 32 := 2#32
  let arg1 : BitVec 32 := BitVec.ofNat 32 (i 1).val
  let v115 : BitVec 32 := Scalar.muli c2_i32_51 arg1
  let c1_i32_52 : BitVec 32 := 1#32
  let v116 : BitVec 32 := Scalar.addi v115 c1_i32_52
  let c512_i32_53 : BitVec 32 := 512#32
  let v117 : BitVec 32 := Scalar.muli v116 c512_i32_53
  v117
def k0_cond1 (i : grid0.Coords) : BitVec 1 :=
  let arg2 : BitVec 32 := BitVec.ofNat 32 (i 2).val
  let c0_i32_24 : BitVec 32 := 0#32
  let v65 : BitVec 1 := Scalar.cmpi .eq arg2 c0_i32_24
  let v66 : BitVec 32 := Scalar.extui v65
  let c0_i32_25 : BitVec 32 := 0#32
  let v67 : BitVec 1 := Scalar.cmpi .ne v66 c0_i32_25
  v67

def k0_cond2 (i : grid0.Coords) : BitVec 1 :=
  let arg2 : BitVec 32 := BitVec.ofNat 32 (i 2).val
  let c1_i32_26 : BitVec 32 := 1#32
  let v68 : BitVec 1 := Scalar.cmpi .eq arg2 c1_i32_26
  let v69 : BitVec 32 := Scalar.extui v68
  let c0_i32_27 : BitVec 32 := 0#32
  let v70 : BitVec 1 := Scalar.cmpi .ne v69 c0_i32_27
  v70

def k0_cond3 (i : grid0.Coords) : BitVec 1 :=
  let arg2 : BitVec 32 := BitVec.ofNat 32 (i 2).val
  let c0_i32_69 : BitVec 32 := 0#32
  let v165 : BitVec 1 := Scalar.cmpi .eq arg2 c0_i32_69
  let v166 : BitVec 32 := Scalar.extui v165
  let c0_i32_70 : BitVec 32 := 0#32
  let v167 : BitVec 1 := Scalar.cmpi .ne v166 c0_i32_70
  v167

def k0_cond4 (i : grid0.Coords) : BitVec 1 :=
  let arg2 : BitVec 32 := BitVec.ofNat 32 (i 2).val
  let c1_i32_71 : BitVec 32 := 1#32
  let v168 : BitVec 1 := Scalar.cmpi .eq arg2 c1_i32_71
  let v169 : BitVec 32 := Scalar.extui v168
  let c0_i32_72 : BitVec 32 := 0#32
  let v170 : BitVec 1 := Scalar.cmpi .ne v169 c0_i32_72
  v170

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel10Ideal.lean ====
variable {F : FTy → Type} [FloatOps F] [Named F]
def κ : String → Option EReal := fun
  | "mask" => some ⊥
  | _ => none
-- ==== Reference10Ideal.lean ====
abbrev S8x4096x96 : Shape := ⟨3, ![8, 4096, 96]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8x64 : Shape := ⟨3, ![4096, 8, 64]⟩
abbrev S4096x512 : Shape := ⟨2, ![4096, 512]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S8x4096x4096, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x64x4096, .f32⟩
  | .hbm, ⟨48, _⟩ => ⟨S4096x8x64, .f32⟩
  | .hbm, ⟨49, _⟩ => ⟨S4096x512, .f32⟩
  | .hbm, ⟨50, _⟩ => ⟨S8x4096x1, .f32⟩
  | .hbm, ⟨51, _⟩ => ⟨S8x4096x1, .f32⟩
  | _, _ => ⟨S8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1x3072 : Shape := ⟨2, ![1, 3072]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x3072, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S4096x1024 : Shape := ⟨2, ![4096, 1024]⟩
abbrev S1x1024 : Shape := ⟨2, ![1, 1024]⟩
abbrev S1x3072 : Shape := ⟨2, ![1, 3072]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x3072, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1x3072 : Shape := ⟨2, ![1, 3072]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S1x1024, .f32⟩
  | .hbm, ⟨5, _⟩ => ⟨S1x3072, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x1024 : Shape := ⟨2, ![4096, 1024]⟩
abbrev S1x1024 : Shape := ⟨2, ![1, 1024]⟩
abbrev S1x3072 : Shape := ⟨2, ![1, 3072]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S1x1024, .f32⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S1x3072 : Shape := ⟨2, ![1, 3072]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S4096x1024, .f32⟩
  | .hbm, ⟨5, _⟩ => ⟨S1x1, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x1024 : Shape := ⟨2, ![4096, 1024]⟩
abbrev S1x1024 : Shape := ⟨2, ![1, 1024]⟩
abbrev S1x3072 : Shape := ⟨2, ![1, 3072]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel14.lean ====
abbrev S8x1024 : Shape := ⟨2, ![8, 1024]⟩
abbrev S4x1024x768 : Shape := ⟨3, ![4, 1024, 768]⟩
abbrev S8x4x768 : Shape := ⟨3, ![8, 4, 768]⟩
abbrev S1024x8 : Shape := ⟨2, ![1024, 8]⟩
abbrev S4x8x768 : Shape := ⟨3, ![4, 8, 768]⟩
abbrev S256x8 : Shape := ⟨2, ![256, 8]⟩
abbrev S1x8x768 : Shape := ⟨3, ![1, 8, 768]⟩
abbrev S1x256x768 : Shape := ⟨3, ![1, 256, 768]⟩
abbrev S256x1 : Shape := ⟨2, ![256, 1]⟩
abbrev S1x1x768 : Shape := ⟨3, ![1, 1, 768]⟩
abbrev S1x768 : Shape := ⟨2, ![1, 768]⟩
abbrev S256x768 : Shape := ⟨2, ![256, 768]⟩

abbrev nBuf : Space → Nat
  | .hbm => 6
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S8x4x768, .f32⟩
  | .hbm, ⟨3, _⟩ => ⟨S1024x8, .f32⟩
  | .hbm, ⟨4, _⟩ => ⟨S4x8x768, .f32⟩
  | .hbm, ⟨5, _⟩ => ⟨S4x1024x768, .f32⟩
  | .local _ .vmem, ⟨0, _⟩ => ⟨S256x8, .f32⟩
  | .local _ .vmem, ⟨1, _⟩ => ⟨S256x8, .f32⟩
  | .local _ .vmem, ⟨2, _⟩ => ⟨S1x8x768, .f32⟩
  | .local _ .vmem, ⟨3, _⟩ => ⟨S1x8x768, .f32⟩
  | .local _ .vmem, ⟨4, _⟩ => ⟨S1x256x768, .f32⟩
  | .local _ .vmem, ⟨5, _⟩ => ⟨S1x256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8x1024 : Shape := ⟨2, ![8, 1024]⟩
abbrev S4x1024x768 : Shape := ⟨3, ![4, 1024, 768]⟩
abbrev S8x4x768 : Shape := ⟨3, ![8, 4, 768]⟩
abbrev S_ : Shape := ⟨0, ![]⟩
abbrev S4x768x1024 : Shape := ⟨3, ![4, 768, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S8x4x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x4x768, .f32⟩
  | .hbm, ⟨13, _⟩ => ⟨S4x768x1024, .f32⟩
  | .hbm, ⟨14, _⟩ => ⟨S4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel15.lean ====
abbrev S4096x2976 : Shape := ⟨2, ![4096, 2976]⟩
abbrev S4096x512 : Shape := ⟨2, ![4096, 512]⟩
abbrev S3x512 : Shape := ⟨2, ![3, 512]⟩
abbrev S1x512 : Shape := ⟨2, ![1, 512]⟩
abbrev S4096x2432 : Shape := ⟨2, ![4096, 2432]⟩
abbrev S4096x32 : Shape := ⟨2, ![4096, 32]⟩
abbrev S_ : Shape := ⟨0, ![]⟩
abbrev S4096x64 : Shape := ⟨2, ![4096, 64]⟩
abbrev S4096x3072 : Shape := ⟨2, ![4096, 3072]⟩
abbrev S4096x1024 : Shape := ⟨2, ![4096, 1024]⟩
abbrev S512x512 : Shape := ⟨2, ![512, 512]⟩
abbrev S8x512 : Shape := ⟨2, ![8, 512]⟩
abbrev S512x1024 : Shape := ⟨2, ![512, 1024]⟩
abbrev S520x512 : Shape := ⟨2, ![520, 512]⟩

abbrev nBuf : Space → Nat
  | .hbm => 13
  | .vmem => 21
  | .smem => 0
  | _ => 0

abbrev bufTy : (tb : Table) → Fin (tcTables nBuf tb) → BufTy
  | .hbm, ⟨0, _⟩ => ⟨S4096x2976, .f32⟩
  | .hbm, ⟨1, _⟩ => ⟨S4096x512, .f32⟩
  | .hbm, ⟨2, _⟩ => ⟨S3x512, .f32⟩
  | .hbm, ⟨3, _⟩ => ⟨S1x512, .f32⟩
  | .hbm, ⟨4, _⟩ => ⟨S4096x2432, .f32⟩
  | .hbm, ⟨5, _⟩ => ⟨S4096x32, .f32⟩
  | .hbm, ⟨6, _⟩ => ⟨S4096x512, .f32⟩
  | .hbm, ⟨7, _⟩ => ⟨S_, .f32⟩
  | .hbm, ⟨8, _⟩ => ⟨S4096x64, .f32⟩
  | .hbm, ⟨9, _⟩ => ⟨S_, .f32⟩
  | .hbm, ⟨10, _⟩ => ⟨S4096x32, .f32⟩
  | .hbm, ⟨11, _⟩ => ⟨S4096x3072, .f32⟩
  | .hbm, ⟨12, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S512x512, .f32⟩
  | .local _ .vmem, ⟨15, _⟩ => ⟨S512x512, .f32⟩
  | .local _ .vmem, ⟨16, _⟩ => ⟨S3x512, .f32⟩
  | .local _ .vmem, ⟨17, _⟩ => ⟨S1x512, .f32⟩
  | .local _ .vmem, ⟨18, _⟩ => ⟨S512x1024, .bf16⟩
  | .local _ .vmem, ⟨19, _⟩ => ⟨S512x1024, .bf16⟩
  | .local _ .vmem, ⟨20, _⟩ => ⟨S520x512, .f32⟩
  | _, _ => ⟨S4096x2976, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference15Ideal.lean ====
abbrev S4096x2976 : Shape := ⟨2, ![4096, 2976]⟩
abbrev S4096x512 : Shape := ⟨2, ![4096, 512]⟩
abbrev S3x512 : Shape := ⟨2, ![3, 512]⟩
abbrev S1x512 : Shape := ⟨2, ![1, 512]⟩
abbrev S4096x256 : Shape := ⟨2, ![4096, 256]⟩
abbrev S4096x128 : Shape := ⟨2, ![4096, 128]⟩
abbrev S4096x32 : Shape := ⟨2, ![4096, 32]⟩
abbrev S512 : Shape := ⟨1, ![512]⟩
abbrev S_ : Shape := ⟨0, ![]⟩
abbrev S4098x512 : Shape := ⟨2, ![4098, 512]⟩
abbrev S4096x1024 : Shape := ⟨2, ![4096, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x2976, .f32⟩
  | .hbm, ⟨1, _⟩ => ⟨S4096x512, .f32⟩
  | .hbm, ⟨2, _⟩ => ⟨S3x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x256, .f32⟩
  | .hbm, ⟨9, _⟩ => ⟨S4096x128, .f32⟩
  | .hbm, ⟨10, _⟩ => ⟨S4096x32, .f32⟩
  | .hbm, ⟨11, _⟩ => ⟨S4096x512, .f32⟩
  | .hbm, ⟨12, _⟩ => ⟨S4096x512, .f32⟩
  | .hbm, ⟨13, _⟩ => ⟨S512, .f32⟩
  | .hbm, ⟨14, _⟩ => ⟨S_, .i32⟩
  | .hbm, ⟨15, _⟩ => ⟨S_, .f32⟩
  | .hbm, ⟨16, _⟩ => ⟨S4098x512, .f32⟩
  | .hbm, ⟨17, _⟩ => ⟨S1x512, .f32⟩
  | .hbm, ⟨18, _⟩ => ⟨S512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S512, .f32⟩
  | .hbm, ⟨28, _⟩ => ⟨S4096x512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S1x512, .f32⟩
  | .hbm, ⟨34, _⟩ => ⟨S512, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S1x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x1024, .f32⟩
  | .hbm, ⟨65, _⟩ => ⟨S4096x1024, .bf16⟩
  | _, _ => ⟨S4096x2976, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v37 : Ref sig .tc := ⟨.hbm, 52, rfl⟩
abbrev main_v38 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Kernel16.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Access.lean ====
/- Loads and stores of one rectangle of a buffer that is owned at known contents: what a load returns and what a
   store leaves, as functions on the contents. -/
module

public import Idealize.ShloMosaic.Lib.Memref
public import Idealize.ShloMosaic.Lib.Pipeline.FrameBody
public import Idealize.ShloMosaic.Lib.Tactic

@[expose] public section

noncomputable section

namespace Cert.Access

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The part of `X` on the rectangle of sizes `sz` at the offsets `off`. -/
def part {s : Shape} {α : Type} (X : s.Idx → α) (off sz : Fin s.rank → ℕ) (inb : ∀ a, off a + sz a ≤ s.size a) :
    (Rect.unit off sz inb).shape.Idx → α := fun j => X ((Rect.unit off sz inb).emb j)

/-- `X` with its part on the rectangle replaced by `w`. -/
def put {s : Shape} {α : Type} (X : s.Idx → α) (off sz : Fin s.rank → ℕ) (inb : ∀ a, off a + sz a ≤ s.size a)
    (w : (Rect.unit off sz inb).shape.Idx → α) : s.Idx → α := (Rect.unit off sz inb).overlay X w

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- What a buffer reads after a store through a rectangle: the old contents with the rectangle replaced. -/
theorem read_store {κ : Kind} {sp : Space} {s : Shape} {e : EltTy} (m : Memref sig κ sp s e)
    (r : Rect s) (f : m.view.ty.Contents Val) (w : r.shape.Idx → Val e) :
    m.view.read Val ((m.access r).write Val f w Finset.univ) = r.overlay (m.view.read Val f) w := by
  funext y
  by_cases h : y ∈ r.set
  · rw [← Rect.map_emb_univ] at h
    obtain ⟨x, -, rfl⟩ := Finset.mem_map.mp h
    rw [Rect.overlay_emb]
    exact View.read_slice_write_emb r f w (Finset.mem_univ x)
  · rw [Rect.overlay_of_not_mem r _ _ h]
    exact View.read_slice_write_of_not_mem r f w _ (by rw [Rect.map_emb_univ]; exact h)

variable {Λ : Labels} {α : Type} (𝒱 : Variants) {defs : Defs nD τ sig Val Λ} (c : Thread nD τ) (bd : Option 𝒱.V) (E : Set Name)

/-- A load of a rectangle, its offsets restated, from a buffer owned at `X`: the program goes on at `X`'s part. -/
theorem load_owned {cs : CoreSpace} {s : Shape} {e : EltTy} {m : Memref sig c.2.kind cs s e} {X : s.Idx → Val e}
    {q : PosShare TreeShare} {Q : α → sProp 𝕄} {off off' sz : Fin s.rank → ℕ} (h : off = off') (inb : ∀ a, off a + sz a ≤ s.size a)
    (inb' : ∀ a, off' a + sz a ≤ s.size a) {hl : m.view.LoadsAt (Rect.unit off sz inb).toLoadRect}
    {k : ((Rect.unit off sz inb).shape.Idx → Val e) → Prog (TpuEff nD τ sig Val Λ c.2) α} :
    (owns c m q X : sProp 𝕄)
      ⊢ iprop((owns c m q X -∗ wp frame (wpE defs 𝒱 c bd) E (k (part X off' sz inb')) Q)
        -∗ wp frame (wpE defs 𝒱 c bd) E (.op (.load m (Rect.unit off sz inb).toLoadRect hl) k) Q) := by
  subst h
  unfold owns
  iintro ⟨%f, %hf, H⟩ K
  iapply (wp_load 𝒱 c bd E (m := m) (View.setOn_subset_set _ _)) $$ H
  iintro H
  have e : m.view.readAt Val (Rect.unit off sz inb).toLoadRect f = part X off sz inb' := by subst hf; rfl
  rw [e]
  iapply K
  iexists f
  isplitr
  · ipureintro; exact hf
  iexact H

/-- A store of a rectangle, its offsets restated, into a buffer owned at `X`. -/
theorem store_owned {cs : CoreSpace} {s : Shape} {e : EltTy} {m : Memref sig c.2.kind cs s e} {X : s.Idx → Val e}
    {Q : α → sProp 𝕄} {off off' sz : Fin s.rank → ℕ} (h : off = off') (inb : ∀ a, off a + sz a ≤ s.size a)
    (inb' : ∀ a, off' a + sz a ≤ s.size a) {w : (Rect.unit off sz inb).shape.Idx → Val e}
    {hx : (m.access (Rect.unit off sz inb)).Stores Finset.univ}
    {hm : (Finset.univ : Finset (Rect.unit off sz inb).shape.Idx) = Finset.univ ∨ ∀ a, (Rect.unit off sz inb).stride a = 1}
    {k : PUnit → Prog (TpuEff nD τ sig Val Λ c.2) α} :
    (owns c m fullShare X : sProp 𝕄)
      ⊢ iprop((owns c m fullShare (put X off' sz inb' w) -∗ wp frame (wpE defs 𝒱 c bd) E (k ⟨⟩) Q)
        -∗ wp frame (wpE defs 𝒱 c bd) E (.op (.store m (Rect.unit off sz inb) w Finset.univ hx hm) k) Q) := by
  subst h
  unfold owns
  iintro ⟨%f, %hf, H⟩ K
  iapply (wp_store 𝒱 c bd E (m := m) (r := Rect.unit off sz inb) (S := m.view.set) (f := f)
    (View.set_slice_subset m.view _)) $$ H
  iintro H
  iapply K
  iexists _
  isplitr
  · ipureintro; exact (read_store m _ f w).trans (by rw [hf]; rfl)
  iexact H

/-- The part of `X` on the whole shape is `X`. -/
theorem part_whole {s : Shape} {β : Type} (X : s.Idx → β) (off : Fin s.rank → ℕ) (h : off = fun _ => 0) (inb : ∀ a, off a + s.size a ≤ s.size a) :
    part X off s.size inb = X := by
  subst h
  funext j
  refine congrArg X (funext fun a => Fin.ext ?_)
  show 0 + 1 * (j a).val = (j a).val
  omega

/-- Replacing the whole of `X` by `w` leaves `w`. -/
theorem put_whole {s : Shape} {β : Type} (X : s.Idx → β) (off : Fin s.rank → ℕ) (h : off = fun _ => 0) (inb : ∀ a, off a + s.size a ≤ s.size a)
    (w : s.Idx → β) : put X off s.size inb w = w := by
  subst h
  funext j
  have e : (Rect.unit (fun _ => 0) s.size inb).emb j = j := funext fun a => Fin.ext (by
    show 0 + 1 * (j a).val = (j a).val
    omega)
  have := Rect.overlay_emb (Rect.unit (fun _ => 0) s.size inb) X w j
  rwa [e] at this

/-- A load of the whole of a buffer owned at `X`. -/
theorem load_whole {cs : CoreSpace} {s : Shape} {e : EltTy} {m : Memref sig c.2.kind cs s e} {X : s.Idx → Val e}
    {q : PosShare TreeShare} {Q : α → sProp 𝕄} {off : Fin s.rank → ℕ} (h : off = fun _ => 0) (inb : ∀ a, off a + s.size a ≤ s.size a)
    {hl : m.view.LoadsAt (Rect.unit off s.size inb).toLoadRect}
    {k : ((Rect.unit off s.size inb).shape.Idx → Val e) → Prog (TpuEff nD τ sig Val Λ c.2) α} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  have := load_owned (Ix := Ix) (Name := Name) (U := U) (Lvl := Lvl) 𝒱 (defs := defs) c bd E (m := m) (X := X) (q := q) (Q := Q) rfl inb inb (hl := hl) (k := k)
  rwa [part_whole X off h inb] at this

/-- A store of the whole of an owned buffer. -/
theorem store_whole {cs : CoreSpace} {s : Shape} {e : EltTy} {m : Memref sig c.2.kind cs s e} {X : s.Idx → Val e}
    {Q : α → sProp 𝕄} {off : Fin s.rank → ℕ} (h : off = fun _ => 0) (inb : ∀ a, off a + s.size a ≤ s.size a)
    {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  have := store_owned (Ix := Ix) (Name := Name) (U := U) (Lvl := Lvl) 𝒱 (defs := defs) c bd E (m := m) (X := X) (Q := Q) rfl inb inb (w := w) (hx := hx) (hm := hm) (k := k)
  rwa [put_whole X off h inb w] at this

end Cert.Access

end
-- ==== Proof.Body.lean ====
/- One run of the kernel's body, as a function on the contents of its blocks: what each step at a query block leaves
   in the three gradients it accumulates, and the rule for the loop over the query blocks. -/
module

public import proofs.«01_k».proof.Proof.Access
public import proofs.«01_k».proof.Proof.Gen.KernelIdeal.Frame
public import proofs.«01_k».proof.Proof.Gen.KernelIdeal.Loops
public import Idealize.ShloMosaic.Lib.LoopRemainder

@[expose] public section

set_option maxRecDepth 16384

noncomputable section

namespace Cert.KernelIdeal.Body

open Cert.KernelIdeal Cert.KernelIdeal.Gen Cert.Access
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The program has no variant counters. -/
abbrev 𝒱₀ : Variants := Variants.none

/-! ## Where a step reads and writes -/

theorem inb_rows : ∀ (n : Fin 8) (a : Fin 3), ![0, 512 * n.val, 0] a + S1x512x128.size a ≤ S1x4096x128.size a := by decide
theorem inb_lines : ∀ (n : Fin 8) (a : Fin 2), ![512 * n.val, 0] a + S512x128.size a ≤ S4096x128.size a := by decide
theorem inb_column : ∀ (n : Fin 8) (a : Fin 3), ![0, 512 * n.val, 0] a + S1x512x1.size a ≤ S1x4096x1.size a := by decide
theorem inb_tile : ∀ (n : Fin 8) (a : Fin 4), ![0, n.val, 0, 0] a + S1x1x128x512.size a ≤ S1x8x128x512.size a := by decide
theorem zero2 : (![0, 0] : Fin 2 → ℕ) = fun _ => 0 := by decide
theorem zero3 : (![0, 0, 0] : Fin 3 → ℕ) = fun _ => 0 := by decide

/-- Rows `512 n … 512 n + 511` of a head's block. -/
abbrev rows {α : Type} (X : S1x4096x128.Idx → α) (n : Fin 8) : S1x512x128.Idx → α :=
  part X ![0, 512 * n.val, 0] S1x512x128.size (inb_rows n)

/-- Rows `512 n … 512 n + 511` of a pair's block. -/
abbrev lines {α : Type} (X : S4096x128.Idx → α) (n : Fin 8) : S512x128.Idx → α :=
  part X ![512 * n.val, 0] S512x128.size (inb_lines n)

/-- Entries `512 n … 512 n + 511` of a column. -/
abbrev column {α : Type} (X : S1x4096x1.Idx → α) (n : Fin 8) : S1x512x1.Idx → α :=
  part X ![0, 512 * n.val, 0] S1x512x1.size (inb_column n)

/-- Tile `n` of an array of transposed tiles. -/
abbrev tile {α : Type} (X : S1x8x128x512.Idx → α) (n : Fin 8) : S1x1x128x512.Idx → α :=
  part X ![0, n.val, 0, 0] S1x1x128x512.size (inb_tile n)

/-- A head's block with its rows `512 n … 512 n + 511` replaced. -/
abbrev setRows {α : Type} (X : S1x4096x128.Idx → α) (n : Fin 8) (w : S1x512x128.Idx → α) : S1x4096x128.Idx → α :=
  put X ![0, 512 * n.val, 0] S1x512x128.size (inb_rows n) w

/-- The query block of the diagonal step: the key block itself. -/
def here (i : grid0.Coords) : Fin 8 := i 2

/-- One if an odd number of query blocks follows the diagonal one. -/
def odd (i : grid0.Coords) : ℕ := (7 - (i 2).val) % 2

theorem trips_eq : ∀ i : grid0.Coords, (k0_t1_loop i).trips = (7 - (i 2).val) / 2 := by decide +kernel

theorem cond_eq : ∀ i : grid0.Coords, (k0_cond2 i = 1#1) ↔ odd i = 1 := by decide +kernel

theorem blk_lt (i : grid0.Coords) (t : Fin (k0_t1_loop i).trips) (c : ℕ) (hc : c ≤ 2) : (i 2).val + c + odd i + 2 * t.val < 8 := by
  have h := Nat.lt_of_lt_of_eq t.isLt (trips_eq i)
  have h2 : (i 2).val < 8 := (i 2).isLt
  unfold odd
  omega

theorem off11_eq : ∀ (i : grid0.Coords) (t : Fin (k0_t1_loop i).trips) (c : Fin 2),
    k0_off11 i t (BitVec.ofNat 32 (1 + c.val)) = ![0, 512 * ((i 2).val + (1 + c.val) + odd i + 2 * t.val), 0] := by decide +kernel
theorem off12_eq : ∀ (i : grid0.Coords) (t : Fin (k0_t1_loop i).trips) (c : Fin 2),
    k0_off12 i t (BitVec.ofNat 32 (1 + c.val)) = ![512 * ((i 2).val + (1 + c.val) + odd i + 2 * t.val), 0] := by decide +kernel
theorem off13_eq : ∀ (i : grid0.Coords) (t : Fin (k0_t1_loop i).trips) (c : Fin 2),
    k0_off13 i t (BitVec.ofNat 32 (1 + c.val)) = ![0, 512 * ((i 2).val + (1 + c.val) + odd i + 2 * t.val), 0] := by decide +kernel
theorem off14_eq : ∀ (i : grid0.Coords) (t : Fin (k0_t1_loop i).trips) (c : Fin 2),
    k0_off14 i t (BitVec.ofNat 32 (1 + c.val)) = ![0, (i 2).val + (1 + c.val) + odd i + 2 * t.val, 0, 0] := by decide +kernel
theorem off15_eq : ∀ (i : grid0.Coords) (t : Fin (k0_t1_loop i).trips) (c : Fin 2),
    k0_off15 i t (BitVec.ofNat 32 (1 + c.val)) = ![0, (i 2).val + (1 + c.val) + odd i + 2 * t.val, 0, 0] := by decide +kernel

/-! ## The steps -/

/-! The program writes the same step several times over; here is each copy's arithmetic as the first copy's. -/

theorem pay40_eq (a : FVec F S512x128 .bf16) (b : FVec F S512x512 .bf16) (c : Vec F S1x512x128 .f32) : k0_pay40 a b c = k0_pay9 a b c := rfl
theorem pay37_eq (a : FVec F S512x128 .bf16) (b : FVec F S512x512 .bf16) (c : Vec F S1x512x128 .f32) : k0_pay37 a b c = k0_pay9 a b c := rfl
theorem pay34_eq (a : FVec F S512x128 .bf16) (b : FVec F S512x512 .bf16) (c : Vec F S1x512x128 .f32) : k0_pay34 a b c = k0_pay9 a b c := rfl
theorem pay39_eq (a : FVec F S512x512 .bf16) (b : Vec F S128x512 .f32) (c : Vec F S1x1x128x512 .bf16) : k0_pay39 a b c = k0_pay8 a b c := rfl
theorem pay36_eq (a : FVec F S512x512 .bf16) (b : Vec F S128x512 .f32) (c : Vec F S1x1x128x512 .bf16) : k0_pay36 a b c = k0_pay8 a b c := rfl
theorem pay33_eq (a : FVec F S512x512 .bf16) (b : Vec F S128x512 .f32) (c : Vec F S1x1x128x512 .bf16) : k0_pay33 a b c = k0_pay8 a b c := rfl
theorem pay12_eq (a : FVec F S512x128 .bf16) (b : Vec F S1x512x128 .bf16) (c : Vec F S1x512x1 .f32) (d : Vec F S1x1x128x512 .bf16)
    (e : Vec F S128x512 .f32) : k0_pay38 (k0_pay12 a b c d e) = k0_pay7 (k0_pay5 a b c) d e := rfl
theorem pay11_eq (a b : FVec F S512x128 .bf16) (m : IVec S512x128 1) (c : Vec F S1x512x128 .bf16) (d e : Vec F S512x128 .f32)
    (f : Vec F S1x512x1 .f32) : k0_pay11 a b m c d e f = k0_pay6 a b m c d e f := rfl
theorem pay2_eq (a : FVec F S512x128 .bf16) (b : Vec F S1x512x128 .bf16) (c : Vec F S1x512x1 .f32) : k0_pay2 a b c = k0_pay5 a b c := rfl
theorem pay3_eq (a b : FVec F S512x128 .bf16) (m : IVec S512x128 1) (c : Vec F S1x512x128 .bf16) (d e : Vec F S512x128 .f32)
    (f : Vec F S1x512x1 .f32) : k0_pay3 a b m c d e f = k0_pay6 a b m c d e f := rfl
theorem pay35_eq (a : FVec F S512x512 .f32) (b : Vec F S1x1x128x512 .bf16) (c : Vec F S128x512 .f32) :
    k0_pay35 a (k0_pay4 b) c = k0_pay7 a b c := rfl
theorem pay32_eq (w v : BitVec 32) (a b : FVec F S512x128 .bf16) (l : Vec F S1x512x1 .f32) (d : Vec F S1x1x128x512 .bf16)
    (e : Vec F S128x512 .f32) : k0_pay32 e (k0_pay31 w a v b l d) = k0_pay7 (k0_pay29 w a v b l) d e := rfl

/-- The blocks the steps only read. -/
structure In (F : FTy → Type) where
  q : S1x4096x128.Idx → F .bf16
  qt : S1x8x128x512.Idx → F .bf16
  dy : S4096x128.Idx → F .f32
  dyt : S1x8x128x512.Idx → F .bf16
  o : S4096x128.Idx → F .f32
  lse : S1x4096x1.Idx → F .f32

/-- The blocks the steps accumulate in: the gradient of the queries, and the transposed ones of the keys and values. -/
structure St (F : FTy → Type) where
  dq : S1x4096x128.Idx → F .f32
  dk : S128x512.Idx → F .f32
  dv : S128x512.Idx → F .f32

/-- What a step adds, given the probabilities `p` of its tile and the gradient `ds` of its scores. -/
def add (x : In F) (v4 : FVec F S512x128 .bf16) (p : FVec F S512x512 .f32) (ds : FVec F S512x512 .bf16) (n : Fin 8) (s : St F) : St F :=
  ⟨setRows s.dq n (k0_pay9 v4 ds (rows s.dq n)), k0_pay8 ds s.dk (tile x.qt n), k0_pay7 p (tile x.dyt n) s.dv⟩

/-- The step at a query block after the diagonal one. -/
def step (x : In F) (v4 v6 : FVec F S512x128 .bf16) (v11 : IVec S512x128 1) (n : Fin 8) (s : St F) : St F :=
  add x v4 (k0_pay5 v4 (rows x.q n) (column x.lse n))
    (k0_pay6 v4 v6 v11 (rows x.q n) (lines x.dy n) (lines x.o n) (column x.lse n)) n s

/-- The key block's number as the program counts it. -/
abbrev word (i : grid0.Coords) : BitVec 32 := BitVec.ofNat 32 (i 2).val

/-- The probabilities of the diagonal tile. -/
def diagP (x : In F) (i : grid0.Coords) (v4 : FVec F S512x128 .bf16) : FVec F S512x512 .f32 :=
  k0_pay29 (word i) v4 (Scalar.muli (word i) 512#32) (k0_pay27 (rows x.q (here i))) (column x.lse (here i))

/-- The gradient of the diagonal tile's scores. -/
def diagD (x : In F) (i : grid0.Coords) (v4 v6 : FVec F S512x128 .bf16) : FVec F S512x512 .bf16 :=
  k0_pay30 (word i) v4 v6 (Scalar.muli (word i) 512#32) (k0_pay27 (rows x.q (here i))) (lines x.dy (here i))
    (k0_pay28 i (lines x.dy (here i)) (lines x.o (here i))) (column x.lse (here i))

/-- The step at the diagonal block, whose scores are masked. -/
def diag (x : In F) (i : grid0.Coords) (v4 v6 : FVec F S512x128 .bf16) (s : St F) : St F :=
  add x v4 (diagP x i v4) (diagD x i v4 v6) (here i) s

/-- The accumulators at the start of a run: the keys' and values' at zero, the queries' too at a head's first run. -/
def start (i : grid0.Coords) (dq : S1x4096x128.Idx → F .f32) : St F :=
  ⟨if (i 2).val = 0 then k0_pay21 else dq, k0_pay25, k0_pay26⟩

/-- The steps at the query blocks `a`, `a + 1`, …, `a + m - 1`. -/
def steps (x : In F) (v4 v6 : FVec F S512x128 .bf16) (v11 : IVec S512x128 1) (a : ℕ) (s : St F) : ℕ → St F
  | 0 => s
  | m + 1 => if h : a + m < 8 then step x v4 v6 v11 ⟨a + m, h⟩ (steps x v4 v6 v11 a s m) else steps x v4 v6 v11 a s m

theorem steps_zero (x : In F) (v4 v6 : FVec F S512x128 .bf16) (v11 : IVec S512x128 1) (a : ℕ) (s : St F) :
    steps x v4 v6 v11 a s 0 = s := rfl

theorem steps_succ (x : In F) (v4 v6 : FVec F S512x128 .bf16) (v11 : IVec S512x128 1) (a : ℕ) (s : St F) (m : ℕ) (h : a + m < 8) :
    steps x v4 v6 v11 a s (m + 1) = step x v4 v6 v11 ⟨a + m, h⟩ (steps x v4 v6 v11 a s m) := by
  rw [steps, dif_pos h]

/-- Steps in a row are steps followed by steps. -/
theorem steps_add (x : In F) (v4 v6 : FVec F S512x128 .bf16) (v11 : IVec S512x128 1) (a b : ℕ) (s : St F) (m : ℕ) :
    steps x v4 v6 v11 (a + b) (steps x v4 v6 v11 a s b) m = steps x v4 v6 v11 a s (b + m) := by
  induction m with
  | zero => rfl
  | succ m ih =>
    rw [steps, ← Nat.add_assoc, steps, ih]
    simp only [Nat.add_assoc]

/-- All of a run's steps. -/
def final (x : In F) (i : grid0.Coords) (v4 v6 : FVec F S512x128 .bf16) (dq : S1x4096x128.Idx → F .f32) : St F :=
  steps x v4 v6 (k0_pay24 i) ((i 2).val + 1) (diag x i v4 v6 (start i dq)) (7 - (i 2).val)

section Run

variable (c : Dev nD) (i : grid0.Coords) (arg3 : Memref sig .tc .vmem S1x4096x128 .bf16)
  (harg3 : arg3.IsWhole) (arg4 : Memref sig .tc .vmem S1x8x128x512 .bf16)
  (harg4 : arg4.IsWhole) (arg5 : Memref sig .tc .vmem S1x512x128 .bf16)
  (harg5 : arg5.IsWhole) (arg6 : Memref sig .tc .vmem S1x512x128 .bf16)
  (harg6 : arg6.IsWhole) (arg7 : Memref sig .tc .vmem S4096x128 .f32)
  (harg7 : arg7.IsWhole) (arg8 : Memref sig .tc .vmem S1x8x128x512 .bf16)
  (harg8 : arg8.IsWhole) (arg9 : Memref sig .tc .vmem S4096x128 .f32)
  (harg9 : arg9.IsWhole) (arg10 : Memref sig .tc .vmem S1x4096x1 .f32)
  (harg10 : arg10.IsWhole) (arg11 : Memref sig .tc .vmem S1x4096x128 .f32)
  (harg11 : arg11.IsWhole) (arg12 : Memref sig .tc .vmem S1x512x128 .f32)
  (harg12 : arg12.IsWhole) (arg13 : Memref sig .tc .vmem S1x512x128 .f32)
  (harg13 : arg13.IsWhole) (arg14 : Memref sig .tc .vmem S128x512 .f32)
  (harg14 : arg14.IsWhole) (arg15 : Memref sig .tc .vmem S128x512 .f32)
  (harg15 : arg15.IsWhole)

/-- The six blocks the steps only read, owned at `x`. -/
def reads (x : In F) : sProp 𝕄 :=
  iprop(owns (c : Thread nD τ) arg3 fullShare x.q ∗ owns (c : Thread nD τ) arg4 fullShare x.qt ∗ owns (c : Thread nD τ) arg7 fullShare x.dy
    ∗ owns (c : Thread nD τ) arg8 fullShare x.dyt ∗ owns (c : Thread nD τ) arg9 fullShare x.o ∗ owns (c : Thread nD τ) arg10 fullShare x.lse)

/-- The three blocks the steps accumulate in, owned at `s`. -/
def accs (s : St F) : sProp 𝕄 :=
  iprop(owns (c : Thread nD τ) arg11 fullShare s.dq ∗ owns (c : Thread nD τ) arg14 fullShare s.dk ∗ owns (c : Thread nD τ) arg15 fullShare s.dv)

/-- Before trip `t` of the loop: `2 t` steps have been taken. -/
def inv (x : In F) (v4 v6 : FVec F S512x128 .bf16) (v11 : IVec S512x128 1) (s : St F) (t : ℕ) (_ : Unit) : sProp 𝕄 :=
  iprop(reads c arg3 arg4 arg7 arg8 arg9 arg10 x ∗ accs c arg11 arg14 arg15 (steps x v4 v6 v11 ((i 2).val + 1 + odd i) s (2 * t)))

/-- One trip of the loop takes two steps. -/
theorem trip (x : In F) (v4 v6 : FVec F S512x128 .bf16) (v11 : IVec S512x128 1) (s : St F) (arg2 v106 : BitVec 32) (v107 : BitVec 1)
    (t : Fin (k0_t1_loop i).trips) (u : Unit) :
    inv c i arg3 arg4 arg7 arg8 arg9 arg10 arg11 arg14 arg15 x v4 v6 v11 s t.val u
      ⊢ wp frame (wpE (defs₀ (F := F)) 𝒱₀ c none) Set.univ
          (k0_t1_body i arg3 harg3 arg4 harg4 arg5 harg5 arg6 harg6 arg7 harg7 arg8 harg8 arg9 harg9 arg10 harg10 arg11 harg11 arg12 harg12 arg13 harg13 arg14 harg14 arg15 harg15 arg2 v4 v6 v11 v106 v107 t u)
          (inv c i arg3 arg4 arg7 arg8 arg9 arg10 arg11 arg14 arg15 x v4 v6 v11 s (t.val + 1)) := by
  have e1 : (i 2).val + 1 + odd i + 2 * t.val < 8 := blk_lt i t 1 (by omega)
  have e2 : (i 2).val + 1 + odd i + (2 * t.val + 1) < 8 := by have := blk_lt i t 2 (by omega); omega
  obtain ⟨n, hn⟩ : ∃ n : Fin 8, n = ⟨(i 2).val + 1 + odd i + 2 * t.val, e1⟩ := ⟨_, rfl⟩
  obtain ⟨n', hn'⟩ : ∃ n : Fin 8, n = ⟨(i 2).val + 1 + odd i + (2 * t.val + 1), e2⟩ := ⟨_, rfl⟩
  have hv : (i 2).val + (1 + (0 : Fin 2).val) + odd i + 2 * t.val = n.val := by subst hn; rfl
  have hv' : (i 2).val + (1 + (1 : Fin 2).val) + odd i + 2 * t.val = n'.val := by
    subst hn'; show (i 2).val + (1 + 1) + odd i + 2 * t.val = (i 2).val + 1 + odd i + (2 * t.val + 1); omega
  have h11 : k0_off11 i t 1#32 = ![0, 512 * n.val, 0] := by have h := off11_eq i t 0; rwa [hv] at h
  have h12 : k0_off12 i t 1#32 = ![512 * n.val, 0] := by have h := off12_eq i t 0; rwa [hv] at h
  have h13 : k0_off13 i t 1#32 = ![0, 512 * n.val, 0] := by have h := off13_eq i t 0; rwa [hv] at h
  have h14 : k0_off14 i t 1#32 = ![0, n.val, 0, 0] := by have h := off14_eq i t 0; rwa [hv] at h
  have h15 : k0_off15 i t 1#32 = ![0, n.val, 0, 0] := by have h := off15_eq i t 0; rwa [hv] at h
  have g11 : k0_off11 i t 2#32 = ![0, 512 * n'.val, 0] := by have h := off11_eq i t 1; rwa [hv'] at h
  have g12 : k0_off12 i t 2#32 = ![512 * n'.val, 0] := by have h := off12_eq i t 1; rwa [hv'] at h
  have g13 : k0_off13 i t 2#32 = ![0, 512 * n'.val, 0] := by have h := off13_eq i t 1; rwa [hv'] at h
  have g14 : k0_off14 i t 2#32 = ![0, n'.val, 0, 0] := by have h := off14_eq i t 1; rwa [hv'] at h
  have g15 : k0_off15 i t 2#32 = ![0, n'.val, 0, 0] := by have h := off15_eq i t 1; rwa [hv'] at h
  have hs : steps x v4 v6 v11 ((i 2).val + 1 + odd i) s (2 * (t.val + 1))
      = step x v4 v6 v11 n' (step x v4 v6 v11 n (steps x v4 v6 v11 ((i 2).val + 1 + odd i) s (2 * t.val))) := by
    rw [Nat.mul_add, Nat.mul_one, hn, hn', ← steps_succ x v4 v6 v11 _ s _ e1, ← steps_succ x v4 v6 v11 _ s _ e2]
  unfold inv
  rw [hs]
  generalize steps x v4 v6 v11 ((i 2).val + 1 + odd i) s (2 * t.val) = s
  unfold step add
  dsimp only
  unfold k0_t1_body
  rw [k0_part2_eq_skeleton, k0_part3_eq_skeleton, k0_part4_eq_skeleton]
  unfold k0_part2_skel k0_part3_skel k0_part4_skel
  simp only [Prog.lift, Prog.bind_op, Prog.bind_ret, Prog.pure_eq_ret, pay40_eq, pay39_eq, pay12_eq, pay11_eq]
  unfold reads accs
  iintro ⟨⟨H3, H4, H7, H8, H9, H10⟩, H11, H14, H15⟩
  iapply (load_owned 𝒱₀ c none Set.univ h11 _ (inb_rows n)) $$ H3; iintro H3
  iapply (load_owned 𝒱₀ c none Set.univ h12 _ (inb_lines n)) $$ H7; iintro H7
  iapply (load_owned 𝒱₀ c none Set.univ h12 _ (inb_lines n)) $$ H9; iintro H9
  iapply (load_owned 𝒱₀ c none Set.univ h13 _ (inb_column n)) $$ H10; iintro H10
  iapply (load_owned 𝒱₀ c none Set.univ h14 _ (inb_tile n)) $$ H8; iintro H8
  iapply (load_whole 𝒱₀ c none Set.univ zero2 _) $$ H15; iintro H15
  iapply (load_whole 𝒱₀ c none Set.univ zero2 _) $$ H15; iintro H15
  iapply (store_whole 𝒱₀ c none Set.univ zero2 _) $$ H15; iintro H15
  iapply (load_whole 𝒱₀ c none Set.univ zero2 _) $$ H14; iintro H14
  iapply (load_owned 𝒱₀ c none Set.univ h15 _ (inb_tile n)) $$ H4; iintro H4
  iapply (load_whole 𝒱₀ c none Set.univ zero2 _) $$ H14; iintro H14
  iapply (store_whole 𝒱₀ c none Set.univ zero2 _) $$ H14; iintro H14
  iapply (load_owned 𝒱₀ c none Set.univ h11 _ (inb_rows n)) $$ H11; iintro H11
  iapply (load_owned 𝒱₀ c none Set.univ h11 _ (inb_rows n)) $$ H11; iintro H11
  iapply (store_owned 𝒱₀ c none Set.univ h11 _ (inb_rows n)) $$ H11; iintro H11
  iapply (load_owned 𝒱₀ c none Set.univ g11 _ (inb_rows n')) $$ H3; iintro H3
  iapply (load_owned 𝒱₀ c none Set.univ g12 _ (inb_lines n')) $$ H7; iintro H7
  iapply (load_owned 𝒱₀ c none Set.univ g12 _ (inb_lines n')) $$ H9; iintro H9
  iapply (load_owned 𝒱₀ c none Set.univ g13 _ (inb_column n')) $$ H10; iintro H10
  iapply (load_owned 𝒱₀ c none Set.univ g14 _ (inb_tile n')) $$ H8; iintro H8
  iapply (load_whole 𝒱₀ c none Set.univ zero2 _) $$ H15; iintro H15
  iapply (load_whole 𝒱₀ c none Set.univ zero2 _) $$ H15; iintro H15
  iapply (store_whole 𝒱₀ c none Set.univ zero2 _) $$ H15; iintro H15
  iapply (load_whole 𝒱₀ c none Set.univ zero2 _) $$ H14; iintro H14
  iapply (load_owned 𝒱₀ c none Set.univ g15 _ (inb_tile n')) $$ H4; iintro H4
  iapply (load_whole 𝒱₀ c none Set.univ zero2 _) $$ H14; iintro H14
  iapply (store_whole 𝒱₀ c none Set.univ zero2 _) $$ H14; iintro H14
  iapply (load_owned 𝒱₀ c none Set.univ g11 _ (inb_rows n')) $$ H11; iintro H11
  iapply (load_owned 𝒱₀ c none Set.univ g11 _ (inb_rows n')) $$ H11; iintro H11
  iapply (store_owned 𝒱₀ c none Set.univ g11 _ (inb_rows n')) $$ H11; iintro H11
  rw [wp_ret]
  imodintro
  isplitl [H3 H4 H7 H8 H9 H10]
  · isplitl [H3]; · iexact H3
    isplitl [H4]; · iexact H4
    isplitl [H7]; · iexact H7
    isplitl [H8]; · iexact H8
    isplitl [H9]; · iexact H9
    iexact H10
  isplitl [H11]; · iexact H11
  isplitl [H14]; · iexact H14
  iexact H15

/-- A run of `p` and then of what follows. -/
theorem seq {α β : Type} {p : Prog (TpuEff nD τ sig (Elt F) Λ₀ .tc) α} {k : α → Prog (TpuEff nD τ sig (Elt F) Λ₀ .tc) β} {P : sProp 𝕄}
    (R : α → sProp 𝕄) {Q : β → sProp 𝕄} (h₁ : P ⊢ wp frame (wpE (defs₀ (F := F)) 𝒱₀ c none) Set.univ p R)
    (h₂ : ∀ a, R a ⊢ wp frame (wpE (defs₀ (F := F)) 𝒱₀ c none) Set.univ (k a) Q) :
    P ⊢ wp frame (wpE (defs₀ (F := F)) 𝒱₀ c none) Set.univ (p >>= k) Q := by
  rw [wp_bind]
  exact h₁.trans (wp_mono _ _ _ h₂)

/-- What follows the single step: the loop, its empty remainder, and the write of the keys' gradient. -/
def rest (arg2 : BitVec 32) (v4 v6 : FVec F S512x128 .bf16) (v11 : IVec S512x128 1) (v106 : BitVec 32) (v107 : BitVec 1) (v132 : BitVec 32) :
    Prog (TpuEff nD τ sig (Elt F) Λ₀ .tc) (FVec F S512x128 .f32) := do
  Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg13 harg13 arg14 harg14 arg15 harg15 arg2 v4 v6 v11 v106 v107)
  Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg15 harg15 arg2 v4 v6 v11 v106 v107 v132)
  let v133 : Vec F S128x512 .f32 ← Prog.lift (.load arg14 (Rect.unit (s := S128x512) ![0, 0] S128x512.size inb_S128x512_S128x512_0_0).toLoadRect (View.loadsAt_vmem h_S128x512))
  let _ : Vec F S1x512x128 .f32 ← Prog.lift (.load arg12 (Rect.unit (s := S1x512x128) ![0, 0, 0] S1x512x128.size inb_S1x512x128_S1x512x128_0_0_0).toLoadRect (View.loadsAt_vmem h_S1x512x128))
  Prog.lift (.store arg12 (Rect.unit (s := S1x512x128) ![0, 0, 0] S1x512x128.size inb_S1x512x128_S1x512x128_0_0_0) (k0_pay44 v133) Finset.univ (View.stores_vmem_bits_univ h_S1x512x128 rfl) (.inl rfl))
  let v138 : Vec F S128x512 .f32 ← Prog.lift (.load arg15 (Rect.unit (s := S128x512) ![0, 0] S128x512.size inb_S128x512_S128x512_0_0).toLoadRect (View.loadsAt_vmem h_S128x512))
  pure (k0_pay45 v138)

/-- The loop takes the steps that are left. -/
theorem rest_run (x : In F) (v4 v6 : FVec F S512x128 .bf16) (v11 : IVec S512x128 1) (s : St F) (arg2 v106 : BitVec 32) (v107 : BitVec 1)
    (v132 : BitVec 32) (d12 : S1x512x128.Idx → F .f32) :
    iprop(reads c arg3 arg4 arg7 arg8 arg9 arg10 x ∗ accs c arg11 arg14 arg15 (steps x v4 v6 v11 ((i 2).val + 1) s (odd i)) ∗ owns (c : Thread nD τ) arg12 fullShare d12)
      ⊢ wp frame (wpE (defs₀ (F := F)) 𝒱₀ c none) Set.univ (rest i arg3 harg3 arg4 harg4 arg5 harg5 arg6 harg6 arg7 harg7 arg8 harg8 arg9 harg9 arg10 harg10 arg11 harg11 arg12 harg12 arg13 harg13 arg14 harg14 arg15 harg15 arg2 v4 v6 v11 v106 v107 v132)
          (fun r => iprop(reads c arg3 arg4 arg7 arg8 arg9 arg10 x ∗ accs c arg11 arg14 arg15 (steps x v4 v6 v11 ((i 2).val + 1) s (7 - (i 2).val))
            ∗ owns (c : Thread nD τ) arg12 fullShare (k0_pay44 (steps x v4 v6 v11 ((i 2).val + 1) s (7 - (i 2).val)).dk)
            ∗ ⌜r = k0_pay45 (steps x v4 v6 v11 ((i 2).val + 1) s (7 - (i 2).val)).dv⌝)) := by
  have hend : steps x v4 v6 v11 ((i 2).val + 1 + odd i) (steps x v4 v6 v11 ((i 2).val + 1) s (odd i)) (2 * (k0_t1_loop i).trips)
      = steps x v4 v6 v11 ((i 2).val + 1) s (7 - (i 2).val) := by
    rw [steps_add, trips_eq]; congr 1; unfold odd; omega
  unfold rest
  refine seq c (fun _ => iprop(reads c arg3 arg4 arg7 arg8 arg9 arg10 x ∗ accs c arg11 arg14 arg15 (steps x v4 v6 v11 ((i 2).val + 1) s (7 - (i 2).val)) ∗ owns (c : Thread nD τ) arg12 fullShare d12)) ?_ ?_
  · iintro ⟨HR, HA, H12⟩
    iapply (Scf.wp_for frame (wpE (defs₀ (F := F)) 𝒱₀ c none) Set.univ _ _ _ (k0_t1_ok i) _ _
      (inv c i arg3 arg4 arg7 arg8 arg9 arg10 arg11 arg14 arg15 x v4 v6 v11 (steps x v4 v6 v11 ((i 2).val + 1) s (odd i)))
      (fun t u => trip c i arg3 harg3 arg4 harg4 arg5 harg5 arg6 harg6 arg7 harg7 arg8 harg8 arg9 harg9 arg10 harg10 arg11 harg11 arg12 harg12 arg13 harg13 arg14 harg14 arg15 harg15 x v4 v6 v11 _ arg2 v106 v107 t u))
    isplitl [HR HA]
    · unfold inv
      isplitl [HR]; · iexact HR
      iexact HA
    iintro %u HI
    unfold inv
    rw [show steps x v4 v6 v11 ((i 2).val + 1 + odd i) (steps x v4 v6 v11 ((i 2).val + 1) s (odd i)) (2 * Scf.trips _ _ _) = _ from hend]
    icases HI with ⟨HR, HA⟩
    isplitl [HR]; · iexact HR
    isplitl [HA]; · iexact HA
    iexact H12
  intro _
  rw [show Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg15 harg15 arg2 v4 v6 v11 v106 v107 v132) = .ret ⟨⟩ from
    Scf.for_eq_ret _ _ _ _ _ _ (Scf.rem_trips _ _)]
  simp only [Prog.lift, Prog.bind_op, Prog.bind_ret, Prog.pure_eq_ret]
  generalize steps x v4 v6 v11 ((i 2).val + 1) s (7 - (i 2).val) = s
  unfold accs
  iintro ⟨HR, ⟨H11, H14, H15⟩, H12⟩
  iapply (load_whole 𝒱₀ c none Set.univ zero2 _) $$ H14; iintro H14
  iapply (load_whole 𝒱₀ c none Set.univ zero3 _) $$ H12; iintro H12
  iapply (store_whole 𝒱₀ c none Set.univ zero3 _) $$ H12; iintro H12
  iapply (load_whole 𝒱₀ c none Set.univ zero2 _) $$ H15; iintro H15
  rw [wp_ret]
  imodintro
  isplitl [HR]; · iexact HR
  isplitl [H11 H14 H15]
  · isplitl [H11]; · iexact H11
    isplitl [H14]; · iexact H14
    iexact H15
  isplitl [H12]; · iexact H12
  ipureintro; rfl

/-- The steps after the diagonal one, and the write of the keys' gradient. -/
theorem part11_run (x : In F) (v4 v6 : FVec F S512x128 .bf16) (v11 : IVec S512x128 1) (s : St F) (arg2 v106 : BitVec 32) (v107 : BitVec 1)
    (d12 : S1x512x128.Idx → F .f32) :
    iprop(reads c arg3 arg4 arg7 arg8 arg9 arg10 x ∗ accs c arg11 arg14 arg15 s ∗ owns (c : Thread nD τ) arg12 fullShare d12)
      ⊢ wp frame (wpE (defs₀ (F := F)) 𝒱₀ c none) Set.univ (k0_part11 i arg3 harg3 arg4 harg4 arg5 harg5 arg6 harg6 arg7 harg7 arg8 harg8 arg9 harg9 arg10 harg10 arg11 harg11 arg12 harg12 arg13 harg13 arg14 harg14 arg15 harg15 arg2 v4 v6 v11 v106 v107)
          (fun r => iprop(reads c arg3 arg4 arg7 arg8 arg9 arg10 x ∗ accs c arg11 arg14 arg15 (steps x v4 v6 v11 ((i 2).val + 1) s (7 - (i 2).val))
            ∗ owns (c : Thread nD τ) arg12 fullShare (k0_pay44 (steps x v4 v6 v11 ((i 2).val + 1) s (7 - (i 2).val)).dk)
            ∗ ⌜r = k0_pay45 (steps x v4 v6 v11 ((i 2).val + 1) s (7 - (i 2).val)).dv⌝)) := by
  rw [k0_part11_eq_skeleton]
  unfold k0_part11_skel
  have hrest := rest_run c i arg3 harg3 arg4 harg4 arg5 harg5 arg6 harg6 arg7 harg7 arg8 harg8 arg9 harg9 arg10 harg10 arg11 harg11 arg12 harg12 arg13 harg13 arg14 harg14 arg15 harg15 x v4 v6 v11 s arg2 v106 v107
  unfold rest at hrest
  split
  · rename_i hc
    have ho : odd i = 1 := (cond_eq i).mp hc
    have hlt : (i 2).val + 1 + 0 < 8 := by
      have h2 : (i 2).val < 8 := (i 2).isLt
      unfold odd at ho
      omega
    obtain ⟨n, hn⟩ : ∃ n : Fin 8, n = ⟨(i 2).val + 1 + 0, hlt⟩ := ⟨_, rfl⟩
    have hv : n.val = (i 2).val + 1 := by subst hn; rfl
    have hv5 : 512 * (i 2).val + 512 = 512 * n.val := by omega
    have h6 : k0_off6 i = ![0, 512 * n.val, 0] := by rw [k0_off6_eq, hv5]
    have h7 : k0_off7 i = ![512 * n.val, 0] := by rw [k0_off7_eq, hv5]
    have h8 : k0_off8 i = ![0, 512 * n.val, 0] := by rw [k0_off8_eq, hv5]
    have h9 : k0_off9 i = ![0, n.val, 0, 0] := by rw [k0_off9_eq, hv]
    have h10 : k0_off10 i = ![0, n.val, 0, 0] := by rw [k0_off10_eq, hv]
    have hs : steps x v4 v6 v11 ((i 2).val + 1) s (odd i) = step x v4 v6 v11 n s := by
      rw [ho, hn, steps_succ x v4 v6 v11 _ s 0 hlt, steps_zero]
    rw [hs] at hrest
    unfold step add reads accs at hrest
    rw [k0_part1_eq_skeleton]
    unfold k0_part1_skel
    simp only [Prog.lift, Prog.bind_op, Prog.bind_ret, Prog.pure_eq_ret, pay37_eq, pay36_eq, pay35_eq, pay2_eq, pay3_eq] at hrest ⊢
    unfold reads accs
    iintro ⟨⟨H3, H4, H7, H8, H9, H10⟩, ⟨H11, H14, H15⟩, H12⟩
    iapply (load_owned 𝒱₀ c none Set.univ (h6) _ (inb_rows n)) $$ H3; iintro H3
    iapply (load_owned 𝒱₀ c none Set.univ (h7) _ (inb_lines n)) $$ H7; iintro H7
    iapply (load_owned 𝒱₀ c none Set.univ (h7) _ (inb_lines n)) $$ H9; iintro H9
    iapply (load_owned 𝒱₀ c none Set.univ (h8) _ (inb_column n)) $$ H10; iintro H10
    iapply (load_owned 𝒱₀ c none Set.univ (h9) _ (inb_tile n)) $$ H8; iintro H8
    iapply (load_whole 𝒱₀ c none Set.univ zero2 _) $$ H15; iintro H15
    iapply (load_whole 𝒱₀ c none Set.univ zero2 _) $$ H15; iintro H15
    iapply (store_whole 𝒱₀ c none Set.univ zero2 _) $$ H15; iintro H15
    iapply (load_whole 𝒱₀ c none Set.univ zero2 _) $$ H14; iintro H14
    iapply (load_owned 𝒱₀ c none Set.univ (h10) _ (inb_tile n)) $$ H4; iintro H4
    iapply (load_whole 𝒱₀ c none Set.univ zero2 _) $$ H14; iintro H14
    iapply (store_whole 𝒱₀ c none Set.univ zero2 _) $$ H14; iintro H14
    iapply (load_owned 𝒱₀ c none Set.univ (h6) _ (inb_rows n)) $$ H11; iintro H11
    iapply (load_owned 𝒱₀ c none Set.univ (h6) _ (inb_rows n)) $$ H11; iintro H11
    iapply (store_owned 𝒱₀ c none Set.univ (h6) _ (inb_rows n)) $$ H11; iintro H11
    iapply (hrest _ d12)
    isplitl [H3 H4 H7 H8 H9 H10]
    · isplitl [H3]; · iexact H3
      isplitl [H4]; · iexact H4
      isplitl [H7]; · iexact H7
      isplitl [H8]; · iexact H8
      isplitl [H9]; · iexact H9
      iexact H10
    isplitl [H11 H14 H15]
    · isplitl [H11]; · iexact H11
      isplitl [H14]; · iexact H14
      iexact H15
    iexact H12
  · rename_i hc
    have ho : odd i = 0 := by
      have : odd i ≠ 1 := fun h => hc ((cond_eq i).mpr h)
      unfold odd at this ⊢
      omega
    rw [ho, steps_zero] at hrest
    simp only [Prog.lift, Prog.bind_op, Prog.bind_ret, Prog.pure_eq_ret] at hrest ⊢
    exact hrest _ d12

/-- A run of `p`, and then of what follows from what `p` leaves. -/
theorem seqw {α β : Type} {p : Prog (TpuEff nD τ sig (Elt F) Λ₀ .tc) α} {k : α → Prog (TpuEff nD τ sig (Elt F) Λ₀ .tc) β} {P : sProp 𝕄}
    {R : α → sProp 𝕄} {Q : β → sProp 𝕄} (h₁ : P ⊢ wp frame (wpE (defs₀ (F := F)) 𝒱₀ c none) Set.univ p R) :
    P ⊢ iprop((∀ a, R a -∗ wp frame (wpE (defs₀ (F := F)) 𝒱₀ c none) Set.univ (k a) Q)
      -∗ wp frame (wpE (defs₀ (F := F)) 𝒱₀ c none) Set.univ (p >>= k) Q) := by
  rw [wp_bind]
  iintro HP HK
  iapply (wp_wand_r _ _ _)
  isplitl [HP]
  · iapply h₁; iexact HP
  iexact HK

/-- The first branch is taken at a head's first run. -/
theorem first_eq : ∀ i : grid0.Coords, (Scalar.cmpi .ne (Scalar.extui (Scalar.cmpi .eq (BitVec.ofNat 32 (i 2).val) 0#32)) 0#32 = 1#1) ↔ (i 2).val = 0 := by
  decide +kernel

/-- The start of a run: the accumulators are set, the key and value blocks read, and the diagonal step's operands. -/
theorem part8_run (x : In F) (k v : S1x512x128.Idx → F .bf16) (dq : S1x4096x128.Idx → F .f32) (d14 d15 : S128x512.Idx → F .f32) :
    iprop(reads c arg3 arg4 arg7 arg8 arg9 arg10 x ∗ owns (c : Thread nD τ) arg5 fullShare k ∗ owns (c : Thread nD τ) arg6 fullShare v ∗ accs c arg11 arg14 arg15 ⟨dq, d14, d15⟩)
      ⊢ wp frame (wpE (defs₀ (F := F)) 𝒱₀ c none) Set.univ (k0_part8 i arg3 harg3 arg4 harg4 arg5 harg5 arg6 harg6 arg7 harg7 arg8 harg8 arg9 harg9 arg10 harg10 arg11 harg11 arg12 harg12 arg13 harg13 arg14 harg14 arg15 harg15)
          (fun r => iprop(reads c arg3 arg4 arg7 arg8 arg9 arg10 x ∗ owns (c : Thread nD τ) arg5 fullShare k ∗ owns (c : Thread nD τ) arg6 fullShare v ∗ accs c arg11 arg14 arg15 (start i dq)
            ∗ ⌜r = ⟨word i, k0_pay22 k, k0_pay23 v, k0_pay24 i, Scalar.muli (word i) 512#32, k0_pay27 (rows x.q (here i)),
                lines x.dy (here i), k0_pay28 i (lines x.dy (here i)) (lines x.o (here i))⟩⌝)) := by
  rw [k0_part8_eq_skeleton]
  unfold k0_part8_skel reads accs
  simp only []
  split
  · rename_i hc
    have h0 := (first_eq i).mp hc
    rw [show start i dq = ⟨k0_pay21, k0_pay25, k0_pay26⟩ by unfold start; rw [if_pos h0]]
    simp only [Prog.lift, Prog.bind_op, Prog.bind_ret, Prog.pure_eq_ret]
    iintro ⟨⟨H3, H4, H7, H8, H9, H10⟩, H5, H6, H11, H14, H15⟩
    iapply (load_whole 𝒱₀ c none Set.univ zero3 _) $$ H11; iintro H11
    iapply (store_whole 𝒱₀ c none Set.univ zero3 _) $$ H11; iintro H11
    iapply (load_whole 𝒱₀ c none Set.univ zero3 _) $$ H5; iintro H5
    iapply (load_whole 𝒱₀ c none Set.univ zero3 _) $$ H6; iintro H6
    iapply (load_whole 𝒱₀ c none Set.univ zero2 _) $$ H14; iintro H14
    iapply (store_whole 𝒱₀ c none Set.univ zero2 _) $$ H14; iintro H14
    iapply (load_whole 𝒱₀ c none Set.univ zero2 _) $$ H15; iintro H15
    iapply (store_whole 𝒱₀ c none Set.univ zero2 _) $$ H15; iintro H15
    iapply (load_owned 𝒱₀ c none Set.univ (k0_off1_eq i) _ (inb_rows (here i))) $$ H3; iintro H3
    iapply (load_owned 𝒱₀ c none Set.univ (k0_off2_eq i) _ (inb_lines (here i))) $$ H7; iintro H7
    iapply (load_owned 𝒱₀ c none Set.univ (k0_off2_eq i) _ (inb_lines (here i))) $$ H9; iintro H9
    rw [wp_ret]
    imodintro
    isplitl [H3 H4 H7 H8 H9 H10]
    · isplitl [H3]; · iexact H3
      isplitl [H4]; · iexact H4
      isplitl [H7]; · iexact H7
      isplitl [H8]; · iexact H8
      isplitl [H9]; · iexact H9
      iexact H10
    isplitl [H5]; · iexact H5
    isplitl [H6]; · iexact H6
    isplitl [H11 H14 H15]
    · isplitl [H11]; · iexact H11
      isplitl [H14]; · iexact H14
      iexact H15
    ipureintro; rfl
  · rename_i hc
    have h0 : ¬ (i 2).val = 0 := fun h => hc ((first_eq i).mpr h)
    rw [show start i dq = ⟨dq, k0_pay25, k0_pay26⟩ by unfold start; rw [if_neg h0]]
    simp only [Prog.lift, Prog.bind_op, Prog.bind_ret, Prog.pure_eq_ret]
    iintro ⟨⟨H3, H4, H7, H8, H9, H10⟩, H5, H6, H11, H14, H15⟩
    iapply (load_whole 𝒱₀ c none Set.univ zero3 _) $$ H5; iintro H5
    iapply (load_whole 𝒱₀ c none Set.univ zero3 _) $$ H6; iintro H6
    iapply (load_whole 𝒱₀ c none Set.univ zero2 _) $$ H14; iintro H14
    iapply (store_whole 𝒱₀ c none Set.univ zero2 _) $$ H14; iintro H14
    iapply (load_whole 𝒱₀ c none Set.univ zero2 _) $$ H15; iintro H15
    iapply (store_whole 𝒱₀ c none Set.univ zero2 _) $$ H15; iintro H15
    iapply (load_owned 𝒱₀ c none Set.univ (k0_off1_eq i) _ (inb_rows (here i))) $$ H3; iintro H3
    iapply (load_owned 𝒱₀ c none Set.univ (k0_off2_eq i) _ (inb_lines (here i))) $$ H7; iintro H7
    iapply (load_owned 𝒱₀ c none Set.univ (k0_off2_eq i) _ (inb_lines (here i))) $$ H9; iintro H9
    rw [wp_ret]
    imodintro
    isplitl [H3 H4 H7 H8 H9 H10]
    · isplitl [H3]; · iexact H3
      isplitl [H4]; · iexact H4
      isplitl [H7]; · iexact H7
      isplitl [H8]; · iexact H8
      isplitl [H9]; · iexact H9
      iexact H10
    isplitl [H5]; · iexact H5
    isplitl [H6]; · iexact H6
    isplitl [H11 H14 H15]
    · isplitl [H11]; · iexact H11
      isplitl [H14]; · iexact H14
      iexact H15
    ipureintro; rfl

/-- One run of the body: the six read blocks, the key and the value block stay as they are; the query block's
    gradient goes on from `dq`; the key and value blocks' gradients are written. -/
theorem body_run (x : In F) (k v : S1x512x128.Idx → F .bf16) (dq : S1x4096x128.Idx → F .f32) (d12 d13 : S1x512x128.Idx → F .f32)
    (d14 d15 : S128x512.Idx → F .f32) :
    iprop(reads c arg3 arg4 arg7 arg8 arg9 arg10 x ∗ owns (c : Thread nD τ) arg5 fullShare k ∗ owns (c : Thread nD τ) arg6 fullShare v ∗ accs c arg11 arg14 arg15 ⟨dq, d14, d15⟩
        ∗ owns (c : Thread nD τ) arg12 fullShare d12 ∗ owns (c : Thread nD τ) arg13 fullShare d13)
      ⊢ wp frame (wpE (defs₀ (F := F)) 𝒱₀ c none) Set.univ (cc0_attn_bwd i arg3 harg3 arg4 harg4 arg5 harg5 arg6 harg6 arg7 harg7 arg8 harg8 arg9 harg9 arg10 harg10 arg11 harg11 arg12 harg12 arg13 harg13 arg14 harg14 arg15 harg15)
          (fun _ => iprop(reads c arg3 arg4 arg7 arg8 arg9 arg10 x ∗ owns (c : Thread nD τ) arg5 fullShare k ∗ owns (c : Thread nD τ) arg6 fullShare v
            ∗ accs c arg11 arg14 arg15 (final x i (k0_pay22 k) (k0_pay23 v) dq)
            ∗ owns (c : Thread nD τ) arg12 fullShare (k0_pay44 (final x i (k0_pay22 k) (k0_pay23 v) dq).dk)
            ∗ owns (c : Thread nD τ) arg13 fullShare (k0_pay1 (k0_pay45 (final x i (k0_pay22 k) (k0_pay23 v) dq).dv)))) := by
  rw [cc0_attn_bwd_eq_skeleton]
  unfold cc0_attn_bwd_skel
  refine seq c (fun r => iprop((reads c arg3 arg4 arg7 arg8 arg9 arg10 x ∗ owns (c : Thread nD τ) arg5 fullShare k ∗ owns (c : Thread nD τ) arg6 fullShare v ∗ accs c arg11 arg14 arg15 (start i dq)
            ∗ ⌜r = ⟨word i, k0_pay22 k, k0_pay23 v, k0_pay24 i, Scalar.muli (word i) 512#32, k0_pay27 (rows x.q (here i)),
                lines x.dy (here i), k0_pay28 i (lines x.dy (here i)) (lines x.o (here i))⟩⌝)
            ∗ owns (c : Thread nD τ) arg12 fullShare d12 ∗ owns (c : Thread nD τ) arg13 fullShare d13)) ?_ ?_
  · iintro ⟨HR, H5, H6, HA, H12, H13⟩
    iapply (wp_frame_r _ _ _)
    isplitl [HR H5 H6 HA]
    · iapply (part8_run c i arg3 harg3 arg4 harg4 arg5 harg5 arg6 harg6 arg7 harg7 arg8 harg8 arg9 harg9 arg10 harg10 arg11 harg11 arg12 harg12 arg13 harg13 arg14 harg14 arg15 harg15 x k v dq d14 d15)
      isplitl [HR]; · iexact HR
      isplitl [H5]; · iexact H5
      isplitl [H6]; · iexact H6
      iexact HA
    · isplitl [H12]; · iexact H12
      iexact H13
  intro r
  iintro ⟨⟨HR, H5, H6, HA, %hr⟩, H12, H13⟩
  subst hr
  dsimp only
  rw [k0_part9_eq_skeleton, k0_part10_eq_skeleton]
  unfold k0_part9_skel k0_part10_skel
  have h11 := part11_run c i arg3 harg3 arg4 harg4 arg5 harg5 arg6 harg6 arg7 harg7 arg8 harg8 arg9 harg9 arg10 harg10 arg11 harg11 arg12 harg12 arg13 harg13 arg14 harg14 arg15 harg15 x (k0_pay22 k) (k0_pay23 v) (k0_pay24 i) (diag x i (k0_pay22 k) (k0_pay23 v) (start i dq)) (word i)
  change ∀ _ _ _, _ ⊢ wp frame (wpE (defs₀ (F := F)) 𝒱₀ c none) Set.univ _ (fun r => iprop(_ ∗ accs c arg11 arg14 arg15 (final x i (k0_pay22 k) (k0_pay23 v) dq)
    ∗ owns (c : Thread nD τ) arg12 fullShare (k0_pay44 (final x i (k0_pay22 k) (k0_pay23 v) dq).dk)
    ∗ ⌜r = k0_pay45 (final x i (k0_pay22 k) (k0_pay23 v) dq).dv⌝)) at h11
  generalize final x i (k0_pay22 k) (k0_pay23 v) dq = fin at h11 ⊢
  generalize start i dq = s at h11 ⊢
  unfold diag diagP diagD add reads accs at h11
  dsimp only at h11
  unfold reads accs
  simp only [Prog.lift, Prog.bind_op, Prog.bind_ret, Prog.pure_eq_ret, pay34_eq, pay33_eq, pay32_eq]
  icases HR with ⟨H3, H4, H7, H8, H9, H10⟩
  icases HA with ⟨H11, H14, H15⟩
  iapply (load_owned 𝒱₀ c none Set.univ (k0_off3_eq i) _ (inb_column (here i))) $$ H10; iintro H10
  iapply (load_owned 𝒱₀ c none Set.univ (k0_off4_eq i) _ (inb_tile (here i))) $$ H8; iintro H8
  iapply (load_whole 𝒱₀ c none Set.univ zero2 _) $$ H15; iintro H15
  iapply (load_whole 𝒱₀ c none Set.univ zero2 _) $$ H15; iintro H15
  iapply (store_whole 𝒱₀ c none Set.univ zero2 _) $$ H15; iintro H15
  iapply (load_whole 𝒱₀ c none Set.univ zero2 _) $$ H14; iintro H14
  iapply (load_owned 𝒱₀ c none Set.univ (k0_off5_eq i) _ (inb_tile (here i))) $$ H4; iintro H4
  iapply (load_whole 𝒱₀ c none Set.univ zero2 _) $$ H14; iintro H14
  iapply (store_whole 𝒱₀ c none Set.univ zero2 _) $$ H14; iintro H14
  iapply (load_owned 𝒱₀ c none Set.univ (k0_off1_eq i) _ (inb_rows (here i))) $$ H11; iintro H11
  iapply (load_owned 𝒱₀ c none Set.univ (k0_off1_eq i) _ (inb_rows (here i))) $$ H11; iintro H11
  iapply (store_owned 𝒱₀ c none Set.univ (k0_off1_eq i) _ (inb_rows (here i))) $$ H11; iintro H11
  iapply (seqw c (h11 _ _ d12)) $$ [H3 H4 H7 H8 H9 H10 H11 H14 H15 H12]
  · isplitl [H3 H4 H7 H8 H9 H10]
    · isplitl [H3]; · iexact H3
      isplitl [H4]; · iexact H4
      isplitl [H7]; · iexact H7
      isplitl [H8]; · iexact H8
      isplitl [H9]; · iexact H9
      iexact H10
    isplitl [H11 H14 H15]
    · isplitl [H11]; · iexact H11
      isplitl [H14]; · iexact H14
      iexact H15
    iexact H12
  iintro %r ⟨HR, HA, H12, %hr⟩
  subst hr
  iapply (load_whole 𝒱₀ c none Set.univ zero3 _) $$ H13; iintro H13
  iapply (store_whole 𝒱₀ c none Set.univ zero3 _) $$ H13; iintro H13
  rw [wp_ret]
  imodintro
  isplitl [HR]; · iexact HR
  isplitl [H5]; · iexact H5
  isplitl [H6]; · iexact H6
  isplitl [HA]; · iexact HA
  isplitl [H12]; · iexact H12
  iexact H13

end Run

end Cert.KernelIdeal.Body

end
-- ==== Proof.Run.lean ====
/- The whole run of the idealized program: what every window's buffer holds after each point of the grid, the body's
   obligation at each point from the body's own rule, and the run of @main from any memory. -/
module

public import proofs.«01_k».proof.Proof.Body

@[expose] public section

set_option maxRecDepth 16384

noncomputable section

namespace Cert.KernelIdeal.Body

open Cert.KernelIdeal Cert.KernelIdeal.Gen Cert.Access
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks every step reads from, at point `t`. -/
def ins (c : Dev nD) (t : Fin cfg0.N) : In F :=
  ⟨iblk m c 0 t, iblk m c 1 t, iblk m c 4 t, iblk m c 5 t, iblk m c 6 t, iblk m c 7 t⟩

/-- What the three gradients hold at the end of the body at point `t`, begun with `d` in the query gradient's block. -/
def leaves (c : Dev nD) (t : Fin cfg0.N) (d : S1x4096x128.Idx → F .f32) : St F :=
  final (ins m c t) (grid0.coords t) (k0_pay22 (iblk m c 2 t)) (k0_pay23 (iblk m c 3 t)) d

/-- What the three gradients hold after point `n`: the query gradient's block goes on from the point before. -/
def left (c : Dev nD) : (n : ℕ) → n < cfg0.N → St F
  | 0, h => leaves m c ⟨0, h⟩ k0_pay21
  | n + 1, h => leaves m c ⟨n + 1, h⟩ (left c n (Nat.lt_of_succ_lt h)).dq

/-- At a head's first point the query gradient's block is zeroed, whatever it held. -/
theorem leaves_first (c : Dev nD) (t : Fin cfg0.N) (h : ((grid0.coords t) 2).val = 0) (d d' : S1x4096x128.Idx → F .f32) :
    leaves m c t d = leaves m c t d' := by
  unfold leaves final start
  rw [if_pos h, if_pos h]

/-- The last grid coordinate is zero at every eighth point. -/
theorem coord_zero : ∀ t : Fin cfg0.N, t.val % 8 = 0 → ((grid0.coords t) 2).val = 0 :=
  (by decide +kernel : ∀ t : Fin grid0.N, t.val % 8 = 0 → ((grid0.coords t) 2).val = 0)

/-- The proof data: the arrays as the region finds them; each input's block left in place; the results at what the
    body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t.val t.isLt).dq
    | ⟨9, _⟩ => k0_pay44 (left m c t.val t.isLt).dk
    | ⟨10, _⟩ => k0_pay1 (k0_pay45 (left m c t.val t.isLt).dv)
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (left m c t.val t.isLt).dq := by dsimp only [dats]
theorem after_9 (c : Dev nD) (t : Fin cfg0.N) : (dats m 0 c).after 9 t = k0_pay44 (left m c t.val t.isLt).dk := by dsimp only [dats]
theorem after_10 (c : Dev nD) (t : Fin cfg0.N) : (dats m 0 c).after 10 t = k0_pay1 (k0_pay45 (left m c t.val t.isLt).dv) := by
  dsimp only [dats]

theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d
theorem before_3 (c : Dev nD) (t : Fin cfg0.N) (d) : (dats m 0 c).before 3 t d = iblk m c 3 t :=
  before0_3_of m (dats m 0 c) rfl (after_3 m c) t d
theorem before_4 (c : Dev nD) (t : Fin cfg0.N) (d) : (dats m 0 c).before 4 t d = iblk m c 4 t :=
  before0_4_of m (dats m 0 c) rfl (after_4 m c) t d
theorem before_5 (c : Dev nD) (t : Fin cfg0.N) (d) : (dats m 0 c).before 5 t d = iblk m c 5 t :=
  before0_5_of m (dats m 0 c) rfl (after_5 m c) t d
theorem before_6 (c : Dev nD) (t : Fin cfg0.N) (d) : (dats m 0 c).before 6 t d = iblk m c 6 t :=
  before0_6_of m (dats m 0 c) rfl (after_6 m c) t d
theorem before_7 (c : Dev nD) (t : Fin cfg0.N) (d) : (dats m 0 c).before 7 t d = iblk m c 7 t :=
  before0_7_of m (dats m 0 c) rfl (after_7 m c) t d

/-- Begun at what the query gradient's buffer holds before the body, the body leaves what `left` says. -/
theorem leaves_before (c : Dev nD) (t : Fin cfg0.N) (d) : leaves m c t ((dats m 0 c).before 8 t d) = left m c t.val t.isLt := by
  obtain ⟨n, hn⟩ := t
  cases n with
  | zero => exact leaves_first m c ⟨0, hn⟩ (coord_zero _ rfl) _ _
  | succ n =>
    by_cases h : (n + 1) % 8 = 0
    · exact leaves_first m c ⟨n + 1, hn⟩ (coord_zero _ h) _ _
    · have hb := (dats m 0 c).before_out_kept 8 rfl ⟨n + 1, hn⟩ (Nat.succ_ne_zero n)
        (by
          rw [← Bool.not_eq_true]
          intro hf
          have := (flush0_8 ⟨n, Nat.lt_of_succ_lt hn⟩).mp hf
          simp only at this
          omega) (fun _ => rfl) (fun _ _ => rfl) d
      rw [hb, after_8]
      rfl

/-- The pipeline's body at a point is the kernel's body there. -/
theorem defs₀_row (t : Fin cfg0.N) : defs₀ (F := F) .tc cfg0.body (cfg0.bodyArgs t (cfg0.slots t)) = bodyAt0 t := by
  unfold defs₀
  rw [Defs.onTc_tc]

/-- The body's rule at point `t`, over all that is owned there. -/
theorem point (c : Dev nD) (t : Fin cfg0.N) (d8 : S1x4096x128.Idx → F .f32) (d9 d10 : S1x512x128.Idx → F .f32) (O : sProp 𝕄) :
    iprop(ΦA spec0 c ∗ O ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ owns (c : Thread nD τ) (st0_6 t) fullShare (iblk m c 6 t) ∗ owns (c : Thread nD τ) (st0_7 t) fullShare (iblk m c 7 t)
      ∗ owns (c : Thread nD τ) (st0_8 t) fullShare d8 ∗ owns (c : Thread nD τ) (st0_9 t) fullShare d9 ∗ owns (c : Thread nD τ) (st0_10 t) fullShare d10)
    ⊢ wp frame (wpE (defs₀ (F := F)) 𝒱₀ c none) Set.univ (bodyAt0 t) (fun _ =>
      iprop(ΦA spec0 c ∗ O ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ owns (c : Thread nD τ) (st0_6 t) fullShare (iblk m c 6 t) ∗ owns (c : Thread nD τ) (st0_7 t) fullShare (iblk m c 7 t)
      ∗ owns (c : Thread nD τ) (st0_8 t) fullShare (leaves m c t d8).dq ∗ owns (c : Thread nD τ) (st0_9 t) fullShare (k0_pay44 (leaves m c t d8).dk)
      ∗ owns (c : Thread nD τ) (st0_10 t) fullShare (k0_pay1 (k0_pay45 (leaves m c t d8).dv)))) := by
  unfold ΦA
  rw [scopedRest0_eq]
  simp only [← owns_whole]
  iintro ⟨⟨⟨⟨%f14, H14⟩, ⟨%f15, H15⟩⟩, HR⟩, HO, H0, H1, H2, H3, H4, H5, H6, H7, H8, H9, H10⟩
  iapply (wp_wand_r _ _ _)
  isplitr [HR HO]
  · iapply (body_run c (grid0.coords t) _ _ _ _ _ _ _ _ _ _ _ _ _ _ _ _ _ _ _ _ _ _ _ _ _ _ (ins m c t) (iblk m c 2 t) (iblk m c 3 t) d8 d9 d10 f14 f15)
    isplitl [H0 H1 H4 H5 H6 H7]
    · unfold reads ins
      isplitl [H0]; · iexact H0
      isplitl [H1]; · iexact H1
      isplitl [H4]; · iexact H4
      isplitl [H5]; · iexact H5
      isplitl [H6]; · iexact H6
      iexact H7
    isplitl [H2]; · iexact H2
    isplitl [H3]; · iexact H3
    isplitl [H8 H14 H15]
    · unfold accs
      isplitl [H8]; · iexact H8
      isplitl [H14]; · iexact H14
      iexact H15
    isplitl [H9]; · iexact H9
    iexact H10
  · unfold reads accs ins
    iintro %r ⟨⟨H0, H1, H4, H5, H6, H7⟩, H2, H3, ⟨H8, H14, H15⟩, H9, H10⟩
    isplitl [HR H14 H15]
    · isplitr [HR]
      · isplitl [H14]
        · iexists _; iexact H14
        · iexists _; iexact H15
      · iexact HR
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body's obligation at every point. -/
theorem body_obligation (c : Dev nD) : BodyObligation (dats (F := F) m 0 c) (defs₀ (F := F)) 𝒱₀ () Set.univ := fun t => by
  rw [bigSep_W0, bigSep_W0, defs₀_row]
  simp only [before_0, before_1, before_2, before_3, before_4, before_5, before_6, before_7]
  rw [show (dats m 0 c).Φ t.succ = ΦA spec0 c from rfl, show (dats m 0 c).Φ t.castSucc = ΦA spec0 c from rfl,
    show (dats m 0 c).owesAt () t.succ = (dats m 0 c).owesAt () t.castSucc from rfl,
    after_0, after_1, after_2, after_3, after_4, after_5, after_6, after_7, after_8, after_9, after_10]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [← leaves_before m c t d8]
  iapply (point m c t _ _ _ _)
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option backward.isDefEq.respectTransparency.types false in
/-- From any memory with zero counters every execution of @main terminates, with every array of the pipeline at what
    the proof data give, every other buffer at what the host operations compute, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)
    (Q' := fun r => Pipeline.FramePost cfgs (dats m) 0 (Pipeline.afterTail₀ cfgs (dats m) 0 (V0 m) [hostOps1]) r ∧ r.2.sem = fun _ => 0)
    (hQ' := fun _ h => h)

end Cert.KernelIdeal.Body

end
-- ==== Proof.Grad.lean ====
module

public import Idealize.ShloMosaic.Lib.Pointwise
public import Idealize.ShloMosaic.Lib.IdealHost

@[expose] public section

set_option maxRecDepth 16384

noncomputable section

/-! The gradients of the masked attention as sums of real numbers, over arrays indexed by natural numbers. -/

namespace Cert.Grad

open Idealize.ShloMosaic

/-- Real arrays for `q`, `k`, `v` (head, row, lane) and `do` (row, lane), a real number for each row's largest score,
and the scale of the scores. -/
structure Data where
  Q : ℕ → ℕ → ℕ → ℝ
  K : ℕ → ℕ → ℕ → ℝ
  V : ℕ → ℕ → ℕ → ℝ
  D : ℕ → ℕ → ℝ
  T : ℕ → ℕ → ℝ
  κ : ℝ

namespace Data

variable (x : Data)

/-- The score of row `r` against key `j`. -/
def score (h r j : ℕ) : ℝ := (∑ c : Fin 96, x.Q h r c * x.K h j c) * x.κ

/-- The exponential of the score less the row's largest, zero where the key's group of 64 comes after the row's. -/
def e (h r j : ℕ) : ℝ := if j / 64 ≤ r / 64 then Real.exp (x.score h r j - x.T h r) else 0

/-- A row's sum of exponentials. -/
def l (h r : ℕ) : ℝ := ∑ j : Fin 4096, x.e h r j

/-- The probability of key `j` in row `r`. -/
def p (h r j : ℕ) : ℝ := x.e h r j / x.l h r

/-- The gradient that reaches the probability. -/
def dp (h r j : ℕ) : ℝ := ∑ c : Fin 64, x.D r (h * 64 + c) * x.V h j c

/-- A row's mean of those gradients. -/
def delta (h r : ℕ) : ℝ := ∑ j : Fin 4096, x.p h r j * x.dp h r j

/-- The gradient that reaches the product of a query and a key. -/
def ds (h r j : ℕ) : ℝ := x.p h r j * (x.dp h r j - x.delta h r) * x.κ

/-- The gradient of `q`. -/
def dq (h r c : ℕ) : ℝ := ∑ j : Fin 4096, x.ds h r j * x.K h j c

/-- The gradient of `k`. -/
def dk (h j c : ℕ) : ℝ := ∑ r : Fin 4096, x.ds h r j * x.Q h r c

/-- The gradient of `v`. -/
def dv (h j c : ℕ) : ℝ := ∑ r : Fin 4096, x.D r (h * 64 + c) * x.p h r j

/-- The attention's output. -/
def o (h r c : ℕ) : ℝ := ∑ j : Fin 4096, x.V h j c * x.p h r j

/-- The values of one head among the 128 lanes of its pair of heads: zero in the other head's lanes. -/
def Vp (h j c : ℕ) : ℝ := if c / 64 = h % 2 then x.V h j (c % 64) else 0

theorem e_nonneg (h r j : ℕ) : 0 ≤ x.e h r j := by
  unfold e; split
  · exact (Real.exp_pos _).le
  · exact le_rfl

/-- A row's sum of exponentials is positive: its own key is never masked. -/
theorem l_pos (h : ℕ) {r : ℕ} (hr : r < 4096) : 0 < x.l h r := by
  refine Finset.sum_pos' (fun j _ => x.e_nonneg h r j) ⟨⟨r, hr⟩, Finset.mem_univ _, ?_⟩
  simp only [e, le_refl, if_true]
  exact Real.exp_pos _

theorem p_masked {h r j : ℕ} (hj : ¬ j / 64 ≤ r / 64) : x.p h r j = 0 := by
  simp [p, e, hj]

theorem ds_masked {h r j : ℕ} (hj : ¬ j / 64 ≤ r / 64) : x.ds h r j = 0 := by
  simp [ds, x.p_masked hj]

/-- The probability as the exponential of the score less the logarithm of the row's sum. -/
theorem p_eq {h r j : ℕ} (hr : r < 4096) (hj : j / 64 ≤ r / 64) :
    Real.exp (x.score h r j - (x.T h r + Real.log (x.l h r))) = x.p h r j := by
  have hl := x.l_pos h hr
  rw [p, e, if_pos hj, ← sub_sub, Real.exp_sub, Real.exp_log hl]

/-- The mean of the gradients is the row of `do` against the attention's output. -/
theorem delta_eq (h r : ℕ) :
    ∑ c : Fin 64, x.D r (h * 64 + c) * x.o h r c = x.delta h r := by
  simp only [delta, dp, o, Finset.mul_sum]
  rw [Finset.sum_comm]
  refine Finset.sum_congr rfl fun j _ => Finset.sum_congr rfl fun c _ => ?_
  ring

/-- The reference's form of the gradient of the scores. -/
theorem ds_eq {h r : ℕ} (j : ℕ) (hr : r < 4096) :
    (x.dp h r j / x.l h r + -(∑ i : Fin 4096, x.dp h r i * (1 / (x.l h r * x.l h r)) * x.e h r i)) * x.e h r j * x.κ
      = x.ds h r j := by
  have hl := (x.l_pos h hr).ne'
  have : ∑ i : Fin 4096, x.dp h r i * (1 / (x.l h r * x.l h r)) * x.e h r i = x.delta h r / x.l h r := by
    rw [delta, Finset.sum_div]
    refine Finset.sum_congr rfl fun i _ => ?_
    simp only [p]; field_simp
  rw [this, ds, p]; field_simp; ring

end Data

/-- A sum of real numbers is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two real numbers among the extended reals. -/
theorem div_coe (a : ℝ) {b : ℝ} (hb : b ≠ 0) : Ideal.div (a : EReal) (b : EReal) = ((a / b : ℝ) : EReal) := by
  have : (b : EReal) ≠ 0 := by exact_mod_cast hb
  simp only [Ideal.div, this, if_false]
  rw [div_eq_mul_inv, EReal.coe_mul, EReal.coe_inv]

/-- A finite extended real is a real number. -/
theorem real_of_abs {a : EReal} (h : a ≠ ⊤) (h' : a ≠ ⊥) : a = ((a.toReal : ℝ) : EReal) := (EReal.coe_toReal h h').symm

/-- The largest of finitely many values, none of them infinite above and one of them real, is real. -/
theorem fold_max_real {n : ℕ} (f : Fin n → EReal) (ht : ∀ i, f i < ⊤) (i : Fin n) (hi : f i ≠ ⊥) :
    Finset.univ.fold max ⊥ f = (((Finset.univ.fold max ⊥ f).toReal : ℝ) : EReal) := by
  refine real_of_abs (ne_of_lt ?_) (ne_of_gt ?_)
  · exact (Finset.fold_max_lt _).2 ⟨bot_lt_top, fun x _ => ht x⟩
  · exact (Finset.lt_fold_max _).2 (.inr ⟨i, Finset.mem_univ _, bot_lt_iff_ne_bot.2 hi⟩)

end Cert.Grad
-- ==== Proof.Pay.lean ====
/- The kernel's arithmetic at an index, over the extended reals: what each step computes from the blocks it reads. -/
module

public import proofs.«01_k».proof.Proof.Run
public import proofs.«01_k».proof.Proof.Grad

@[expose] public section

set_option maxRecDepth 16384

noncomputable section

namespace Cert.KernelIdeal.Pay

open Cert.KernelIdeal Cert.KernelIdeal.Gen Cert.KernelIdeal.Body Cert.Access
open Idealize.ShloMosaic Idealize.ShloMosaic.TcCoe Idealize.ShloMosaic.Tactic

/-! ## Parts of a block at an index -/

theorem rows_at {α : Type} (X : S1x4096x128.Idx → α) (n : Fin 8) (a : Fin 1) (b : Fin 512) (y : Fin 128) :
    rows X n (ix3 a b y) = X (ix3 a ⟨n.val * 512 + b.val, by omega⟩ y) := by
  refine congrArg X (funext fun t => Fin.ext ?_)
  fin_cases t
  · simp [ix3]
  · simp [ix3, Nat.mul_comm]
  · simp [ix3]

theorem lines_at {α : Type} (X : S4096x128.Idx → α) (n : Fin 8) (b : Fin 512) (y : Fin 128) :
    lines X n (ix2 b y) = X (ix2 ⟨n.val * 512 + b.val, by omega⟩ y) := by
  refine congrArg X (funext fun t => Fin.ext ?_)
  fin_cases t
  · simp [ix2, Nat.mul_comm]
  · simp [ix2]

theorem column_at {α : Type} (X : S1x4096x1.Idx → α) (n : Fin 8) (a : Fin 1) (b : Fin 512) (y : Fin 1) :
    column X n (ix3 a b y) = X (ix3 a ⟨n.val * 512 + b.val, by omega⟩ y) := by
  refine congrArg X (funext fun t => Fin.ext ?_)
  fin_cases t
  · simp [ix3]
  · simp [ix3, Nat.mul_comm]
  · simp [ix3]

theorem tile_at {α : Type} (X : S1x8x128x512.Idx → α) (n : Fin 8) (a b : Fin 1) (y : Fin 128) (z : Fin 512) :
    tile X n (ix4 a b y z) = X (ix4 a n y z) := by
  refine congrArg X (funext fun t => Fin.ext ?_)
  fin_cases t
  · simp [ix4]
  · simp [ix4]
  · simp [ix4]
  · simp [ix4]

/-! ## The arithmetic at an index -/

theorem pay5_at (k : FVec Ideal S512x128 .bf16) (q : Vec Ideal S1x512x128 .bf16) (l : Vec Ideal S1x512x1 .f32) (a b : Fin 512) :
    k0_pay5 k q l (ix2 a b)
      = Ideal.exp ((∑ c : Fin 128, q (ix3 0 a c) * k (ix2 b c)) * Ideal.ofBits .f32 0x3DD105EC#32 - l (ix3 0 a 0)) := by
  unfold k0_pay5
  pointwise []

theorem pay6_at (k v : FVec Ideal S512x128 .bf16) (g : IVec S512x128 1) (q : Vec Ideal S1x512x128 .bf16) (d o : Vec Ideal S512x128 .f32)
    (l : Vec Ideal S1x512x1 .f32) (a b : Fin 512) :
    k0_pay6 k v g q d o l (ix2 a b)
      = k0_pay5 k q l (ix2 a b) * ((∑ c : Fin 128, d (ix2 a c) * v (ix2 b c))
        - ∑ c : Fin 128, if g (ix2 a c) = 1#1 then d (ix2 a c) * o (ix2 a c) else 0) * Ideal.ofBits .f32 0x3DD105EC#32 := by
  unfold k0_pay6
  generalize k0_pay5 k q l = p
  pointwise []
  rfl

theorem pay7_at (p : FVec Ideal S512x512 .f32) (d : Vec Ideal S1x1x128x512 .bf16) (s : Vec Ideal S128x512 .f32) (y : Fin 128) (b : Fin 512) :
    k0_pay7 p d s (ix2 y b) = s (ix2 y b) + ∑ a : Fin 512, d (ix4 0 0 y a) * p (ix2 a b) := by
  unfold k0_pay7
  pointwise []

theorem pay8_at (p : FVec Ideal S512x512 .bf16) (s : Vec Ideal S128x512 .f32) (q : Vec Ideal S1x1x128x512 .bf16) (y : Fin 128) (b : Fin 512) :
    k0_pay8 p s q (ix2 y b) = s (ix2 y b) + ∑ a : Fin 512, q (ix4 0 0 y a) * p (ix2 a b) := by
  unfold k0_pay8
  pointwise []

theorem pay9_at (k : FVec Ideal S512x128 .bf16) (p : FVec Ideal S512x512 .bf16) (s : Vec Ideal S1x512x128 .f32) (e : Fin 1) (a : Fin 512) (y : Fin 128) :
    k0_pay9 k p s (ix3 e a y) = s (ix3 0 a y) + ∑ b : Fin 512, p (ix2 a b) * k (ix2 b y) := by
  unfold k0_pay9
  pointwise []

/-- Which lanes belong to a head of its pair. -/
theorem lane_group : ∀ (y : Fin 128) (s : Fin 2),
    IntOp.cmpi .eq (IntOp.shrui .vector (BitVec.ofNat 32 y.val) 6#32) (BitVec.ofNat 32 s.val) = 1#1 ↔ y.val / 64 = s.val := by
  decide +kernel

/-- The number of the group of 64 that a row belongs to, as the program counts it. -/
theorem row_group : ∀ (n : Fin 8) (b : Fin 512),
    IntOp.shrui .vector (IntOp.addi (Scalar.muli (BitVec.ofNat 32 n.val) 512#32) (BitVec.ofNat 32 b.val)) 6#32
      = BitVec.ofNat 32 ((n.val * 512 + b.val) / 64) := by
  decide +kernel

theorem pay24_at (i : grid0.Coords) (a : Fin 512) (y : Fin 128) : k0_pay24 i (ix2 a y) = 1#1 ↔ y.val / 64 = (i 1).val := by
  unfold k0_pay24
  pointwise []
  exact lane_group y (i 1)

theorem pay28_at (i : grid0.Coords) (d o : Vec Ideal S512x128 .f32) (a : Fin 512) (y : Fin 128) :
    k0_pay28 i d o (ix2 a y) = if k0_pay24 i (ix2 a y) = 1#1 then d (ix2 a y) * o (ix2 a y) else 0 := by
  unfold k0_pay28
  generalize k0_pay24 i = g
  pointwise []
  rfl

/-- The named mask is −∞. -/
theorem mask_bot : (Named.named κ "mask" 0xF149F2CA#32 : Ideal .f32) = (⊥ : EReal) :=
  IdealRules.named_const.ideal_named_scalar _ _ _ _ rfl

theorem pay29_at (n : Fin 8) (k : FVec Ideal S512x128 .bf16) (q : FVec Ideal S512x128 .bf16) (l : Vec Ideal S1x512x1 .f32) (a b : Fin 512) :
    k0_pay29 (F := Ideal) (BitVec.ofNat 32 n.val) k (Scalar.muli (BitVec.ofNat 32 n.val) 512#32) q l (ix2 a b)
      = if (n.val * 512 + b.val) / 64 ≤ (n.val * 512 + a.val) / 64 then
          Ideal.exp ((∑ c : Fin 128, q (ix2 a c) * k (ix2 b c)) * Ideal.ofBits .f32 0x3DD105EC#32 - l (ix3 0 a 0))
        else Ideal.exp (⊥ - l (ix3 0 a 0)) := by
  unfold k0_pay29
  pointwise []
  rw [row_group, row_group, mask_bot]
  have h := WordCmp.cmpi_sle_ofNat_eq_one_iff (w := 32) (a := (n.val * 512 + b.val) / 64) (b := (n.val * 512 + a.val) / 64) (by omega) (by omega)
  have sel : ∀ (c : BitVec 1) (u w : EReal), Scalar.select c u w = if c = 1#1 then u else w := fun _ _ _ => rfl
  rw [sel]
  by_cases g : (n.val * 512 + b.val) / 64 ≤ (n.val * 512 + a.val) / 64
  · rw [if_pos (h.2 g), if_pos g]
  · rw [if_neg fun e => g (h.1 e), if_neg g]

theorem pay30_at (w : BitVec 32) (k v : FVec Ideal S512x128 .bf16) (u : BitVec 32) (q : FVec Ideal S512x128 .bf16) (d g : Vec Ideal S512x128 .f32)
    (l : Vec Ideal S1x512x1 .f32) (a b : Fin 512) :
    k0_pay30 w k v u q d g l (ix2 a b)
      = k0_pay29 w k u q l (ix2 a b) * ((∑ c : Fin 128, d (ix2 a c) * v (ix2 b c)) - ∑ c : Fin 128, g (ix2 a c))
        * Ideal.ofBits .f32 0x3DD105EC#32 := by
  unfold k0_pay30
  generalize k0_pay29 w k u q l = p
  pointwise []

theorem pay22_at (k : Vec Ideal S1x512x128 .bf16) (a : Fin 512) (y : Fin 128) : k0_pay22 k (ix2 a y) = k (ix3 0 a y) := by
  unfold k0_pay22
  pointwise []

theorem pay23_at (k : Vec Ideal S1x512x128 .bf16) (a : Fin 512) (y : Fin 128) : k0_pay23 k (ix2 a y) = k (ix3 0 a y) := by
  unfold k0_pay23
  pointwise []

theorem pay27_at (k : Vec Ideal S1x512x128 .bf16) (a : Fin 512) (y : Fin 128) : k0_pay27 k (ix2 a y) = k (ix3 0 a y) := by
  unfold k0_pay27
  pointwise []

theorem pay21_at (e : Fin 1) (a : Fin 4096) (y : Fin 128) : k0_pay21 (F := Ideal) (ix3 e a y) = 0 := by
  unfold k0_pay21
  pointwise []

theorem pay25_at (y : Fin 128) (b : Fin 512) : k0_pay25 (F := Ideal) (ix2 y b) = 0 := by
  unfold k0_pay25
  pointwise []

theorem pay26_at (y : Fin 128) (b : Fin 512) : k0_pay26 (F := Ideal) (ix2 y b) = 0 := by
  unfold k0_pay26
  pointwise []

theorem pay44_at (s : Vec Ideal S128x512 .f32) (e : Fin 1) (b : Fin 512) (y : Fin 128) : k0_pay44 s (ix3 e b y) = s (ix2 y b) := by
  unfold k0_pay44
  pointwise []

theorem pay45_at (s : Vec Ideal S128x512 .f32) (e : Fin 1) (b : Fin 512) (y : Fin 128) : k0_pay1 (k0_pay45 s) (ix3 e b y) = s (ix2 y b) := by
  unfold k0_pay1 k0_pay45
  pointwise []

end Cert.KernelIdeal.Pay
-- ==== Proof.Sums.lean ====
/- The gradients the kernel accumulates, as sums of real numbers: one step, all the steps of a run of the body, and the
   runs of a head one after another. -/
module

public import proofs.«01_k».proof.Proof.Pay

@[expose] public section

set_option maxRecDepth 16384

noncomputable section

namespace Cert.KernelIdeal.Sums

open Cert.KernelIdeal Cert.KernelIdeal.Gen Cert.KernelIdeal.Body Cert.Access Cert.KernelIdeal.Pay Cert.Grad
open Idealize.ShloMosaic Idealize.ShloMosaic.TcCoe Idealize.ShloMosaic.Tactic

/-! ## Sums over lanes -/

/-- A sum over 128 lanes whose last 32 terms vanish. -/
theorem sum_96 (f : ℕ → ℝ) (hf : ∀ c, 96 ≤ c → f c = 0) : ∑ c : Fin 128, f c = ∑ c : Fin 96, f c := by
  rw [Fin.sum_univ_eq_sum_range f 128, Fin.sum_univ_eq_sum_range f 96]
  refine (Finset.sum_subset (Finset.range_mono (by norm_num)) fun c _ hc => hf c ?_).symm
  simpa using hc

/-- A sum over 128 lanes that keeps one half of them. -/
theorem sum_half (f : ℕ → ℝ) (s : ℕ) (hs : s < 2) : (∑ c : Fin 128, if c.val / 64 = s then f c else 0) = ∑ c : Fin 64, f (s * 64 + c) := by
  rw [Fin.sum_univ_eq_sum_range (fun c => if c / 64 = s then f c else 0) 128, Fin.sum_univ_eq_sum_range (fun c => f (s * 64 + c)) 64,
    ← Finset.sum_filter]
  refine (Finset.sum_bij (fun c _ => s * 64 + c) ?_ ?_ ?_ ?_).symm
  · intro c hc
    simp only [Finset.mem_filter, Finset.mem_range] at hc ⊢
    omega
  · intro a _ b _ e
    omega
  · intro b hb
    simp only [Finset.mem_filter, Finset.mem_range] at hb
    exact ⟨b - s * 64, by simp only [Finset.mem_range]; omega, by omega⟩
  · intro c _
    rfl

/-- Eight sums over 512 rows are one over 4096. -/
theorem sum_rows (f : ℕ → ℝ) : (∑ n ∈ Finset.range 8, ∑ a : Fin 512, f (n * 512 + a)) = ∑ r : Fin 4096, f r := by
  rw [Fin.sum_univ_eq_sum_range f 4096, show (4096 : ℕ) = 8 * 512 from rfl]
  simp only [fun n => Fin.sum_univ_eq_sum_range (fun a => f (n * 512 + a)) 512]
  generalize 8 = k
  induction k with
  | zero => simp
  | succ k ih => rw [Finset.sum_range_succ, ih, Nat.succ_mul, Finset.sum_range_add]

/-! ## The blocks at a point -/

/-- The head of a point of the grid. -/
abbrev head (i : grid0.Coords) : ℕ := 2 * (i 0).val + (i 1).val

/-- The blocks a run of the body reads hold the arrays' entries. -/
structure At (x : Data) (X : In Ideal) (v4 v6 : FVec Ideal S512x128 .bf16) (i : grid0.Coords) : Prop where
  hq : ∀ (e : Fin 1) (r : Fin 4096) (y : Fin 128), X.q (ix3 e r y) = ((x.Q (head i) r y : ℝ) : EReal)
  hqt : ∀ (e : Fin 1) (n : Fin 8) (y : Fin 128) (z : Fin 512), X.qt (ix4 e n y z) = ((x.Q (head i) (n.val * 512 + z.val) y : ℝ) : EReal)
  hd : ∀ (r : Fin 4096) (y : Fin 128), X.dy (ix2 r y) = ((x.D r ((i 0).val * 128 + y.val) : ℝ) : EReal)
  hdt : ∀ (e : Fin 1) (n : Fin 8) (y : Fin 128) (z : Fin 512),
    X.dyt (ix4 e n y z) = ((x.D (n.val * 512 + z.val) ((i 0).val * 128 + y.val) : ℝ) : EReal)
  ho : ∀ (r : Fin 4096) (y : Fin 128),
    X.o (ix2 r y) = ((x.o (((i 0).val * 128 + y.val) / 64) r (((i 0).val * 128 + y.val) % 64) : ℝ) : EReal)
  hl : ∀ (e : Fin 1) (r : Fin 4096) (y : Fin 1), X.lse (ix3 e r y) = ((x.T (head i) r + Real.log (x.l (head i) r) : ℝ) : EReal)
  hk : ∀ (b : Fin 512) (y : Fin 128), v4 (ix2 b y) = ((x.K (head i) ((i 2).val * 512 + b.val) y : ℝ) : EReal)
  hv : ∀ (b : Fin 512) (y : Fin 128), v6 (ix2 b y) = ((x.Vp (head i) ((i 2).val * 512 + b.val) y : ℝ) : EReal)
  hκ : Ideal.ofBits .f32 0x3DD105EC#32 = ((x.κ : ℝ) : EReal)
  hq0 : ∀ (r c : ℕ), 96 ≤ c → x.Q (head i) r c = 0

variable {x : Data} {X : In Ideal} {v4 v6 : FVec Ideal S512x128 .bf16} {i : grid0.Coords}

theorem exp_coe (a : ℝ) : Ideal.exp ((a : ℝ) : EReal) = ((Real.exp a : ℝ) : EReal) := rfl

/-- The score of a row of a query block against a key of the point's block. -/
theorem score_at (A : At x X v4 v6 i) (n : Fin 8) (a b : Fin 512) :
    (∑ c : Fin 128, rows X.q n (ix3 0 a c) * v4 (ix2 b c)) * Ideal.ofBits .f32 0x3DD105EC#32 - column X.lse n (ix3 0 a 0)
      = ((x.score (head i) (n.val * 512 + a.val) ((i 2).val * 512 + b.val)
          - (x.T (head i) (n.val * 512 + a.val) + Real.log (x.l (head i) (n.val * 512 + a.val))) : ℝ) : EReal) := by
  simp only [rows_at, column_at, A.hq, A.hk, A.hl, A.hκ, ← EReal.coe_mul, ← coe_sum, ← EReal.coe_sub]
  rw [sum_96 (fun c => x.Q (head i) (n.val * 512 + a.val) c * x.K (head i) ((i 2).val * 512 + b.val) c)
    fun c hc => by rw [A.hq0 _ _ hc, zero_mul]]
  rfl

/-- The gradient that reaches a probability. -/
theorem dp_at (A : At x X v4 v6 i) (n : Fin 8) (a b : Fin 512) :
    ∑ c : Fin 128, lines X.dy n (ix2 a c) * v6 (ix2 b c)
      = ((x.dp (head i) (n.val * 512 + a.val) ((i 2).val * 512 + b.val) : ℝ) : EReal) := by
  simp only [lines_at, A.hd, A.hv, ← EReal.coe_mul, ← coe_sum, Data.Vp, mul_ite, mul_zero]
  have h1 : (i 1).val < 2 := (i 1).isLt
  have e : head i % 2 = (i 1).val := by unfold head; omega
  rw [e, sum_half (fun c => x.D (n.val * 512 + a.val) ((i 0).val * 128 + c) * x.V (head i) ((i 2).val * 512 + b.val) (c % 64)) _ h1,
    Data.dp]
  congr 1
  refine Finset.sum_congr rfl fun c _ => ?_
  have e1 : (i 0).val * 128 + ((i 1).val * 64 + c.val) = head i * 64 + c.val := by unfold head; omega
  have e2 : ((i 1).val * 64 + c.val) % 64 = c.val := by omega
  rw [e1, e2]

/-- The mean gradient of a row. -/
theorem delta_at (A : At x X v4 v6 i) (n : Fin 8) (a : Fin 512) :
    (∑ c : Fin 128, if k0_pay24 i (ix2 a c) = 1#1 then lines X.dy n (ix2 a c) * lines X.o n (ix2 a c) else 0)
      = ((x.delta (head i) (n.val * 512 + a.val) : ℝ) : EReal) := by
  have h1 : (i 1).val < 2 := (i 1).isLt
  have e : ∀ c : Fin 128, (if k0_pay24 i (ix2 a c) = 1#1 then lines X.dy n (ix2 a c) * lines X.o n (ix2 a c) else 0)
      = (((if c.val / 64 = (i 1).val then x.D (n.val * 512 + a.val) ((i 0).val * 128 + c.val)
        * x.o (((i 0).val * 128 + c.val) / 64) (n.val * 512 + a.val) (((i 0).val * 128 + c.val) % 64) else 0) : ℝ) : EReal) := fun c => by
    simp only [pay24_at, lines_at, A.hd, A.ho]
    split
    · rw [EReal.coe_mul]
    · rw [EReal.coe_zero]
  simp only [e, ← coe_sum]
  rw [sum_half (fun c => x.D (n.val * 512 + a.val) ((i 0).val * 128 + c)
        * x.o (((i 0).val * 128 + c) / 64) (n.val * 512 + a.val) (((i 0).val * 128 + c) % 64)) _ h1, ← x.delta_eq]
  congr 1
  refine Finset.sum_congr rfl fun c _ => ?_
  have e1 : (i 0).val * 128 + ((i 1).val * 64 + c.val) = head i * 64 + c.val := by unfold head; omega
  have e2 : (head i * 64 + c.val) / 64 = head i := by omega
  have e3 : (head i * 64 + c.val) % 64 = c.val := by omega
  rw [e1, e2, e3]

/-- The probabilities of a tile after the diagonal. -/
theorem p_at (A : At x X v4 v6 i) (n : Fin 8) (hn : (i 2).val < n.val) (a b : Fin 512) :
    k0_pay5 v4 (rows X.q n) (column X.lse n) (ix2 a b)
      = ((x.p (head i) (n.val * 512 + a.val) ((i 2).val * 512 + b.val) : ℝ) : EReal) := by
  rw [pay5_at, score_at A, exp_coe, x.p_eq (by omega) (by omega)]

/-- The gradients of the scores of a tile after the diagonal. -/
theorem ds_at (A : At x X v4 v6 i) (n : Fin 8) (hn : (i 2).val < n.val) (a b : Fin 512) :
    k0_pay6 v4 v6 (k0_pay24 i) (rows X.q n) (lines X.dy n) (lines X.o n) (column X.lse n) (ix2 a b)
      = ((x.ds (head i) (n.val * 512 + a.val) ((i 2).val * 512 + b.val) : ℝ) : EReal) := by
  rw [pay6_at, p_at A n hn, dp_at A, delta_at A, A.hκ, ← EReal.coe_sub, ← EReal.coe_mul, ← EReal.coe_mul, Data.ds]

/-- The probabilities of the diagonal tile. -/
theorem diagP_at (A : At x X v4 v6 i) (a b : Fin 512) :
    diagP X i v4 (ix2 a b) = ((x.p (head i) ((i 2).val * 512 + a.val) ((i 2).val * 512 + b.val) : ℝ) : EReal) := by
  unfold diagP
  refine (pay29_at (here i) _ _ _ a b).trans ?_
  have s := score_at A (here i) a b
  simp only [pay27_at]
  split
  · rename_i h
    have h' : ((i 2).val * 512 + b.val) / 64 ≤ ((i 2).val * 512 + a.val) / 64 := h
    have h2 : (i 2).val < 8 := (i 2).isLt
    rw [s, exp_coe]
    exact congrArg _ (x.p_eq (by omega) h')
  · rename_i h
    have h' : ¬ ((i 2).val * 512 + b.val) / 64 ≤ ((i 2).val * 512 + a.val) / 64 := h
    rw [column_at, A.hl, EReal.bot_sub, x.p_masked h']
    rfl

/-- The gradients of the scores of the diagonal tile. -/
theorem diagD_at (A : At x X v4 v6 i) (a b : Fin 512) :
    diagD X i v4 v6 (ix2 a b) = ((x.ds (head i) ((i 2).val * 512 + a.val) ((i 2).val * 512 + b.val) : ℝ) : EReal) := by
  unfold diagD
  rw [pay30_at]
  simp only [pay28_at]
  rw [dp_at A, delta_at A, A.hκ]
  have := diagP_at A a b
  unfold diagP at this
  rw [this, ← EReal.coe_sub, ← EReal.coe_mul, ← EReal.coe_mul, Data.ds]
  rfl

/-! ## The accumulators -/

/-- A head's block with some rows replaced, at an index. -/
theorem setRows_at {α : Type} (Y : S1x4096x128.Idx → α) (n : Fin 8) (w : S1x512x128.Idx → α) (e : Fin 1) (r : Fin 4096) (y : Fin 128) :
    setRows Y n w (ix3 e r y) = if r.val / 512 = n.val then w (ix3 0 ⟨r.val % 512, by omega⟩ y) else Y (ix3 e r y) := by
  split
  · rename_i h
    have he : e.val = 0 := by omega
    have : ix3 e r y = (Rect.unit (s := S1x4096x128) ![0, 512 * n.val, 0] S1x512x128.size (inb_rows n)).emb (ix3 0 ⟨r.val % 512, by omega⟩ y) := by
      funext t
      refine Fin.ext ?_
      fin_cases t
      · simp [ix3]
      · simp [ix3]; omega
      · simp [ix3]
    rw [this]
    exact Rect.overlay_emb _ _ _ _
  · rename_i h
    refine Rect.overlay_of_not_mem _ _ _ fun hm => h ?_
    rw [← Rect.map_emb_univ] at hm
    obtain ⟨z, -, hz⟩ := Finset.mem_map.mp hm
    have h1 := congrArg Fin.val (congrFun hz 1)
    have h2 : (z 1).val < 512 := (z 1).isLt
    simp [ix3] at h1
    omega

/-- The accumulators hold real numbers. -/
structure Is (s : St Ideal) (fq fk fv : ℕ → ℕ → ℝ) : Prop where
  q : ∀ (e : Fin 1) (r : Fin 4096) (y : Fin 128), s.dq (ix3 e r y) = ((fq r y : ℝ) : EReal)
  k : ∀ (y : Fin 128) (b : Fin 512), s.dk (ix2 y b) = ((fk b y : ℝ) : EReal)
  v : ∀ (y : Fin 128) (b : Fin 512), s.dv (ix2 y b) = ((fv b y : ℝ) : EReal)

/-- What one block of keys adds to the gradient of `q`. -/
def partQ (x : Data) (h kj r y : ℕ) : ℝ := ∑ b : Fin 512, x.ds h r (kj * 512 + b) * x.K h (kj * 512 + b) y

/-- What one block of queries adds to the gradient of `k`. -/
def partK (x : Data) (h kj n b y : ℕ) : ℝ := ∑ a : Fin 512, x.Q h (n * 512 + a) y * x.ds h (n * 512 + a) (kj * 512 + b)

/-- What one block of queries adds to the gradient of `v`. -/
def partV (x : Data) (h pr kj n b y : ℕ) : ℝ := ∑ a : Fin 512, x.D (n * 512 + a) (pr * 128 + y) * x.p h (n * 512 + a) (kj * 512 + b)

theorem partQ_zero (x : Data) (h kj r y : ℕ) (hr : r / 512 < kj) : partQ x h kj r y = 0 :=
  Finset.sum_eq_zero fun b _ => by rw [x.ds_masked (by omega), zero_mul]

theorem partK_zero (x : Data) (h kj n b y : ℕ) (hn : n < kj) : partK x h kj n b y = 0 :=
  Finset.sum_eq_zero fun a _ => by rw [x.ds_masked (by omega), mul_zero]

theorem partV_zero (x : Data) (h pr kj n b y : ℕ) (hn : n < kj) : partV x h pr kj n b y = 0 :=
  Finset.sum_eq_zero fun a _ => by rw [x.p_masked (by omega), mul_zero]

/-- The accumulators when the query blocks before `N` are done. -/
abbrev Done (x : Data) (i : grid0.Coords) (fq : ℕ → ℕ → ℝ) (N : ℕ) (s : St Ideal) : Prop :=
  Is s (fun r y => fq r y + if r / 512 < N then partQ x (head i) (i 2).val r y else 0)
    (fun b y => ∑ n ∈ Finset.range N, partK x (head i) (i 2).val n b y)
    (fun b y => ∑ n ∈ Finset.range N, partV x (head i) (i 0).val (i 2).val n b y)

/-- One step does one more query block. -/
theorem add_done (A : At x X v4 v6 i) (p : FVec Ideal S512x512 .f32) (ds : FVec Ideal S512x512 .bf16) (n : Fin 8)
    (hp : ∀ a b : Fin 512, p (ix2 a b) = ((x.p (head i) (n.val * 512 + a.val) ((i 2).val * 512 + b.val) : ℝ) : EReal))
    (hds : ∀ a b : Fin 512, ds (ix2 a b) = ((x.ds (head i) (n.val * 512 + a.val) ((i 2).val * 512 + b.val) : ℝ) : EReal))
    (fq : ℕ → ℕ → ℝ) (s : St Ideal) (hs : Done x i fq n.val s) : Done x i fq (n.val + 1) (add X v4 p ds n s) := by
  refine ⟨fun e r y => ?_, fun y b => ?_, fun y b => ?_⟩
  · dsimp only [add]
    rw [setRows_at]
    split
    · rename_i h
      have hr : n.val * 512 + r.val % 512 = r.val := by omega
      rw [pay9_at, rows_at, hs.q]
      simp only [hds, A.hk, ← EReal.coe_mul, ← coe_sum, ← EReal.coe_add, hr]
      rw [if_neg (by omega), if_pos (by omega), add_zero]
      rfl
    · rename_i h
      rw [hs.q]
      by_cases g : r.val / 512 < n.val
      · rw [if_pos g, if_pos (by omega)]
      · rw [if_neg g, if_neg (by omega)]
  · dsimp only [add]
    rw [pay8_at, hs.k, Finset.sum_range_succ, EReal.coe_add]
    simp only [tile_at, A.hqt, hds, ← EReal.coe_mul, ← coe_sum]
    rfl
  · dsimp only [add]
    rw [pay7_at, hs.v, Finset.sum_range_succ, EReal.coe_add]
    simp only [tile_at, A.hdt, hp, ← EReal.coe_mul, ← coe_sum]
    rfl

/-- The steps after the diagonal do the query blocks one after another. -/
theorem steps_done (A : At x X v4 v6 i) (fq : ℕ → ℕ → ℝ) (s : St Ideal) (hs : Done x i fq ((i 2).val + 1) s) :
    ∀ k : ℕ, (i 2).val + 1 + k ≤ 8 → Done x i fq ((i 2).val + 1 + k) (steps X v4 v6 (k0_pay24 i) ((i 2).val + 1) s k)
  | 0, _ => hs
  | k + 1, hk => by
    have ih := steps_done A fq s hs k (by omega)
    rw [steps_succ X v4 v6 _ _ s k (by omega)]
    exact add_done A _ _ ⟨(i 2).val + 1 + k, by omega⟩ (fun a b => p_at A _ (by simp only; omega) a b)
      (fun a b => ds_at A _ (by simp only; omega) a b) fq _ ih

/-- A run of the body does all the query blocks. -/
theorem final_done (A : At x X v4 v6 i) (fq : ℕ → ℕ → ℝ) (d : S1x4096x128.Idx → EReal)
    (hd : ∀ (e : Fin 1) (r : Fin 4096) (y : Fin 128), (start (F := Ideal) i d).dq (ix3 e r y) = ((fq r y : ℝ) : EReal)) :
    Done x i fq 8 (final X i v4 v6 d) := by
  have h2 : (i 2).val < 8 := (i 2).isLt
  have h0 : Done x i fq (i 2).val (start (F := Ideal) i d) := by
    refine ⟨fun e r y => ?_, fun y b => ?_, fun y b => ?_⟩
    · rw [hd]
      split
      · rename_i h
        rw [partQ_zero x _ _ _ _ h, add_zero]
      · rw [add_zero]
    · rw [Finset.sum_eq_zero fun n hn => partK_zero x _ _ _ _ _ (Finset.mem_range.1 hn), EReal.coe_zero]
      exact pay25_at y b
    · rw [Finset.sum_eq_zero fun n hn => partV_zero x _ _ _ _ _ _ (Finset.mem_range.1 hn), EReal.coe_zero]
      exact pay26_at y b
  have h1 : Done x i fq ((i 2).val + 1) (diag X i v4 v6 (start (F := Ideal) i d)) :=
    add_done A _ _ (here i) (diagP_at A) (diagD_at A) fq _ h0
  have := steps_done A fq _ h1 (7 - (i 2).val) (by omega)
  rw [show (i 2).val + 1 + (7 - (i 2).val) = 8 by omega] at this
  exact this

end Cert.KernelIdeal.Sums
-- ==== Proof.Ref.lean ====
module

public import proofs.«01_k».proof.Proof.Gen.ReferenceIdeal.Read
public import proofs.«01_k».proof.Proof.Grad
public import Idealize.ShloMosaic.Lib.WordCmp

@[expose] public section

set_option maxRecDepth 16384

noncomputable section

/-! The reference's arrays at an index, as the real numbers of `Grad`. -/

namespace Cert.Ref

open Cert.ReferenceIdeal Cert.ReferenceIdeal.Gen Cert.ReferenceIdeal.Read
open Idealize.ShloMosaic Idealize.ShloMosaic.TcCoe
open Idealize.ShloMosaic.Pointwise Idealize.ShloMosaic.WordCmp

/-- The four arguments, each row's largest score and the scale are the real numbers of `x`; beyond their last lane
`q` and `k` are zero in `x`. -/
structure Holds (x : Cert.Grad.Data) (q k : (⟨S8x4096x96, .f32⟩ : BufTy).Contents (Elt Ideal))
    (v : (⟨S8x4096x64, .f32⟩ : BufTy).Contents (Elt Ideal)) (d : (⟨S4096x512, .f32⟩ : BufTy).Contents (Elt Ideal)) : Prop where
  hq : ∀ (h : Fin 8) (r : Fin 4096) (c : Fin 96), q (ix3 h r c) = ((x.Q h r c : ℝ) : EReal)
  hk : ∀ (h : Fin 8) (r : Fin 4096) (c : Fin 96), k (ix3 h r c) = ((x.K h r c : ℝ) : EReal)
  hv : ∀ (h : Fin 8) (r : Fin 4096) (c : Fin 64), v (ix3 h r c) = ((x.V h r c : ℝ) : EReal)
  hd : ∀ (r : Fin 4096) (c : Fin 512), d (ix2 r c) = ((x.D r c : ℝ) : EReal)
  ht : ∀ (h : Fin 8) (r : Fin 4096), val_main_v11 (F := Ideal) q k (ix2 h r) = ((x.T h r : ℝ) : EReal)
  hκ : Ideal.ofBits .f32 0x3DD105EC#32 = ((x.κ : ℝ) : EReal)
  hq0 : ∀ h r c : ℕ, 96 ≤ c → x.Q h r c = 0
  hk0 : ∀ h r c : ℕ, 96 ≤ c → x.K h r c = 0

/-- The number of a position's group of 64, as the reference's floor division computes it. -/
theorem group (j : Fin 4096) : val_main_v4 (F := Ideal) (ix1 j) = BitVec.ofNat 32 (j.val / 64) := by
  simp only [val_main_v4, val_main_call0_v11, val_main_call0_v13, val_main_call0_v2, val_main_call0_v6, val_main_call0_v10,
    val_main_call0_v3, val_main_call0_v5, val_main_call0_v4, val_main_call0_v8, val_main_call0_v9, val_main_call0_v7,
    val_main_call0_v12, val_main_call0_v1, val_main_call0_v0, val_main_v3, val_main_c, val_main_call0_c, val_main_call0_c_0]
  pointwise []
  simp only [id_eq]
  show Scalar.select _ _ _ = _
  revert j
  decide +kernel

/-- The mask: a key is kept where its group does not come after the row's. -/
theorem mask (r j : Fin 4096) : val_main_v9 (F := Ideal) (ix2 r j) = if j.val / 64 ≤ r.val / 64 then 1#1 else 0#1 := by
  simp only [val_main_v9, val_main_v7, val_main_v8, val_main_v5, val_main_v6]
  pointwise []
  rw [group, group]
  have hj := j.isLt
  have hr := r.isLt
  rw [cmpi_sle_ofNat (by omega) (by omega)]
  split
  · rename_i h
    rw [decide_eq_true h]
    rfl
  · rename_i h
    rw [decide_eq_false h]
    rfl

variable {x : Cert.Grad.Data} {q k : (⟨S8x4096x96, .f32⟩ : BufTy).Contents (Elt Ideal)}
  {v : (⟨S8x4096x64, .f32⟩ : BufTy).Contents (Elt Ideal)} {d : (⟨S4096x512, .f32⟩ : BufTy).Contents (Elt Ideal)}

/-- The masked scores, from the queries and keys alone: the score, or the least extended real where the mask drops the key. -/
theorem scores_of (hq : ∀ (h : Fin 8) (r : Fin 4096) (c : Fin 96), q (ix3 h r c) = ((x.Q h r c : ℝ) : EReal))
    (hk : ∀ (h : Fin 8) (r : Fin 4096) (c : Fin 96), k (ix3 h r c) = ((x.K h r c : ℝ) : EReal))
    (hκ : Ideal.ofBits .f32 0x3DD105EC#32 = ((x.κ : ℝ) : EReal)) (h : Fin 8) (r j : Fin 4096) :
    val_main_v10_0 (F := Ideal) q k (ix3 h r j) = if j.val / 64 ≤ r.val / 64 then ((x.score h r j : ℝ) : EReal) else ⊥ := by
  unfold val_main_v10_0 val_main_v10_1 val_main_v2 val_main_call1_v2 val_main_call1_v0 val_main_cst_0 val_main_v0 val_main_v1 val_main_cst
  pointwise [id_eq]
  rw [mask]
  simp only [hq, hk, hκ, ← EReal.coe_mul, ← Cert.Grad.coe_sum]
  split
  · rfl
  · simp [Scalar.select, Ideal.ofBits, Ideal.ieee]

/-- The masked scores. -/
theorem scores (H : Holds x q k v d) (h : Fin 8) (r j : Fin 4096) :
    val_main_v10_0 (F := Ideal) q k (ix3 h r j) = if j.val / 64 ≤ r.val / 64 then ((x.score h r j : ℝ) : EReal) else ⊥ :=
  scores_of H.hq H.hk H.hκ h r j

/-- A row's largest score, as the exponentials subtract it. -/
theorem tops (H : Holds x q k v d) (h : Fin 8) (r : Fin 4096) :
    val_main_v18 (F := Ideal) q k (ix2 h r) = ((x.T h r : ℝ) : EReal) := by
  rw [val_main_v18_apply, H.ht]
  simp only [val_main_v17, val_main_cst_3]
  pointwise []
  have : Ideal.ofBits .f32 0xFF800000#32 = (⊥ : EReal) := by simp [Ideal.ofBits, Ideal.ieee]
  rw [this]
  exact max_eq_right bot_le

/-- The row's largest score under every key. -/
theorem tops_bcast (h : Fin 8) (r j : Fin 4096) :
    val_main_v29 (F := Ideal) q k (ix3 h r j) = val_main_v18 (F := Ideal) q k (ix2 h r) := by
  simp only [val_main_v29, val_main_v28]
  generalize val_main_v18 (F := Ideal) q k = y
  pointwise []

/-- The exponentials. -/
theorem exps (H : Holds x q k v d) (h : Fin 8) (r j : Fin 4096) :
    val_main_v31 (F := Ideal) q k (ix3 h r j) = ((x.e h r j : ℝ) : EReal) := by
  show Ideal.exp (val_main_v10_0 (F := Ideal) q k (ix3 h r j) - val_main_v29 (F := Ideal) q k (ix3 h r j)) = _
  rw [tops_bcast, scores H, tops H, Cert.Grad.Data.e]
  split
  · rw [← EReal.coe_sub]; rfl
  · rw [EReal.bot_sub]; rfl

/-- A row's sum of exponentials. -/
theorem sums (H : Holds x q k v d) (h : Fin 8) (r : Fin 4096) :
    val_main_v32 (F := Ideal) q k (ix2 h r) = ((x.l h r : ℝ) : EReal) := by
  simp only [val_main_v32, val_main_cst_9]
  pointwise []
  simp only [exps H, ← Cert.Grad.coe_sum]
  rfl

/-- The probabilities. -/
theorem probs (H : Holds x q k v d) (h : Fin 8) (r j : Fin 4096) :
    val_main_v35 (F := Ideal) q k (ix3 h r j) = ((x.p h r j : ℝ) : EReal) := by
  simp only [val_main_v35, val_main_v34, val_main_v33]
  pointwise []
  rw [exps H, sums H, Cert.Grad.div_coe _ (x.l_pos h r.isLt).ne']
  rfl

/-- The gradient that reaches the probabilities. -/
theorem dprobs (H : Holds x q k v d) (h : Fin 8) (r j : Fin 4096) :
    val_main_v44 (F := Ideal) v d (ix3 h r j) = ((x.dp h r j : ℝ) : EReal) := by
  simp only [val_main_v44, val_main_v43, val_main_v42]
  pointwise []
  simp only [H.hd, H.hv, ← EReal.coe_mul, ← Cert.Grad.coe_sum]
  rfl

/-- The gradient of the scores. -/
theorem dscores (H : Holds x q k v d) (h : Fin 8) (r j : Fin 4096) :
    val_main_v61 (F := Ideal) q k v d (ix3 h r j) = ((x.ds h r j : ℝ) : EReal) := by
  simp only [val_main_v61, val_main_v60, val_main_cst_13, val_main_v59, val_main_v10_1, val_main_call2_v0, val_main_call2_cst,
    val_main_v58, val_main_v57, val_main_v56, val_main_v55, val_main_v54, val_main_v53, val_main_v52, val_main_v51, val_main_v50,
    val_main_v49, val_main_v48, val_main_v47, val_main_v38, val_main_v37, val_main_v36, val_main_v33, val_main_cst_10,
    val_main_cst_11, val_main_cst_12]
  pointwise []
  have hl := (x.l_pos h r.isLt).ne'
  have one : (1 : EReal) = ((1 : ℝ) : EReal) := rfl
  simp only [mask, dprobs H, sums H, exps H, H.hκ, one, ← EReal.coe_mul, Cert.Grad.div_coe _ hl,
    Cert.Grad.div_coe _ (mul_ne_zero hl hl), ← Cert.Grad.coe_sum, ← EReal.coe_neg, ← EReal.coe_add]
  rw [Fin.sum_univ_one]
  split
  · show ((_ : ℝ) : EReal) = _
    rw [x.ds_eq j r.isLt]
  · rename_i hm
    rw [x.ds_masked hm]
    rfl

/-- The gradient of `q`. -/
theorem grad_q (H : Holds x q k v d) (h : Fin 8) (r : Fin 4096) (c : Fin 96) :
    val_main_v63 (F := Ideal) q k v d (ix3 h r c) = ((x.dq h r c : ℝ) : EReal) := by
  simp only [val_main_v63]
  pointwise []
  simp only [dscores H, H.hk, ← EReal.coe_mul, ← Cert.Grad.coe_sum]
  rfl

/-- The gradient of `k`. -/
theorem grad_k (H : Holds x q k v d) (h : Fin 8) (j : Fin 4096) (c : Fin 96) :
    val_main_v62 (F := Ideal) q k v d (ix3 h j c) = ((x.dk h j c : ℝ) : EReal) := by
  simp only [val_main_v62]
  pointwise []
  simp only [dscores H, H.hq, ← EReal.coe_mul, ← Cert.Grad.coe_sum]
  rfl

/-- The gradient of `v`. -/
theorem grad_v (H : Holds x q k v d) (h : Fin 8) (j : Fin 4096) (c : Fin 64) :
    val_main_v46 (F := Ideal) q k d (ix3 h j c) = ((x.dv h j c : ℝ) : EReal) := by
  simp only [val_main_v46, val_main_v45, val_main_v43, val_main_v42]
  pointwise []
  simp only [H.hd, probs H, ← EReal.coe_mul, ← Cert.Grad.coe_sum]
  rfl

end Cert.Ref
-- ==== Proof.Host.lean ====
module

public import proofs.«01_k».proof.Proof.Run
public import proofs.«01_k».proof.Proof.Ref
public import Idealize.ShloMosaic.Lib.Claim
public import Idealize.ShloMosaic.Lib.StableHlo.ReadAt

@[expose] public section

set_option maxRecDepth 16384

noncomputable section

/-! What the host operations before the region leave in the arrays that the windows stage. -/

namespace Cert.KernelIdeal.Host

open Cert.KernelIdeal Cert.KernelIdeal.Gen
open Cert.ReferenceIdeal.Read (val_main_v11 val_main_v10_0 val_main_v35)
open Idealize.ShloMosaic Idealize.ShloMosaic.TcCoe
open Idealize.ShloMosaic.Pointwise

variable (m : (ℓ : Loc nD τ sig) → Buf (Elt Ideal) ℓ)

/-- An argument as the launch finds it. -/
abbrev q (c : Dev nD) := m ((c : Thread nD τ).loc main_arg0)
abbrev k (c : Dev nD) := m ((c : Thread nD τ).loc main_arg1)
abbrev v (c : Dev nD) := m ((c : Thread nD τ).loc main_arg2)
abbrev d (c : Dev nD) := m ((c : Thread nD τ).loc main_arg3)

/-- The array of the rows' largest scores is the reference's. -/
theorem top_eq (c : Dev nD) : V m c main_v11 = val_main_v11 (F := Ideal) (q m c) (k m c) := by
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append, StableHlo.after_cons,
    StableHlo.after_nil]
  after_results_simp
  rfl

/-- The probabilities are the reference's. -/
theorem probs_eq (c : Dev nD) : V m c main_v41 = val_main_v35 (F := Ideal) (q m c) (k m c) := by
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append, StableHlo.after_cons,
    StableHlo.after_nil]
  after_results_simp
  rfl

/-- The attention's output from the values and the probabilities, heads side by side in the lanes. -/
def outOf (v : FVec Ideal S8x4096x64 .f32) (p : FVec Ideal S8x4096x4096 .f32) : FVec Ideal S4096x512 .f32 :=
  shapeCast S4096x512 (transpose S4096x8x64 [2, 0, 1]
    (Host.dotGeneral dot_S8x4096x64_S8x4096x4096_S8x64x4096_1_2_2_1_0_0 none v p : FVec Ideal S8x64x4096 .f32)
    transposes_S8x64x4096_S4096x8x64_2_0_1) shapeCasts_S4096x8x64_S4096x512

/-- The exponentials of the scores less the rows' largest. -/
def expOf (s : FVec Ideal S8x4096x4096 .f32) (t : FVec Ideal S8x4096 .f32) : FVec Ideal S8x4096x4096 .f32 :=
  Host.exp (subf s (broadcastInDim S8x4096x4096 ![0, 1, 2] bcast_S8x4096x1_S8x4096x4096_0_1_2
    (broadcastInDim S8x4096x1 ![0, 1] bcast_S8x4096_S8x4096x1_0_1 t)))

/-- The logarithm of the rows' sums of exponentials, from the rows' largest scores and the exponentials. -/
def lseOf (t : FVec Ideal S8x4096 .f32) (z : FVec Ideal S8x4096x4096 .f32) : FVec Ideal S8x4096x1 .f32 :=
  addf (broadcastInDim S8x4096x1 ![0, 1] bcast_S8x4096_S8x4096x1_0_1 t)
    (Host.log (broadcastInDim S8x4096x1 ![0, 1] bcast_S8x4096_S8x4096x1_0_1
      (Host.reduceAdd z (constant S_ .f32 0x00000000#32) reducesTo_S8x4096x4096_S8x4096_d2 h_S_)))

/-- The staged output is `outOf` of the reference's probabilities. -/
theorem out_eq (c : Dev nD) : V m c main_v44 = outOf (v m c) (val_main_v35 (F := Ideal) (q m c) (k m c)) := by
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append, StableHlo.after_cons,
    StableHlo.after_nil]
  after_results_simp
  rfl

/-- The staged logarithms are `lseOf` of the reference's scores. -/
theorem lse_eq (c : Dev nD) : V m c main_v19 = lseOf (val_main_v11 (F := Ideal) (q m c) (k m c))
    (expOf (val_main_v10_0 (F := Ideal) (q m c) (k m c)) (val_main_v11 (F := Ideal) (q m c) (k m c))) := by
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append, StableHlo.after_cons,
    StableHlo.after_nil]
  after_results_simp
  rfl

theorem outOf_at (v : FVec Ideal S8x4096x64 .f32) (p : FVec Ideal S8x4096x4096 .f32) (r : Fin 4096) (y : Fin 512) :
    outOf v p (ix2 r y) = ∑ j : Fin 4096, v (ix3 ⟨y.val / 64, by omega⟩ j ⟨y.val % 64, by omega⟩)
      * p (ix3 ⟨y.val / 64, by omega⟩ r j) := by
  unfold outOf
  pointwise []

theorem expOf_at (s : FVec Ideal S8x4096x4096 .f32) (t : FVec Ideal S8x4096 .f32) (h : Fin 8) (r j : Fin 4096) :
    expOf s t (ix3 h r j) = Ideal.exp (s (ix3 h r j) - t (ix2 h r)) := by
  unfold expOf
  pointwise []

theorem lseOf_at (t : FVec Ideal S8x4096 .f32) (z : FVec Ideal S8x4096x4096 .f32) (h : Fin 8) (r : Fin 4096) (y : Fin 1) :
    lseOf t z (ix3 h r y) = t (ix2 h r) + Ideal.log (∑ j : Fin 4096, z (ix3 h r j)) := by
  unfold lseOf
  pointwise []

variable {x : Cert.Grad.Data} {c : Dev nD}

/-- `q` in 128 lanes. -/
theorem q_at (H : Cert.Ref.Holds x (q m c) (k m c) (v m c) (d m c)) (h : Fin 8) (r : Fin 4096) (y : Fin 128) :
    V m c main_v58 (ix3 h r y) = ((x.Q h r y : ℝ) : EReal) := by
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_reads_at
  split
  · exact H.hq ..
  · rename_i hy
    rw [H.hq0 _ _ _ (not_lt.1 hy)]
    simp [FloatOps.sitofp]

/-- `k` in 128 lanes. -/
theorem k_at (H : Cert.Ref.Holds x (q m c) (k m c) (v m c) (d m c)) (h : Fin 8) (r : Fin 4096) (y : Fin 128) :
    V m c main_v59 (ix3 h r y) = ((x.K h r y : ℝ) : EReal) := by
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_reads_at
  split
  · exact H.hk ..
  · rename_i hy
    rw [H.hk0 _ _ _ (not_lt.1 hy)]
    simp [FloatOps.sitofp]

/-- `q` by blocks of 512 rows, transposed. -/
theorem qt_at (H : Cert.Ref.Holds x (q m c) (k m c) (v m c) (d m c)) (h n : Fin 8) (y : Fin 128) (z : Fin 512) :
    V m c main_v62 (ix4 h n y z) = ((x.Q h (n * 512 + z) y : ℝ) : EReal) := by
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_reads_at
  split
  · exact H.hq ..
  · rename_i hy
    rw [H.hq0 _ _ _ (by omega)]
    simp [FloatOps.sitofp]

/-- `do` by blocks of 512 rows and 128 lanes, transposed. -/
theorem dt_at (H : Cert.Ref.Holds x (q m c) (k m c) (v m c) (d m c)) (h : Fin 4) (n : Fin 8) (y : Fin 128) (z : Fin 512) :
    V m c main_v65 (ix4 h n y z) = ((x.D (n * 512 + z) (h * 128 + y) : ℝ) : EReal) := by
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_reads_at
  exact H.hd ..

/-- The lanes of a pair of heads, read case by case. -/
theorem v_tail (A : FVec Ideal S8x4096x64 .f32) (hA : ∀ (h : Fin 8) (r : Fin 4096) (c : Fin 64), A (ix3 h r c) = ((x.V h r c : ℝ) : EReal))
    (h : Fin 8) (r : Fin 4096) (y : Fin 128) :
    (if h_1 : h.val % 2 < 1 then
      if h_2 : h.val / 2 < 4 ∧ y.val < 64 then A (ix3 ⟨h.val / 2 * 2, by omega⟩ r ⟨y.val, by omega⟩) else FloatOps.sitofp (F := Ideal) .f32 0#32
     else if h_2 : h.val / 2 < 4 ∧ 64 ≤ y.val ∧ y.val - 64 < 64 then A (ix3 ⟨h.val / 2 * 2 + 1, by omega⟩ r ⟨y.val - 64, by omega⟩)
       else FloatOps.sitofp (F := Ideal) .f32 0#32) = ((x.Vp h r y : ℝ) : EReal) := by
  have z : FloatOps.sitofp (F := Ideal) .f32 0#32 = ((0 : ℝ) : EReal) := by simp [FloatOps.sitofp]
  rw [z]
  split
  · split
    · rename_i h0 hy
      have e : h.val / 2 * 2 = h.val := by omega
      have e' : y.val % 64 = y.val := by omega
      rw [hA, Cert.Grad.Data.Vp, if_pos (by omega), e']
      simp only [e]
    · rw [Cert.Grad.Data.Vp, if_neg (by omega)]
  · split
    · rename_i h0 hy
      have e : h.val / 2 * 2 + 1 = h.val := by omega
      have e' : y.val % 64 = y.val - 64 := by omega
      rw [hA, Cert.Grad.Data.Vp, if_pos (by omega), e']
      simp only [e]
    · rw [Cert.Grad.Data.Vp, if_neg (by omega)]

/-- `v` in the lanes of its pair of heads. -/
theorem v_at (H : Cert.Ref.Holds x (q m c) (k m c) (v m c) (d m c)) (h : Fin 8) (r : Fin 4096) (y : Fin 128) :
    V m c main_v60 (ix3 h r y) = ((x.Vp h r y : ℝ) : EReal) := by
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append, StableHlo.after_cons,
    StableHlo.after_nil]
  after_results_simp
  after_results_loop
  clean_types
  pointwise [StableHlo.TRef.toBuf, StableHlo.TRef.ofBuf]
  simp only [cast_eq]
  pointwise []
  exact v_tail _ H.hv h r y

/-- The attention's output. -/
theorem o_at (H : Cert.Ref.Holds x (q m c) (k m c) (v m c) (d m c)) (r : Fin 4096) (y : Fin 512) :
    V m c main_v44 (ix2 r y) = ((x.o (y.val / 64) r (y.val % 64) : ℝ) : EReal) := by
  rw [out_eq]
  refine (outOf_at _ _ r y).trans ?_
  simp only [Cert.Ref.probs H, H.hv, ← EReal.coe_mul, ← Cert.Grad.coe_sum]
  rfl

/-- The logarithm of a row's sum of exponentials. -/
theorem lse_at (H : Cert.Ref.Holds x (q m c) (k m c) (v m c) (d m c)) (h : Fin 8) (r : Fin 4096) (y : Fin 1) :
    V m c main_v19 (ix3 h r y) = ((x.T h r + Real.log (x.l h r) : ℝ) : EReal) := by
  rw [lse_eq]
  refine (lseOf_at _ _ h r y).trans ?_
  have e : ∀ j : Fin 4096, expOf (val_main_v10_0 (F := Ideal) (q m c) (k m c)) (val_main_v11 (F := Ideal) (q m c) (k m c))
      (ix3 h r j) = ((x.e h r j : ℝ) : EReal) := fun j => by
    refine (expOf_at _ _ h r j).trans ?_
    rw [Cert.Ref.scores H, H.ht, Cert.Grad.Data.e]
    split
    · rw [← EReal.coe_sub]; rfl
    · rw [EReal.bot_sub]; rfl
  simp only [e]
  rw [H.ht, ← Cert.Grad.coe_sum]
  show _ + Ideal.log ((x.l h r : ℝ) : EReal) = _
  have hl := x.l_pos h r.isLt
  rw [EReal.coe_add]
  congr 1
  exact if_neg (not_le.2 hl)

end Cert.KernelIdeal.Host
-- ==== Proof.Arrays.lean ====
/- The blocks of the kernel's windows at an index, and the arrays of the three gradients after the run. -/
module

public import proofs.«01_k».proof.Proof.Sums
public import proofs.«01_k».proof.Proof.Host
public import Idealize.ShloMosaic.Lib.Pipeline.ValueKit
public import Idealize.ShloMosaic.Lib.Pipeline.Covers

@[expose] public section

set_option maxRecDepth 16384

noncomputable section

namespace Cert.KernelIdeal.Arrays

open Cert.KernelIdeal Cert.KernelIdeal.Gen Cert.KernelIdeal.Body Cert.Access Cert.KernelIdeal.Pay Cert.Grad Cert.KernelIdeal.Sums
open Idealize.ShloMosaic Idealize.ShloMosaic.TcCoe Idealize.ShloMosaic.Tactic

/-- The coordinates of a point of the grid. -/
theorem coords_eq : ∀ t : Fin cfg0.N, ((grid0.coords t) 0).val = t.val / 16 ∧ ((grid0.coords t) 1).val = t.val / 8 % 2
    ∧ ((grid0.coords t) 2).val = t.val % 8 :=
  (by decide +kernel : ∀ t : Fin grid0.N, ((grid0.coords t) 0).val = t.val / 16 ∧ ((grid0.coords t) 1).val = t.val / 8 % 2
    ∧ ((grid0.coords t) 2).val = t.val % 8)

/-- An array read at an index of one of its blocks. -/
theorem read_block {s : Shape} {α : Type} (W : s.Idx → α) (sz idx : Fin s.rank → ℕ) (inb : ∀ a, (idx a + 1) * sz a ≤ s.size a)
    (y : (Rect.block sz idx inb).shape.Idx) (j : s.Idx) (h : ∀ a, (j a).val = idx a * sz a + (y a).val) :
    W ((Rect.block sz idx inb).emb y) = W j := by
  refine congrArg W (funext fun a => Fin.ext ?_)
  rw [h]
  exact ValueKit.rect_emb_unit_val _ _ _ y a

theorem idx0 : ∀ t : Fin cfg0.N, cc0_transform_0 (grid0.coords t) = ![t.val / 8, 0, 0] :=
  (by decide +kernel : ∀ t : Fin grid0.N, cc0_transform_0 (grid0.coords t) = ![t.val / 8, 0, 0])
theorem idx1 : ∀ t : Fin cfg0.N, cc0_transform_1 (grid0.coords t) = ![t.val / 8, 0, 0, 0] :=
  (by decide +kernel : ∀ t : Fin grid0.N, cc0_transform_1 (grid0.coords t) = ![t.val / 8, 0, 0, 0])
theorem idx2 : ∀ t : Fin cfg0.N, cc0_transform_2 (grid0.coords t) = ![t.val / 8, t.val % 8, 0] :=
  (by decide +kernel : ∀ t : Fin grid0.N, cc0_transform_2 (grid0.coords t) = ![t.val / 8, t.val % 8, 0])
theorem idx3 : ∀ t : Fin cfg0.N, cc0_transform_3 (grid0.coords t) = ![t.val / 8, t.val % 8, 0] :=
  (by decide +kernel : ∀ t : Fin grid0.N, cc0_transform_3 (grid0.coords t) = ![t.val / 8, t.val % 8, 0])
theorem idx4 : ∀ t : Fin cfg0.N, cc0_transform_4 (grid0.coords t) = ![0, t.val / 16] :=
  (by decide +kernel : ∀ t : Fin grid0.N, cc0_transform_4 (grid0.coords t) = ![0, t.val / 16])
theorem idx5 : ∀ t : Fin cfg0.N, cc0_transform_5 (grid0.coords t) = ![t.val / 16, 0, 0, 0] :=
  (by decide +kernel : ∀ t : Fin grid0.N, cc0_transform_5 (grid0.coords t) = ![t.val / 16, 0, 0, 0])
theorem idx6 : ∀ t : Fin cfg0.N, cc0_transform_6 (grid0.coords t) = ![0, t.val / 16] :=
  (by decide +kernel : ∀ t : Fin grid0.N, cc0_transform_6 (grid0.coords t) = ![0, t.val / 16])
theorem idx7 : ∀ t : Fin cfg0.N, cc0_transform_7 (grid0.coords t) = ![t.val / 8, 0, 0] :=
  (by decide +kernel : ∀ t : Fin grid0.N, cc0_transform_7 (grid0.coords t) = ![t.val / 8, 0, 0])
theorem idx8 : ∀ t : Fin cfg0.N, cc0_transform_8 (grid0.coords t) = ![t.val / 8, 0, 0] :=
  (by decide +kernel : ∀ t : Fin grid0.N, cc0_transform_8 (grid0.coords t) = ![t.val / 8, 0, 0])
theorem idx9 : ∀ t : Fin cfg0.N, cc0_transform_9 (grid0.coords t) = ![t.val / 8, t.val % 8, 0] :=
  (by decide +kernel : ∀ t : Fin grid0.N, cc0_transform_9 (grid0.coords t) = ![t.val / 8, t.val % 8, 0])
theorem idx10 : ∀ t : Fin cfg0.N, cc0_transform_10 (grid0.coords t) = ![t.val / 8, t.val % 8, 0] :=
  (by decide +kernel : ∀ t : Fin grid0.N, cc0_transform_10 (grid0.coords t) = ![t.val / 8, t.val % 8, 0])

theorem lt64 (t : Fin cfg0.N) : t.val < 64 := t.isLt

variable (m : (ℓ : Loc nD τ sig) → Buf (Elt Ideal) ℓ) (c : Dev nD)

section Blocks

attribute [local irreducible] Pipeline.Grid.coords cc0_transform_0 cc0_transform_1 cc0_transform_2 cc0_transform_3 cc0_transform_4 cc0_transform_5 cc0_transform_6 cc0_transform_7 cc0_transform_8 cc0_transform_9 cc0_transform_10

/-- Window 0's block at an index. -/
theorem blk0 (t : Fin cfg0.N) (e : Fin 1) (r : Fin 4096) (y : Fin 128) :
    iblk m c 0 t (ix3 e r y) = V m c main_v58 (ix3 ⟨t.val / 8, by have := lt64 t; omega⟩ r y) := by
  have h : ∀ a, ((ix3 ⟨t.val / 8, by have := lt64 t; omega⟩ r y : S8x4096x128.Idx) a).val
      = cc0_transform_0 (grid0.coords t) a * S1x4096x128.size a + ((ix3 e r y : S1x4096x128.Idx) a).val := by
    rw [idx0 t]
    intro a
    fin_cases a <;> simp [ix3]
  unfold iblk
  change ((cfg0.win 0).blk t).view.read (Elt Ideal) (V m c main_v58) _ = _
  generalize V m c main_v58 = W
  have key := read_block (s := S8x4096x128) (α := EReal) W S1x4096x128.size (cc0_transform_0 (grid0.coords t)) (Facts₀.hinb0_0 _) (ix3 e r y) (ix3 ⟨t.val / 8, by have := lt64 t; omega⟩ r y) h
  refine Eq.trans ?_ key
  rw [View.read_apply, cast_eq]
  rfl

/-- Window 1's block at an index. -/
theorem blk1 (t : Fin cfg0.N) (e : Fin 1) (n : Fin 8) (y : Fin 128) (z : Fin 512) :
    iblk m c 1 t (ix4 e n y z) = V m c main_v62 (ix4 ⟨t.val / 8, by have := lt64 t; omega⟩ n y z) := by
  have h : ∀ a, ((ix4 ⟨t.val / 8, by have := lt64 t; omega⟩ n y z : S8x8x128x512.Idx) a).val
      = cc0_transform_1 (grid0.coords t) a * S1x8x128x512.size a + ((ix4 e n y z : S1x8x128x512.Idx) a).val := by
    rw [idx1 t]
    intro a
    fin_cases a <;> simp [ix4]
  unfold iblk
  change ((cfg0.win 1).blk t).view.read (Elt Ideal) (V m c main_v62) _ = _
  generalize V m c main_v62 = W
  have key := read_block (s := S8x8x128x512) (α := EReal) W S1x8x128x512.size (cc0_transform_1 (grid0.coords t)) (Facts₀.hinb0_1 _) (ix4 e n y z) (ix4 ⟨t.val / 8, by have := lt64 t; omega⟩ n y z) h
  refine Eq.trans ?_ key
  rw [View.read_apply, cast_eq]
  rfl

/-- Window 2's block at an index. -/
theorem blk2 (t : Fin cfg0.N) (e : Fin 1) (b : Fin 512) (y : Fin 128) :
    iblk m c 2 t (ix3 e b y) = V m c main_v59 (ix3 ⟨t.val / 8, by have := lt64 t; omega⟩ ⟨t.val % 8 * 512 + b.val, by omega⟩ y) := by
  have h : ∀ a, ((ix3 ⟨t.val / 8, by have := lt64 t; omega⟩ ⟨t.val % 8 * 512 + b.val, by omega⟩ y : S8x4096x128.Idx) a).val
      = cc0_transform_2 (grid0.coords t) a * S1x512x128.size a + ((ix3 e b y : S1x512x128.Idx) a).val := by
    rw [idx2 t]
    intro a
    fin_cases a <;> simp [ix3]
  unfold iblk
  change ((cfg0.win 2).blk t).view.read (Elt Ideal) (V m c main_v59) _ = _
  generalize V m c main_v59 = W
  have key := read_block (s := S8x4096x128) (α := EReal) W S1x512x128.size (cc0_transform_2 (grid0.coords t)) (Facts₀.hinb0_2 _) (ix3 e b y) (ix3 ⟨t.val / 8, by have := lt64 t; omega⟩ ⟨t.val % 8 * 512 + b.val, by omega⟩ y) h
  refine Eq.trans ?_ key
  rw [View.read_apply, cast_eq]
  rfl

/-- Window 3's block at an index. -/
theorem blk3 (t : Fin cfg0.N) (e : Fin 1) (b : Fin 512) (y : Fin 128) :
    iblk m c 3 t (ix3 e b y) = V m c main_v60 (ix3 ⟨t.val / 8, by have := lt64 t; omega⟩ ⟨t.val % 8 * 512 + b.val, by omega⟩ y) := by
  have h : ∀ a, ((ix3 ⟨t.val / 8, by have := lt64 t; omega⟩ ⟨t.val % 8 * 512 + b.val, by omega⟩ y : S8x4096x128.Idx) a).val
      = cc0_transform_3 (grid0.coords t) a * S1x512x128.size a + ((ix3 e b y : S1x512x128.Idx) a).val := by
    rw [idx3 t]
    intro a
    fin_cases a <;> simp [ix3]
  unfold iblk
  change ((cfg0.win 3).blk t).view.read (Elt Ideal) (V m c main_v60) _ = _
  generalize V m c main_v60 = W
  have key := read_block (s := S8x4096x128) (α := EReal) W S1x512x128.size (cc0_transform_3 (grid0.coords t)) (Facts₀.hinb0_3 _) (ix3 e b y) (ix3 ⟨t.val / 8, by have := lt64 t; omega⟩ ⟨t.val % 8 * 512 + b.val, by omega⟩ y) h
  refine Eq.trans ?_ key
  rw [View.read_apply, cast_eq]
  rfl

/-- Window 4's block at an index. -/
theorem blk4 (t : Fin cfg0.N) (r : Fin 4096) (y : Fin 128) :
    iblk m c 4 t (ix2 r y) = V m c main_arg3 (ix2 r ⟨t.val / 16 * 128 + y.val, by have := lt64 t; omega⟩) := by
  have h : ∀ a, ((ix2 r ⟨t.val / 16 * 128 + y.val, by have := lt64 t; omega⟩ : S4096x512.Idx) a).val
      = cc0_transform_4 (grid0.coords t) a * S4096x128.size a + ((ix2 r y : S4096x128.Idx) a).val := by
    rw [idx4 t]
    intro a
    fin_cases a <;> simp [ix2]
  unfold iblk
  change ((cfg0.win 4).blk t).view.read (Elt Ideal) (V m c main_arg3) _ = _
  generalize V m c main_arg3 = W
  have key := read_block (s := S4096x512) (α := EReal) W S4096x128.size (cc0_transform_4 (grid0.coords t)) (Facts₀.hinb0_4 _) (ix2 r y) (ix2 r ⟨t.val / 16 * 128 + y.val, by have := lt64 t; omega⟩) h
  refine Eq.trans ?_ key
  rw [View.read_apply, cast_eq]
  rfl

/-- Window 5's block at an index. -/
theorem blk5 (t : Fin cfg0.N) (e : Fin 1) (n : Fin 8) (y : Fin 128) (z : Fin 512) :
    iblk m c 5 t (ix4 e n y z) = V m c main_v65 (ix4 ⟨t.val / 16, by have := lt64 t; omega⟩ n y z) := by
  have h : ∀ a, ((ix4 ⟨t.val / 16, by have := lt64 t; omega⟩ n y z : S4x8x128x512.Idx) a).val
      = cc0_transform_5 (grid0.coords t) a * S1x8x128x512.size a + ((ix4 e n y z : S1x8x128x512.Idx) a).val := by
    rw [idx5 t]
    intro a
    fin_cases a <;> simp [ix4]
  unfold iblk
  change ((cfg0.win 5).blk t).view.read (Elt Ideal) (V m c main_v65) _ = _
  generalize V m c main_v65 = W
  have key := read_block (s := S4x8x128x512) (α := EReal) W S1x8x128x512.size (cc0_transform_5 (grid0.coords t)) (Facts₀.hinb0_5 _) (ix4 e n y z) (ix4 ⟨t.val / 16, by have := lt64 t; omega⟩ n y z) h
  refine Eq.trans ?_ key
  rw [View.read_apply, cast_eq]
  rfl

/-- Window 6's block at an index. -/
theorem blk6 (t : Fin cfg0.N) (r : Fin 4096) (y : Fin 128) :
    iblk m c 6 t (ix2 r y) = V m c main_v44 (ix2 r ⟨t.val / 16 * 128 + y.val, by have := lt64 t; omega⟩) := by
  have h : ∀ a, ((ix2 r ⟨t.val / 16 * 128 + y.val, by have := lt64 t; omega⟩ : S4096x512.Idx) a).val
      = cc0_transform_6 (grid0.coords t) a * S4096x128.size a + ((ix2 r y : S4096x128.Idx) a).val := by
    rw [idx6 t]
    intro a
    fin_cases a <;> simp [ix2]
  unfold iblk
  change ((cfg0.win 6).blk t).view.read (Elt Ideal) (V m c main_v44) _ = _
  generalize V m c main_v44 = W
  have key := read_block (s := S4096x512) (α := EReal) W S4096x128.size (cc0_transform_6 (grid0.coords t)) (Facts₀.hinb0_6 _) (ix2 r y) (ix2 r ⟨t.val / 16 * 128 + y.val, by have := lt64 t; omega⟩) h
  refine Eq.trans ?_ key
  rw [View.read_apply, cast_eq]
  rfl

/-- Window 7's block at an index. -/
theorem blk7 (t : Fin cfg0.N) (e : Fin 1) (r : Fin 4096) (y : Fin 1) :
    iblk m c 7 t (ix3 e r y) = V m c main_v19 (ix3 ⟨t.val / 8, by have := lt64 t; omega⟩ r y) := by
  have h : ∀ a, ((ix3 ⟨t.val / 8, by have := lt64 t; omega⟩ r y : S8x4096x1.Idx) a).val
      = cc0_transform_7 (grid0.coords t) a * S1x4096x1.size a + ((ix3 e r y : S1x4096x1.Idx) a).val := by
    rw [idx7 t]
    intro a
    fin_cases a <;> simp [ix3]
  unfold iblk
  change ((cfg0.win 7).blk t).view.read (Elt Ideal) (V m c main_v19) _ = _
  generalize V m c main_v19 = W
  have key := read_block (s := S8x4096x1) (α := EReal) W S1x4096x1.size (cc0_transform_7 (grid0.coords t)) (Facts₀.hinb0_7 _) (ix3 e r y) (ix3 ⟨t.val / 8, by have := lt64 t; omega⟩ r y) h
  refine Eq.trans ?_ key
  rw [View.read_apply, cast_eq]
  rfl

end Blocks

/-! ## The runs of the body, one point after another -/

variable {m c} {x : Data}

/-- The head of a point. -/
theorem head_eq (t : Fin cfg0.N) : head (grid0.coords t) = t.val / 8 := by
  obtain ⟨h0, h1, -⟩ := coords_eq t
  unfold head
  omega

/-- The block of the output, as numbers. -/
theorem blk6_at (H : Cert.Ref.Holds x (Host.q m c) (Host.k m c) (Host.v m c) (Host.d m c)) (t : Fin cfg0.N) (r : Fin 4096) (y : Fin 128) :
    iblk m c 6 t (ix2 r y) = ((x.o ((t.val / 16 * 128 + y.val) / 64) r ((t.val / 16 * 128 + y.val) % 64) : ℝ) : EReal) :=
  (blk6 m c t r y).trans (Host.o_at m H r ⟨t.val / 16 * 128 + y.val, by have := lt64 t; omega⟩)

/-- The block of the output's gradient, as numbers. -/
theorem blk4_at (H : Cert.Ref.Holds x (Host.q m c) (Host.k m c) (Host.v m c) (Host.d m c)) (t : Fin cfg0.N) (r : Fin 4096) (y : Fin 128) :
    iblk m c 4 t (ix2 r y) = ((x.D r (t.val / 16 * 128 + y.val) : ℝ) : EReal) := by
  rw [blk4 m c t r y]
  have h := V_main_arg3 m c
  have h2 := H.hd r ⟨t.val / 16 * 128 + y.val, by have := lt64 t; omega⟩
  generalize V m c main_arg3 = W at h ⊢
  rw [h]
  exact h2

set_option maxHeartbeats 1000000 in
/-- The blocks that a run of the body reads, at every point. -/
theorem at_point (H : Cert.Ref.Holds x (Host.q m c) (Host.k m c) (Host.v m c) (Host.d m c)) (t : Fin cfg0.N) :
    At x (ins m c t) (k0_pay22 (iblk m c 2 t)) (k0_pay23 (iblk m c 3 t)) (grid0.coords t) := by
  obtain ⟨h0, h1, h2⟩ := coords_eq t
  refine ⟨fun e r y => ?_, fun e n y z => ?_, fun r y => ?_, fun e n y z => ?_, fun r y => ?_, fun e r y => ?_, fun b y => ?_,
    fun b y => ?_, H.hκ, fun r l hl => H.hq0 _ _ _ hl⟩
  · rw [head_eq]
    exact (blk0 m c t e r y).trans (Host.q_at m H _ r y)
  · rw [head_eq]
    exact (blk1 m c t e n y z).trans (Host.qt_at m H _ n y z)
  · rw [h0]
    exact blk4_at H t r y
  · rw [h0]
    exact (blk5 m c t e n y z).trans (Host.dt_at m H _ n y z)
  · rw [h0]
    exact blk6_at H t r y
  · rw [head_eq]
    exact (blk7 m c t e r y).trans (Host.lse_at m H _ r y)
  · rw [head_eq, h2, pay22_at]
    exact (blk2 m c t 0 b y).trans (Host.k_at m H _ _ y)
  · rw [head_eq, h2, pay23_at]
    exact (blk3 m c t 0 b y).trans (Host.v_at m H _ _ y)

/-- The accumulators after point `n`: the blocks of keys so far for `q`, all the blocks of queries for `k` and `v`. -/
theorem left_is (H : Cert.Ref.Holds x (Host.q m c) (Host.k m c) (Host.v m c) (Host.d m c)) : ∀ (n : ℕ) (hn : n < cfg0.N),
    Is (left m c n hn) (fun r y => ∑ k ∈ Finset.range (n % 8 + 1), partQ x (n / 8) k r y)
      (fun b y => ∑ k ∈ Finset.range 8, partK x (n / 8) (n % 8) k b y)
      (fun b y => ∑ k ∈ Finset.range 8, partV x (n / 8) (n / 16) (n % 8) k b y) := by
  have step : ∀ (t : Fin cfg0.N) (d : S1x4096x128.Idx → EReal),
      (t.val % 8 ≠ 0 → ∀ (e : Fin 1) (r : Fin 4096) (y : Fin 128),
        d (ix3 e r y) = ((∑ k ∈ Finset.range (t.val % 8), partQ x (t.val / 8) k r y : ℝ) : EReal)) →
      Is (leaves m c t d) (fun r y => ∑ k ∈ Finset.range (t.val % 8 + 1), partQ x (t.val / 8) k r y)
        (fun b y => ∑ k ∈ Finset.range 8, partK x (t.val / 8) (t.val % 8) k b y)
        (fun b y => ∑ k ∈ Finset.range 8, partV x (t.val / 8) (t.val / 16) (t.val % 8) k b y) := by
    intro t d hd
    obtain ⟨h0, h1, h2⟩ := coords_eq t
    have D := final_done (at_point H t) (fun r y => ∑ k ∈ Finset.range (t.val % 8), partQ x (t.val / 8) k r y) d (fun e r y => by
      dsimp only [start]
      rw [h2]
      split
      · rename_i h
        rw [h, Finset.range_zero, Finset.sum_empty, pay21_at, EReal.coe_zero]
      · rename_i h
        exact hd h e r y)
    refine ⟨fun e r y => ?_, fun y b => ?_, fun y b => ?_⟩
    · refine (D.q e r y).trans ?_
      rw [if_pos (by omega), Finset.sum_range_succ, head_eq, h2]
    · refine (D.k y b).trans ?_
      rw [head_eq, h2]
    · refine (D.v y b).trans ?_
      rw [head_eq, h2, h0]
  intro n
  induction n with
  | zero => exact fun hn => step ⟨0, hn⟩ _ fun h => absurd rfl h
  | succ n ih =>
    intro hn
    refine step ⟨n + 1, hn⟩ _ fun h e r y => ?_
    have e1 : (n + 1) % 8 = n % 8 + 1 := by simp only at h; omega
    have e2 : (n + 1) / 8 = n / 8 := by simp only at h; omega
    refine ((ih (Nat.lt_of_succ_lt hn)).q e r y).trans ?_
    simp only [e1, e2]

/-! ## The arrays after the run -/

/-- The gradient of `q` as the kernel leaves it. -/
def GQ (x : Data) : S8x4096x128.Idx → EReal := fun i =>
  ((∑ j : Fin 4096, x.ds (i 0).val (i 1).val j * x.K (i 0).val j (i 2).val : ℝ) : EReal)

/-- The gradient of `k` as the kernel leaves it. -/
def GK (x : Data) : S8x4096x128.Idx → EReal := fun i =>
  ((∑ r : Fin 4096, x.Q (i 0).val r (i 2).val * x.ds (i 0).val r (i 1).val : ℝ) : EReal)

/-- The gradient of `v`, for all the lanes of a pair of heads, as the kernel leaves it. -/
def GV (x : Data) : S8x4096x128.Idx → EReal := fun i =>
  ((∑ r : Fin 4096, x.D r ((i 0).val / 2 * 128 + (i 2).val) * x.p (i 0).val r (i 1).val : ℝ) : EReal)

section After

attribute [local irreducible] Pipeline.Grid.coords cc0_transform_8 cc0_transform_9 cc0_transform_10

theorem arr8 (H : Cert.Ref.Holds x (Host.q m c) (Host.k m c) (Host.v m c) (Host.d m c)) : (dats m 0 c).arrAt 8 cfg0.N = GQ x := by
  refine (dats m 0 c).arrAt_eq_of_covers 8 (GQ x) (by decide +kernel) fun t hf y => ?_
  have hf' : t.val % 8 = 7 := (flush0_8 t).mp hf
  rw [cast_eq, after_8]
  have key : ∀ y : S1x4096x128.Idx, (left m c t.val t.isLt).dq y
      = GQ x ((Rect.block (s := S8x4096x128) S1x4096x128.size (cc0_transform_8 (grid0.coords t)) (Facts₀.hinb0_8 _)).emb y) := by
    intro y
    obtain ⟨e, r, l, rfl⟩ : ∃ e r l, y = ix3 e r l := ⟨y 0, y 1, y 2, (eq_ix3 y)⟩
    have h : ∀ a, ((ix3 ⟨t.val / 8, by have := lt64 t; omega⟩ r l : S8x4096x128.Idx) a).val
        = cc0_transform_8 (grid0.coords t) a * S1x4096x128.size a + ((ix3 e r l : S1x4096x128.Idx) a).val := by
      rw [idx8 t]
      intro a
      fin_cases a <;> simp [ix3]
    rw [(left_is H t.val t.isLt).q, read_block (s := S8x4096x128) (GQ x) S1x4096x128.size (cc0_transform_8 (grid0.coords t)) (Facts₀.hinb0_8 _)
      (ix3 e r l) _ h, hf']
    exact congrArg _ (sum_rows fun j => x.ds (t.val / 8) r j * x.K (t.val / 8) j l)
  exact key y

theorem arr9 (H : Cert.Ref.Holds x (Host.q m c) (Host.k m c) (Host.v m c) (Host.d m c)) : (dats m 0 c).arrAt 9 cfg0.N = GK x := by
  refine (dats m 0 c).arrAt_eq_of_covers 9 (GK x) (by decide +kernel) fun t hf y => ?_
  rw [cast_eq, after_9]
  have key : ∀ y : S1x512x128.Idx, k0_pay44 (F := Ideal) (left m c t.val t.isLt).dk y
      = GK x ((Rect.block (s := S8x4096x128) S1x512x128.size (cc0_transform_9 (grid0.coords t)) (Facts₀.hinb0_9 _)).emb y) := by
    intro y
    obtain ⟨e, b, l, rfl⟩ : ∃ e r l, y = ix3 e r l := ⟨y 0, y 1, y 2, (eq_ix3 y)⟩
    have h : ∀ a, ((ix3 ⟨t.val / 8, by have := lt64 t; omega⟩ ⟨t.val % 8 * 512 + b.val, by omega⟩ l : S8x4096x128.Idx) a).val
        = cc0_transform_9 (grid0.coords t) a * S1x512x128.size a + ((ix3 e b l : S1x512x128.Idx) a).val := by
      rw [idx9 t]
      intro a
      fin_cases a <;> simp [ix3]
    rw [pay44_at, (left_is H t.val t.isLt).k, read_block (s := S8x4096x128) (GK x) S1x512x128.size (cc0_transform_9 (grid0.coords t))
      (Facts₀.hinb0_9 _) (ix3 e b l) _ h]
    exact congrArg _ (sum_rows fun r => x.Q (t.val / 8) r l * x.ds (t.val / 8) r (t.val % 8 * 512 + b.val))
  exact key y

theorem arr10 (H : Cert.Ref.Holds x (Host.q m c) (Host.k m c) (Host.v m c) (Host.d m c)) : (dats m 0 c).arrAt 10 cfg0.N = GV x := by
  refine (dats m 0 c).arrAt_eq_of_covers 10 (GV x) (by decide +kernel) fun t hf y => ?_
  rw [cast_eq, after_10]
  have key : ∀ y : S1x512x128.Idx, k0_pay1 (F := Ideal) (k0_pay45 (left m c t.val t.isLt).dv) y
      = GV x ((Rect.block (s := S8x4096x128) S1x512x128.size (cc0_transform_10 (grid0.coords t)) (Facts₀.hinb0_10 _)).emb y) := by
    intro y
    obtain ⟨e, b, l, rfl⟩ : ∃ e r l, y = ix3 e r l := ⟨y 0, y 1, y 2, (eq_ix3 y)⟩
    have h : ∀ a, ((ix3 ⟨t.val / 8, by have := lt64 t; omega⟩ ⟨t.val % 8 * 512 + b.val, by omega⟩ l : S8x4096x128.Idx) a).val
        = cc0_transform_10 (grid0.coords t) a * S1x512x128.size a + ((ix3 e b l : S1x512x128.Idx) a).val := by
      rw [idx10 t]
      intro a
      fin_cases a <;> simp [ix3]
    have e2 : t.val / 16 = t.val / 8 / 2 := by omega
    rw [pay45_at, (left_is H t.val t.isLt).v, read_block (s := S8x4096x128) (GV x) S1x512x128.size (cc0_transform_10 (grid0.coords t))
      (Facts₀.hinb0_10 _) (ix3 e b l) _ h, e2]
    exact congrArg _ (sum_rows fun r => x.D r (t.val / 8 / 2 * 128 + l) * x.p (t.val / 8) r (t.val % 8 * 512 + b.val))
  exact key y

end After

end Cert.KernelIdeal.Arrays
-- ==== Proof.Tail.lean ====
/- What the host operations after the region leave in the kernel's three results. -/
module

public import proofs.«01_k».proof.Proof.Arrays

@[expose] public section

set_option maxRecDepth 16384

noncomputable section

namespace Cert.KernelIdeal.Tail

open Cert.KernelIdeal Cert.KernelIdeal.Gen Cert.KernelIdeal.Body Cert.KernelIdeal.Arrays Cert.Grad
open Idealize.ShloMosaic Idealize.ShloMosaic.TcCoe
open Idealize.ShloMosaic.Pointwise

variable (m : (ℓ : Loc nD τ sig) → Buf (Elt Ideal) ℓ) (c : Dev nD)

/-- The lanes of a pair of heads cut into the two heads. -/
def heads (y : FVec Ideal S8x4096x128 .f32) : FVec Ideal S8x4096x64 .f32 :=
  shapeCast S8x4096x64 (concatenate S4x2x4096x64 1
    [⟨S4x1x4096x64, broadcastInDim S4x1x4096x64 ![0, 2, 3] bcast_S4x4096x64_S4x1x4096x64_0_2_3
      (shapeCast S4x4096x64 (extractStridedSlice S4x1x4096x64 ![0, 0, 0, 0] (shapeCast S4x2x4096x128 y shapeCasts_S8x4096x128_S4x2x4096x128)
        slices_S4x2x4096x128_S4x1x4096x64_0_0_0_0) shapeCasts_S4x1x4096x64_S4x4096x64)⟩,
     ⟨S4x1x4096x64, broadcastInDim S4x1x4096x64 ![0, 2, 3] bcast_S4x4096x64_S4x1x4096x64_0_2_3
      (shapeCast S4x4096x64 (extractStridedSlice S4x1x4096x64 ![0, 1, 0, 64] (shapeCast S4x2x4096x128 y shapeCasts_S8x4096x128_S4x2x4096x128)
        slices_S4x2x4096x128_S4x1x4096x64_0_1_0_64) shapeCasts_S4x1x4096x64_S4x4096x64)⟩]
    concatenates_S4x1x4096x64_S4x1x4096x64_S4x2x4096x64_d1) shapeCasts_S4x2x4096x64_S8x4096x64

theorem heads_at (y : FVec Ideal S8x4096x128 .f32) (h : Fin 8) (j : Fin 4096) (l : Fin 64) :
    heads y (ix3 h j l) = y (ix3 h j ⟨h.val % 2 * 64 + l.val, by omega⟩) := by
  unfold heads
  pointwise []
  split
  · congr 2
    · exact Fin.ext (by simp only; omega)
    · exact Fin.ext (by simp only; omega)
  · congr 2
    · exact Fin.ext (by simp only; omega)
    · exact Fin.ext (by simp only; omega)

theorem slice_at (y : FVec Ideal S8x4096x128 .f32) (h : Fin 8) (j : Fin 4096) (l : Fin 96) :
    (extractStridedSlice S8x4096x96 ![0, 0, 0] y slices_S8x4096x128_S8x4096x96_0_0_0 : FVec Ideal S8x4096x96 .f32) (ix3 h j l)
      = y (ix3 h j ⟨l.val, by omega⟩) := by
  pointwise []

/-- No two windows stage one array. -/
theorem arrs_inj : Function.Injective (Pipeline.arrRef spec0) := by
  decide

/-- The first result: the first 96 lanes of the gradient of `q`. -/
theorem res_q : Pipeline.afterTail₀ cfgs (dats m) 0 (V0 m) [hostOps1] c main_v76
    = extractStridedSlice S8x4096x96 ![0, 0, 0] ((dats m 0 c).arrAt 8 cfg0.N) slices_S8x4096x128_S8x4096x96_0_0_0 := by
  have e : Pipeline.withArrays (cfgs 0).spec c (V0 m c) (fun w => (dats m 0 c).arrAt w (cfgs 0).N) (Proc.tc.devRef main_v66_0)
      = (dats m 0 c).arrAt 8 cfg0.N := Pipeline.withArrays_arr (cfgs 0).spec arrs_inj c (V0 m c) (fun w => (dats m 0 c).arrAt w (cfgs 0).N) 8
  unfold Pipeline.afterTail₀
  simp only [hostOps1, List.flatten_cons, List.flatten_nil, List.append_nil, List.cons_append, List.nil_append, StableHlo.after_cons, StableHlo.after_nil]
  after_results_simp
  rw [e]

/-- The second result: the first 96 lanes of the gradient of `k`. -/
theorem res_k : Pipeline.afterTail₀ cfgs (dats m) 0 (V0 m) [hostOps1] c main_v77
    = extractStridedSlice S8x4096x96 ![0, 0, 0] ((dats m 0 c).arrAt 9 cfg0.N) slices_S8x4096x128_S8x4096x96_0_0_0 := by
  have e : Pipeline.withArrays (cfgs 0).spec c (V0 m c) (fun w => (dats m 0 c).arrAt w (cfgs 0).N) (Proc.tc.devRef main_v66_1)
      = (dats m 0 c).arrAt 9 cfg0.N := Pipeline.withArrays_arr (cfgs 0).spec arrs_inj c (V0 m c) (fun w => (dats m 0 c).arrAt w (cfgs 0).N) 9
  unfold Pipeline.afterTail₀
  simp only [hostOps1, List.flatten_cons, List.flatten_nil, List.append_nil, List.cons_append, List.nil_append, StableHlo.after_cons, StableHlo.after_nil]
  after_results_simp
  rw [e]

/-- The third result: the gradient of `v`, each head's own lanes. -/
theorem res_v : Pipeline.afterTail₀ cfgs (dats m) 0 (V0 m) [hostOps1] c main_v75
    = heads ((dats m 0 c).arrAt 10 cfg0.N) := by
  have e : Pipeline.withArrays (cfgs 0).spec c (V0 m c) (fun w => (dats m 0 c).arrAt w (cfgs 0).N) (Proc.tc.devRef main_v66_2)
      = (dats m 0 c).arrAt 10 cfg0.N := Pipeline.withArrays_arr (cfgs 0).spec arrs_inj c (V0 m c) (fun w => (dats m 0 c).arrAt w (cfgs 0).N) 10
  unfold Pipeline.afterTail₀
  simp only [hostOps1, List.flatten_cons, List.flatten_nil, List.append_nil, List.cons_append, List.nil_append, StableHlo.after_cons, StableHlo.after_nil]
  after_results_simp
  rw [← e]
  rfl

variable {m c} {x : Data} (H : Cert.Ref.Holds x (Host.q m c) (Host.k m c) (Host.v m c) (Host.d m c))

open Cert.ReferenceIdeal.Read (val_main_v63 val_main_v62 val_main_v46)

include H in
/-- The gradient of `q` is the reference's. -/
theorem grad_q : Pipeline.afterTail₀ cfgs (dats m) 0 (V0 m) [hostOps1] c main_v76
    = val_main_v63 (F := Ideal) (Host.q m c) (Host.k m c) (Host.v m c) (Host.d m c) := by
  rw [res_q, arr8 H]
  refine funext fun i => ?_
  obtain ⟨h, r, l, rfl⟩ : ∃ h r l, i = ix3 h r l := ⟨i 0, i 1, i 2, eq_ix3 i⟩
  exact (slice_at _ h r l).trans (Cert.Ref.grad_q H h r l).symm

include H in
/-- The gradient of `k` is the reference's. -/
theorem grad_k : Pipeline.afterTail₀ cfgs (dats m) 0 (V0 m) [hostOps1] c main_v77
    = val_main_v62 (F := Ideal) (Host.q m c) (Host.k m c) (Host.v m c) (Host.d m c) := by
  rw [res_k, arr9 H]
  refine funext fun i => ?_
  obtain ⟨h, j, l, rfl⟩ : ∃ h r l, i = ix3 h r l := ⟨i 0, i 1, i 2, eq_ix3 i⟩
  refine (slice_at _ h j l).trans (Eq.trans ?_ (Cert.Ref.grad_k H h j l).symm)
  exact congrArg (fun z : ℝ => (z : EReal)) (Finset.sum_congr rfl fun r _ => mul_comm _ _)

/-- The lanes that a head's own values take among its pair's are the head's among all the heads'. -/
theorem GV_at (h : Fin 8) (j : Fin 4096) (l : Fin 64) :
    GV x (ix3 h j ⟨h.val % 2 * 64 + l.val, by omega⟩) = ((x.dv h j l : ℝ) : EReal) := by
  have e : h.val / 2 * 128 + (h.val % 2 * 64 + l.val) = h.val * 64 + l.val := by omega
  unfold GV Data.dv
  rw [← e]
  rfl

include H in
/-- The gradient of `v` is the reference's. -/
theorem grad_v : Pipeline.afterTail₀ cfgs (dats m) 0 (V0 m) [hostOps1] c main_v75
    = val_main_v46 (F := Ideal) (Host.q m c) (Host.k m c) (Host.d m c) := by
  rw [res_v, arr10 H]
  refine funext fun i => ?_
  obtain ⟨h, j, l, rfl⟩ : ∃ h r l, i = ix3 h r l := ⟨i 0, i 1, i 2, eq_ix3 i⟩
  exact ((heads_at _ h j l).trans (GV_at h j l)).trans (Cert.Ref.grad_v H h j l).symm

end Cert.KernelIdeal.Tail
-- ==== Proof.Finite.lean ====
/- Arguments without infinities are arrays of real numbers. -/
module

public import proofs.«01_k».proof.Proof.Ref
public import proofs.«01_k».proof.Proof.Gen.Pre_finite
public import Idealize.ShloMosaic.Lib.ReduceAll

@[expose] public section

set_option maxRecDepth 16384

noncomputable section

namespace Cert.Finite

open Cert.ReferenceIdeal Cert.ReferenceIdeal.Gen Cert.ReferenceIdeal.Read
open Idealize.ShloMosaic Idealize.ShloMosaic.Pointwise

/-- A value whose absolute value is less than the positive infinity is real. -/
theorem real_of_lt {a : EReal} (h : Ideal.cmp .olt (max a (-a)) (Ideal.ofBits .f32 0x7F800000#32) = 1#1) : a = ((a.toReal : ℝ) : EReal) := by
  have e : Ideal.ofBits .f32 0x7F800000#32 = (⊤ : EReal) := by simp [Ideal.ofBits, Ideal.ieee]
  rw [e] at h
  have h' : max a (-a) < ⊤ := by
    by_contra hn
    simp [Ideal.cmp, hn] at h
  refine Cert.Grad.real_of_abs (fun e => ?_) (fun e => ?_)
  · rw [e] at h'; simp at h'
  · rw [e] at h'; simp at h'

/-- An `and` of all the comparisons being one, each value is real. -/
theorem reals {s : Shape} {axes : List (Fin s.rank)} (x : FVec Ideal s .f32) (b : FVec Ideal s .f32) (hb : ∀ i, b i = Ideal.ofBits .f32 0x7F800000#32)
    (h : s.ReducesTo axes Cert.Pre_finite.S_) (h0 : 0 < Cert.Pre_finite.S_.numel) (j : Cert.Pre_finite.S_.Idx)
    (e : Host.reduce IntOp.andi (cmpf .olt (Host.absf x) b) (constantI Cert.Pre_finite.S_ 1 1#1) h h0 j = 1#1) (i : s.Idx) :
    x i = (((x i : EReal).toReal : ℝ) : EReal) := by
  haveI : Subsingleton Cert.Pre_finite.S_.Idx := ⟨fun a b => funext fun k => k.elim0⟩
  have := Host.reduce_andi_all _ _ h h0 j e i
  refine real_of_lt ?_
  rw [← hb i]
  exact this

/-- The precondition: every entry of the four arrays is real. -/
theorem pre {q k : FVec Ideal Cert.Pre_finite.S8x4096x96 .f32} {v : FVec Ideal Cert.Pre_finite.S8x4096x64 .f32} {d : FVec Ideal Cert.Pre_finite.S4096x512 .f32}
    (h : Cert.Pre_finite.fn (F := Ideal) q k v d = fun _ => 1#1) :
    (∀ i, q i = (((q i : EReal).toReal : ℝ) : EReal)) ∧ (∀ i, k i = (((k i : EReal).toReal : ℝ) : EReal))
      ∧ (∀ i, v i = (((v i : EReal).toReal : ℝ) : EReal)) ∧ (∀ i, d i = (((d i : EReal).toReal : ℝ) : EReal)) := by
  have e := congrFun h (fun k => k.elim0)
  unfold Cert.Pre_finite.fn Cert.Pre_finite.fn_part1 at e
  obtain ⟨e, e4⟩ := IntOp.andi_eq_one.1 e
  obtain ⟨e, e3⟩ := IntOp.andi_eq_one.1 e
  obtain ⟨e1, e2⟩ := IntOp.andi_eq_one.1 e
  exact ⟨reals _ _ (fun _ => rfl) _ _ _ e1, reals _ _ (fun _ => rfl) _ _ _ e2, reals _ _ (fun _ => rfl) _ _ _ e3, reals _ _ (fun _ => rfl) _ _ _ e4⟩

/-- An array of three axes at natural numbers: its entry as a real number, zero outside. -/
def arr3 {a b c : ℕ} (x : Shape.Idx ⟨3, ![a, b, c]⟩ → EReal) (h r l : ℕ) : ℝ :=
  if H : h < a ∧ r < b ∧ l < c then (x (ix3 ⟨h, H.1⟩ ⟨r, H.2.1⟩ ⟨l, H.2.2⟩)).toReal else 0

/-- An array of two axes at natural numbers: its entry as a real number, zero outside. -/
def arr2 {a b : ℕ} (x : Shape.Idx ⟨2, ![a, b]⟩ → EReal) (h r : ℕ) : ℝ :=
  if H : h < a ∧ r < b then (x (ix2 ⟨h, H.1⟩ ⟨r, H.2⟩)).toReal else 0

theorem arr3_at {a b c : ℕ} (x : Shape.Idx ⟨3, ![a, b, c]⟩ → EReal) (h : Fin a) (r : Fin b) (l : Fin c) :
    arr3 x h r l = (x (ix3 h r l)).toReal := by
  rw [arr3, dif_pos ⟨h.isLt, r.isLt, l.isLt⟩]

theorem arr2_at {a b : ℕ} (x : Shape.Idx ⟨2, ![a, b]⟩ → EReal) (h : Fin a) (r : Fin b) : arr2 x h r = (x (ix2 h r)).toReal := by
  rw [arr2, dif_pos ⟨h.isLt, r.isLt⟩]

/-- The real numbers of the four arguments. -/
def data (q k : (⟨S8x4096x96, .f32⟩ : BufTy).Contents (Elt Ideal))
    (v : (⟨S8x4096x64, .f32⟩ : BufTy).Contents (Elt Ideal)) (d : (⟨S4096x512, .f32⟩ : BufTy).Contents (Elt Ideal)) : Cert.Grad.Data where
  Q := arr3 q
  K := arr3 k
  V := arr3 v
  D := arr2 d
  T := arr2 (val_main_v11 (F := Ideal) q k)
  κ := (Ideal.ofBits .f32 0x3DD105EC#32 : EReal).toReal

/-- The scale is a real number. -/
theorem scale_real : (Ideal.ofBits .f32 0x3DD105EC#32 : EReal) = (((Ideal.ofBits .f32 0x3DD105EC#32 : EReal).toReal : ℝ) : EReal) := by
  have e : (Ideal.ofBits .f32 0x3DD105EC#32 : EReal) = ((13698540 * (2 ^ 27)⁻¹ : ℝ) : EReal) := by
    simp [Ideal.ofBits, Ideal.ieee]
  rw [e, EReal.toReal_coe]

/-- A row's largest score is real when the scores not masked are: the row's own key is not masked. -/
theorem top_real {q k : (⟨S8x4096x96, .f32⟩ : BufTy).Contents (Elt Ideal)} {s : ℕ → ℕ → ℕ → ℝ}
    (hs : ∀ (h : Fin 8) (r j : Fin 4096), val_main_v10_0 (F := Ideal) q k (ix3 h r j) = if j.val / 64 ≤ r.val / 64 then ((s h r j : ℝ) : EReal) else ⊥)
    (h : Fin 8) (r : Fin 4096) :
    val_main_v11 (F := Ideal) q k (ix2 h r) = (((val_main_v11 (F := Ideal) q k (ix2 h r) : EReal).toReal : ℝ) : EReal) := by
  have e : val_main_v11 (F := Ideal) q k (ix2 h r)
      = Finset.univ.fold max ⊥ (fun j : Fin 4096 => (val_main_v10_0 (F := Ideal) q k (ix3 h r j) : EReal)) := by
    unfold val_main_v11
    generalize val_main_v10_0 (F := Ideal) q k = y
    have hb : Ideal.ofBits .f32 0xFF800000#32 = (⊥ : EReal) := by simp [Ideal.ofBits, Ideal.ieee]
    simp only [val_main_cst_1]
    pointwise []
    rw [hb]
  rw [e]
  refine Cert.Grad.fold_max_real _ (fun j => ?_) r ?_
  · rw [hs]
    split
    · exact EReal.coe_lt_top _
    · exact bot_lt_top
  · rw [hs, if_pos le_rfl]
    exact EReal.coe_ne_bot _

/-- Arguments without infinities are the real numbers of `data`. -/
theorem holds {q k : (⟨S8x4096x96, .f32⟩ : BufTy).Contents (Elt Ideal)}
    {v : (⟨S8x4096x64, .f32⟩ : BufTy).Contents (Elt Ideal)} {d : (⟨S4096x512, .f32⟩ : BufTy).Contents (Elt Ideal)}
    (h : Cert.Pre_finite.fn (F := Ideal) q k v d = fun _ => 1#1) : Cert.Ref.Holds (data q k v d) q k v d := by
  obtain ⟨hq, hk, hv, hd⟩ := pre h
  have hq' : ∀ (h : Fin 8) (r : Fin 4096) (c : Fin 96), q (ix3 h r c) = (((data q k v d).Q h r c : ℝ) : EReal) := fun h r c => by
    rw [hq]; exact congrArg _ (arr3_at q h r c).symm
  have hk' : ∀ (h : Fin 8) (r : Fin 4096) (c : Fin 96), k (ix3 h r c) = (((data q k v d).K h r c : ℝ) : EReal) := fun h r c => by
    rw [hk]; exact congrArg _ (arr3_at k h r c).symm
  refine ⟨hq', hk', fun h r c => ?_, fun r c => ?_, fun h r => ?_, scale_real, fun h r c hc => ?_, fun h r c hc => ?_⟩
  · rw [hv]; exact congrArg _ (arr3_at v h r c).symm
  · rw [hd]; exact congrArg _ (arr2_at d r c).symm
  · rw [top_real (Cert.Ref.scores_of hq' hk' scale_real)]; exact congrArg _ (arr2_at _ h r).symm
  · exact dif_neg (by omega)
  · exact dif_neg (by omega)

end Cert.Finite
-- ==== Proof.Blocks.lean ====
/- A block of an array at an index, as the array itself at an index. -/
module

public import Idealize.ShloMosaic.Lib.Pipeline.ValueKit
public import Idealize.ShloMosaic.Lib.Pipeline.Covers

@[expose] public section

noncomputable section

namespace Cert.Blocks

open Idealize.ShloMosaic

/-- An array read at an index of one of its blocks, whose number is known. -/
theorem read_block {s : Shape} {α : Type} (W : s.Idx → α) (sz idx : Fin s.rank → ℕ) (inb : ∀ a, (idx a + 1) * sz a ≤ s.size a)
    (y : (Rect.block sz idx inb).shape.Idx) (j : s.Idx) {n : Fin s.rank → ℕ} (hn : idx = n) (h : ∀ a, (j a).val = n a * sz a + (y a).val) :
    W ((Rect.block sz idx inb).emb y) = W j := by
  subst hn
  refine congrArg W (funext fun a => Fin.ext ?_)
  rw [h]
  exact ValueKit.rect_emb_unit_val _ _ _ y a

end Cert.Blocks

end
-- ==== Proof.OutBwdX.lean ====
/- The gradient of the output projection's operand: the kernel's array is the reference's. -/
module

public import proofs.«01_k».proof.Proof.Blocks
public import proofs.«01_k».proof.Proof.Gen.Kernel4Ideal.Value
public import proofs.«01_k».proof.Proof.Gen.Reference4Ideal.Read

@[expose] public section

set_option maxRecDepth 16384

noncomputable section

namespace Cert.Kernel4Ideal.Product

open Cert.Kernel4Ideal Cert.Kernel4Ideal.Gen Cert.Blocks Cert.Reference4Ideal.Read
open Idealize.ShloMosaic Idealize.ShloMosaic.TcCoe Idealize.ShloMosaic.Tactic

theorem lt (t : Fin cfg0.N) : t.val < 4 := t.isLt

theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![0, 0] :=
  (by decide +kernel : ∀ t : Fin grid0.N, cc0_transform_1 (grid0.coords t) = ![0, 0])
theorem idx2 : ∀ t : Fin cfg0.N, cc0_transform_2 (grid0.coords t) = ![t.val, 0] :=
  (by decide +kernel : ∀ t : Fin grid0.N, cc0_transform_2 (grid0.coords t) = ![t.val, 0])

/-- What a point computes, at an index. -/
theorem out_at (a : Vec Ideal S1024x1024 .bf16) (b : Vec Ideal S1024x1024 .bf16) (i : Fin 1024) (j : Fin 1024) :
    out0_2 a b (ix2 i j) = ∑ k : Fin 1024, a (ix2 i k) * b (ix2 j k) := by
  unfold out0_2
  rw [View.canon_unit_zero (by funext a; fin_cases a <;> rfl), View.ld_unit_zero (by funext a; fin_cases a <;> rfl),
    View.ld_unit_zero (by funext a; fin_cases a <;> rfl)]
  unfold k0_pay1
  pointwise []

variable (m : (ℓ : Loc nD τ sig) → Buf (Elt Ideal) ℓ) (c : Dev nD)

/-- The casts before the call change nothing. -/
theorem V_v0 : V m c main_v0 = m ((c : Thread nD τ).loc main_arg2) := by
  unfold V
  simp only [hostOps0]
  after_results_simp
  rfl

theorem V_v1 : V m c main_v1 = m ((c : Thread nD τ).loc main_arg1) := by
  unfold V
  simp only [hostOps0]
  after_results_simp
  rfl

section

attribute [local irreducible] Pipeline.Grid.coords cc0_transform_0 cc0_transform_1 cc0_transform_2

/-- Window 0's block at an index. -/
theorem blk0 (t : Fin cfg0.N) (i : Fin 1024) (k : Fin 1024) :
    iblk m c 0 t (ix2 i k) = m ((c : Thread nD τ).loc main_arg2) (ix2 ⟨t.val * 1024 + i.val, by have := lt t; omega⟩ k) := by
  rw [← V_v0 m c]
  unfold iblk
  change ((cfg0.win 0).blk t).view.read (Elt Ideal) (V m c main_v0) _ = _
  generalize V m c main_v0 = W
  refine Eq.trans ?_ (read_block (s := S4096x1024) (α := EReal) W S1024x1024.size (cc0_transform_0 (grid0.coords t)) (Facts₀.hinb0_0 _)
    (ix2 i k) (ix2 ⟨t.val * 1024 + i.val, by have := lt t; omega⟩ k) (idx0 t) (by intro a; fin_cases a <;> simp [ix2]))
  rw [View.read_apply, cast_eq]
  rfl

/-- Window 1's block at an index. -/
theorem blk1 (t : Fin cfg0.N) (j : Fin 1024) (k : Fin 1024) :
    iblk m c 1 t (ix2 j k) = m ((c : Thread nD τ).loc main_arg1) (ix2 j k) := by
  rw [← V_v1 m c]
  unfold iblk
  change ((cfg0.win 1).blk t).view.read (Elt Ideal) (V m c main_v1) _ = _
  generalize V m c main_v1 = W
  refine Eq.trans ?_ (read_block (s := S1024x1024) (α := EReal) W S1024x1024.size (cc0_transform_1 (grid0.coords t)) (Facts₀.hinb0_1 _)
    (ix2 j k) (ix2 j k) (idx1 t) (by intro a; fin_cases a <;> simp [ix2]))
  rw [View.read_apply, cast_eq]
  rfl

/-- The array after the run is the reference's. -/
theorem arr : (dats m 0 c).arrAt 2 cfg0.N
    = val_main_v3 (F := Ideal) (m ((c : Thread nD τ).loc main_arg1)) (m ((c : Thread nD τ).loc main_arg2)) := by
  have hb0 := blk0 m c
  have hb1 := blk1 m c
  generalize m ((c : Thread nD τ).loc main_arg2) = A at hb0 ⊢
  generalize m ((c : Thread nD τ).loc main_arg1) = B at hb1 ⊢
  refine (dats m 0 c).arrAt_eq_of_covers 2 _ (by decide +kernel) fun t hf y => ?_
  rw [cast_eq, after0_2]
  have key : ∀ y : S1024x1024.Idx, out0_2 (iblk m c 0 t) (iblk m c 1 t) y
      = val_main_v3 (F := Ideal) B A
        ((Rect.block (s := S4096x1024) S1024x1024.size (cc0_transform_2 (grid0.coords t)) (Facts₀.hinb0_2 _)).emb y) := by
    intro y
    have := lt t
    obtain ⟨i, j, rfl⟩ : ∃ i j, y = ix2 i j := ⟨y 0, y 1, (eq_ix2 y)⟩
    rw [out_at, read_block (s := S4096x1024) (val_main_v3 (F := Ideal) B A) S1024x1024.size (cc0_transform_2 (grid0.coords t)) (Facts₀.hinb0_2 _)
      (ix2 i j) (ix2 ⟨t.val * 1024 + i.val, by have := lt t; omega⟩ j) (idx2 t) (by intro a; fin_cases a <;> simp [ix2, ix3]), val_main_v3_apply]
    refine Finset.sum_congr rfl fun k _ => ?_
    rw [hb0, hb1]
    refine congrArg₂ (· * ·) (congrArg A (funext fun a => Fin.ext ?_)) (congrArg B (funext fun a => Fin.ext ?_))
    all_goals (fin_cases a <;> rfl)
  exact key y

end

end Cert.Kernel4Ideal.Product

end
-- ==== Proof.OutBwdW.lean ====
/- The gradient of the output projection's weights, shard by shard: the kernel's array is the reference's. -/
module

public import proofs.«01_k».proof.Proof.Blocks
public import proofs.«01_k».proof.Proof.Gen.Kernel5Ideal.Value
public import proofs.«01_k».proof.Proof.Gen.Reference5Ideal.Read

@[expose] public section

set_option maxRecDepth 16384

noncomputable section

namespace Cert.Kernel5Ideal.Product

open Cert.Kernel5Ideal Cert.Kernel5Ideal.Gen Cert.Blocks Cert.Reference5Ideal.Read
open Idealize.ShloMosaic Idealize.ShloMosaic.TcCoe Idealize.ShloMosaic.Tactic

theorem lt (t : Fin cfg0.N) : t.val < 4 := t.isLt

theorem idx0 : ∀ t : Fin cfg0.N, cc0_transform_0 (grid0.coords t) = ![0, t.val] :=
  (by decide +kernel : ∀ t : Fin grid0.N, cc0_transform_0 (grid0.coords t) = ![0, t.val])
theorem idx1 : ∀ t : Fin cfg0.N, cc0_transform_1 (grid0.coords t) = ![0, 0] :=
  (by decide +kernel : ∀ t : Fin grid0.N, cc0_transform_1 (grid0.coords t) = ![0, 0])
theorem idx2 : ∀ t : Fin cfg0.N, cc0_transform_2 (grid0.coords t) = ![t.val, 0, 0] :=
  (by decide +kernel : ∀ t : Fin grid0.N, cc0_transform_2 (grid0.coords t) = ![t.val, 0, 0])

/-- What a point computes, at an index. -/
theorem out_at (a : Vec Ideal S4096x256 .bf16) (b : Vec Ideal S4096x1024 .bf16) (e : Fin 1) (i : Fin 256) (j : Fin 1024) :
    out0_2 a b (ix3 e i j) = ∑ k : Fin 4096, a (ix2 k i) * b (ix2 k j) := by
  unfold out0_2
  rw [View.canon_unit_zero (by funext a; fin_cases a <;> rfl), View.ld_unit_zero (by funext a; fin_cases a <;> rfl),
    View.ld_unit_zero (by funext a; fin_cases a <;> rfl)]
  unfold k0_pay1
  pointwise []

variable (m : (ℓ : Loc nD τ sig) → Buf (Elt Ideal) ℓ) (c : Dev nD)

/-- The casts before the call change nothing. -/
theorem V_v0 : V m c main_v0 = m ((c : Thread nD τ).loc main_arg0) := by
  unfold V
  simp only [hostOps0]
  after_results_simp
  rfl

theorem V_v1 : V m c main_v1 = m ((c : Thread nD τ).loc main_arg2) := by
  unfold V
  simp only [hostOps0]
  after_results_simp
  rfl

section

attribute [local irreducible] Pipeline.Grid.coords cc0_transform_0 cc0_transform_1 cc0_transform_2

/-- Window 0's block at an index. -/
theorem blk0 (t : Fin cfg0.N) (k : Fin 4096) (i : Fin 256) :
    iblk m c 0 t (ix2 k i) = m ((c : Thread nD τ).loc main_arg0) (ix2 k ⟨t.val * 256 + i.val, by have := lt t; omega⟩) := by
  rw [← V_v0 m c]
  unfold iblk
  change ((cfg0.win 0).blk t).view.read (Elt Ideal) (V m c main_v0) _ = _
  generalize V m c main_v0 = W
  refine Eq.trans ?_ (read_block (s := S4096x1024) (α := EReal) W S4096x256.size (cc0_transform_0 (grid0.coords t)) (Facts₀.hinb0_0 _)
    (ix2 k i) (ix2 k ⟨t.val * 256 + i.val, by have := lt t; omega⟩) (idx0 t) (by intro a; fin_cases a <;> simp [ix2]))
  rw [View.read_apply, cast_eq]
  rfl

/-- Window 1's block at an index. -/
theorem blk1 (t : Fin cfg0.N) (k : Fin 4096) (j : Fin 1024) :
    iblk m c 1 t (ix2 k j) = m ((c : Thread nD τ).loc main_arg2) (ix2 k j) := by
  rw [← V_v1 m c]
  unfold iblk
  change ((cfg0.win 1).blk t).view.read (Elt Ideal) (V m c main_v1) _ = _
  generalize V m c main_v1 = W
  refine Eq.trans ?_ (read_block (s := S4096x1024) (α := EReal) W S4096x1024.size (cc0_transform_1 (grid0.coords t)) (Facts₀.hinb0_1 _)
    (ix2 k j) (ix2 k j) (idx1 t) (by intro a; fin_cases a <;> simp [ix2]))
  rw [View.read_apply, cast_eq]
  rfl

/-- The array after the run is the reference's. -/
theorem arr : (dats m 0 c).arrAt 2 cfg0.N
    = val_main_v4 (F := Ideal) (m ((c : Thread nD τ).loc main_arg0)) (m ((c : Thread nD τ).loc main_arg2)) := by
  have hb0 := blk0 m c
  have hb1 := blk1 m c
  generalize m ((c : Thread nD τ).loc main_arg0) = A at hb0 ⊢
  generalize m ((c : Thread nD τ).loc main_arg2) = B at hb1 ⊢
  refine (dats m 0 c).arrAt_eq_of_covers 2 _ (by decide +kernel) fun t hf y => ?_
  rw [cast_eq, after0_2]
  have key : ∀ y : S1x256x1024.Idx, out0_2 (iblk m c 0 t) (iblk m c 1 t) y
      = val_main_v4 (F := Ideal) A B
        ((Rect.block (s := S4x256x1024) S1x256x1024.size (cc0_transform_2 (grid0.coords t)) (Facts₀.hinb0_2 _)).emb y) := by
    intro y
    have := lt t
    obtain ⟨e, i, j, rfl⟩ : ∃ e i j, y = ix3 e i j := ⟨y 0, y 1, y 2, (eq_ix3 y)⟩
    rw [out_at, read_block (s := S4x256x1024) (val_main_v4 (F := Ideal) A B) S1x256x1024.size (cc0_transform_2 (grid0.coords t)) (Facts₀.hinb0_2 _)
      (ix3 e i j) (ix3 ⟨t.val, lt t⟩ i j) (idx2 t) (by intro a; fin_cases a <;> simp [ix2, ix3]), val_main_v4_apply, val_main_v2_apply, val_main_v1_apply]
    refine Finset.sum_congr rfl fun k _ => ?_
    rw [hb0, hb1, mul_comm]
    refine congrArg₂ (· * ·) (congrArg B (funext fun a => Fin.ext ?_)) (congrArg A (funext fun a => Fin.ext ?_))
    · fin_cases a
      · rfl
      · show j.val = ((t.val * 256 + i.val) * 1024 + j.val) % 1024
        omega
    · fin_cases a
      · rfl
      · show t.val * 256 + i.val = ((t.val * 256 + i.val) * 1024 + j.val) / 1024
        omega
  exact key y

end

end Cert.Kernel5Ideal.Product

end
-- ==== Proof.InBwdW.lean ====
/- The gradient of the input projection's weights in an odd layer, shard by shard: the kernel's array is the reference's. -/
module

public import proofs.«01_k».proof.Proof.Blocks
public import proofs.«01_k».proof.Proof.Gen.Kernel6Ideal.Value
public import proofs.«01_k».proof.Proof.Gen.Reference6Ideal.Read

@[expose] public section

set_option maxRecDepth 16384

noncomputable section

namespace Cert.Kernel6Ideal.Product

open Cert.Kernel6Ideal Cert.Kernel6Ideal.Gen Cert.Blocks Cert.Reference6Ideal.Read
open Idealize.ShloMosaic Idealize.ShloMosaic.TcCoe Idealize.ShloMosaic.Tactic

theorem lt (t : Fin cfg0.N) : t.val < 4 := t.isLt

theorem idx0 : ∀ t : Fin cfg0.N, cc0_transform_0 (grid0.coords t) = ![0, 0] :=
  (by decide +kernel : ∀ t : Fin grid0.N, cc0_transform_0 (grid0.coords t) = ![0, 0])
theorem idx1 : ∀ t : Fin cfg0.N, cc0_transform_1 (grid0.coords t) = ![0, t.val] :=
  (by decide +kernel : ∀ t : Fin grid0.N, cc0_transform_1 (grid0.coords t) = ![0, t.val])
theorem idx2 : ∀ t : Fin cfg0.N, cc0_transform_2 (grid0.coords t) = ![t.val, 0, 0] :=
  (by decide +kernel : ∀ t : Fin grid0.N, cc0_transform_2 (grid0.coords t) = ![t.val, 0, 0])

/-- What a point computes, at an index. -/
theorem out_at (a : Vec Ideal S4096x1024 .bf16) (b : Vec Ideal S4096x768 .bf16) (e : Fin 1) (i : Fin 1024) (j : Fin 768) :
    out0_2 a b (ix3 e i j) = ∑ k : Fin 4096, a (ix2 k i) * b (ix2 k j) := by
  unfold out0_2
  rw [View.canon_unit_zero (by funext a; fin_cases a <;> rfl), View.ld_unit_zero (by funext a; fin_cases a <;> rfl),
    View.ld_unit_zero (by funext a; fin_cases a <;> rfl)]
  unfold k0_pay1
  pointwise []

variable (m : (ℓ : Loc nD τ sig) → Buf (Elt Ideal) ℓ) (c : Dev nD)

/-- The casts before the call change nothing. -/
theorem V_v0 : V m c main_v0 = m ((c : Thread nD τ).loc main_arg0) := by
  unfold V
  simp only [hostOps0]
  after_results_simp
  rfl

theorem V_v1 : V m c main_v1 = m ((c : Thread nD τ).loc main_arg2) := by
  unfold V
  simp only [hostOps0]
  after_results_simp
  rfl

section

attribute [local irreducible] Pipeline.Grid.coords cc0_transform_0 cc0_transform_1 cc0_transform_2

/-- Window 0's block at an index. -/
theorem blk0 (t : Fin cfg0.N) (k : Fin 4096) (i : Fin 1024) :
    iblk m c 0 t (ix2 k i) = m ((c : Thread nD τ).loc main_arg0) (ix2 k i) := by
  rw [← V_v0 m c]
  unfold iblk
  change ((cfg0.win 0).blk t).view.read (Elt Ideal) (V m c main_v0) _ = _
  generalize V m c main_v0 = W
  refine Eq.trans ?_ (read_block (s := S4096x1024) (α := EReal) W S4096x1024.size (cc0_transform_0 (grid0.coords t)) (Facts₀.hinb0_0 _)
    (ix2 k i) (ix2 k i) (idx0 t) (by intro a; fin_cases a <;> simp [ix2]))
  rw [View.read_apply, cast_eq]
  rfl

/-- Window 1's block at an index. -/
theorem blk1 (t : Fin cfg0.N) (k : Fin 4096) (j : Fin 768) :
    iblk m c 1 t (ix2 k j) = m ((c : Thread nD τ).loc main_arg2) (ix2 k ⟨t.val * 768 + j.val, by have := lt t; omega⟩) := by
  rw [← V_v1 m c]
  unfold iblk
  change ((cfg0.win 1).blk t).view.read (Elt Ideal) (V m c main_v1) _ = _
  generalize V m c main_v1 = W
  refine Eq.trans ?_ (read_block (s := S4096x3072) (α := EReal) W S4096x768.size (cc0_transform_1 (grid0.coords t)) (Facts₀.hinb0_1 _)
    (ix2 k j) (ix2 k ⟨t.val * 768 + j.val, by have := lt t; omega⟩) (idx1 t) (by intro a; fin_cases a <;> simp [ix2]))
  rw [View.read_apply, cast_eq]
  rfl

/-- The array after the run is the reference's. -/
theorem arr : (dats m 0 c).arrAt 2 cfg0.N
    = val_main_v5 (F := Ideal) (m ((c : Thread nD τ).loc main_arg0)) (m ((c : Thread nD τ).loc main_arg2)) := by
  have hb0 := blk0 m c
  have hb1 := blk1 m c
  generalize m ((c : Thread nD τ).loc main_arg0) = A at hb0 ⊢
  generalize m ((c : Thread nD τ).loc main_arg2) = B at hb1 ⊢
  refine (dats m 0 c).arrAt_eq_of_covers 2 _ (by decide +kernel) fun t hf y => ?_
  rw [cast_eq, after0_2]
  have key : ∀ y : S1x1024x768.Idx, out0_2 (iblk m c 0 t) (iblk m c 1 t) y
      = val_main_v5 (F := Ideal) A B
        ((Rect.block (s := S4x1024x768) S1x1024x768.size (cc0_transform_2 (grid0.coords t)) (Facts₀.hinb0_2 _)).emb y) := by
    intro y
    have := lt t
    obtain ⟨e, i, j, rfl⟩ : ∃ e i j, y = ix3 e i j := ⟨y 0, y 1, y 2, (eq_ix3 y)⟩
    rw [out_at, read_block (s := S4x1024x768) (val_main_v5 (F := Ideal) A B) S1x1024x768.size (cc0_transform_2 (grid0.coords t)) (Facts₀.hinb0_2 _)
      (ix3 e i j) (ix3 ⟨t.val, lt t⟩ i j) (idx2 t) (by intro a; fin_cases a <;> simp [ix2, ix3]), val_main_v5_apply, val_main_v4_apply, val_main_v2_apply, val_main_v1_apply]
    refine Finset.sum_congr rfl fun k _ => ?_
    rw [hb0, hb1, mul_comm]
    refine congrArg₂ (· * ·) (congrArg B (funext fun a => Fin.ext ?_)) (congrArg A (funext fun a => Fin.ext ?_))
    · fin_cases a
      · rfl
      · show t.val * 768 + j.val = ((i.val * 4 + t.val) * 768 + j.val) % 3072
        omega
    · fin_cases a
      · rfl
      · show i.val = ((i.val * 4 + t.val) * 768 + j.val) / 3072
        omega
  exact key y

end

end Cert.Kernel6Ideal.Product

end
-- ==== Proof.InBwdWEven.lean ====
/- The gradient of the input projection's weights in an even layer: the kernel's array is the reference's. -/
module

public import proofs.«01_k».proof.Proof.Blocks
public import proofs.«01_k».proof.Proof.Gen.Kernel7Ideal.Value
public import proofs.«01_k».proof.Proof.Gen.Reference7Ideal.Read

@[expose] public section

set_option maxRecDepth 16384

noncomputable section

namespace Cert.Kernel7Ideal.Product

open Cert.Kernel7Ideal Cert.Kernel7Ideal.Gen Cert.Blocks Cert.Reference7Ideal.Read
open Idealize.ShloMosaic Idealize.ShloMosaic.TcCoe Idealize.ShloMosaic.Tactic

theorem lt (t : Fin cfg0.N) : t.val < 4 := t.isLt

theorem idx0 : ∀ t : Fin cfg0.N, cc0_transform_0 (grid0.coords t) = ![0, 0] :=
  (by decide +kernel : ∀ t : Fin grid0.N, cc0_transform_0 (grid0.coords t) = ![0, 0])
theorem idx1 : ∀ t : Fin cfg0.N, cc0_transform_1 (grid0.coords t) = ![0, t.val] :=
  (by decide +kernel : ∀ t : Fin grid0.N, cc0_transform_1 (grid0.coords t) = ![0, t.val])
theorem idx2 : ∀ t : Fin cfg0.N, cc0_transform_2 (grid0.coords t) = ![0, t.val] :=
  (by decide +kernel : ∀ t : Fin grid0.N, cc0_transform_2 (grid0.coords t) = ![0, t.val])

/-- What a point computes, at an index. -/
theorem out_at (a : Vec Ideal S4096x1024 .bf16) (b : Vec Ideal S4096x768 .bf16) (i : Fin 1024) (j : Fin 768) :
    out0_2 a b (ix2 i j) = ∑ k : Fin 4096, a (ix2 k i) * b (ix2 k j) := by
  unfold out0_2
  rw [View.canon_unit_zero (by funext a; fin_cases a <;> rfl), View.ld_unit_zero (by funext a; fin_cases a <;> rfl),
    View.ld_unit_zero (by funext a; fin_cases a <;> rfl)]
  unfold k0_pay1
  pointwise []

variable (m : (ℓ : Loc nD τ sig) → Buf (Elt Ideal) ℓ) (c : Dev nD)

/-- The casts before the call change nothing. -/
theorem V_v0 : V m c main_v0 = m ((c : Thread nD τ).loc main_arg0) := by
  unfold V
  simp only [hostOps0]
  after_results_simp
  rfl

theorem V_v1 : V m c main_v1 = m ((c : Thread nD τ).loc main_arg2) := by
  unfold V
  simp only [hostOps0]
  after_results_simp
  rfl

section

attribute [local irreducible] Pipeline.Grid.coords cc0_transform_0 cc0_transform_1 cc0_transform_2

/-- Window 0's block at an index. -/
theorem blk0 (t : Fin cfg0.N) (k : Fin 4096) (i : Fin 1024) :
    iblk m c 0 t (ix2 k i) = m ((c : Thread nD τ).loc main_arg0) (ix2 k i) := by
  rw [← V_v0 m c]
  unfold iblk
  change ((cfg0.win 0).blk t).view.read (Elt Ideal) (V m c main_v0) _ = _
  generalize V m c main_v0 = W
  refine Eq.trans ?_ (read_block (s := S4096x1024) (α := EReal) W S4096x1024.size (cc0_transform_0 (grid0.coords t)) (Facts₀.hinb0_0 _)
    (ix2 k i) (ix2 k i) (idx0 t) (by intro a; fin_cases a <;> simp [ix2]))
  rw [View.read_apply, cast_eq]
  rfl

/-- Window 1's block at an index. -/
theorem blk1 (t : Fin cfg0.N) (k : Fin 4096) (j : Fin 768) :
    iblk m c 1 t (ix2 k j) = m ((c : Thread nD τ).loc main_arg2) (ix2 k ⟨t.val * 768 + j.val, by have := lt t; omega⟩) := by
  rw [← V_v1 m c]
  unfold iblk
  change ((cfg0.win 1).blk t).view.read (Elt Ideal) (V m c main_v1) _ = _
  generalize V m c main_v1 = W
  refine Eq.trans ?_ (read_block (s := S4096x3072) (α := EReal) W S4096x768.size (cc0_transform_1 (grid0.coords t)) (Facts₀.hinb0_1 _)
    (ix2 k j) (ix2 k ⟨t.val * 768 + j.val, by have := lt t; omega⟩) (idx1 t) (by intro a; fin_cases a <;> simp [ix2]))
  rw [View.read_apply, cast_eq]
  rfl

/-- The array after the run is the reference's. -/
theorem arr : (dats m 0 c).arrAt 2 cfg0.N
    = val_main_v2 (F := Ideal) (m ((c : Thread nD τ).loc main_arg0)) (m ((c : Thread nD τ).loc main_arg2)) := by
  have hb0 := blk0 m c
  have hb1 := blk1 m c
  generalize m ((c : Thread nD τ).loc main_arg0) = A at hb0 ⊢
  generalize m ((c : Thread nD τ).loc main_arg2) = B at hb1 ⊢
  refine (dats m 0 c).arrAt_eq_of_covers 2 _ (by decide +kernel) fun t hf y => ?_
  rw [cast_eq, after0_2]
  have key : ∀ y : S1024x768.Idx, out0_2 (iblk m c 0 t) (iblk m c 1 t) y
      = val_main_v2 (F := Ideal) A B
        ((Rect.block (s := S1024x3072) S1024x768.size (cc0_transform_2 (grid0.coords t)) (Facts₀.hinb0_2 _)).emb y) := by
    intro y
    have := lt t
    obtain ⟨i, j, rfl⟩ : ∃ i j, y = ix2 i j := ⟨y 0, y 1, (eq_ix2 y)⟩
    rw [out_at, read_block (s := S1024x3072) (val_main_v2 (F := Ideal) A B) S1024x768.size (cc0_transform_2 (grid0.coords t)) (Facts₀.hinb0_2 _)
      (ix2 i j) (ix2 i ⟨t.val * 768 + j.val, by have := lt t; omega⟩) (idx2 t) (by intro a; fin_cases a <;> simp [ix2, ix3]), val_main_v2_apply, val_main_v1_apply]
    refine Finset.sum_congr rfl fun k _ => ?_
    rw [hb0, hb1, mul_comm]
    refine congrArg₂ (· * ·) (congrArg B (funext fun a => Fin.ext ?_)) (congrArg A (funext fun a => Fin.ext ?_))
    all_goals (fin_cases a <;> rfl)
  exact key y

end

end Cert.Kernel7Ideal.Product

end
-- ==== Proof.InFwd.lean ====
/- The input projection: the kernel's array is the reference's. -/
module

public import proofs.«01_k».proof.Proof.Blocks
public import proofs.«01_k».proof.Proof.Gen.Kernel8Ideal.Value
public import proofs.«01_k».proof.Proof.Gen.Reference8Ideal.Read

@[expose] public section

set_option maxRecDepth 16384

noncomputable section

namespace Cert.Kernel8Ideal.Product

open Cert.Kernel8Ideal Cert.Kernel8Ideal.Gen Cert.Blocks Cert.Reference8Ideal.Read
open Idealize.ShloMosaic Idealize.ShloMosaic.TcCoe Idealize.ShloMosaic.Tactic

theorem lt (t : Fin cfg0.N) : t.val < 8 := t.isLt

theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![0, 0] :=
  (by decide +kernel : ∀ t : Fin grid0.N, cc0_transform_1 (grid0.coords t) = ![0, 0])
theorem idx2 : ∀ t : Fin cfg0.N, cc0_transform_2 (grid0.coords t) = ![t.val, 0] :=
  (by decide +kernel : ∀ t : Fin grid0.N, cc0_transform_2 (grid0.coords t) = ![t.val, 0])

/-- What a point computes, at an index. -/
theorem out_at (a : Vec Ideal S512x1024 .bf16) (b : Vec Ideal S1024x3072 .bf16) (i : Fin 512) (j : Fin 3072) :
    out0_2 a b (ix2 i j) = ∑ k : Fin 1024, a (ix2 i k) * b (ix2 k j) := by
  unfold out0_2
  rw [View.canon_unit_zero (by funext a; fin_cases a <;> rfl), View.ld_unit_zero (by funext a; fin_cases a <;> rfl),
    View.ld_unit_zero (by funext a; fin_cases a <;> rfl)]
  unfold k0_pay1
  pointwise []

variable (m : (ℓ : Loc nD τ sig) → Buf (Elt Ideal) ℓ) (c : Dev nD)

/-- The casts before the call change nothing. -/
theorem V_v0 : V m c main_v0 = m ((c : Thread nD τ).loc main_arg0) := by
  unfold V
  simp only [hostOps0]
  after_results_simp
  rfl

theorem V_v1 : V m c main_v1 = m ((c : Thread nD τ).loc main_arg1) := by
  unfold V
  simp only [hostOps0]
  after_results_simp
  rfl

section

attribute [local irreducible] Pipeline.Grid.coords cc0_transform_0 cc0_transform_1 cc0_transform_2

/-- Window 0's block at an index. -/
theorem blk0 (t : Fin cfg0.N) (i : Fin 512) (k : Fin 1024) :
    iblk m c 0 t (ix2 i k) = m ((c : Thread nD τ).loc main_arg0) (ix2 ⟨t.val * 512 + i.val, by have := lt t; omega⟩ k) := by
  rw [← V_v0 m c]
  unfold iblk
  change ((cfg0.win 0).blk t).view.read (Elt Ideal) (V m c main_v0) _ = _
  generalize V m c main_v0 = W
  refine Eq.trans ?_ (read_block (s := S4096x1024) (α := EReal) W S512x1024.size (cc0_transform_0 (grid0.coords t)) (Facts₀.hinb0_0 _)
    (ix2 i k) (ix2 ⟨t.val * 512 + i.val, by have := lt t; omega⟩ k) (idx0 t) (by intro a; fin_cases a <;> simp [ix2]))
  rw [View.read_apply, cast_eq]
  rfl

/-- Window 1's block at an index. -/
theorem blk1 (t : Fin cfg0.N) (k : Fin 1024) (j : Fin 3072) :
    iblk m c 1 t (ix2 k j) = m ((c : Thread nD τ).loc main_arg1) (ix2 k j) := by
  rw [← V_v1 m c]
  unfold iblk
  change ((cfg0.win 1).blk t).view.read (Elt Ideal) (V m c main_v1) _ = _
  generalize V m c main_v1 = W
  refine Eq.trans ?_ (read_block (s := S1024x3072) (α := EReal) W S1024x3072.size (cc0_transform_1 (grid0.coords t)) (Facts₀.hinb0_1 _)
    (ix2 k j) (ix2 k j) (idx1 t) (by intro a; fin_cases a <;> simp [ix2]))
  rw [View.read_apply, cast_eq]
  rfl

/-- The array after the run is the reference's. -/
theorem arr : (dats m 0 c).arrAt 2 cfg0.N
    = val_main_v0 (F := Ideal) (m ((c : Thread nD τ).loc main_arg0)) (m ((c : Thread nD τ).loc main_arg1)) := by
  have hb0 := blk0 m c
  have hb1 := blk1 m c
  generalize m ((c : Thread nD τ).loc main_arg0) = A at hb0 ⊢
  generalize m ((c : Thread nD τ).loc main_arg1) = B at hb1 ⊢
  refine (dats m 0 c).arrAt_eq_of_covers 2 _ (by decide +kernel) fun t hf y => ?_
  rw [cast_eq, after0_2]
  have key : ∀ y : S512x3072.Idx, out0_2 (iblk m c 0 t) (iblk m c 1 t) y
      = val_main_v0 (F := Ideal) A B
        ((Rect.block (s := S4096x3072) S512x3072.size (cc0_transform_2 (grid0.coords t)) (Facts₀.hinb0_2 _)).emb y) := by
    intro y
    have := lt t
    obtain ⟨i, j, rfl⟩ : ∃ i j, y = ix2 i j := ⟨y 0, y 1, (eq_ix2 y)⟩
    rw [out_at, read_block (s := S4096x3072) (val_main_v0 (F := Ideal) A B) S512x3072.size (cc0_transform_2 (grid0.coords t)) (Facts₀.hinb0_2 _)
      (ix2 i j) (ix2 ⟨t.val * 512 + i.val, by have := lt t; omega⟩ j) (idx2 t) (by intro a; fin_cases a <;> simp [ix2, ix3]), val_main_v0_apply]
    refine Finset.sum_congr rfl fun k _ => ?_
    rw [hb0, hb1]
    refine congrArg₂ (· * ·) (congrArg A (funext fun a => Fin.ext ?_)) (congrArg B (funext fun a => Fin.ext ?_))
    all_goals (fin_cases a <;> rfl)
  exact key y

end

end Cert.Kernel8Ideal.Product

end
-- ==== Proof.OutFwd.lean ====
/- The output projection: the kernel's array is the reference's. -/
module

public import proofs.«01_k».proof.Proof.Blocks
public import proofs.«01_k».proof.Proof.Gen.Kernel9Ideal.Value
public import proofs.«01_k».proof.Proof.Gen.Reference9Ideal.Read

@[expose] public section

set_option maxRecDepth 16384

noncomputable section

namespace Cert.Kernel9Ideal.Product

open Cert.Kernel9Ideal Cert.Kernel9Ideal.Gen Cert.Blocks Cert.Reference9Ideal.Read
open Idealize.ShloMosaic Idealize.ShloMosaic.TcCoe Idealize.ShloMosaic.Tactic

theorem lt (t : Fin cfg0.N) : t.val < 4 := t.isLt

theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![0, 0] :=
  (by decide +kernel : ∀ t : Fin grid0.N, cc0_transform_1 (grid0.coords t) = ![0, 0])
theorem idx2 : ∀ t : Fin cfg0.N, cc0_transform_2 (grid0.coords t) = ![t.val, 0] :=
  (by decide +kernel : ∀ t : Fin grid0.N, cc0_transform_2 (grid0.coords t) = ![t.val, 0])

/-- What a point computes, at an index. -/
theorem out_at (a : Vec Ideal S1024x1024 .bf16) (b : Vec Ideal S1024x1024 .bf16) (i : Fin 1024) (j : Fin 1024) :
    out0_2 a b (ix2 i j) = ∑ k : Fin 1024, a (ix2 i k) * b (ix2 k j) := by
  unfold out0_2
  rw [View.canon_unit_zero (by funext a; fin_cases a <;> rfl), View.ld_unit_zero (by funext a; fin_cases a <;> rfl),
    View.ld_unit_zero (by funext a; fin_cases a <;> rfl)]
  unfold k0_pay1
  pointwise []

variable (m : (ℓ : Loc nD τ sig) → Buf (Elt Ideal) ℓ) (c : Dev nD)

/-- The casts before the call change nothing. -/
theorem V_v0 : V m c main_v0 = m ((c : Thread nD τ).loc main_arg0) := by
  unfold V
  simp only [hostOps0]
  after_results_simp
  rfl

theorem V_v1 : V m c main_v1 = m ((c : Thread nD τ).loc main_arg1) := by
  unfold V
  simp only [hostOps0]
  after_results_simp
  rfl

section

attribute [local irreducible] Pipeline.Grid.coords cc0_transform_0 cc0_transform_1 cc0_transform_2

/-- Window 0's block at an index. -/
theorem blk0 (t : Fin cfg0.N) (i : Fin 1024) (k : Fin 1024) :
    iblk m c 0 t (ix2 i k) = m ((c : Thread nD τ).loc main_arg0) (ix2 ⟨t.val * 1024 + i.val, by have := lt t; omega⟩ k) := by
  rw [← V_v0 m c]
  unfold iblk
  change ((cfg0.win 0).blk t).view.read (Elt Ideal) (V m c main_v0) _ = _
  generalize V m c main_v0 = W
  refine Eq.trans ?_ (read_block (s := S4096x1024) (α := EReal) W S1024x1024.size (cc0_transform_0 (grid0.coords t)) (Facts₀.hinb0_0 _)
    (ix2 i k) (ix2 ⟨t.val * 1024 + i.val, by have := lt t; omega⟩ k) (idx0 t) (by intro a; fin_cases a <;> simp [ix2]))
  rw [View.read_apply, cast_eq]
  rfl

/-- Window 1's block at an index. -/
theorem blk1 (t : Fin cfg0.N) (k : Fin 1024) (j : Fin 1024) :
    iblk m c 1 t (ix2 k j) = m ((c : Thread nD τ).loc main_arg1) (ix2 k j) := by
  rw [← V_v1 m c]
  unfold iblk
  change ((cfg0.win 1).blk t).view.read (Elt Ideal) (V m c main_v1) _ = _
  generalize V m c main_v1 = W
  refine Eq.trans ?_ (read_block (s := S1024x1024) (α := EReal) W S1024x1024.size (cc0_transform_1 (grid0.coords t)) (Facts₀.hinb0_1 _)
    (ix2 k j) (ix2 k j) (idx1 t) (by intro a; fin_cases a <;> simp [ix2]))
  rw [View.read_apply, cast_eq]
  rfl

/-- The array after the run is the reference's. -/
theorem arr : (dats m 0 c).arrAt 2 cfg0.N
    = val_main_v0 (F := Ideal) (m ((c : Thread nD τ).loc main_arg0)) (m ((c : Thread nD τ).loc main_arg1)) := by
  have hb0 := blk0 m c
  have hb1 := blk1 m c
  generalize m ((c : Thread nD τ).loc main_arg0) = A at hb0 ⊢
  generalize m ((c : Thread nD τ).loc main_arg1) = B at hb1 ⊢
  refine (dats m 0 c).arrAt_eq_of_covers 2 _ (by decide +kernel) fun t hf y => ?_
  rw [cast_eq, after0_2]
  have key : ∀ y : S1024x1024.Idx, out0_2 (iblk m c 0 t) (iblk m c 1 t) y
      = val_main_v0 (F := Ideal) A B
        ((Rect.block (s := S4096x1024) S1024x1024.size (cc0_transform_2 (grid0.coords t)) (Facts₀.hinb0_2 _)).emb y) := by
    intro y
    have := lt t
    obtain ⟨i, j, rfl⟩ : ∃ i j, y = ix2 i j := ⟨y 0, y 1, (eq_ix2 y)⟩
    rw [out_at, read_block (s := S4096x1024) (val_main_v0 (F := Ideal) A B) S1024x1024.size (cc0_transform_2 (grid0.coords t)) (Facts₀.hinb0_2 _)
      (ix2 i j) (ix2 ⟨t.val * 1024 + i.val, by have := lt t; omega⟩ j) (idx2 t) (by intro a; fin_cases a <;> simp [ix2, ix3]), val_main_v0_apply]
    refine Finset.sum_congr rfl fun k _ => ?_
    rw [hb0, hb1]
    refine congrArg₂ (· * ·) (congrArg A (funext fun a => Fin.ext ?_)) (congrArg B (funext fun a => Fin.ext ?_))
    all_goals (fin_cases a <;> rfl)
  exact key y

end

end Cert.Kernel9Ideal.Product

end
-- ==== Proof.PreBwd.lean ====
/- The gradient through the input projection and the first RMSNorm: the kernel's four arrays are the reference's. -/
module

public import proofs.«01_k».proof.Proof.Blocks
public import proofs.«01_k».proof.Proof.Gen.Kernel2Ideal.Value
public import proofs.«01_k».proof.Proof.Gen.Reference2Ideal.Read

@[expose] public section

set_option maxRecDepth 16384

noncomputable section

namespace Cert.Kernel2Ideal.Norm

open Cert.Kernel2Ideal Cert.Kernel2Ideal.Gen Cert.Blocks
open Cert.Reference2Ideal.Read
open Idealize.ShloMosaic Idealize.ShloMosaic.TcCoe Idealize.ShloMosaic.Tactic

theorem hz : (![0, 0] : Fin 2 → Nat) = fun _ => 0 := funext fun a => by fin_cases a <;> rfl

/-! ## What a point leaves in its blocks -/

section

variable (c : Dev nD) (i : grid0.Coords)
  (a1 : Memref sig .tc .vmem S512x3072 .bf16) (h1 : a1.IsWhole) (a2 : Memref sig .tc .vmem S1024x3072 .bf16) (h2 : a2.IsWhole)
  (a3 : Memref sig .tc .vmem S512x1024 .f32) (h3 : a3.IsWhole) (a4 : Memref sig .tc .vmem S512x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S1x1024 .f32) (h9 : a9.IsWhole) (a10 : Memref sig .tc .vmem S1x1024 .f32) (h10 : a10.IsWhole)
  (a11 : Memref sig .tc .vmem S1x1024 .f32) (h11 : a11.IsWhole)
  (x0 : Vec Ideal S512x3072 .bf16) (x1 : Vec Ideal S1024x3072 .bf16) (x2 x3 : Vec Ideal S512x1024 .f32)
  (x4 x5 x6 xo8 xo9 xo10 : Vec Ideal S1x1024 .f32)

theorem rows_A (hc : cond0_0 i) : out0_A_7 c i a1 h1 a2 h2 a3 h3 a4 h4 a5 h5 a6 h6 a7 h7 a8 h8 a9 h9 a10 h10 a11 h11 hc x0 x1 x2 x3 x4 x5 x6
    = k0_pay1 x3 x4 (k0_pay9 x3) (k0_pay10 x3) (k0_pay15 x6 x0 x1) x2 := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S512x3072) hz,
    View.ld_unit_zero (S := S1024x3072) hz, View.ld_unit_zero (S := S512x1024) hz, View.ld_unit_zero (S := S1x1024) hz]

theorem shift_A (hc : cond0_0 i) : out0_A_8 c i a1 h1 a2 h2 a3 h3 a4 h4 a5 h5 a6 h6 a7 h7 a8 h8 a9 h9 a10 h10 a11 h11 hc x0 x1 x2 x3 x4 x5 x6
    = k0_pay2 (k0_pay13 x0 x1) (k0_pay5 (F := Ideal)) := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, View.ld_unit_zero (S := S512x3072) hz,
    View.ld_unit_zero (S := S1024x3072) hz, View.ld_unit_zero (S := S512x1024) hz, View.ld_unit_zero (S := S1x1024) hz]

theorem scale_A (hc : cond0_0 i) : out0_A_9 c i a1 h1 a2 h2 a3 h3 a4 h4 a5 h5 a6 h6 a7 h7 a8 h8 a9 h9 a10 h10 a11 h11 hc x0 x1 x2 x3 x4 x5 x6
    = k0_pay3 (k0_pay14 x3 x4 x0 x1) (k0_pay6 (F := Ideal)) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, View.ld_unit_zero (S := S512x3072) hz,
    View.ld_unit_zero (S := S1024x3072) hz, View.ld_unit_zero (S := S512x1024) hz, View.ld_unit_zero (S := S1x1024) hz]

theorem gain_A (hc : cond0_0 i) : out0_A_10 c i a1 h1 a2 h2 a3 h3 a4 h4 a5 h5 a6 h6 a7 h7 a8 h8 a9 h9 a10 h10 a11 h11 hc x0 x1 x2 x3 x4 x5 x6
    = k0_pay4 (k0_pay16 x3 x6 x0 x1) (k0_pay7 (F := Ideal)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, View.ld_unit_zero (S := S512x3072) hz,
    View.ld_unit_zero (S := S1024x3072) hz, View.ld_unit_zero (S := S512x1024) hz, View.ld_unit_zero (S := S1x1024) hz]

theorem rows_B (hc : ¬cond0_0 i) : out0_B_7 c i a1 h1 a2 h2 a3 h3 a4 h4 a5 h5 a6 h6 a7 h7 a8 h8 a9 h9 a10 h10 a11 h11 hc x0 x1 x2 x3 x4 x5 x6 xo8 xo9 xo10
    = k0_pay1 x3 x4 (k0_pay9 x3) (k0_pay10 x3) (k0_pay15 x6 x0 x1) x2 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 xo8 xo9 xo10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S512x3072) hz,
    View.ld_unit_zero (S := S1024x3072) hz, View.ld_unit_zero (S := S512x1024) hz, View.ld_unit_zero (S := S1x1024) hz]

theorem shift_B (hc : ¬cond0_0 i) : out0_B_8 c i a1 h1 a2 h2 a3 h3 a4 h4 a5 h5 a6 h6 a7 h7 a8 h8 a9 h9 a10 h10 a11 h11 hc x0 x1 x2 x3 x4 x5 x6 xo8 xo9 xo10
    = k0_pay2 (k0_pay13 x0 x1) xo8 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 xo8 xo9 xo10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, View.ld_unit_zero (S := S512x3072) hz,
    View.ld_unit_zero (S := S1024x3072) hz, View.ld_unit_zero (S := S512x1024) hz, View.ld_unit_zero (S := S1x1024) hz]

theorem scale_B (hc : ¬cond0_0 i) : out0_B_9 c i a1 h1 a2 h2 a3 h3 a4 h4 a5 h5 a6 h6 a7 h7 a8 h8 a9 h9 a10 h10 a11 h11 hc x0 x1 x2 x3 x4 x5 x6 xo8 xo9 xo10
    = k0_pay3 (k0_pay14 x3 x4 x0 x1) xo9 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 xo8 xo9 xo10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h10.read_unread, View.ld_unit_zero (S := S512x3072) hz,
    View.ld_unit_zero (S := S1024x3072) hz, View.ld_unit_zero (S := S512x1024) hz, View.ld_unit_zero (S := S1x1024) hz]

theorem gain_B (hc : ¬cond0_0 i) : out0_B_10 c i a1 h1 a2 h2 a3 h3 a4 h4 a5 h5 a6 h6 a7 h7 a8 h8 a9 h9 a10 h10 a11 h11 hc x0 x1 x2 x3 x4 x5 x6 xo8 xo9 xo10
    = k0_pay4 (k0_pay16 x3 x6 x0 x1) xo10 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 xo8 xo9 xo10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h11.read_unread, View.ld_unit_zero (S := S512x3072) hz,
    View.ld_unit_zero (S := S1024x3072) hz, View.ld_unit_zero (S := S512x1024) hz, View.ld_unit_zero (S := S1x1024) hz]

end

/-! ## The arithmetic of a row -/

/-- A row of a block is a row of the arrays the reference reads. -/
structure Row (v23 : Vec Ideal S512x3072 .bf16) (v25 : Vec Ideal S1024x3072 .bf16) (v55 v3 : Vec Ideal S512x1024 .f32) (v4 v5 : Vec Ideal S1x1024 .f32)
    (ct : Vec Ideal S4096x1024 .f32) (dz : Vec Ideal S4096x3072 .f32) (x : Vec Ideal S4096x1024 .f32) (g : Vec Ideal S1x1024 .f32)
    (md : Vec Ideal S1x3072 .f32) (w : Vec Ideal S1024x3072 .f32) (i : Fin 512) (n : Fin 4096) : Prop where
  hdz : ∀ k : Fin 3072, v23 (ix2 i k) = dz (ix2 n k)
  hw : ∀ (j : Fin 1024) (k : Fin 3072), v25 (ix2 j k) = w (ix2 j k)
  hct : ∀ k : Fin 1024, v55 (ix2 i k) = ct (ix2 n k)
  hx : ∀ k : Fin 1024, v3 (ix2 i k) = x (ix2 n k)
  hg : ∀ (e : Fin 1) (k : Fin 1024), v4 (ix2 e k) = g (ix2 e k)
  hsc : ∀ (e : Fin 1) (k : Fin 1024), v5 (ix2 e k) = val_main_v1 (F := Ideal) md (ix2 e k)

variable {v23 : Vec Ideal S512x3072 .bf16} {v25 : Vec Ideal S1024x3072 .bf16} {v55 v3 : Vec Ideal S512x1024 .f32} {v4 v5 : Vec Ideal S1x1024 .f32}
  {ct : Vec Ideal S4096x1024 .f32} {dz : Vec Ideal S4096x3072 .f32} {x : Vec Ideal S4096x1024 .f32} {g : Vec Ideal S1x1024 .f32}
  {md : Vec Ideal S1x3072 .f32} {w : Vec Ideal S1024x3072 .f32} {i : Fin 512} {n : Fin 4096}

theorem square (A : Row v23 v25 v55 v3 v4 v5 ct dz x g md w i n) (e : Fin 1) : k0_pay8 v3 (ix2 i e) = val_main_v9 (F := Ideal) x (ix2 n e) := by
  unfold k0_pay8 val_main_v9 val_main_v7 val_main_v8 val_main_v6 val_main_v5 val_main_v4 val_main_v3 val_main_cst val_main_cst_0 val_main_cst_1
  pointwise []
  simp only [A.hx]

theorem inverse (A : Row v23 v25 v55 v3 v4 v5 ct dz x g md w i n) (e : Fin 1) : k0_pay9 v3 (ix2 i e) = val_main_v10 (F := Ideal) x (ix2 n e) := by
  have h := square A e
  unfold k0_pay9 val_main_v10
  revert h
  generalize k0_pay8 v3 = a
  generalize val_main_v9 (F := Ideal) x = b
  intro h
  pointwise []
  rw [h]

theorem slope (A : Row v23 v25 v55 v3 v4 v5 ct dz x g md w i n) (e : Fin 1) : k0_pay10 v3 (ix2 i e) = val_main_v13 (F := Ideal) x (ix2 n e) := by
  have h := square A e
  have h9 := inverse A e
  unfold k0_pay10 val_main_v13 val_main_v12 val_main_v11 val_main_cst_2
  revert h h9
  generalize k0_pay8 v3 = a
  generalize val_main_v9 (F := Ideal) x = b
  generalize k0_pay9 v3 = a9
  generalize val_main_v10 (F := Ideal) x = b9
  intro h h9
  pointwise []
  rw [h, h9]

theorem unit (A : Row v23 v25 v55 v3 v4 v5 ct dz x g md w i n) (k : Fin 1024) : k0_pay11 v3 (ix2 i k) = val_main_v15 (F := Ideal) x (ix2 n k) := by
  have h := fun e => inverse A e
  unfold k0_pay11 val_main_v15 val_main_v14
  revert h
  generalize k0_pay9 v3 = a
  generalize val_main_v10 (F := Ideal) x = b
  intro h
  pointwise []
  simp only [h, A.hx]

/-- The gradient of the projection's operand. -/
theorem product (A : Row v23 v25 v55 v3 v4 v5 ct dz x g md w i n) (k : Fin 1024) :
    k0_pay12 v23 v25 (ix2 i k) = val_main_v25 (F := Ideal) dz w (ix2 n k) := by
  unfold k0_pay12 val_main_v25
  pointwise []
  simp only [A.hdz, A.hw]

theorem modulated (A : Row v23 v25 v55 v3 v4 v5 ct dz x g md w i n) (k : Fin 1024) :
    k0_pay15 v5 v23 v25 (ix2 i k) = val_main_v32 (F := Ideal) dz md w (ix2 n k) := by
  have h := product A
  have hs := A.hsc
  unfold k0_pay15 val_main_v32 val_main_v31 val_main_v19 val_main_v18 val_main_cst_3
  revert h hs
  generalize k0_pay12 v23 v25 = a
  generalize val_main_v25 (F := Ideal) dz w = b
  generalize val_main_v1 (F := Ideal) md = b1
  intro h hs
  pointwise []
  simp only [h, hs]

/-- What the kernel writes of a row is the reference's. -/
theorem row (A : Row v23 v25 v55 v3 v4 v5 ct dz x g md w i n) (k : Fin 1024) :
    k0_pay1 v3 v4 (k0_pay9 v3) (k0_pay10 v3) (k0_pay15 v5 v23 v25) v55 (ix2 i k) = val_main_v52 (F := Ideal) ct dz x g md w (ix2 n k) := by
  have h := modulated A
  have h9 := inverse A
  have h10 := slope A
  unfold k0_pay1 val_main_v52 val_main_v51 val_main_v50 val_main_v49 val_main_v48 val_main_v47 val_main_v46 val_main_v45 val_main_v44 val_main_v43
    val_main_v42 val_main_v41 val_main_v40 val_main_v39 val_main_v38 val_main_v37 val_main_v36 val_main_cst_7 val_main_cst_8 val_main_cst_9
  revert h h9 h10
  generalize k0_pay15 v5 v23 v25 = a
  generalize val_main_v32 (F := Ideal) dz md w = b
  generalize k0_pay9 v3 = a9
  generalize val_main_v10 (F := Ideal) x = b9
  generalize k0_pay10 v3 = a10
  generalize val_main_v13 (F := Ideal) x = b10
  intro h h9 h10
  pointwise []
  simp only [h, h9, h10, A.hx, A.hct, A.hg, add_assoc]

/-- The block's part of the shift's gradient. -/
theorem shift_rows {r : Fin 512 → Fin 4096} (A : ∀ i, Row v23 v25 v55 v3 v4 v5 ct dz x g md w i (r i)) (o : Vec Ideal S1x1024 .f32) (e : Fin 1) (k : Fin 1024) :
    k0_pay2 (k0_pay13 v23 v25) o (ix2 e k) = o (ix2 e k) + ∑ i : Fin 512, val_main_v25 (F := Ideal) dz w (ix2 (r i) k) := by
  have h := fun i => product (A i)
  unfold k0_pay2 k0_pay13
  revert h
  generalize k0_pay12 v23 v25 = a
  generalize val_main_v25 (F := Ideal) dz w = b
  intro h
  pointwise []
  simp only [h]

/-- The block's part of the scale's gradient. -/
theorem scale_rows {r : Fin 512 → Fin 4096} (A : ∀ i, Row v23 v25 v55 v3 v4 v5 ct dz x g md w i (r i)) (o : Vec Ideal S1x1024 .f32) (e : Fin 1) (k : Fin 1024) :
    k0_pay3 (k0_pay14 v3 v4 v23 v25) o (ix2 e k) = o (ix2 e k) + ∑ i : Fin 512, val_main_v28 (F := Ideal) dz x g w (ix2 (r i) k) := by
  have h := fun i => product (A i)
  have h11 := fun i => unit (A i)
  have hg := (A 0).hg
  unfold k0_pay3 k0_pay14 val_main_v28 val_main_v17 val_main_v16
  revert h h11
  generalize k0_pay12 v23 v25 = a
  generalize val_main_v25 (F := Ideal) dz w = b
  generalize k0_pay11 v3 = a11
  generalize val_main_v15 (F := Ideal) x = b11
  intro h h11
  pointwise []
  simp only [h, h11, hg]

/-- The block's part of the gain's gradient. -/
theorem gain_rows {r : Fin 512 → Fin 4096} (A : ∀ i, Row v23 v25 v55 v3 v4 v5 ct dz x g md w i (r i)) (o : Vec Ideal S1x1024 .f32) (e : Fin 1) (k : Fin 1024) :
    k0_pay4 (k0_pay16 v3 v5 v23 v25) o (ix2 e k) = o (ix2 e k) + ∑ i : Fin 512, val_main_v33 (F := Ideal) dz x md w (ix2 (r i) k) := by
  have h := fun i => modulated (A i)
  have h11 := fun i => unit (A i)
  unfold k0_pay4 k0_pay16 val_main_v33
  revert h h11
  generalize k0_pay15 v5 v23 v25 = a
  generalize val_main_v32 (F := Ideal) dz md w = b
  generalize k0_pay11 v3 = a11
  generalize val_main_v15 (F := Ideal) x = b11
  intro h h11
  pointwise []
  simp only [h, h11]

theorem zero_shift (e : Fin 1) (k : Fin 1024) : k0_pay5 (F := Ideal) (ix2 e k) = 0 := by
  unfold k0_pay5
  pointwise []

theorem zero_scale (e : Fin 1) (k : Fin 1024) : k0_pay6 (F := Ideal) (ix2 e k) = 0 := by
  unfold k0_pay6
  pointwise []

theorem zero_gain (e : Fin 1) (k : Fin 1024) : k0_pay7 (F := Ideal) (ix2 e k) = 0 := by
  unfold k0_pay7
  pointwise []

theorem shift_sum (e : Fin 1) (k : Fin 1024) : val_main_v27 (F := Ideal) dz w (ix2 e k) = ∑ n : Fin 4096, val_main_v25 (F := Ideal) dz w (ix2 n k) := by
  unfold val_main_v27 val_main_v26 val_main_cst_4
  generalize val_main_v25 (F := Ideal) dz w = b
  pointwise []

theorem scale_sum (e : Fin 1) (k : Fin 1024) : val_main_v30 (F := Ideal) dz x g w (ix2 e k) = ∑ n : Fin 4096, val_main_v28 (F := Ideal) dz x g w (ix2 n k) := by
  unfold val_main_v30 val_main_v29 val_main_cst_5
  generalize val_main_v28 (F := Ideal) dz x g w = b
  pointwise []

theorem gain_sum (e : Fin 1) (k : Fin 1024) : val_main_v35 (F := Ideal) dz x md w (ix2 e k) = ∑ n : Fin 4096, val_main_v33 (F := Ideal) dz x md w (ix2 n k) := by
  unfold val_main_v35 val_main_v34 val_main_cst_6
  generalize val_main_v33 (F := Ideal) dz x md w = b
  pointwise []

/-! ## The blocks of a point -/

variable (m : (ℓ : Loc nD τ sig) → Buf (Elt Ideal) ℓ) (c : Dev nD)

theorem lt (t : Fin cfg0.N) : t.val < 8 := t.isLt

theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![0, 0] :=
  (by decide +kernel : ∀ t : Fin grid0.N, cc0_transform_1 (grid0.coords t) = ![0, 0])
theorem idx2 : ∀ t : Fin cfg0.N, cc0_transform_2 (grid0.coords t) = ![t.val, 0] :=
  (by decide +kernel : ∀ t : Fin grid0.N, cc0_transform_2 (grid0.coords t) = ![t.val, 0])
theorem idx3 : ∀ t : Fin cfg0.N, cc0_transform_3 (grid0.coords t) = ![t.val, 0] :=
  (by decide +kernel : ∀ t : Fin grid0.N, cc0_transform_3 (grid0.coords t) = ![t.val, 0])
theorem idx4 : ∀ t : Fin cfg0.N, cc0_transform_4 (grid0.coords t) = ![0, 0] :=
  (by decide +kernel : ∀ t : Fin grid0.N, cc0_transform_4 (grid0.coords t) = ![0, 0])
theorem idx5 : ∀ t : Fin cfg0.N, cc0_transform_5 (grid0.coords t) = ![0, 0] :=
  (by decide +kernel : ∀ t : Fin grid0.N, cc0_transform_5 (grid0.coords t) = ![0, 0])
theorem idx6 : ∀ t : Fin cfg0.N, cc0_transform_6 (grid0.coords t) = ![0, 1] :=
  (by decide +kernel : ∀ t : Fin grid0.N, cc0_transform_6 (grid0.coords t) = ![0, 1])
theorem idx7 : ∀ t : Fin cfg0.N, cc0_transform_7 (grid0.coords t) = ![t.val, 0] :=
  (by decide +kernel : ∀ t : Fin grid0.N, cc0_transform_7 (grid0.coords t) = ![t.val, 0])
theorem idx8 : ∀ t : Fin cfg0.N, cc0_transform_8 (grid0.coords t) = ![0, 0] :=
  (by decide +kernel : ∀ t : Fin grid0.N, cc0_transform_8 (grid0.coords t) = ![0, 0])
theorem idx9 : ∀ t : Fin cfg0.N, cc0_transform_9 (grid0.coords t) = ![0, 0] :=
  (by decide +kernel : ∀ t : Fin grid0.N, cc0_transform_9 (grid0.coords t) = ![0, 0])
theorem idx10 : ∀ t : Fin cfg0.N, cc0_transform_10 (grid0.coords t) = ![0, 0] :=
  (by decide +kernel : ∀ t : Fin grid0.N, cc0_transform_10 (grid0.coords t) = ![0, 0])

/-- The row of the arrays that row `i` of point `t`'s block is. -/
def rowOf (t : Fin cfg0.N) (i : Fin 512) : Fin 4096 := ⟨t.val * 512 + i.val, by have := lt t; omega⟩

abbrev Ct : Vec Ideal S4096x1024 .f32 := m ((c : Thread nD τ).loc main_arg0)
abbrev Dz : Vec Ideal S4096x3072 .f32 := m ((c : Thread nD τ).loc main_arg1)
abbrev X : Vec Ideal S4096x1024 .f32 := m ((c : Thread nD τ).loc main_arg2)
abbrev G : Vec Ideal S1x1024 .f32 := m ((c : Thread nD τ).loc main_arg3)
abbrev Md : Vec Ideal S1x3072 .f32 := m ((c : Thread nD τ).loc main_arg4)
abbrev Wt : Vec Ideal S1024x3072 .f32 := m ((c : Thread nD τ).loc main_arg5)

/-- The cast before the call changes nothing. -/
theorem V_v0 : V m c main_v0 = m ((c : Thread nD τ).loc main_arg1) := by
  unfold V
  simp only [hostOps0]
  after_results_simp
  rfl

/-- The cast before the call changes nothing. -/
theorem V_v1 : V m c main_v1 = m ((c : Thread nD τ).loc main_arg5) := by
  unfold V
  simp only [hostOps0]
  after_results_simp
  rfl

theorem V_arg0 : V m c main_arg0 = m ((c : Thread nD τ).loc main_arg0) := by
  unfold V
  simp only [hostOps0]
  after_results_simp

theorem V_arg2 : V m c main_arg2 = m ((c : Thread nD τ).loc main_arg2) := by
  unfold V
  simp only [hostOps0]
  after_results_simp

theorem V_arg3 : V m c main_arg3 = m ((c : Thread nD τ).loc main_arg3) := by
  unfold V
  simp only [hostOps0]
  after_results_simp

theorem V_arg4 : V m c main_arg4 = m ((c : Thread nD τ).loc main_arg4) := by
  unfold V
  simp only [hostOps0]
  after_results_simp

section

attribute [local irreducible] Pipeline.Grid.coords cc0_transform_0 cc0_transform_1 cc0_transform_2 cc0_transform_3 cc0_transform_4 cc0_transform_5 cc0_transform_6 cc0_transform_7 cc0_transform_8 cc0_transform_9 cc0_transform_10

theorem blk0 (t : Fin cfg0.N) (i : Fin 512) (k : Fin 3072) : iblk m c 0 t (ix2 i k) = Dz m c (ix2 (rowOf t i) k) := by
  unfold iblk
  change ((cfg0.win 0).blk t).view.read (Elt Ideal) (V m c main_v0) _ = _
  rw [V_v0 m c]
  change ((cfg0.win 0).blk t).view.read (Elt Ideal) (Dz m c) _ = _
  generalize Dz m c = W
  refine Eq.trans ?_ (read_block (s := S4096x3072) (α := EReal) W S512x3072.size (cc0_transform_0 (grid0.coords t)) (Facts₀.hinb0_0 _)
    (ix2 i k) (ix2 (rowOf t i) k) (idx0 t) (by intro a; fin_cases a <;> simp [ix2, rowOf]))
  rw [View.read_apply, cast_eq]
  rfl

theorem blk1 (t : Fin cfg0.N) (j : Fin 1024) (k : Fin 3072) : iblk m c 1 t (ix2 j k) = Wt m c (ix2 j k) := by
  unfold iblk
  change ((cfg0.win 1).blk t).view.read (Elt Ideal) (V m c main_v1) _ = _
  rw [V_v1 m c]
  change ((cfg0.win 1).blk t).view.read (Elt Ideal) (Wt m c) _ = _
  generalize Wt m c = W
  refine Eq.trans ?_ (read_block (s := S1024x3072) (α := EReal) W S1024x3072.size (cc0_transform_1 (grid0.coords t)) (Facts₀.hinb0_1 _)
    (ix2 j k) (ix2 j k) (idx1 t) (by intro a; fin_cases a <;> simp [ix2, rowOf]))
  rw [View.read_apply, cast_eq]
  rfl

theorem blk2 (t : Fin cfg0.N) (i : Fin 512) (k : Fin 1024) : iblk m c 2 t (ix2 i k) = Ct m c (ix2 (rowOf t i) k) := by
  unfold iblk
  change ((cfg0.win 2).blk t).view.read (Elt Ideal) (V m c main_arg0) _ = _
  rw [V_arg0 m c]
  change ((cfg0.win 2).blk t).view.read (Elt Ideal) (Ct m c) _ = _
  generalize Ct m c = W
  refine Eq.trans ?_ (read_block (s := S4096x1024) (α := EReal) W S512x1024.size (cc0_transform_2 (grid0.coords t)) (Facts₀.hinb0_2 _)
    (ix2 i k) (ix2 (rowOf t i) k) (idx2 t) (by intro a; fin_cases a <;> simp [ix2, rowOf]))
  rw [View.read_apply, cast_eq]
  rfl

theorem blk3 (t : Fin cfg0.N) (i : Fin 512) (k : Fin 1024) : iblk m c 3 t (ix2 i k) = X m c (ix2 (rowOf t i) k) := by
  unfold iblk
  change ((cfg0.win 3).blk t).view.read (Elt Ideal) (V m c main_arg2) _ = _
  rw [V_arg2 m c]
  change ((cfg0.win 3).blk t).view.read (Elt Ideal) (X m c) _ = _
  generalize X m c = W
  refine Eq.trans ?_ (read_block (s := S4096x1024) (α := EReal) W S512x1024.size (cc0_transform_3 (grid0.coords t)) (Facts₀.hinb0_3 _)
    (ix2 i k) (ix2 (rowOf t i) k) (idx3 t) (by intro a; fin_cases a <;> simp [ix2, rowOf]))
  rw [View.read_apply, cast_eq]
  rfl

theorem blk4 (t : Fin cfg0.N) (e : Fin 1) (k : Fin 1024) : iblk m c 4 t (ix2 e k) = G m c (ix2 e k) := by
  unfold iblk
  change ((cfg0.win 4).blk t).view.read (Elt Ideal) (V m c main_arg3) _ = _
  rw [V_arg3 m c]
  change ((cfg0.win 4).blk t).view.read (Elt Ideal) (G m c) _ = _
  generalize G m c = W
  refine Eq.trans ?_ (read_block (s := S1x1024) (α := EReal) W S1x1024.size (cc0_transform_4 (grid0.coords t)) (Facts₀.hinb0_4 _)
    (ix2 e k) (ix2 e k) (idx4 t) (by intro a; fin_cases a <;> simp [ix2, rowOf]))
  rw [View.read_apply, cast_eq]
  rfl

theorem blk6 (t : Fin cfg0.N) (e : Fin 1) (k : Fin 1024) : iblk m c 6 t (ix2 e k) = val_main_v1 (F := Ideal) (Md m c) (ix2 e k) := by
  rw [val_main_v1_apply]
  unfold iblk
  change ((cfg0.win 6).blk t).view.read (Elt Ideal) (V m c main_arg4) _ = _
  rw [V_arg4 m c]
  change ((cfg0.win 6).blk t).view.read (Elt Ideal) (Md m c) _ = _
  generalize Md m c = W
  refine Eq.trans ?_ (read_block (s := S1x3072) (α := EReal) W S1x1024.size (cc0_transform_6 (grid0.coords t)) (Facts₀.hinb0_6 _)
    (ix2 e k) (idx_main_v1 (ix2 e k)) (idx6 t) (by intro a; fin_cases a <;> simp [ix2, rowOf]))
  rw [View.read_apply, cast_eq]
  rfl

theorem row_of (t : Fin cfg0.N) (i : Fin 512) :
    Row (iblk m c 0 t) (iblk m c 1 t) (iblk m c 2 t) (iblk m c 3 t) (iblk m c 4 t) (iblk m c 6 t)
      (Ct m c) (Dz m c) (X m c) (G m c) (Md m c) (Wt m c) i (rowOf t i) :=
  ⟨blk0 m c t i, blk1 m c t, blk2 m c t i, blk3 m c t i, blk4 m c t, blk6 m c t⟩

/-! ## What the points leave -/

/-- The rows a point writes. -/
theorem rows_at (t : Fin cfg0.N) (i : Fin 512) (k : Fin 1024) : (outsAt0 m c t.val t.isLt).1 (ix2 i k)
    = val_main_v52 (F := Ideal) (Ct m c) (Dz m c) (X m c) (G m c) (Md m c) (Wt m c) (ix2 (rowOf t i) k) := by
  by_cases h : t.val % 8 = 0
  · rw [outsAt0_A m c t h]
    dsimp only
    rw [rows_A]
    exact row (row_of m c t i) k
  · rw [outsAt0_B m c t h]
    dsimp only
    rw [rows_B]
    exact row (row_of m c t i) k

/-- An entry of a column of an array, by its row's number. -/
def entry (W : Vec Ideal S4096x1024 .f32) (k : Fin 1024) (n : ℕ) : EReal := if h : n < 4096 then W (ix2 ⟨n, h⟩ k) else 0

theorem entry_row (W : Vec Ideal S4096x1024 .f32) (k : Fin 1024) (t : Fin cfg0.N) (i : Fin 512) :
    entry W k (t.val * 512 + i.val) = W (ix2 (rowOf t i) k) := by
  have := lt t
  rw [entry, dif_pos (by omega)]
  rfl

/-- Eight sums over 512 rows are one over all of them. -/
theorem sum_entries (W : Vec Ideal S4096x1024 .f32) (k : Fin 1024) :
    (∑ n ∈ Finset.range 8, ∑ i : Fin 512, entry W k (n * 512 + i.val)) = ∑ n : Fin 4096, W (ix2 n k) := by
  have e : ∀ n : Fin 4096, W (ix2 n k) = entry W k n.val := fun n => by rw [entry, dif_pos n.isLt]
  rw [Finset.sum_congr rfl fun n _ => e n, Fin.sum_univ_eq_sum_range (entry W k) 4096, show (4096 : ℕ) = 8 * 512 from rfl]
  simp only [fun n => Fin.sum_univ_eq_sum_range (fun a => entry W k (n * 512 + a)) 512]
  generalize 8 = b
  induction b with
  | zero => simp
  | succ b ih => rw [Finset.sum_range_succ, ih, Nat.succ_mul, Finset.sum_range_add]

/-- The shift's gradient after a point. -/
theorem shift_at (e : Fin 1) (k : Fin 1024) : ∀ (n : ℕ) (h : n < cfg0.N), (outsAt0 m c n h).2.1 (ix2 e k)
    = ∑ b ∈ Finset.range (n + 1), ∑ i : Fin 512, entry (val_main_v25 (F := Ideal) (Dz m c) (Wt m c)) k (b * 512 + i.val) := by
  intro n
  induction n with
  | zero =>
    intro h
    rw [outsAt0_A m c ⟨0, h⟩ rfl]
    dsimp only
    rw [shift_A, shift_rows (row_of m c ⟨0, h⟩), zero_shift, zero_add, Finset.sum_range_one]
    exact Finset.sum_congr rfl fun i _ => (entry_row _ k ⟨0, h⟩ i).symm
  | succ n ih =>
    intro h
    have hB : ¬(⟨n + 1, h⟩ : Fin cfg0.N).val % 8 = 0 := by have := lt ⟨n + 1, h⟩; dsimp only at this ⊢; omega
    rw [outsAt0_B m c ⟨n + 1, h⟩ hB]
    dsimp only
    rw [shift_B, shift_rows (row_of m c ⟨n + 1, h⟩), Finset.sum_range_succ]
    refine congrArg₂ (· + ·) (ih _) ?_
    exact Finset.sum_congr rfl fun i _ => (entry_row _ k ⟨n + 1, h⟩ i).symm

/-- The scale's gradient after a point. -/
theorem scale_at (e : Fin 1) (k : Fin 1024) : ∀ (n : ℕ) (h : n < cfg0.N), (outsAt0 m c n h).2.2.1 (ix2 e k)
    = ∑ b ∈ Finset.range (n + 1), ∑ i : Fin 512, entry (val_main_v28 (F := Ideal) (Dz m c) (X m c) (G m c) (Wt m c)) k (b * 512 + i.val) := by
  intro n
  induction n with
  | zero =>
    intro h
    rw [outsAt0_A m c ⟨0, h⟩ rfl]
    dsimp only
    rw [scale_A, scale_rows (row_of m c ⟨0, h⟩), zero_scale, zero_add, Finset.sum_range_one]
    exact Finset.sum_congr rfl fun i _ => (entry_row _ k ⟨0, h⟩ i).symm
  | succ n ih =>
    intro h
    have hB : ¬(⟨n + 1, h⟩ : Fin cfg0.N).val % 8 = 0 := by have := lt ⟨n + 1, h⟩; dsimp only at this ⊢; omega
    rw [outsAt0_B m c ⟨n + 1, h⟩ hB]
    dsimp only
    rw [scale_B, scale_rows (row_of m c ⟨n + 1, h⟩), Finset.sum_range_succ]
    refine congrArg₂ (· + ·) (ih _) ?_
    exact Finset.sum_congr rfl fun i _ => (entry_row _ k ⟨n + 1, h⟩ i).symm

/-- The gain's gradient after a point. -/
theorem gain_at (e : Fin 1) (k : Fin 1024) : ∀ (n : ℕ) (h : n < cfg0.N), (outsAt0 m c n h).2.2.2 (ix2 e k)
    = ∑ b ∈ Finset.range (n + 1), ∑ i : Fin 512, entry (val_main_v33 (F := Ideal) (Dz m c) (X m c) (Md m c) (Wt m c)) k (b * 512 + i.val) := by
  intro n
  induction n with
  | zero =>
    intro h
    rw [outsAt0_A m c ⟨0, h⟩ rfl]
    dsimp only
    rw [gain_A, gain_rows (row_of m c ⟨0, h⟩), zero_gain, zero_add, Finset.sum_range_one]
    exact Finset.sum_congr rfl fun i _ => (entry_row _ k ⟨0, h⟩ i).symm
  | succ n ih =>
    intro h
    have hB : ¬(⟨n + 1, h⟩ : Fin cfg0.N).val % 8 = 0 := by have := lt ⟨n + 1, h⟩; dsimp only at this ⊢; omega
    rw [outsAt0_B m c ⟨n + 1, h⟩ hB]
    dsimp only
    rw [gain_B, gain_rows (row_of m c ⟨n + 1, h⟩), Finset.sum_range_succ]
    refine congrArg₂ (· + ·) (ih _) ?_
    exact Finset.sum_congr rfl fun i _ => (entry_row _ k ⟨n + 1, h⟩ i).symm

/-! ## The arrays after the run -/

/-- The gradient of the input is the reference's. -/
theorem arr_rows : (dats m 0 c).arrAt 7 cfg0.N
    = val_main_v52 (F := Ideal) (Ct m c) (Dz m c) (X m c) (G m c) (Md m c) (Wt m c) := by
  have hr := rows_at m c
  generalize val_main_v52 (F := Ideal) (Ct m c) (Dz m c) (X m c) (G m c) (Md m c) (Wt m c) = R at hr ⊢
  refine (dats m 0 c).arrAt_eq_of_covers 7 _ (by decide +kernel) fun t hf y => ?_
  rw [cast_eq, after0_7]
  have key : ∀ y : S512x1024.Idx, (outsAt0 m c t.val t.isLt).1 y
      = R ((Rect.block (s := S4096x1024) S512x1024.size (cc0_transform_7 (grid0.coords t)) (Facts₀.hinb0_7 _)).emb y) := by
    intro y
    obtain ⟨i, j, rfl⟩ : ∃ i j, y = ix2 i j := ⟨y 0, y 1, (eq_ix2 y)⟩
    rw [hr, read_block (s := S4096x1024) R S512x1024.size (cc0_transform_7 (grid0.coords t)) (Facts₀.hinb0_7 _)
      (ix2 i j) (ix2 (rowOf t i) j) (idx7 t) (by intro a; fin_cases a <;> simp [ix2, rowOf])]
  exact key y

/-- The shift's gradient is the reference's. -/
theorem arr_shift : (dats m 0 c).arrAt 8 cfg0.N = val_main_v27 (F := Ideal) (Dz m c) (Wt m c) := by
  have hr : ∀ (h : 7 < cfg0.N) (e : Fin 1) (k : Fin 1024), (outsAt0 m c 7 h).2.1 (ix2 e k) = val_main_v27 (F := Ideal) (Dz m c) (Wt m c) (ix2 e k) :=
    fun h e k => by rw [shift_at, sum_entries, shift_sum]
  generalize val_main_v27 (F := Ideal) (Dz m c) (Wt m c) = R at hr ⊢
  refine (dats m 0 c).arrAt_eq_of_covers 8 _ (by decide +kernel) fun t hf y => ?_
  rw [cast_eq, after0_8]
  have h7 : t.val = 7 := by have := (flush0_8 t).mp hf; have := lt t; omega
  have key : ∀ y : S1x1024.Idx, (outsAt0 m c t.val t.isLt).2.1 y
      = R ((Rect.block (s := S1x1024) S1x1024.size (cc0_transform_8 (grid0.coords t)) (Facts₀.hinb0_8 _)).emb y) := by
    intro y
    obtain ⟨i, j, rfl⟩ : ∃ i j, y = ix2 i j := ⟨y 0, y 1, (eq_ix2 y)⟩
    rw [read_block (s := S1x1024) R S1x1024.size (cc0_transform_8 (grid0.coords t)) (Facts₀.hinb0_8 _)
      (ix2 i j) (ix2 i j) (idx8 t) (by intro a; fin_cases a <;> simp [ix2]), ← hr (by rw [← h7]; exact t.isLt)]
    simp only [h7]
  exact key y

/-- The scale's gradient is the reference's. -/
theorem arr_scale : (dats m 0 c).arrAt 9 cfg0.N = val_main_v30 (F := Ideal) (Dz m c) (X m c) (G m c) (Wt m c) := by
  have hr : ∀ (h : 7 < cfg0.N) (e : Fin 1) (k : Fin 1024), (outsAt0 m c 7 h).2.2.1 (ix2 e k) = val_main_v30 (F := Ideal) (Dz m c) (X m c) (G m c) (Wt m c) (ix2 e k) :=
    fun h e k => by rw [scale_at, sum_entries, scale_sum]
  generalize val_main_v30 (F := Ideal) (Dz m c) (X m c) (G m c) (Wt m c) = R at hr ⊢
  refine (dats m 0 c).arrAt_eq_of_covers 9 _ (by decide +kernel) fun t hf y => ?_
  rw [cast_eq, after0_9]
  have h7 : t.val = 7 := by have := (flush0_9 t).mp hf; have := lt t; omega
  have key : ∀ y : S1x1024.Idx, (outsAt0 m c t.val t.isLt).2.2.1 y
      = R ((Rect.block (s := S1x1024) S1x1024.size (cc0_transform_9 (grid0.coords t)) (Facts₀.hinb0_9 _)).emb y) := by
    intro y
    obtain ⟨i, j, rfl⟩ : ∃ i j, y = ix2 i j := ⟨y 0, y 1, (eq_ix2 y)⟩
    rw [read_block (s := S1x1024) R S1x1024.size (cc0_transform_9 (grid0.coords t)) (Facts₀.hinb0_9 _)
      (ix2 i j) (ix2 i j) (idx9 t) (by intro a; fin_cases a <;> simp [ix2]), ← hr (by rw [← h7]; exact t.isLt)]
    simp only [h7]
  exact key y

/-- The gain's gradient is the reference's. -/
theorem arr_gain : (dats m 0 c).arrAt 10 cfg0.N = val_main_v35 (F := Ideal) (Dz m c) (X m c) (Md m c) (Wt m c) := by
  have hr : ∀ (h : 7 < cfg0.N) (e : Fin 1) (k : Fin 1024), (outsAt0 m c 7 h).2.2.2 (ix2 e k) = val_main_v35 (F := Ideal) (Dz m c) (X m c) (Md m c) (Wt m c) (ix2 e k) :=
    fun h e k => by rw [gain_at, sum_entries, gain_sum]
  generalize val_main_v35 (F := Ideal) (Dz m c) (X m c) (Md m c) (Wt m c) = R at hr ⊢
  refine (dats m 0 c).arrAt_eq_of_covers 10 _ (by decide +kernel) fun t hf y => ?_
  rw [cast_eq, after0_10]
  have h7 : t.val = 7 := by have := (flush0_10 t).mp hf; have := lt t; omega
  have key : ∀ y : S1x1024.Idx, (outsAt0 m c t.val t.isLt).2.2.2 y
      = R ((Rect.block (s := S1x1024) S1x1024.size (cc0_transform_10 (grid0.coords t)) (Facts₀.hinb0_10 _)).emb y) := by
    intro y
    obtain ⟨i, j, rfl⟩ : ∃ i j, y = ix2 i j := ⟨y 0, y 1, (eq_ix2 y)⟩
    rw [read_block (s := S1x1024) R S1x1024.size (cc0_transform_10 (grid0.coords t)) (Facts₀.hinb0_10 _)
      (ix2 i j) (ix2 i j) (idx10 t) (by intro a; fin_cases a <;> simp [ix2]), ← hr (by rw [← h7]; exact t.isLt)]
    simp only [h7]
  exact key y

end

end Cert.Kernel2Ideal.Norm

end
-- ==== Proof.PostBwd.lean ====
/- The gradient through the gate and the second RMSNorm: the kernel's three arrays are the reference's. -/
module

public import proofs.«01_k».proof.Proof.Blocks
public import proofs.«01_k».proof.Proof.Gen.Kernel3Ideal.Value
public import proofs.«01_k».proof.Proof.Gen.Reference3Ideal.Read

@[expose] public section

set_option maxRecDepth 16384

noncomputable section

namespace Cert.Kernel3Ideal.Norm

open Cert.Kernel3Ideal Cert.Kernel3Ideal.Gen Cert.Blocks
open Cert.Reference3Ideal.Read
open Idealize.ShloMosaic Idealize.ShloMosaic.TcCoe Idealize.ShloMosaic.Tactic

theorem hz : (![0, 0] : Fin 2 → Nat) = fun _ => 0 := funext fun a => by fin_cases a <;> rfl

/-! ## What a point leaves in its blocks -/

section

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S1x1024 .f32) (h3 : a3.IsWhole)
  (a4 : Memref sig .tc .vmem S1x1024 .f32) (h4 : a4.IsWhole) (a5 : Memref sig .tc .vmem S512x1024 .bf16) (h5 : a5.IsWhole)
  (a6 : Memref sig .tc .vmem S1x1024 .f32) (h6 : a6.IsWhole) (a7 : Memref sig .tc .vmem S1x1024 .f32) (h7 : a7.IsWhole)
  (x0 x1 : Vec Ideal S512x1024 .f32) (x2 x3 xo5 xo6 : Vec Ideal S1x1024 .f32)

theorem rows_A (hc : cond0_0 i) : out0_A_4 c i a1 h1 a2 h2 a3 h3 a4 h4 a5 h5 a6 h6 a7 h7 hc x0 x1 x2 x3
    = k0_pay1 x1 (k0_pay13 x1 x2 x3 x0) (k0_pay14 x1 x2 x3 x0) := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S512x1024) hz, View.ld_unit_zero (S := S1x1024) hz]

theorem rows_B (hc : ¬cond0_0 i) : out0_B_4 c i a1 h1 a2 h2 a3 h3 a4 h4 a5 h5 a6 h6 a7 h7 hc x0 x1 x2 x3 xo5 xo6
    = k0_pay1 x1 (k0_pay13 x1 x2 x3 x0) (k0_pay14 x1 x2 x3 x0) := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread,
    View.ld_unit_zero (S := S512x1024) hz, View.ld_unit_zero (S := S1x1024) hz]

theorem gate_A (hc : cond0_0 i) : out0_A_5 c i a1 h1 a2 h2 a3 h3 a4 h4 a5 h5 a6 h6 a7 h7 hc x0 x1 x2 x3
    = k0_pay4 (k0_pay10 x1 x2 x0) (k0_pay2 (F := Ideal)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread,
    View.ld_unit_zero (S := S512x1024) hz, View.ld_unit_zero (S := S1x1024) hz]

theorem gate_B (hc : ¬cond0_0 i) : out0_B_5 c i a1 h1 a2 h2 a3 h3 a4 h4 a5 h5 a6 h6 a7 h7 hc x0 x1 x2 x3 xo5 xo6
    = k0_pay4 (k0_pay10 x1 x2 x0) xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread,
    View.ld_unit_zero (S := S512x1024) hz, View.ld_unit_zero (S := S1x1024) hz]

theorem gain_A (hc : cond0_0 i) : out0_A_6 c i a1 h1 a2 h2 a3 h3 a4 h4 a5 h5 a6 h6 a7 h7 hc x0 x1 x2 x3
    = k0_pay5 (k0_pay11 x1 x3 x0) (k0_pay3 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread,
    View.ld_unit_zero (S := S512x1024) hz, View.ld_unit_zero (S := S1x1024) hz]

theorem gain_B (hc : ¬cond0_0 i) : out0_B_6 c i a1 h1 a2 h2 a3 h3 a4 h4 a5 h5 a6 h6 a7 h7 hc x0 x1 x2 x3 xo5 xo6
    = k0_pay5 (k0_pay11 x1 x3 x0) xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h7.read_unread,
    View.ld_unit_zero (S := S512x1024) hz, View.ld_unit_zero (S := S1x1024) hz]

end

/-! ## The arithmetic of a row -/

/-- A row of a block is a row of the arrays the reference reads. -/
structure Row (v18 v0 : Vec Ideal S512x1024 .f32) (v1 v2 : Vec Ideal S1x1024 .f32) (ct yo : Vec Ideal S4096x1024 .f32)
    (g : Vec Ideal S1x1024 .f32) (md : Vec Ideal S1x3072 .f32) (i : Fin 512) (n : Fin 4096) : Prop where
  hct : ∀ k : Fin 1024, v18 (ix2 i k) = ct (ix2 n k)
  hyo : ∀ k : Fin 1024, v0 (ix2 i k) = yo (ix2 n k)
  hg : ∀ (e : Fin 1) (k : Fin 1024), v1 (ix2 e k) = g (ix2 e k)
  hgate : ∀ (e : Fin 1) (k : Fin 1024), v2 (ix2 e k) = val_main_v2 (F := Ideal) md (ix2 e k)

variable {v18 v0 : Vec Ideal S512x1024 .f32} {v1 v2 : Vec Ideal S1x1024 .f32} {ct yo : Vec Ideal S4096x1024 .f32}
  {g : Vec Ideal S1x1024 .f32} {md : Vec Ideal S1x3072 .f32} {i : Fin 512} {n : Fin 4096}

theorem square (A : Row v18 v0 v1 v2 ct yo g md i n) (e : Fin 1) : k0_pay6 v0 (ix2 i e) = val_main_v9 (F := Ideal) yo (ix2 n e) := by
  unfold k0_pay6 val_main_v9 val_main_v7 val_main_v8 val_main_v6 val_main_v5 val_main_v4 val_main_v3 val_main_cst val_main_cst_0 val_main_cst_1
  pointwise []
  simp only [A.hyo]

theorem inverse (A : Row v18 v0 v1 v2 ct yo g md i n) (e : Fin 1) : k0_pay7 v0 (ix2 i e) = val_main_v10 (F := Ideal) yo (ix2 n e) := by
  have h := square A e
  unfold k0_pay7 val_main_v10
  revert h
  generalize k0_pay6 v0 = a
  generalize val_main_v9 (F := Ideal) yo = b
  intro h
  pointwise []
  rw [h]

theorem unit (A : Row v18 v0 v1 v2 ct yo g md i n) (k : Fin 1024) : k0_pay8 v0 (ix2 i k) = val_main_v15 (F := Ideal) yo (ix2 n k) := by
  have h := fun e => inverse A e
  unfold k0_pay8 val_main_v15 val_main_v14
  revert h
  generalize k0_pay7 v0 = a
  generalize val_main_v10 (F := Ideal) yo = b
  intro h
  pointwise []
  simp only [h, A.hyo]

theorem gated (A : Row v18 v0 v1 v2 ct yo g md i n) (k : Fin 1024) : k0_pay9 v2 v18 (ix2 i k) = val_main_v22 (F := Ideal) ct md (ix2 n k) := by
  have h := A.hgate
  unfold k0_pay9 val_main_v22 val_main_v21
  revert h
  generalize val_main_v2 (F := Ideal) md = b
  intro h
  pointwise []
  simp only [h, A.hct]

theorem scaled (A : Row v18 v0 v1 v2 ct yo g md i n) (k : Fin 1024) : k0_pay12 v1 v2 v18 (ix2 i k) = val_main_v30 (F := Ideal) ct g md (ix2 n k) := by
  have h := fun k => gated A k
  unfold k0_pay12 val_main_v30 val_main_v29
  revert h
  generalize k0_pay9 v2 v18 = a
  generalize val_main_v22 (F := Ideal) ct md = b
  intro h
  pointwise []
  simp only [h, A.hg]

theorem mean (A : Row v18 v0 v1 v2 ct yo g md i n) (k : Fin 1024) :
    k0_pay13 v0 v1 v2 v18 (ix2 i k) = val_main_v40 (F := Ideal) ct yo g md (ix2 n k) := by
  have h := fun k => scaled A k
  have h6 := square A
  have h7 := inverse A
  unfold k0_pay13 val_main_v40 val_main_v39 val_main_v38 val_main_v37 val_main_v36 val_main_v33 val_main_v32 val_main_v31 val_main_v13 val_main_v12
    val_main_v11 val_main_cst_2 val_main_cst_5 val_main_cst_6 val_main_cst_7
  revert h h6 h7
  generalize k0_pay12 v1 v2 v18 = a
  generalize val_main_v30 (F := Ideal) ct g md = b
  generalize k0_pay7 v0 = a7
  generalize val_main_v10 (F := Ideal) yo = b7
  generalize k0_pay6 v0 = a6
  generalize val_main_v9 (F := Ideal) yo = b6
  intro h h6 h7
  pointwise []
  simp only [h, h6, h7, A.hyo]

/-- What the kernel writes of a row is the reference's. -/
theorem row (A : Row v18 v0 v1 v2 ct yo g md i n) (k : Fin 1024) :
    k0_pay1 v0 (k0_pay13 v0 v1 v2 v18) (k0_pay14 v0 v1 v2 v18) (ix2 i k) = val_main_v45 (F := Ideal) ct yo g md (ix2 n k) := by
  have h := fun k => scaled A k
  have h13 := mean A
  have h7 := inverse A
  unfold k0_pay1 k0_pay14 val_main_v45 val_main_v44 val_main_v43 val_main_v42 val_main_v41 val_main_v35 val_main_v34
  revert h h13 h7
  generalize k0_pay13 v0 v1 v2 v18 = a
  generalize val_main_v40 (F := Ideal) ct yo g md = b
  generalize k0_pay12 v1 v2 v18 = a12
  generalize val_main_v30 (F := Ideal) ct g md = b12
  generalize k0_pay7 v0 = a7
  generalize val_main_v10 (F := Ideal) yo = b7
  intro h h13 h7
  pointwise []
  simp only [h, h13, h7, A.hyo]

/-- The block's part of the gate's gradient. -/
theorem gate_rows {r : Fin 512 → Fin 4096} (A : ∀ i, Row v18 v0 v1 v2 ct yo g md i (r i)) (w : Vec Ideal S1x1024 .f32) (e : Fin 1) (k : Fin 1024) :
    k0_pay4 (k0_pay10 v0 v1 v18) w (ix2 e k) = w (ix2 e k) + ∑ i : Fin 512, val_main_v23 (F := Ideal) ct yo g (ix2 (r i) k) := by
  have h := fun i => unit (A i)
  have hg := (A 0).hg
  have hc := fun i => (A i).hct
  unfold k0_pay4 k0_pay10 val_main_v23 val_main_v17 val_main_v16
  revert h
  generalize k0_pay8 v0 = a
  generalize val_main_v15 (F := Ideal) yo = b
  intro h
  pointwise []
  simp only [h, hg, hc]

/-- The block's part of the gain's gradient. -/
theorem gain_rows {r : Fin 512 → Fin 4096} (A : ∀ i, Row v18 v0 v1 v2 ct yo g md i (r i)) (w : Vec Ideal S1x1024 .f32) (e : Fin 1) (k : Fin 1024) :
    k0_pay5 (k0_pay11 v0 v2 v18) w (ix2 e k) = w (ix2 e k) + ∑ i : Fin 512, val_main_v26 (F := Ideal) ct yo md (ix2 (r i) k) := by
  have h := fun i => unit (A i)
  have h9 := fun i => gated (A i)
  unfold k0_pay5 k0_pay11 val_main_v26
  revert h h9
  generalize k0_pay8 v0 = a
  generalize val_main_v15 (F := Ideal) yo = b
  generalize k0_pay9 v2 v18 = a9
  generalize val_main_v22 (F := Ideal) ct md = b9
  intro h h9
  pointwise []
  simp only [h, h9]

theorem zero_gate (e : Fin 1) (k : Fin 1024) : k0_pay2 (F := Ideal) (ix2 e k) = 0 := by
  unfold k0_pay2
  pointwise []

theorem zero_gain (e : Fin 1) (k : Fin 1024) : k0_pay3 (F := Ideal) (ix2 e k) = 0 := by
  unfold k0_pay3
  pointwise []

theorem gate_sum (e : Fin 1) (k : Fin 1024) :
    val_main_v25 (F := Ideal) ct yo g (ix2 e k) = ∑ n : Fin 4096, val_main_v23 (F := Ideal) ct yo g (ix2 n k) := by
  unfold val_main_v25 val_main_v24 val_main_cst_3
  generalize val_main_v23 (F := Ideal) ct yo g = b
  pointwise []

theorem gain_sum (e : Fin 1) (k : Fin 1024) :
    val_main_v28 (F := Ideal) ct yo md (ix2 e k) = ∑ n : Fin 4096, val_main_v26 (F := Ideal) ct yo md (ix2 n k) := by
  unfold val_main_v28 val_main_v27 val_main_cst_4
  generalize val_main_v26 (F := Ideal) ct yo md = b
  pointwise []

/-! ## The blocks of a point -/

variable (m : (ℓ : Loc nD τ sig) → Buf (Elt Ideal) ℓ) (c : Dev nD)

theorem lt (t : Fin cfg0.N) : t.val < 8 := t.isLt

theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![t.val, 0] :=
  (by decide +kernel : ∀ t : Fin grid0.N, cc0_transform_1 (grid0.coords t) = ![t.val, 0])
theorem idx2 : ∀ t : Fin cfg0.N, cc0_transform_2 (grid0.coords t) = ![0, 0] :=
  (by decide +kernel : ∀ t : Fin grid0.N, cc0_transform_2 (grid0.coords t) = ![0, 0])
theorem idx3 : ∀ t : Fin cfg0.N, cc0_transform_3 (grid0.coords t) = ![0, 2] :=
  (by decide +kernel : ∀ t : Fin grid0.N, cc0_transform_3 (grid0.coords t) = ![0, 2])
theorem idx4 : ∀ t : Fin cfg0.N, cc0_transform_4 (grid0.coords t) = ![t.val, 0] :=
  (by decide +kernel : ∀ t : Fin grid0.N, cc0_transform_4 (grid0.coords t) = ![t.val, 0])
theorem idx5 : ∀ t : Fin cfg0.N, cc0_transform_5 (grid0.coords t) = ![0, 0] :=
  (by decide +kernel : ∀ t : Fin grid0.N, cc0_transform_5 (grid0.coords t) = ![0, 0])
theorem idx6 : ∀ t : Fin cfg0.N, cc0_transform_6 (grid0.coords t) = ![0, 0] :=
  (by decide +kernel : ∀ t : Fin grid0.N, cc0_transform_6 (grid0.coords t) = ![0, 0])

/-- The row of the arrays that row `i` of point `t`'s block is. -/
def rowOf (t : Fin cfg0.N) (i : Fin 512) : Fin 4096 := ⟨t.val * 512 + i.val, by have := lt t; omega⟩

abbrev Ct : Vec Ideal S4096x1024 .f32 := m ((c : Thread nD τ).loc main_arg0)
abbrev Yo : Vec Ideal S4096x1024 .f32 := m ((c : Thread nD τ).loc main_arg2)
abbrev G : Vec Ideal S1x1024 .f32 := m ((c : Thread nD τ).loc main_arg3)
abbrev Md : Vec Ideal S1x3072 .f32 := m ((c : Thread nD τ).loc main_arg4)

section

attribute [local irreducible] Pipeline.Grid.coords cc0_transform_0 cc0_transform_1 cc0_transform_2 cc0_transform_3 cc0_transform_4 cc0_transform_5 cc0_transform_6

theorem blk0 (t : Fin cfg0.N) (i : Fin 512) (k : Fin 1024) : iblk m c 0 t (ix2 i k) = Ct m c (ix2 (rowOf t i) k) := by
  unfold iblk
  change ((cfg0.win 0).blk t).view.read (Elt Ideal) (Ct m c) _ = _
  generalize Ct m c = W
  refine Eq.trans ?_ (read_block (s := S4096x1024) (α := EReal) W S512x1024.size (cc0_transform_0 (grid0.coords t)) (Facts₀.hinb0_0 _)
    (ix2 i k) (ix2 (rowOf t i) k) (idx0 t) (by intro a; fin_cases a <;> simp [ix2, rowOf]))
  rw [View.read_apply, cast_eq]
  rfl

theorem blk1 (t : Fin cfg0.N) (i : Fin 512) (k : Fin 1024) : iblk m c 1 t (ix2 i k) = Yo m c (ix2 (rowOf t i) k) := by
  unfold iblk
  change ((cfg0.win 1).blk t).view.read (Elt Ideal) (Yo m c) _ = _
  generalize Yo m c = W
  refine Eq.trans ?_ (read_block (s := S4096x1024) (α := EReal) W S512x1024.size (cc0_transform_1 (grid0.coords t)) (Facts₀.hinb0_1 _)
    (ix2 i k) (ix2 (rowOf t i) k) (idx1 t) (by intro a; fin_cases a <;> simp [ix2, rowOf]))
  rw [View.read_apply, cast_eq]
  rfl

theorem blk2 (t : Fin cfg0.N) (e : Fin 1) (k : Fin 1024) : iblk m c 2 t (ix2 e k) = G m c (ix2 e k) := by
  unfold iblk
  change ((cfg0.win 2).blk t).view.read (Elt Ideal) (G m c) _ = _
  generalize G m c = W
  refine Eq.trans ?_ (read_block (s := S1x1024) (α := EReal) W S1x1024.size (cc0_transform_2 (grid0.coords t)) (Facts₀.hinb0_2 _)
    (ix2 e k) (ix2 e k) (idx2 t) (by intro a; fin_cases a <;> simp [ix2]))
  rw [View.read_apply, cast_eq]
  rfl

theorem blk3 (t : Fin cfg0.N) (e : Fin 1) (k : Fin 1024) : iblk m c 3 t (ix2 e k) = val_main_v2 (F := Ideal) (Md m c) (ix2 e k) := by
  unfold iblk
  change ((cfg0.win 3).blk t).view.read (Elt Ideal) (Md m c) _ = _
  generalize Md m c = W
  rw [val_main_v2_apply]
  refine Eq.trans ?_ (read_block (s := S1x3072) (α := EReal) W S1x1024.size (cc0_transform_3 (grid0.coords t)) (Facts₀.hinb0_3 _)
    (ix2 e k) (idx_main_v2 (ix2 e k)) (idx3 t) (by intro a; fin_cases a <;> simp [ix2]))
  rw [View.read_apply, cast_eq]
  rfl

theorem row_of (t : Fin cfg0.N) (i : Fin 512) :
    Row (iblk m c 0 t) (iblk m c 1 t) (iblk m c 2 t) (iblk m c 3 t) (Ct m c) (Yo m c) (G m c) (Md m c) i (rowOf t i) :=
  ⟨blk0 m c t i, blk1 m c t i, blk2 m c t, blk3 m c t⟩

/-! ## What the points leave -/

/-- The rows a point writes. -/
theorem rows_at (t : Fin cfg0.N) (i : Fin 512) (k : Fin 1024) :
    (outsAt0 m c t.val t.isLt).1 (ix2 i k) = val_main_v45 (F := Ideal) (Ct m c) (Yo m c) (G m c) (Md m c) (ix2 (rowOf t i) k) := by
  by_cases h : t.val % 8 = 0
  · rw [outsAt0_A m c t h]
    dsimp only
    rw [rows_A]
    exact row (row_of m c t i) k
  · rw [outsAt0_B m c t h]
    dsimp only
    rw [rows_B]
    exact row (row_of m c t i) k

/-- An entry of a column of an array, by its row's number. -/
def entry (W : Vec Ideal S4096x1024 .f32) (k : Fin 1024) (n : ℕ) : EReal := if h : n < 4096 then W (ix2 ⟨n, h⟩ k) else 0

theorem entry_row (W : Vec Ideal S4096x1024 .f32) (k : Fin 1024) (t : Fin cfg0.N) (i : Fin 512) :
    entry W k (t.val * 512 + i.val) = W (ix2 (rowOf t i) k) := by
  have := lt t
  rw [entry, dif_pos (by omega)]
  rfl

/-- Eight sums over 512 rows are one over all of them. -/
theorem sum_entries (W : Vec Ideal S4096x1024 .f32) (k : Fin 1024) :
    (∑ n ∈ Finset.range 8, ∑ i : Fin 512, entry W k (n * 512 + i.val)) = ∑ n : Fin 4096, W (ix2 n k) := by
  have e : ∀ n : Fin 4096, W (ix2 n k) = entry W k n.val := fun n => by rw [entry, dif_pos n.isLt]
  rw [Finset.sum_congr rfl fun n _ => e n, Fin.sum_univ_eq_sum_range (entry W k) 4096, show (4096 : ℕ) = 8 * 512 from rfl]
  simp only [fun n => Fin.sum_univ_eq_sum_range (fun a => entry W k (n * 512 + a)) 512]
  generalize 8 = b
  induction b with
  | zero => simp
  | succ b ih => rw [Finset.sum_range_succ, ih, Nat.succ_mul, Finset.sum_range_add]

/-- The gate's gradient after a point. -/
theorem gate_at (e : Fin 1) (k : Fin 1024) : ∀ (n : ℕ) (h : n < cfg0.N), (outsAt0 m c n h).2.1 (ix2 e k)
    = ∑ b ∈ Finset.range (n + 1), ∑ i : Fin 512, entry (val_main_v23 (F := Ideal) (Ct m c) (Yo m c) (G m c)) k (b * 512 + i.val) := by
  intro n
  induction n with
  | zero =>
    intro h
    rw [outsAt0_A m c ⟨0, h⟩ rfl]
    dsimp only
    rw [gate_A, gate_rows (row_of m c ⟨0, h⟩), zero_gate, zero_add, Finset.sum_range_one]
    exact Finset.sum_congr rfl fun i _ => (entry_row _ k ⟨0, h⟩ i).symm
  | succ n ih =>
    intro h
    have hB : ¬(⟨n + 1, h⟩ : Fin cfg0.N).val % 8 = 0 := by have := lt ⟨n + 1, h⟩; dsimp only at this ⊢; omega
    rw [outsAt0_B m c ⟨n + 1, h⟩ hB]
    dsimp only
    rw [gate_B, gate_rows (row_of m c ⟨n + 1, h⟩), Finset.sum_range_succ]
    refine congrArg₂ (· + ·) (ih _) ?_
    exact Finset.sum_congr rfl fun i _ => (entry_row _ k ⟨n + 1, h⟩ i).symm

/-- The gain's gradient after a point. -/
theorem gain_at (e : Fin 1) (k : Fin 1024) : ∀ (n : ℕ) (h : n < cfg0.N), (outsAt0 m c n h).2.2 (ix2 e k)
    = ∑ b ∈ Finset.range (n + 1), ∑ i : Fin 512, entry (val_main_v26 (F := Ideal) (Ct m c) (Yo m c) (Md m c)) k (b * 512 + i.val) := by
  intro n
  induction n with
  | zero =>
    intro h
    rw [outsAt0_A m c ⟨0, h⟩ rfl]
    dsimp only
    rw [gain_A, gain_rows (row_of m c ⟨0, h⟩), zero_gain, zero_add, Finset.sum_range_one]
    exact Finset.sum_congr rfl fun i _ => (entry_row _ k ⟨0, h⟩ i).symm
  | succ n ih =>
    intro h
    have hB : ¬(⟨n + 1, h⟩ : Fin cfg0.N).val % 8 = 0 := by have := lt ⟨n + 1, h⟩; dsimp only at this ⊢; omega
    rw [outsAt0_B m c ⟨n + 1, h⟩ hB]
    dsimp only
    rw [gain_B, gain_rows (row_of m c ⟨n + 1, h⟩), Finset.sum_range_succ]
    refine congrArg₂ (· + ·) (ih _) ?_
    exact Finset.sum_congr rfl fun i _ => (entry_row _ k ⟨n + 1, h⟩ i).symm

/-! ## The arrays after the run -/

/-- The gradient of the projected output is the reference's. -/
theorem arr_rows : (dats m 0 c).arrAt 4 cfg0.N = val_main_v45 (F := Ideal) (Ct m c) (Yo m c) (G m c) (Md m c) := by
  have hr := rows_at m c
  generalize val_main_v45 (F := Ideal) (Ct m c) (Yo m c) (G m c) (Md m c) = R at hr ⊢
  refine (dats m 0 c).arrAt_eq_of_covers 4 _ (by decide +kernel) fun t hf y => ?_
  rw [cast_eq, after0_4]
  have key : ∀ y : S512x1024.Idx, (outsAt0 m c t.val t.isLt).1 y
      = R ((Rect.block (s := S4096x1024) S512x1024.size (cc0_transform_4 (grid0.coords t)) (Facts₀.hinb0_4 _)).emb y) := by
    intro y
    obtain ⟨i, j, rfl⟩ : ∃ i j, y = ix2 i j := ⟨y 0, y 1, (eq_ix2 y)⟩
    rw [hr, read_block (s := S4096x1024) R S512x1024.size (cc0_transform_4 (grid0.coords t)) (Facts₀.hinb0_4 _)
      (ix2 i j) (ix2 (rowOf t i) j) (idx4 t) (by intro a; fin_cases a <;> simp [ix2, rowOf])]
  exact key y

/-- The gate's gradient is the reference's. -/
theorem arr_gate : (dats m 0 c).arrAt 5 cfg0.N = val_main_v25 (F := Ideal) (Ct m c) (Yo m c) (G m c) := by
  have hr : ∀ (h : 7 < cfg0.N) (e : Fin 1) (k : Fin 1024), (outsAt0 m c 7 h).2.1 (ix2 e k) = val_main_v25 (F := Ideal) (Ct m c) (Yo m c) (G m c) (ix2 e k) :=
    fun h e k => by rw [gate_at, sum_entries, gate_sum]
  generalize val_main_v25 (F := Ideal) (Ct m c) (Yo m c) (G m c) = R at hr ⊢
  refine (dats m 0 c).arrAt_eq_of_covers 5 _ (by decide +kernel) fun t hf y => ?_
  rw [cast_eq, after0_5]
  have h7 : t.val = 7 := by have := (flush0_5 t).mp hf; have := lt t; omega
  have key : ∀ y : S1x1024.Idx, (outsAt0 m c t.val t.isLt).2.1 y
      = R ((Rect.block (s := S1x1024) S1x1024.size (cc0_transform_5 (grid0.coords t)) (Facts₀.hinb0_5 _)).emb y) := by
    intro y
    obtain ⟨i, j, rfl⟩ : ∃ i j, y = ix2 i j := ⟨y 0, y 1, (eq_ix2 y)⟩
    rw [read_block (s := S1x1024) R S1x1024.size (cc0_transform_5 (grid0.coords t)) (Facts₀.hinb0_5 _)
      (ix2 i j) (ix2 i j) (idx5 t) (by intro a; fin_cases a <;> simp [ix2]), ← hr (by rw [← h7]; exact t.isLt)]
    simp only [h7]
  exact key y

/-- The gain's gradient is the reference's. -/
theorem arr_gain : (dats m 0 c).arrAt 6 cfg0.N = val_main_v28 (F := Ideal) (Ct m c) (Yo m c) (Md m c) := by
  have hr : ∀ (h : 7 < cfg0.N) (e : Fin 1) (k : Fin 1024), (outsAt0 m c 7 h).2.2 (ix2 e k) = val_main_v28 (F := Ideal) (Ct m c) (Yo m c) (Md m c) (ix2 e k) :=
    fun h e k => by rw [gain_at, sum_entries, gain_sum]
  generalize val_main_v28 (F := Ideal) (Ct m c) (Yo m c) (Md m c) = R at hr ⊢
  refine (dats m 0 c).arrAt_eq_of_covers 6 _ (by decide +kernel) fun t hf y => ?_
  rw [cast_eq, after0_6]
  have h7 : t.val = 7 := by have := (flush0_6 t).mp hf; have := lt t; omega
  have key : ∀ y : S1x1024.Idx, (outsAt0 m c t.val t.isLt).2.2 y
      = R ((Rect.block (s := S1x1024) S1x1024.size (cc0_transform_6 (grid0.coords t)) (Facts₀.hinb0_6 _)).emb y) := by
    intro y
    obtain ⟨i, j, rfl⟩ : ∃ i j, y = ix2 i j := ⟨y 0, y 1, (eq_ix2 y)⟩
    rw [read_block (s := S1x1024) R S1x1024.size (cc0_transform_6 (grid0.coords t)) (Facts₀.hinb0_6 _)
      (ix2 i j) (ix2 i j) (idx6 t) (by intro a; fin_cases a <;> simp [ix2]), ← hr (by rw [← h7]; exact t.isLt)]
    simp only [h7]
  exact key y

end

end Cert.Kernel3Ideal.Norm

end
-- ==== Proof.FwdPay.lean ====
/- The arithmetic of the forward attention at an index, over the extended reals: one block of keys against one block of rows. -/
module

public import proofs.«01_k».proof.Proof.Grad
public import proofs.«01_k».proof.Proof.Gen.Kernel10Ideal.Value

@[expose] public section

set_option maxRecDepth 16384

noncomputable section

namespace Cert.Kernel10Ideal.Fwd

open Cert.Kernel10Ideal Cert.Kernel10Ideal.Gen
open Idealize.ShloMosaic Idealize.ShloMosaic.TcCoe Idealize.ShloMosaic.Tactic

/-! ## One step -/

/-- The rows' largest scores of a block. -/
def tops (s : FVec Ideal S512x512 .f32) : FVec Ideal S512 .f32 :=
  multiReduction .maximumf [1] S512 s 0xFF800000#32 reduces_S512x512_S512 (.inl rfl) rfl

/-- The state of 512 rows: shifts, sums, weighted sums of values. -/
abbrev St := FVec Ideal S512x1 .f32 × FVec Ideal S512x1 .f32 × FVec Ideal S512x128 .f32

/-- The state after a block of keys whose scores are `s` and whose values are `v`. -/
def step (z : St) (s : FVec Ideal S512x512 .f32) (v : Vec Ideal S1x512x128 .bf16) : St :=
  (k0_pay39 z.1 (tops s), k0_pay42 z.1 z.2.1 s (tops s), k0_pay43 z.1 z.2.2 s (tops s) v)

/-- The word of the start of a maximum is −∞. -/
theorem neg_inf : Ideal.ofBits .f32 0xFF800000#32 = (⊥ : EReal) := by simp [Ideal.ofBits, Ideal.ieee]

/-- A row's largest score. -/
theorem tops_at (s : FVec Ideal S512x512 .f32) (a : Fin 512) :
    tops s (ix1 a) = Finset.univ.fold max ⊥ fun b : Fin 512 => (s (ix2 a b) : EReal) := by
  unfold tops
  pointwise []
  rw [neg_inf]

/-- The shift after a step: the larger of the shift before and the block's largest score. -/
theorem step_top (z : St) (s : FVec Ideal S512x512 .f32) (v : Vec Ideal S1x512x128 .bf16) (a : Fin 512) (e : Fin 1) :
    (step z s v).1 (ix2 a e) = max (z.1 (ix2 a e)) (Finset.univ.fold max ⊥ fun b : Fin 512 => (s (ix2 a b) : EReal)) := by
  have h := tops_at s a
  unfold step k0_pay39
  dsimp only
  revert h
  generalize tops s = r
  intro h
  pointwise []
  rw [h]

/-- The factor that carries the sums over to the new shift. -/
theorem pay40_at (m : FVec Ideal S512x1 .f32) (r : FVec Ideal S512 .f32) (a : Fin 512) (e : Fin 1) :
    k0_pay40 m r (ix2 a e) = Ideal.exp (m (ix2 a e) - k0_pay39 m r (ix2 a e)) := by
  unfold k0_pay40
  generalize k0_pay39 m r = m'
  pointwise []

/-- The exponentials under the new shift. -/
theorem pay41_at (m : FVec Ideal S512x1 .f32) (s : FVec Ideal S512x512 .f32) (r : FVec Ideal S512 .f32) (a b : Fin 512) :
    k0_pay41 m s r (ix2 a b) = Ideal.exp (s (ix2 a b) - k0_pay39 m r (ix2 a 0)) := by
  unfold k0_pay41
  generalize k0_pay39 m r = m'
  pointwise []

/-- The sum of exponentials after a step. -/
theorem step_sum (z : St) (s : FVec Ideal S512x512 .f32) (v : Vec Ideal S1x512x128 .bf16) (a : Fin 512) :
    (step z s v).2.1 (ix2 a 0) = Ideal.exp (z.1 (ix2 a 0) - (step z s v).1 (ix2 a 0)) * z.2.1 (ix2 a 0)
      + ∑ b : Fin 512, Ideal.exp (s (ix2 a b) - (step z s v).1 (ix2 a 0)) := by
  have h1 := pay40_at z.1 (tops s) a 0
  have h2 := pay41_at z.1 s (tops s) a
  unfold step k0_pay42
  dsimp only
  revert h1 h2
  generalize k0_pay41 z.1 s (tops s) = p
  generalize k0_pay40 z.1 (tops s) = α
  generalize k0_pay39 z.1 (tops s) = m'
  intro h1 h2
  pointwise []
  simp only [h1, h2]

/-- The weighted sum of values after a step. -/
theorem step_acc (z : St) (s : FVec Ideal S512x512 .f32) (v : Vec Ideal S1x512x128 .bf16) (a : Fin 512) (c : Fin 128) :
    (step z s v).2.2 (ix2 a c) = Ideal.exp (z.1 (ix2 a 0) - (step z s v).1 (ix2 a 0)) * z.2.2 (ix2 a c)
      + ∑ b : Fin 512, Ideal.exp (s (ix2 a b) - (step z s v).1 (ix2 a 0)) * v (ix3 0 b c) := by
  have h1 := pay40_at z.1 (tops s) a 0
  have h2 := pay41_at z.1 s (tops s) a
  unfold step k0_pay43
  dsimp only
  revert h1 h2
  generalize k0_pay41 z.1 s (tops s) = p
  generalize k0_pay40 z.1 (tops s) = α
  generalize k0_pay39 z.1 (tops s) = m'
  intro h1 h2
  pointwise []
  simp only [h1, h2]

/-! ## The scores -/

/-- The scores of a block of keys, none masked. -/
theorem scores_at (q : FVec Ideal S512x128 .bf16) (k : Vec Ideal S1x512x128 .bf16) (a b : Fin 512) :
    k0_pay9 q k (ix2 a b) = (∑ c : Fin 128, q (ix2 a c) * k (ix3 0 b c)) * Ideal.ofBits .f32 0x3DD105EC#32 := by
  unfold k0_pay9
  pointwise []

/-- The queries of a half, as a matrix. -/
theorem pay35_at (q : Vec Ideal S1x512x128 .bf16) (a : Fin 512) (c : Fin 128) : k0_pay35 q (ix2 a c) = q (ix3 0 a c) := by
  unfold k0_pay35
  pointwise []

/-- The named mask is −∞. -/
theorem mask_bot : (Named.named κ "mask" 0xF149F2CA#32 : Ideal .f32) = (⊥ : EReal) :=
  IdealRules.named_const.ideal_named_scalar _ _ _ _ rfl

/-- The number of the group of 64 that a row belongs to, as the program counts it. -/
theorem row_group : ∀ (n : Fin 4) (h : Fin 2) (b : Fin 512),
    IntOp.shrui .vector (IntOp.addi (Scalar.muli (Scalar.addi (Scalar.muli 2#32 (BitVec.ofNat 32 n.val)) (BitVec.ofNat 32 h.val)) 512#32)
      (BitVec.ofNat 32 b.val)) 6#32 = BitVec.ofNat 32 (((2 * n.val + h.val) * 512 + b.val) / 64) := by
  decide +kernel

/-- A choice between two values, by a bit. -/
theorem sel (c : BitVec 1) (u w : EReal) : Scalar.select c u w = if c = 1#1 then u else w := rfl

/-- The masked scores of the first 512 rows of a point. -/
theorem masked_at (i : grid0.Coords) (n : Fin 4) (hn : (i 1).val = n.val) (q : Vec Ideal S1x512x128 .bf16) (k : Vec Ideal S1x512x128 .bf16) (a b : Fin 512) :
    k0_pay52 (k0_pay49 q k) (k0_pay50 i) (k0_pay51 i) (ix2 a b)
      = if ((2 * n.val + 0) * 512 + b.val) / 64 ≤ ((2 * n.val + 0) * 512 + a.val) / 64 then k0_pay9 (k0_pay35 q) k (ix2 a b) else ⊥ := by
  have e : k0_pay49 q k = k0_pay9 (k0_pay35 q) k := rfl
  rw [e]
  unfold k0_pay52 k0_pay50 k0_pay51
  generalize k0_pay9 (k0_pay35 q) k = s
  pointwise []
  have g := fun b => row_group n 0 b
  rw [hn]
  rw [show (0 : Fin 2).val = 0 from rfl, show BitVec.ofNat 32 0 = 0#32 from rfl] at g
  rw [g, g, mask_bot]
  have h := WordCmp.cmpi_sle_ofNat_eq_one_iff (w := 32) (a := ((2 * n.val + 0) * 512 + b.val) / 64)
    (b := ((2 * n.val + 0) * 512 + a.val) / 64) (by omega) (by omega)
  rw [sel]
  by_cases g : ((2 * n.val + 0) * 512 + b.val) / 64 ≤ ((2 * n.val + 0) * 512 + a.val) / 64
  · rw [if_pos (h.2 g)]
    exact (if_pos g).symm
  · rw [if_neg fun e => g (h.1 e)]
    exact (if_neg g).symm

/-- The masked scores of the other 512 rows of a point. -/
theorem masked'_at (n : Fin 4) (q : FVec Ideal S512x128 .bf16) (k : Vec Ideal S1x512x128 .bf16) (a b : Fin 512) :
    k0_pay80 (BitVec.ofNat 32 n.val) q (Scalar.muli (Scalar.addi (Scalar.muli 2#32 (BitVec.ofNat 32 n.val)) 1#32) 512#32) k (ix2 a b)
      = if ((2 * n.val + 1) * 512 + b.val) / 64 ≤ ((2 * n.val + 1) * 512 + a.val) / 64 then k0_pay9 q k (ix2 a b) else ⊥ := by
  rw [scores_at]
  unfold k0_pay80
  pointwise []
  have g := fun b => row_group n 1 b
  rw [show (1 : Fin 2).val = 1 from rfl, show BitVec.ofNat 32 1 = 1#32 from rfl] at g
  rw [g, g, mask_bot]
  have h := WordCmp.cmpi_sle_ofNat_eq_one_iff (w := 32) (a := ((2 * n.val + 1) * 512 + b.val) / 64)
    (b := ((2 * n.val + 1) * 512 + a.val) / 64) (by omega) (by omega)
  rw [sel]
  by_cases g : ((2 * n.val + 1) * 512 + b.val) / 64 ≤ ((2 * n.val + 1) * 512 + a.val) / 64
  · rw [if_pos (h.2 g), if_pos g]
  · rw [if_neg fun e => g (h.1 e), if_neg g]

/-! ## The steps of the program are `step` -/

variable (q : FVec Ideal S512x128 .bf16) (z : St) (k k' v v' : Vec Ideal S1x512x128 .bf16) (s : FVec Ideal S512x512 .f32)

/-- The start: −∞, zero and zeros. -/
def init : St := (k0_pay36 (F := Ideal), k0_pay37 (F := Ideal), k0_pay38 (F := Ideal))

/-- The start's shift. -/
theorem init_top (a : Fin 512) (e : Fin 1) : init.1 (ix2 a e) = ⊥ := mask_bot
/-- The start's sum. -/
theorem init_sum (a : Fin 512) (e : Fin 1) : init.2.1 (ix2 a e) = 0 := by
  unfold init k0_pay37
  pointwise []
/-- The start's weighted sum. -/
theorem init_acc (a : Fin 512) (c : Fin 128) : init.2.2 (ix2 a c) = 0 := by
  unfold init k0_pay38
  pointwise []

/-- A trip of the loop is two steps. -/
theorem step_b : ((k0_pay39 (k0_pay4 q z.1 k) (k0_pay10 q k'),
      k0_pay42 (k0_pay4 q z.1 k) (k0_pay7 q z.1 z.2.1 k) (k0_pay9 q k') (k0_pay10 q k'),
      k0_pay43 (k0_pay4 q z.1 k) (k0_pay8 q z.1 z.2.2 k v) (k0_pay9 q k') (k0_pay10 q k') v') : St)
    = step (step z (k0_pay9 q k) v) (k0_pay9 q k') v' := rfl

/-- So is a trip of the second half's loop. -/
theorem step_b' : ((k0_pay64 (k0_pay20 q z.1 k) (k0_pay26 q k'),
      k0_pay67 (k0_pay20 q z.1 k) (k0_pay23 q z.1 z.2.1 k) (k0_pay25 q k') (k0_pay26 q k'),
      k0_pay68 (k0_pay20 q z.1 k) (k0_pay24 q z.1 z.2.2 k v) (k0_pay25 q k') (k0_pay26 q k') v') : St)
    = step (step z (k0_pay9 q k) v) (k0_pay9 q k') v' := rfl

/-- The rows' results from a state: the quotient, and the shift plus the logarithm. -/
def quot (z : St) : FVec Ideal S512x128 .f32 := divf z.2.2 (broadcastTo S512x128 z.2.1 broadcasts_S512x1_S512x128)

/-- The rows' logarithms from a state. -/
def lses (z : St) : FVec Ideal S1x512x1 .f32 := k0_pay1 z.1 z.2.1

/-- A row's output from a state. -/
theorem quot_at (a : Fin 512) (c : Fin 128) : quot z (ix2 a c) = Ideal.div (z.2.2 (ix2 a c)) (z.2.1 (ix2 a 0)) := by
  unfold quot
  pointwise []

/-- A row's logarithm from a state. -/
theorem lses_at (e : Fin 1) (a : Fin 512) (e' : Fin 1) : lses z (ix3 e a e') = z.1 (ix2 a 0) + Ideal.log (z.2.1 (ix2 a 0)) := by
  unfold lses k0_pay1
  pointwise []

variable (g g' : IVec S512x512 32) (w w' : BitVec 32)

/-- The first half's output is the quotient after the masked step. -/
theorem out_a : k0_pay57 z.1 z.2.1 z.2.2 s g g' v = quot (step z (k0_pay52 s g g') v) := rfl

/-- Its logarithms are those after the masked step. -/
theorem lse_a : k0_pay58 z.1 z.2.1 s g g' = lses (step z (k0_pay52 s g g') v) := rfl

/-- The second half's output is the quotient after one more step and the masked one. -/
theorem out_c : k0_pay85 w q w' (k0_pay75 q z.1 k) (k0_pay78 q z.1 z.2.1 k) (k0_pay79 q z.1 z.2.2 k v) k' v'
    = quot (step (step z (k0_pay9 q k) v) (k0_pay80 w q w' k') v') := rfl

/-- Its logarithms are those after both steps. -/
theorem lse_c : k0_pay1 (k0_pay81 w q w' (k0_pay75 q z.1 k) k') (k0_pay84 w q w' (k0_pay75 q z.1 k) (k0_pay78 q z.1 z.2.1 k) k')
    = lses (step (step z (k0_pay9 q k) v) (k0_pay80 w q w' k') v') := rfl

/-- The second head adds the first half's output to what the first head left. -/
theorem add_a (p : Vec Ideal S512x128 .f32) (a : Fin 512) (c : Fin 128) :
    k0_pay59 z.1 z.2.1 z.2.2 s g g' v p (ix2 a c) = p (ix2 a c) + quot (step z (k0_pay52 s g g') v) (ix2 a c) := by
  rw [← out_a]
  unfold k0_pay59
  generalize k0_pay57 z.1 z.2.1 z.2.2 s g g' v = o
  pointwise []

/-- So it does with the second half's. -/
theorem add_b (o p : FVec Ideal S512x128 .f32) (a : Fin 512) (c : Fin 128) : k0_pay2 o p (ix2 a c) = p (ix2 a c) + o (ix2 a c) := by
  unfold k0_pay2
  pointwise []

end Cert.Kernel10Ideal.Fwd
-- ==== Proof.FwdLoop.lean ====
/- What a point of the forward attention leaves in its blocks, as steps over the blocks of keys. -/
module

public import proofs.«01_k».proof.Proof.FwdPay
public import Idealize.ShloMosaic.Lib.Pipeline.ValueKit.Tiles

@[expose] public section

set_option maxRecDepth 16384

noncomputable section

namespace Cert.Kernel10Ideal.Fwd

open Cert.Kernel10Ideal Cert.Kernel10Ideal.Gen
open Idealize.ShloMosaic Idealize.ShloMosaic.TcCoe Idealize.ShloMosaic.Tactic

/-! ## Blocks of the windows -/

/-- Block `j` of 512 keys. -/
def blk (x : Vec Ideal S1x4096x128 .bf16) (j : ℕ) : Vec Ideal S1x512x128 .bf16 :=
  fun y => x (ix3 0 (Fin.ofNat 4096 (512 * j + (y 1).val)) (y 2))

/-- A block of keys at an index. -/
theorem blk_at (x : Vec Ideal S1x4096x128 .bf16) (j : ℕ) (e : Fin 1) (b : Fin 512) (l : Fin 128) :
    blk x j (ix3 e b l) = x (ix3 0 (Fin.ofNat 4096 (512 * j + b.val)) l) := rfl

/-- A load of 512 keys is a block. -/
theorem ld_blk (x : Vec Ideal S1x4096x128 .bf16) (off : Fin 3 → ℕ) (inb : ∀ a, off a + (![1, 512, 128] : Fin 3 → ℕ) a ≤ S1x4096x128.size a) (j : ℕ)
    (h : off = ![0, 512 * j, 0]) : View.ld x (Rect.unit (s := S1x4096x128) off ![1, 512, 128] inb) = blk x j := by
  subst h
  refine funext fun (y : S1x512x128.Idx) => ?_
  obtain ⟨e, b, l, rfl⟩ : ∃ e b l, y = ix3 e b l := ⟨y 0, y 1, y 2, eq_ix3 y⟩
  rw [blk_at]
  refine View.ld_unit_apply_of x _ _ inb _ _ fun a => ?_
  have h1 := inb 1
  have h1' : 512 * j + 512 ≤ 4096 := h1
  have := b.isLt
  have := e.isLt
  fin_cases a
  · show (0 : ℕ) = 0 + e.val
    omega
  · show (512 * j + b.val) % 4096 = 512 * j + b.val
    omega
  · show l.val = 0 + l.val
    omega

/-- The queries of the half `h` of a point's rows. -/
def qblk (x : Vec Ideal S1x1024x128 .bf16) (h : ℕ) : Vec Ideal S1x512x128 .bf16 :=
  fun y => x (ix3 0 (Fin.ofNat 1024 (512 * h + (y 1).val)) (y 2))

/-- A half's queries at an index. -/
theorem qblk_at (x : Vec Ideal S1x1024x128 .bf16) (h : ℕ) (e : Fin 1) (b : Fin 512) (l : Fin 128) :
    qblk x h (ix3 e b l) = x (ix3 0 (Fin.ofNat 1024 (512 * h + b.val)) l) := rfl

/-- A load of 512 queries is a half. -/
theorem ld_qblk (x : Vec Ideal S1x1024x128 .bf16) (off : Fin 3 → ℕ) (inb : ∀ a, off a + (![1, 512, 128] : Fin 3 → ℕ) a ≤ S1x1024x128.size a) (j : ℕ)
    (h : off = ![0, 512 * j, 0]) : View.ld x (Rect.unit (s := S1x1024x128) off ![1, 512, 128] inb) = qblk x j := by
  subst h
  refine funext fun (y : S1x512x128.Idx) => ?_
  obtain ⟨e, b, l, rfl⟩ : ∃ e b l, y = ix3 e b l := ⟨y 0, y 1, y 2, eq_ix3 y⟩
  rw [qblk_at]
  refine View.ld_unit_apply_of x _ _ inb _ _ fun a => ?_
  have h1 := inb 1
  have h1' : 512 * j + 512 ≤ 1024 := h1
  have := b.isLt
  have := e.isLt
  fin_cases a
  · show (0 : ℕ) = 0 + e.val
    omega
  · show (512 * j + b.val) % 1024 = 512 * j + b.val
    omega
  · show l.val = 0 + l.val
    omega

/-! ## The state after whole blocks -/

/-- The state after the first `n` blocks of keys, none of them masked. -/
def steps (q : FVec Ideal S512x128 .bf16) (x1 x2 : Vec Ideal S1x4096x128 .bf16) : ℕ → St
  | 0 => init
  | n + 1 => step (steps q x1 x2 n) (k0_pay9 q (blk x1 n)) (blk x2 n)

/-- The mask of the last block: a key is kept where its group does not come after the row's. -/
def masked (n h : ℕ) (s : FVec Ideal S512x512 .f32) : FVec Ideal S512x512 .f32 :=
  fun y => if ((2 * n + h) * 512 + (y 1).val) / 64 ≤ ((2 * n + h) * 512 + (y 0).val) / 64 then s y else (⊥ : EReal)

/-- The state of half `h` of the rows of pair `n` after all its blocks of keys. -/
def last (x0 : Vec Ideal S1x1024x128 .bf16) (x1 x2 : Vec Ideal S1x4096x128 .bf16) (n h : ℕ) : St :=
  step (steps (k0_pay35 (qblk x0 h)) x1 x2 (2 * n + h)) (masked n h (k0_pay9 (k0_pay35 (qblk x0 h)) (blk x1 (2 * n + h))))
    (blk x2 (2 * n + h))

/-- The first half's masked scores. -/
theorem masked_eq (i : grid0.Coords) (q : Vec Ideal S1x512x128 .bf16) (k : Vec Ideal S1x512x128 .bf16) :
    k0_pay52 (k0_pay49 q k) (k0_pay50 i) (k0_pay51 i) = masked (i 1).val 0 (k0_pay9 (k0_pay35 q) k) := by
  refine funext fun (y : S512x512.Idx) => ?_
  obtain ⟨a, b, rfl⟩ : ∃ a b, y = ix2 a b := ⟨y 0, y 1, eq_ix2 y⟩
  exact masked_at i (i 1) rfl q k a b

/-- The second half's masked scores. -/
theorem masked'_eq (n : Fin 4) (q : FVec Ideal S512x128 .bf16) (k : Vec Ideal S1x512x128 .bf16) :
    k0_pay80 (BitVec.ofNat 32 n.val) q (Scalar.muli (Scalar.addi (Scalar.muli 2#32 (BitVec.ofNat 32 n.val)) 1#32) 512#32) k
      = masked n.val 1 (k0_pay9 q k) := by
  refine funext fun (y : S512x512.Idx) => ?_
  obtain ⟨a, b, rfl⟩ : ∃ a b, y = ix2 a b := ⟨y 0, y 1, eq_ix2 y⟩
  exact masked'_at n q k a b

/-! ## The loops -/

/-- The upper bound of the loops over pairs of blocks, as the program computes it. -/
abbrev bound (w : BitVec 32) : BitVec 32 := Scalar.addi 0#32 (Scalar.muli (Scalar.divsi (Scalar.subi w 0#32) 1#32) 1#32)

/-- The loop over pairs of blocks takes as many trips as the pair's number. -/
theorem trips_pair : ∀ n : Fin 4, Scf.trips 0#32 (bound (BitVec.ofNat 32 n.val)) 1#32 = n.val := by decide +kernel

/-- The loop over the remainder takes none. -/
theorem trips_rest : ∀ n : Fin 4, Scf.trips (bound (BitVec.ofNat 32 n.val)) (Scalar.addi 0#32 (Scalar.subi (BitVec.ofNat 32 n.val) 0#32)) 1#32 = 0 := by
  decide +kernel

/-- No point takes more than four trips. -/
theorem trips_le (i : grid0.Coords) : (k0_t1_loop i).trips ≤ 4 := le_trans (le_of_eq (trips_pair (i 1))) (i 1).isLt.le

/-- The blocks of keys lie in the window. -/
theorem inb_of (off : Fin 3 → ℕ) (j : ℕ) (h : off = ![0, 512 * j, 0]) (hj : j < 8) (a : Fin 3) :
    off a + (![1, 512, 128] : Fin 3 → ℕ) a ≤ S1x4096x128.size a := by
  subst h
  fin_cases a
  · exact le_rfl
  · show 512 * j + 512 ≤ 4096
    omega
  · exact le_rfl

section

variable (c : Dev nD) (i : grid0.Coords) (a3 : Memref sig .tc .vmem S1x1024x128 .bf16) (h3 : a3.IsWhole)
  (a4 : Memref sig .tc .vmem S1x4096x128 .bf16) (h4 : a4.IsWhole) (a5 : Memref sig .tc .vmem S1x4096x128 .bf16) (h5 : a5.IsWhole)
  (a6 : Memref sig .tc .vmem S1024x128 .f32) (h6 : a6.IsWhole) (a7 : Memref sig .tc .vmem S1x1024x1 .f32) (h7 : a7.IsWhole)
  (x0 : Vec Ideal S1x1024x128 .bf16) (x1 x2 : Vec Ideal S1x4096x128 .bf16) (xo : Vec Ideal S1024x128 .f32)

/-- A trip of the first half's loop takes two blocks. -/
theorem trip1 (v0 : Vec Ideal S1x512x128 .bf16) (k : Fin (k0_t1_loop i).trips) (acc : St) :
    tripR_k0_t1 Variants.none c none i a3 h3 a4 h4 a5 h5 a6 h6 a7 h7 v0 (h4.unread x1) (h5.unread x2) k acc
      = step (step acc (k0_pay9 (k0_pay35 v0) (blk x1 (2 * k.val))) (blk x2 (2 * k.val)))
          (k0_pay9 (k0_pay35 v0) (blk x1 (2 * k.val + 1))) (blk x2 (2 * k.val + 1)) := by
  have hk : k.val < 4 := lt_of_lt_of_le k.isLt (trips_le i)
  have e1 : k0_off1 i k = ![0, 512 * (2 * k.val), 0] := by rw [k0_off1_eq]; congr 2; omega
  have e2 : k0_off2 i k = ![0, 512 * (2 * k.val + 1), 0] := by rw [k0_off2_eq]; congr 2; omega
  have b1 : ∀ a, k0_off1 i k a + (![1, 512, 128] : Fin 3 → ℕ) a ≤ S1x4096x128.size a := inb_of _ _ e1 (by omega)
  have b2 : ∀ a, k0_off2 i k a + (![1, 512, 128] : Fin 3 → ℕ) a ≤ S1x4096x128.size a := inb_of _ _ e2 (by omega)
  rw [← ld_blk x1 _ b1 _ e1, ← ld_blk x1 _ b2 _ e2, ← ld_blk x2 _ b1 _ e1, ← ld_blk x2 _ b2 _ e2]
  have u1 : trip_k0_t1.sl.v184 i a4 v0 (h4.unread x1) k acc
      = k0_pay4 (k0_pay35 v0) acc.1 (View.ld x1 (Rect.unit (s := S1x4096x128) (k0_off1 i k) ![1, 512, 128] b1)) := by
    sl_unfold_words
    simp only [View.readAt_eq_ld, h4.read_unread]
    rfl
  have u2 : trip_k0_t1.sl.v193 i a4 v0 (h4.unread x1) k acc
      = k0_pay7 (k0_pay35 v0) acc.1 acc.2.1 (View.ld x1 (Rect.unit (s := S1x4096x128) (k0_off1 i k) ![1, 512, 128] b1)) := by
    sl_unfold_words
    simp only [View.readAt_eq_ld, h4.read_unread]
    rfl
  have u3 : trip_k0_t1.sl.v201 i a4 a5 v0 (h4.unread x1) (h5.unread x2) k acc
      = k0_pay8 (k0_pay35 v0) acc.1 acc.2.2 (View.ld x1 (Rect.unit (s := S1x4096x128) (k0_off1 i k) ![1, 512, 128] b1))
          (View.ld x2 (Rect.unit (s := S1x4096x128) (k0_off1 i k) ![1, 512, 128] b1)) := by
    sl_unfold_words
    simp only [View.readAt_eq_ld, h4.read_unread, h5.read_unread]
    rfl
  have u4 : trip_k0_t1.sl.v209 i a4 v0 (h4.unread x1) k
      = k0_pay9 (k0_pay35 v0) (View.ld x1 (Rect.unit (s := S1x4096x128) (k0_off2 i k) ![1, 512, 128] b2)) := by
    sl_unfold_words
    simp only [View.readAt_eq_ld, h4.read_unread]
    rfl
  have u5 : trip_k0_t1.sl.v210 i a4 v0 (h4.unread x1) k
      = k0_pay10 (k0_pay35 v0) (View.ld x1 (Rect.unit (s := S1x4096x128) (k0_off2 i k) ![1, 512, 128] b2)) := by
    sl_unfold_words
    simp only [View.readAt_eq_ld, h4.read_unread]
    rfl
  unfold tripR_k0_t1 trip_k0_t1
  dsimp only
  simp only [View.readAt_eq_ld, h4.read_unread, h5.read_unread, u1, u2, u3, u4, u5]
  exact step_b (k0_pay35 v0) acc _ _ _ _

/-- A trip of the second half's loop takes two blocks. -/
theorem trip3 (w w' w'' : BitVec 32) (q : FVec Ideal S512x128 .bf16) (k : Fin (k0_t3_loop i).trips) (acc : St) :
    tripR_k0_t3 Variants.none c none i a3 h3 a4 h4 a5 h5 a6 h6 a7 h7 w q w' w'' (h4.unread x1) (h5.unread x2) k acc
      = step (step acc (k0_pay9 q (blk x1 (2 * k.val))) (blk x2 (2 * k.val)))
          (k0_pay9 q (blk x1 (2 * k.val + 1))) (blk x2 (2 * k.val + 1)) := by
  have hk : k.val < 4 := lt_of_lt_of_le k.isLt (trips_le i)
  have e1 : k0_off6 i k = ![0, 512 * (2 * k.val), 0] := by rw [k0_off6_eq]; congr 2; omega
  have e2 : k0_off7 i k = ![0, 512 * (2 * k.val + 1), 0] := by rw [k0_off7_eq]; congr 2; omega
  have b1 : ∀ a, k0_off6 i k a + (![1, 512, 128] : Fin 3 → ℕ) a ≤ S1x4096x128.size a := inb_of _ _ e1 (by omega)
  have b2 : ∀ a, k0_off7 i k a + (![1, 512, 128] : Fin 3 → ℕ) a ≤ S1x4096x128.size a := inb_of _ _ e2 (by omega)
  rw [← ld_blk x1 _ b1 _ e1, ← ld_blk x1 _ b2 _ e2, ← ld_blk x2 _ b1 _ e1, ← ld_blk x2 _ b2 _ e2]
  have u1 : trip_k0_t3.sl.v184 i a4 q (h4.unread x1) k acc
      = k0_pay20 q acc.1 (View.ld x1 (Rect.unit (s := S1x4096x128) (k0_off6 i k) ![1, 512, 128] b1)) := by
    sl_unfold_words
    simp only [View.readAt_eq_ld, h4.read_unread]
    rfl
  have u2 : trip_k0_t3.sl.v193 i a4 q (h4.unread x1) k acc
      = k0_pay23 q acc.1 acc.2.1 (View.ld x1 (Rect.unit (s := S1x4096x128) (k0_off6 i k) ![1, 512, 128] b1)) := by
    sl_unfold_words
    simp only [View.readAt_eq_ld, h4.read_unread]
    rfl
  have u3 : trip_k0_t3.sl.v201 i a4 a5 q (h4.unread x1) (h5.unread x2) k acc
      = k0_pay24 q acc.1 acc.2.2 (View.ld x1 (Rect.unit (s := S1x4096x128) (k0_off6 i k) ![1, 512, 128] b1))
          (View.ld x2 (Rect.unit (s := S1x4096x128) (k0_off6 i k) ![1, 512, 128] b1)) := by
    sl_unfold_words
    simp only [View.readAt_eq_ld, h4.read_unread, h5.read_unread]
    rfl
  have u4 : trip_k0_t3.sl.v209 i a4 q (h4.unread x1) k
      = k0_pay25 q (View.ld x1 (Rect.unit (s := S1x4096x128) (k0_off7 i k) ![1, 512, 128] b2)) := by
    sl_unfold_words
    simp only [View.readAt_eq_ld, h4.read_unread]
    rfl
  have u5 : trip_k0_t3.sl.v210 i a4 q (h4.unread x1) k
      = k0_pay26 q (View.ld x1 (Rect.unit (s := S1x4096x128) (k0_off7 i k) ![1, 512, 128] b2)) := by
    sl_unfold_words
    simp only [View.readAt_eq_ld, h4.read_unread]
    rfl
  unfold tripR_k0_t3 trip_k0_t3
  dsimp only
  simp only [View.readAt_eq_ld, h4.read_unread, h5.read_unread, u1, u2, u3, u4, u5]
  exact step_b' q acc _ _ _ _

/-- The state after the first half's loop. -/
theorem st1 (v0 : Vec Ideal S1x512x128 .bf16) :
    st_k0_t1 Variants.none c none i a3 h3 a4 h4 a5 h5 a6 h6 a7 h7 v0 (h4.unread x1) (h5.unread x2)
      (k0_pay36 (F := Ideal), k0_pay37 (F := Ideal), k0_pay38 (F := Ideal)) (i 1).val = steps (k0_pay35 v0) x1 x2 (2 * (i 1).val) := by
  have key : ∀ n, n ≤ (k0_t1_loop i).trips → st_k0_t1 Variants.none c none i a3 h3 a4 h4 a5 h5 a6 h6 a7 h7 v0 (h4.unread x1) (h5.unread x2)
      (k0_pay36 (F := Ideal), k0_pay37 (F := Ideal), k0_pay38 (F := Ideal)) n = steps (k0_pay35 v0) x1 x2 (2 * n) := by
    intro n
    induction n with
    | zero => intro _; rfl
    | succ n ih =>
      intro h
      refine (st_k0_t1_succ _ _ _ _ _ _ _ _ _ _ _ _ _ _ _ _ _ _ ⟨n, h⟩).trans ?_
      rw [trip1]
      show step (step (st_k0_t1 _ _ _ _ _ _ _ _ _ _ _ _ _ _ _ _ _ _ n) _ _) _ _ = _
      rw [ih (Nat.le_of_succ_le h)]
      rfl
  exact key _ (le_of_eq (trips_pair (i 1)).symm)

/-- The state after the second half's loop. -/
theorem st3 (w w' w'' : BitVec 32) (q : FVec Ideal S512x128 .bf16) :
    st_k0_t3 Variants.none c none i a3 h3 a4 h4 a5 h5 a6 h6 a7 h7 w q w' w'' (h4.unread x1) (h5.unread x2)
      (k0_pay61 (F := Ideal), k0_pay62 (F := Ideal), k0_pay63 (F := Ideal)) (i 1).val = steps q x1 x2 (2 * (i 1).val) := by
  have key : ∀ n, n ≤ (k0_t3_loop i).trips → st_k0_t3 Variants.none c none i a3 h3 a4 h4 a5 h5 a6 h6 a7 h7 w q w' w'' (h4.unread x1) (h5.unread x2)
      (k0_pay61 (F := Ideal), k0_pay62 (F := Ideal), k0_pay63 (F := Ideal)) n = steps q x1 x2 (2 * n) := by
    intro n
    induction n with
    | zero => intro _; rfl
    | succ n ih =>
      intro h
      refine (st_k0_t3_succ _ _ _ _ _ _ _ _ _ _ _ _ _ _ _ _ _ _ _ _ _ ⟨n, h⟩).trans ?_
      rw [trip3]
      show step (step (st_k0_t3 _ _ _ _ _ _ _ _ _ _ _ _ _ _ _ _ _ _ _ _ _ n) _ _) _ _ = _
      rw [ih (Nat.le_of_succ_le h)]
      rfl
  exact key _ (le_of_eq (trips_pair (i 1)).symm)

/-- The words of the upper bounds, at a point. -/
theorem trips_pair' : Scf.trips 0#32 (bound (BitVec.ofNat 32 (i 1).val)) 1#32 = (i 1).val := trips_pair (i 1)

/-- The remainder's trips, at a point. -/
theorem trips_rest' : Scf.trips (bound (BitVec.ofNat 32 (i 1).val)) (Scalar.addi 0#32 (Scalar.subi (BitVec.ofNat 32 (i 1).val) 0#32)) 1#32 = 0 :=
  trips_rest (i 1)

/-- The block before the last of the second half, in rows. -/
theorem at_10 : k0_off10 i = ![0, 512 * (2 * (i 1).val), 0] := by
  rw [k0_off10_eq]; congr 2; omega

/-- The last block of a half, in rows. -/
theorem at_5 (r : Fin 2) : k0_off5 i (BitVec.ofNat 32 r.val) = ![0, 512 * (2 * (i 1).val + r.val), 0] := by
  rw [k0_off5_eq]; congr 2; omega

/-- The state after the whole blocks of the first half: the shifts. -/
theorem top_A : kernelRun0_A.sl.r c i a3 h3 a4 h4 a5 h5 a6 h6 a7 h7 x0 x1 x2 = (steps (k0_pay35 (qblk x0 0)) x1 x2 (2 * (i 1).val)).1 := by
  sl_unfold_words
  simp only [View.readAt_eq_ld, h3.read_unread, h4.read_unread, h5.read_unread, trips_pair', trips_rest', st_k0_t2_zero, Prod.mk.eta]
  rw [ld_qblk x0 _ _ 0 rfl]
  exact congrArg (·.1) (st1 ..)

/-- The sums. -/
theorem sum_A : kernelRun0_A.sl.r_1 c i a3 h3 a4 h4 a5 h5 a6 h6 a7 h7 x0 x1 x2 = (steps (k0_pay35 (qblk x0 0)) x1 x2 (2 * (i 1).val)).2.1 := by
  sl_unfold_words
  simp only [View.readAt_eq_ld, h3.read_unread, h4.read_unread, h5.read_unread, trips_pair', trips_rest', st_k0_t2_zero, Prod.mk.eta]
  rw [ld_qblk x0 _ _ 0 rfl]
  exact congrArg (·.2.1) (st1 ..)

/-- The weighted sums. -/
theorem acc_A : kernelRun0_A.sl.r_2 c i a3 h3 a4 h4 a5 h5 a6 h6 a7 h7 x0 x1 x2 = (steps (k0_pay35 (qblk x0 0)) x1 x2 (2 * (i 1).val)).2.2 := by
  sl_unfold_words
  simp only [View.readAt_eq_ld, h3.read_unread, h4.read_unread, h5.read_unread, trips_pair', trips_rest', st_k0_t2_zero, Prod.mk.eta]
  rw [ld_qblk x0 _ _ 0 rfl]
  exact congrArg (·.2.2) (st1 ..)

/-- The last block's scores. -/
theorem scores_A : kernelRun0_A.sl.r_3 c i a3 h3 a4 h4 x0 x1 = k0_pay49 (qblk x0 0) (blk x1 (2 * (i 1).val)) := by
  sl_unfold_words
  simp only [View.readAt_eq_ld, h3.read_unread, h4.read_unread]
  rw [ld_qblk x0 _ _ 0 rfl]
  erw [ld_blk x1 _ _ (2 * (i 1).val) (at_5 i 0)]

/-- The second half's output. -/
theorem out_A : kernelRun0_A.sl.r_10 c i a3 h3 a4 h4 a5 h5 a6 h6 a7 h7 x0 x1 x2 = quot (last x0 x1 x2 (i 1).val 1) := by
  sl_unfold_words
  simp only [View.readAt_eq_ld, h3.read_unread, h4.read_unread, h5.read_unread, trips_pair', trips_rest', st_k0_t4_zero, Prod.mk.eta]
  rw [ld_qblk x0 _ _ 1 rfl]
  erw [st3 c i a3 h3 a4 h4 a5 h5 a6 h6 a7 h7 x1 x2, ld_blk x1 _ _ _ (at_10 i), ld_blk x2 _ _ _ (at_10 i),
    ld_blk x1 _ _ _ (at_5 i 1), ld_blk x2 _ _ _ (at_5 i 1)]
  refine (out_c ..).trans ?_
  erw [masked'_eq (i 1)]
  rfl

/-- The second half's logarithms. -/
theorem lse_A : k0_pay1 (kernelRun0_A.sl.r_8 c i a3 h3 a4 h4 a5 h5 a6 h6 a7 h7 x0 x1 x2)
            (kernelRun0_A.sl.r_9 c i a3 h3 a4 h4 a5 h5 a6 h6 a7 h7 x0 x1 x2) = lses (last x0 x1 x2 (i 1).val 1) := by
  sl_unfold_words
  simp only [View.readAt_eq_ld, h3.read_unread, h4.read_unread, h5.read_unread, trips_pair', trips_rest', st_k0_t4_zero, Prod.mk.eta]
  rw [ld_qblk x0 _ _ 1 rfl]
  erw [st3 c i a3 h3 a4 h4 a5 h5 a6 h6 a7 h7 x1 x2, ld_blk x1 _ _ _ (at_10 i), ld_blk x1 _ _ _ (at_5 i 1)]
  refine (lse_c (v := blk x2 (2 * (i 1).val)) (v' := blk x2 (2 * (i 1).val + 1)) ..).trans ?_
  erw [masked'_eq (i 1)]
  rfl

/-! ## The two windows -/

/-- The rows' outputs from the halves' states. -/
def outs (f : ℕ → St) : Vec Ideal S1024x128 .f32 := fun y => quot (f ((y 0).val / 512)) (ix2 (Fin.ofNat 512 (y 0).val) (y 1))

/-- The rows' logarithms from the halves' states. -/
def logs (f : ℕ → St) : Vec Ideal S1x1024x1 .f32 := fun y => lses (f ((y 1).val / 512)) (ix3 (y 0) (Fin.ofNat 512 (y 1).val) (y 2))

/-- A half's tile of the outputs. -/
theorem outs_tile (f : ℕ → St) (h : ℕ) (off : Fin 2 → ℕ) (inb : ∀ a, off a + (![512, 128] : Fin 2 → ℕ) a ≤ S1024x128.size a) (e : off = ![512 * h, 0])
    (x : S512x128.Idx) : outs f ((Rect.unit (s := S1024x128) off ![512, 128] inb).emb x) = quot (f h) x := by
  subst e
  obtain ⟨a, l, rfl⟩ : ∃ a l, x = ix2 a l := ⟨x 0, x 1, eq_ix2 x⟩
  have e0 : ((Rect.unit (s := S1024x128) ![512 * h, 0] ![512, 128] inb).emb (ix2 a l) 0).val = 512 * h + a.val := by
    rw [Rect.emb_apply]; show 512 * h + 1 * a.val = _; omega
  have e1 : (Rect.unit (s := S1024x128) ![512 * h, 0] ![512, 128] inb).emb (ix2 a l) 1 = l := by
    refine Fin.ext ?_
    rw [Rect.emb_apply]; show 0 + 1 * l.val = _; omega
  have ha := a.isLt
  unfold outs
  rw [e0, e1, show (512 * h + a.val) / 512 = h by omega, show Fin.ofNat 512 (512 * h + a.val) = a from Fin.ext (by show _ % 512 = _; omega)]

/-- A half's tile of the logarithms. -/
theorem logs_tile (f : ℕ → St) (h : ℕ) (off : Fin 3 → ℕ) (inb : ∀ a, off a + (![1, 512, 1] : Fin 3 → ℕ) a ≤ S1x1024x1.size a) (e : off = ![0, 512 * h, 0])
    (x : S1x512x1.Idx) : logs f ((Rect.unit (s := S1x1024x1) off ![1, 512, 1] inb).emb x) = lses (f h) x := by
  subst e
  obtain ⟨u, a, w, rfl⟩ : ∃ u a w, x = ix3 u a w := ⟨x 0, x 1, x 2, eq_ix3 x⟩
  have e0 : ((Rect.unit (s := S1x1024x1) ![0, 512 * h, 0] ![1, 512, 1] inb).emb (ix3 u a w) 1).val = 512 * h + a.val := by
    rw [Rect.emb_apply]; show 512 * h + 1 * a.val = _; omega
  have e1 : (Rect.unit (s := S1x1024x1) ![0, 512 * h, 0] ![1, 512, 1] inb).emb (ix3 u a w) 0 = u := by
    refine Fin.ext ?_
    rw [Rect.emb_apply]; show 0 + 1 * u.val = _; omega
  have e2 : (Rect.unit (s := S1x1024x1) ![0, 512 * h, 0] ![1, 512, 1] inb).emb (ix3 u a w) 2 = w := by
    refine Fin.ext ?_
    rw [Rect.emb_apply]; show 0 + 1 * w.val = _; omega
  have ha := a.isLt
  unfold logs
  rw [e0, e1, e2, show (512 * h + a.val) / 512 = h by omega, show Fin.ofNat 512 (512 * h + a.val) = a from Fin.ext (by show _ % 512 = _; omega)]

/-- The first half's output. -/
theorem half_out (k v : Vec Ideal S1x512x128 .bf16) (ek : k = blk x1 (2 * (i 1).val)) (ev : v = blk x2 (2 * (i 1).val)) :
    k0_pay57 (steps (k0_pay35 (qblk x0 0)) x1 x2 (2 * (i 1).val)).1 (steps (k0_pay35 (qblk x0 0)) x1 x2 (2 * (i 1).val)).2.1
      (steps (k0_pay35 (qblk x0 0)) x1 x2 (2 * (i 1).val)).2.2 (k0_pay49 (qblk x0 0) k) (k0_pay50 i) (k0_pay51 i) v
      = quot (last x0 x1 x2 (i 1).val 0) := by
  subst ek ev
  rw [out_a, masked_eq]
  rfl

/-- An even head's point: the pair's lanes. -/
theorem lanes_A (hc0 : cond0_0 i) (hc1 : ¬cond0_1 i) (hc2 : cond0_2 i) (hc3 : ¬cond0_3 i) (y : S1024x128.Idx) :
    out0_A_3 c i a3 h3 a4 h4 a5 h5 a6 h6 a7 h7 hc0 hc1 hc2 hc3 x0 x1 x2 y = outs (last x0 x1 x2 (i 1).val) y := by
  have hcov := cover0_A_3 c i a3 h3 a4 h4 a5 h5 a6 h6 a7 h7 hc0 hc1 hc2 hc3 x0 x1 x2 y
  unfold out0_A_3
  refine View.read_writes_apply_of_pieces _ _ (outs (last x0 x1 x2 (i 1).val)) _ ?_ y hcov
  unfold kernelRun0_A
  dsimp only
  simp only [View.readAt_eq_ld, h5.read_unread]
  refine List.forall_mem_cons.2 ⟨fun x => ?_, List.forall_mem_singleton.2 fun x => ?_⟩
  · refine Eq.trans ?_ (outs_tile _ 1 _ inb_S1024x128_S512x128_512_0 rfl x).symm
    exact congrFun (out_A c i a3 h3 a4 h4 a5 h5 a6 h6 a7 h7 x0 x1 x2) x
  · refine Eq.trans ?_ (outs_tile _ 0 _ inb_S1024x128_S512x128_0_0 rfl x).symm
    dsimp only
    rw [top_A, sum_A, acc_A, scores_A]
    exact congrFun (half_out i x0 x1 x2 _ _ rfl (ld_blk x2 _ _ _ (at_5 i 0))) x

/-- An even head's point: the logarithms. -/
theorem logs_A (hc0 : cond0_0 i) (hc1 : ¬cond0_1 i) (hc2 : cond0_2 i) (hc3 : ¬cond0_3 i) (y : S1x1024x1.Idx) :
    out0_A_4 c i a3 h3 a4 h4 a5 h5 a6 h6 a7 h7 hc0 hc1 hc2 hc3 x0 x1 x2 y = logs (last x0 x1 x2 (i 1).val) y := by
  have hcov := cover0_A_4 c i a3 h3 a4 h4 a5 h5 a6 h6 a7 h7 hc0 hc1 hc2 hc3 x0 x1 x2 y
  unfold out0_A_4
  refine View.read_writes_apply_of_pieces _ _ (logs (last x0 x1 x2 (i 1).val)) _ ?_ y hcov
  unfold kernelRun0_A
  dsimp only
  refine List.forall_mem_cons.2 ⟨fun x => ?_, List.forall_mem_singleton.2 fun x => ?_⟩
  · refine Eq.trans ?_ (logs_tile _ 1 _ inb_S1x1024x1_S1x512x1_0_512_0 rfl x).symm
    exact congrFun (lse_A c i a3 h3 a4 h4 a5 h5 a6 h6 a7 h7 x0 x1 x2) x
  · refine Eq.trans ?_ (logs_tile _ 0 _ inb_S1x1024x1_S1x512x1_0_0_0 rfl x).symm
    dsimp only
    rw [top_A, sum_A, scores_A, lse_a (v := blk x2 (2 * (i 1).val)), masked_eq]
    rfl

/-- An odd head's point adds its own to the pair's lanes. -/
theorem lanes_B (hc0 : ¬cond0_0 i) (hc1 : cond0_1 i) (hc2 : ¬cond0_2 i) (hc3 : cond0_3 i) (y : S1024x128.Idx) :
    out0_B_3 c i a3 h3 a4 h4 a5 h5 a6 h6 a7 h7 hc0 hc1 hc2 hc3 x0 x1 x2 xo y = xo y + outs (last x0 x1 x2 (i 1).val) y := by
  have hcov := cover0_B_3 c i a3 h3 a4 h4 a5 h5 a6 h6 a7 h7 hc0 hc1 hc2 hc3 x0 x1 x2 xo y
  unfold out0_B_3
  refine View.read_writes_apply_of_pieces _ _ (fun y => xo y + outs (last x0 x1 x2 (i 1).val) y) _ ?_ y hcov
  have e10 : kernelRun0_B.sl.r_10 c i a3 h3 a4 h4 a5 h5 a6 h6 a7 h7 x0 x1 x2 = quot (last x0 x1 x2 (i 1).val 1) :=
    out_A c i a3 h3 a4 h4 a5 h5 a6 h6 a7 h7 x0 x1 x2
  have e0 : kernelRun0_B.sl.r c i a3 h3 a4 h4 a5 h5 a6 h6 a7 h7 x0 x1 x2 = _ := top_A c i a3 h3 a4 h4 a5 h5 a6 h6 a7 h7 x0 x1 x2
  have e1 : kernelRun0_B.sl.r_1 c i a3 h3 a4 h4 a5 h5 a6 h6 a7 h7 x0 x1 x2 = _ := sum_A c i a3 h3 a4 h4 a5 h5 a6 h6 a7 h7 x0 x1 x2
  have e2 : kernelRun0_B.sl.r_2 c i a3 h3 a4 h4 a5 h5 a6 h6 a7 h7 x0 x1 x2 = _ := acc_A c i a3 h3 a4 h4 a5 h5 a6 h6 a7 h7 x0 x1 x2
  have e3 : kernelRun0_B.sl.r_3 c i a3 h3 a4 h4 x0 x1 = _ := scores_A c i a3 h3 a4 h4 x0 x1
  unfold kernelRun0_B
  dsimp only
  simp only [View.readAt_eq_ld, h5.read_unread, h6.read_unread]
  refine List.forall_mem_cons.2 ⟨fun (x : S512x128.Idx) => ?_, List.forall_mem_singleton.2 fun (x : S512x128.Idx) => ?_⟩
  · refine Eq.trans ?_ (congrArg _ (outs_tile _ 1 _ inb_S1024x128_S512x128_512_0 rfl x).symm)
    dsimp only
    rw [e10]
    obtain ⟨a, l, rfl⟩ : ∃ a l, x = ix2 a l := ⟨x 0, x 1, eq_ix2 x⟩
    refine (add_b _ _ a l).trans ?_
    sl_unfold_words
    simp only [View.readAt_eq_ld, h6.read_unread]
    rfl
  · refine Eq.trans ?_ (congrArg _ (outs_tile _ 0 _ inb_S1024x128_S512x128_0_0 rfl x).symm)
    dsimp only
    rw [e0, e1, e2, e3]
    obtain ⟨a, l, rfl⟩ : ∃ a l, x = ix2 a l := ⟨x 0, x 1, eq_ix2 x⟩
    refine (add_a _ _ _ _ _ _ a l).trans ?_
    rw [masked_eq]
    erw [ld_blk x2 _ _ _ (at_5 i 0)]
    rfl

/-- An odd head's point: the logarithms. -/
theorem logs_B (hc0 : ¬cond0_0 i) (hc1 : cond0_1 i) (hc2 : ¬cond0_2 i) (hc3 : cond0_3 i) (y : S1x1024x1.Idx) :
    out0_B_4 c i a3 h3 a4 h4 a5 h5 a6 h6 a7 h7 hc0 hc1 hc2 hc3 x0 x1 x2 xo y = logs (last x0 x1 x2 (i 1).val) y := by
  have hcov := cover0_B_4 c i a3 h3 a4 h4 a5 h5 a6 h6 a7 h7 hc0 hc1 hc2 hc3 x0 x1 x2 xo y
  unfold out0_B_4
  refine View.read_writes_apply_of_pieces _ _ (logs (last x0 x1 x2 (i 1).val)) _ ?_ y hcov
  have e0 : kernelRun0_B.sl.r c i a3 h3 a4 h4 a5 h5 a6 h6 a7 h7 x0 x1 x2 = _ := top_A c i a3 h3 a4 h4 a5 h5 a6 h6 a7 h7 x0 x1 x2
  have e1 : kernelRun0_B.sl.r_1 c i a3 h3 a4 h4 a5 h5 a6 h6 a7 h7 x0 x1 x2 = _ := sum_A c i a3 h3 a4 h4 a5 h5 a6 h6 a7 h7 x0 x1 x2
  have e3 : kernelRun0_B.sl.r_3 c i a3 h3 a4 h4 x0 x1 = _ := scores_A c i a3 h3 a4 h4 x0 x1
  unfold kernelRun0_B
  dsimp only
  refine List.forall_mem_cons.2 ⟨fun x => ?_, List.forall_mem_singleton.2 fun x => ?_⟩
  · refine Eq.trans ?_ (logs_tile _ 1 _ inb_S1x1024x1_S1x512x1_0_512_0 rfl x).symm
    exact congrFun (lse_A c i a3 h3 a4 h4 a5 h5 a6 h6 a7 h7 x0 x1 x2) x
  · refine Eq.trans ?_ (logs_tile _ 0 _ inb_S1x1024x1_S1x512x1_0_0_0 rfl x).symm
    dsimp only
    rw [e0, e1, e3, lse_a (v := blk x2 (2 * (i 1).val)), masked_eq]
    rfl

end

end Cert.Kernel10Ideal.Fwd
-- ==== Proof.Online.lean ====
/- One row of an attention whose keys are visited block by block: the running largest score, the running sum of
   exponentials and the running weighted sum of values give the row's softmax at the end. Pure arithmetic of the extended reals. -/
module

public import proofs.«01_k».proof.Proof.Grad

@[expose] public section

noncomputable section

namespace Cert.Online

open Idealize.ShloMosaic

/-! ## The exponential and sums of extended reals -/

/-- An exponential is not negative. -/
theorem exp_nonneg (x : EReal) : 0 ≤ Ideal.exp x := by
  induction x with
  | bot => exact le_rfl
  | top => exact le_top
  | coe r => show (0 : EReal) ≤ ((Real.exp r : ℝ) : EReal); exact_mod_cast (Real.exp_pos r).le

/-- An exponential is infinite only where its argument is. -/
theorem exp_ne_top {x : EReal} (h : x ≠ ⊤) : Ideal.exp x ≠ ⊤ := by
  induction x with
  | bot => exact EReal.zero_ne_top
  | top => exact absurd rfl h
  | coe r => exact EReal.coe_ne_top _

/-- Real differences make a product of exponentials one exponential. -/
theorem exp_mul (a b : ℝ) {x : EReal} (hx : x ≠ ⊤) :
    Ideal.exp ((a : EReal) - (b : EReal)) * Ideal.exp (x - (a : EReal)) = Ideal.exp (x - (b : EReal)) := by
  induction x with
  | bot => rw [EReal.bot_sub, EReal.bot_sub]; exact mul_zero _
  | top => exact absurd rfl hx
  | coe r =>
    rw [← EReal.coe_sub, ← EReal.coe_sub, ← EReal.coe_sub]
    show ((Real.exp _ : ℝ) : EReal) * ((Real.exp _ : ℝ) : EReal) = ((Real.exp _ : ℝ) : EReal)
    rw [← EReal.coe_mul, ← Real.exp_add]
    congr 2
    ring

/-- A nonnegative finite factor goes into a sum. -/
theorem mul_sum {ι : Type} (s : Finset ι) (f : ι → EReal) {x : EReal} (h0 : 0 ≤ x) (ht : x ≠ ⊤) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 ht, ih]

/-- The largest of finitely many values, none of them infinite above, is not infinite above. -/
theorem fold_ne_top {n : ℕ} (f : Fin n → EReal) (ht : ∀ i, f i ≠ ⊤) : Finset.univ.fold max ⊥ f ≠ ⊤ :=
  ne_of_lt ((Finset.fold_max_lt _).2 ⟨bot_lt_top, fun x _ => lt_top_iff_ne_top.2 (ht x)⟩)

/-! ## The running state of a row -/

/-- After the first `N` keys: `M` is a shift of the scores `s`, real once a key was visited; `L` is the sum of the keys'
exponentials under that shift, and `A` the sum of their values `v` weighted by them. -/
structure Row {ι : Type} (s : ℕ → EReal) (v : ℕ → ι → EReal) (N : ℕ) (M L : EReal) (A : ι → EReal) : Prop where
  top : M ≠ ⊤
  bot : M = ⊥ → N = 0
  sum : L = ∑ j ∈ Finset.range N, Ideal.exp (s j - M)
  acc : ∀ c, A c = ∑ j ∈ Finset.range N, Ideal.exp (s j - M) * v j c

variable {ι : Type} {s : ℕ → EReal} {v : ℕ → ι → EReal} {N : ℕ} {M L : EReal} {A : ι → EReal}

/-- Before the first key. -/
theorem Row.zero (s : ℕ → EReal) (v : ℕ → ι → EReal) : Row s v 0 ⊥ 0 fun _ => 0 :=
  ⟨bot_ne_top, fun _ => rfl, by simp, by simp⟩

/-- A block of keys, one of which is not masked. -/
theorem Row.step (R : Row s v N M L A) (ht : ∀ j, s j ≠ ⊤) {B : ℕ} (b : Fin B) (hb : s (N + b) ≠ ⊥) {M' L' : EReal} {A' : ι → EReal}
    (hM : M' = max M (Finset.univ.fold max ⊥ fun b : Fin B => s (N + b)))
    (hL : L' = Ideal.exp (M - M') * L + ∑ b : Fin B, Ideal.exp (s (N + b) - M'))
    (hA : ∀ c, A' c = Ideal.exp (M - M') * A c + ∑ b : Fin B, Ideal.exp (s (N + b) - M') * v (N + b) c) :
    Row s v (N + B) M' L' A' := by
  have h' : M' ≠ ⊤ := by
    rw [hM]
    exact ne_of_lt (max_lt (lt_top_iff_ne_top.2 R.top) (lt_top_iff_ne_top.2 (fold_ne_top _ fun i => ht _)))
  have h'' : M' ≠ ⊥ := by
    rw [hM]
    refine ne_of_gt (lt_of_lt_of_le ?_ (le_max_right _ _))
    exact (Finset.lt_fold_max _).2 (.inr ⟨b, Finset.mem_univ _, bot_lt_iff_ne_bot.2 hb⟩)
  obtain ⟨m', rfl⟩ : ∃ m' : ℝ, M' = (m' : EReal) := ⟨M'.toReal, (EReal.coe_toReal h' h'').symm⟩
  have hα : Ideal.exp (M - (m' : EReal)) ≠ ⊤ := by
    refine exp_ne_top fun e => ?_
    revert e
    induction M with
    | bot => simp [EReal.bot_sub]
    | top => exact absurd rfl R.top
    | coe r => rw [← EReal.coe_sub]; exact fun e => absurd e (EReal.coe_ne_top _)
  have key : ∀ j ∈ Finset.range N, Ideal.exp (M - (m' : EReal)) * Ideal.exp (s j - M) = Ideal.exp (s j - (m' : EReal)) := by
    intro j hj
    have hN : N ≠ 0 := by rintro rfl; simp at hj
    obtain ⟨r, rfl⟩ : ∃ r : ℝ, M = (r : EReal) := ⟨M.toReal, (EReal.coe_toReal R.top fun e => hN (R.bot e)).symm⟩
    exact exp_mul r m' (ht j)
  refine ⟨h', fun e => absurd e h'', ?_, fun c => ?_⟩
  · rw [hL, R.sum, mul_sum _ _ (exp_nonneg _) hα, Finset.sum_congr rfl key, Finset.sum_range_add,
      Finset.sum_range fun b => Ideal.exp (s (N + b) - (m' : EReal))]
  · rw [hA, R.acc, mul_sum _ _ (exp_nonneg _) hα, Finset.sum_range_add,
      Finset.sum_range fun b => Ideal.exp (s (N + b) - (m' : EReal)) * v (N + b) c]
    congr 1
    refine Finset.sum_congr rfl fun j hj => ?_
    rw [← mul_assoc, key j hj]

/-- Masked keys add nothing. -/
theorem Row.mask (R : Row s v N M L A) {n : ℕ} (h : ∀ j, N ≤ j → s j = ⊥) (h0 : N ≠ 0) : Row s v (N + n) M L A := by
  refine ⟨R.top, fun e => absurd (R.bot e) h0, ?_, fun c => ?_⟩
  · rw [Finset.sum_range_add, R.sum]
    refine (add_zero _).symm.trans (congrArg _ (Finset.sum_eq_zero fun j _ => ?_).symm)
    rw [h _ (Nat.le_add_right _ _), EReal.bot_sub]
    rfl
  · rw [Finset.sum_range_add, R.acc]
    refine (add_zero _).symm.trans (congrArg _ (Finset.sum_eq_zero fun j _ => ?_).symm)
    rw [h _ (Nat.le_add_right _ _), EReal.bot_sub]
    exact zero_mul _

/-! ## The end of a row -/

/-- The sum of exponentials under a real shift is a positive real number when a key is not masked. -/
theorem sum_real (s : ℕ → EReal) (ht : ∀ j, s j ≠ ⊤) (t : ℝ) {n : ℕ} (k : Fin n) (hk : s k ≠ ⊥) :
    ∃ Λ : ℝ, 0 < Λ ∧ (∑ j : Fin n, Ideal.exp (s j - (t : EReal))) = (Λ : EReal) := by
  have e : ∀ j : Fin n, Ideal.exp (s j - (t : EReal)) = ((if s j = ⊥ then 0 else Real.exp ((s j).toReal - t) : ℝ) : EReal) := by
    intro j
    split
    · rename_i h
      rw [h, EReal.bot_sub]
      rfl
    · rename_i h
      rw [show s j = (((s j).toReal : ℝ) : EReal) from (EReal.coe_toReal (ht j) h).symm, ← EReal.coe_sub, EReal.toReal_coe]
      rfl
  refine ⟨∑ j : Fin n, if s j = ⊥ then 0 else Real.exp ((s j).toReal - t), ?_, ?_⟩
  · refine Finset.sum_pos' (fun j _ => ?_) ⟨k, Finset.mem_univ _, ?_⟩
    · split
      · exact le_rfl
      · exact (Real.exp_pos _).le
    · rw [if_neg hk]; exact Real.exp_pos _
  · rw [Cert.Grad.coe_sum]
    exact Finset.sum_congr rfl fun j _ => e j

/-- The quotient of the two sums is the softmax's weighted sum, whatever real shift `t` the softmax is written with. -/
theorem Row.out {n : ℕ} (R : Row s v n M L A) (ht : ∀ j, s j ≠ ⊤) (t : ℝ) (k : Fin n) (hk : s k ≠ ⊥) (c : ι) :
    Ideal.div (A c) L = ∑ j : Fin n, Ideal.div (Ideal.exp (s j - (t : EReal))) (∑ i : Fin n, Ideal.exp (s i - (t : EReal))) * v j c := by
  have hn : n ≠ 0 := by rintro rfl; exact k.elim0
  obtain ⟨r, rfl⟩ : ∃ r : ℝ, M = (r : EReal) := ⟨M.toReal, (EReal.coe_toReal R.top fun e => hn (R.bot e)).symm⟩
  obtain ⟨Λ, hΛ, eΛ⟩ := sum_real s ht t k hk
  have g0 := Real.exp_pos (t - r)
  have eg : Ideal.exp ((t : EReal) - (r : EReal)) = ((Real.exp (t - r) : ℝ) : EReal) := by rw [← EReal.coe_sub]; rfl
  have hL : L = ((Real.exp (t - r) * Λ : ℝ) : EReal) := by
    rw [R.sum, EReal.coe_mul, ← eΛ, ← eg, mul_sum _ _ (exp_nonneg _) (by rw [eg]; exact EReal.coe_ne_top _), Finset.sum_range]
    exact Finset.sum_congr rfl fun j _ => (exp_mul t r (ht j)).symm
  have hA : A c = ((Real.exp (t - r) : ℝ) : EReal) * ∑ j : Fin n, Ideal.exp (s j - (t : EReal)) * v j c := by
    rw [R.acc, ← eg, mul_sum _ _ (exp_nonneg _) (by rw [eg]; exact EReal.coe_ne_top _), Finset.sum_range]
    exact Finset.sum_congr rfl fun j _ => by rw [← mul_assoc, exp_mul t r (ht j)]
  have ne : ∀ {x : ℝ}, 0 < x → ((x : ℝ) : EReal) ≠ 0 := fun h => by exact_mod_cast h.ne'
  rw [hL, hA, eΛ]
  simp only [Ideal.div, if_neg (ne hΛ), if_neg (ne (mul_pos g0 hΛ))]
  rw [← EReal.coe_inv, ← EReal.coe_inv, mul_comm (((Real.exp (t - r) : ℝ) : EReal)), mul_assoc, ← EReal.coe_mul,
    show Real.exp (t - r) * (Real.exp (t - r) * Λ)⁻¹ = Λ⁻¹ by field_simp, mul_comm,
    mul_sum _ _ (by exact_mod_cast (inv_pos.2 hΛ).le) (EReal.coe_ne_top _)]
  refine Finset.sum_congr rfl fun j _ => ?_
  rw [← mul_assoc, mul_comm ((Λ⁻¹ : ℝ) : EReal)]

/-- The shift plus the logarithm of the sum does not depend on the shift. -/
theorem Row.lse {n : ℕ} (R : Row s v n M L A) (ht : ∀ j, s j ≠ ⊤) (t : ℝ) (k : Fin n) (hk : s k ≠ ⊥) :
    M + Ideal.log L = (t : EReal) + Ideal.log (∑ i : Fin n, Ideal.exp (s i - (t : EReal))) := by
  have hn : n ≠ 0 := by rintro rfl; exact k.elim0
  obtain ⟨r, rfl⟩ : ∃ r : ℝ, M = (r : EReal) := ⟨M.toReal, (EReal.coe_toReal R.top fun e => hn (R.bot e)).symm⟩
  obtain ⟨Λ, hΛ, eΛ⟩ := sum_real s ht t k hk
  have g0 := Real.exp_pos (t - r)
  have eg : Ideal.exp ((t : EReal) - (r : EReal)) = ((Real.exp (t - r) : ℝ) : EReal) := by rw [← EReal.coe_sub]; rfl
  have hL : L = ((Real.exp (t - r) * Λ : ℝ) : EReal) := by
    rw [R.sum, EReal.coe_mul, ← eΛ, ← eg, mul_sum _ _ (exp_nonneg _) (by rw [eg]; exact EReal.coe_ne_top _), Finset.sum_range]
    exact Finset.sum_congr rfl fun j _ => (exp_mul t r (ht j)).symm
  have lg : ∀ {x : ℝ}, 0 < x → Ideal.log ((x : ℝ) : EReal) = ((Real.log x : ℝ) : EReal) := fun h => if_neg (not_le.2 h)
  rw [hL, eΛ, lg hΛ, lg (mul_pos g0 hΛ), Real.log_mul g0.ne' hΛ.ne', Real.log_exp, ← EReal.coe_add, ← EReal.coe_add]
  congr 1
  ring

end Cert.Online
-- ==== Proof.FwdRow.lean ====
/- One row of the forward attention after all its blocks of keys. -/
module

public import proofs.«01_k».proof.Proof.FwdLoop
public import proofs.«01_k».proof.Proof.Online
public import proofs.«01_k».proof.Proof.Sums

@[expose] public section

set_option maxRecDepth 16384

noncomputable section

namespace Cert.Kernel10Ideal.Fwd

open Cert.Kernel10Ideal Cert.Kernel10Ideal.Gen
open Idealize.ShloMosaic Idealize.ShloMosaic.TcCoe Idealize.ShloMosaic.Tactic
open Cert.Online

/-- The masked score of row `R` against key `j`. -/
def sc (x : Cert.Grad.Data) (h R j : ℕ) : EReal := if j / 64 ≤ R / 64 then ((x.score h R j : ℝ) : EReal) else ⊥

/-- No masked score is +∞. -/
theorem sc_ne_top (x : Cert.Grad.Data) (h R j : ℕ) : sc x h R j ≠ ⊤ := by
  unfold sc
  split
  · exact EReal.coe_ne_top _
  · exact bot_ne_top

/-- A key that is not masked keeps its score. -/
theorem sc_own (x : Cert.Grad.Data) (h R : ℕ) {j : ℕ} (hj : j / 64 ≤ R / 64) : sc x h R j = ((x.score h R j : ℝ) : EReal) := if_pos hj

/-- The blocks of a point are the queries of pair `n`, the keys and the values `w` of head `h`. -/
structure Holds (x : Cert.Grad.Data) (h n : ℕ) (w : ℕ → Fin 128 → EReal) (x0 : Vec Ideal S1x1024x128 .bf16)
    (x1 x2 : Vec Ideal S1x4096x128 .bf16) : Prop where
  hq : ∀ (r : Fin 1024) (c : Fin 128), x0 (ix3 0 r c) = ((x.Q h (1024 * n + r.val) c : ℝ) : EReal)
  hk : ∀ (j : Fin 4096) (c : Fin 128), x1 (ix3 0 j c) = ((x.K h j.val c : ℝ) : EReal)
  hv : ∀ (j : Fin 4096) (c : Fin 128), x2 (ix3 0 j c) = w j.val c
  hκ : Ideal.ofBits .f32 0x3DD105EC#32 = ((x.κ : ℝ) : EReal)
  hq0 : ∀ h r c : ℕ, 96 ≤ c → x.Q h r c = 0

variable {x : Cert.Grad.Data} {h n : ℕ} {w : ℕ → Fin 128 → EReal} {x0 : Vec Ideal S1x1024x128 .bf16} {x1 x2 : Vec Ideal S1x4096x128 .bf16}

/-- The scores of a block of keys, before the mask. -/
theorem scores (H : Holds x h n w x0 x1 x2) {f : ℕ} (hf : f < 2) {j : ℕ} (hj : j < 8) (a b : Fin 512) :
    k0_pay9 (k0_pay35 (qblk x0 f)) (blk x1 j) (ix2 a b) = ((x.score h ((2 * n + f) * 512 + a.val) (512 * j + b.val) : ℝ) : EReal) := by
  have e1 : 1024 * n + (Fin.ofNat 1024 (512 * f + a.val)).val = (2 * n + f) * 512 + a.val := by
    show 1024 * n + (512 * f + a.val) % 1024 = _
    omega
  have e2 : (Fin.ofNat 4096 (512 * j + b.val)).val = 512 * j + b.val := by
    show (512 * j + b.val) % 4096 = _
    omega
  rw [scores_at]
  simp only [pay35_at, qblk_at, blk_at, H.hq, H.hk, e1, e2, H.hκ, ← EReal.coe_mul, ← Cert.Grad.coe_sum]
  rw [Cert.Grad.Data.score, ← Cert.KernelIdeal.Sums.sum_96 (fun c => x.Q h ((2 * n + f) * 512 + a.val) c * x.K h (512 * j + b.val) c)
    fun c hc => by rw [H.hq0 _ _ _ hc, zero_mul]]

/-- The values of a block of keys. -/
theorem values (H : Holds x h n w x0 x1 x2) {j : ℕ} (hj : j < 8) (b : Fin 512) (c : Fin 128) :
    blk x2 j (ix3 0 b c) = w (512 * j + b.val) c := by
  have e2 : (Fin.ofNat 4096 (512 * j + b.val)).val = 512 * j + b.val := by
    show (512 * j + b.val) % 4096 = _
    omega
  rw [blk_at, H.hv, e2]

/-- A state's row summarises the first `N` keys. -/
abbrev Sums (x : Cert.Grad.Data) (h R : ℕ) (w : ℕ → Fin 128 → EReal) (N : ℕ) (z : St) (a : Fin 512) : Prop :=
  Row (sc x h R) w N (z.1 (ix2 a 0)) (z.2.1 (ix2 a 0)) fun c => z.2.2 (ix2 a c)

/-- One more block of keys, whose masked scores are `s`. -/
theorem sums_step {R : ℕ} {a : Fin 512} {j : ℕ} {z : St} (Z : Sums x h R w (512 * j) z a) (s : FVec Ideal S512x512 .f32) (v : Vec Ideal S1x512x128 .bf16)
    (hs : ∀ b : Fin 512, s (ix2 a b) = sc x h R (512 * j + b.val)) (hv : ∀ (b : Fin 512) (c : Fin 128), v (ix3 0 b c) = w (512 * j + b.val) c)
    (hj : 512 * j / 64 ≤ R / 64) : Sums x h R w (512 * (j + 1)) (step z s v) a := by
  have hM := step_top z s v a 0
  have hL := step_sum z s v a
  have hA := step_acc z s v a
  simp only [hs, hv] at hM hL hA
  exact Row.step Z (sc_ne_top x h R) (B := 512) 0 (by rw [sc_own x h R (by simpa using hj)]; exact EReal.coe_ne_bot _) hM (hL ..) hA

/-- The state after the first blocks, none masked. -/
theorem sums_steps (H : Holds x h n w x0 x1 x2) (hn : n < 4) {f : ℕ} (hf : f < 2) (a : Fin 512) (j : ℕ) (hj : j ≤ 2 * n + f) :
    Sums x h ((2 * n + f) * 512 + a.val) w (512 * j) (steps (k0_pay35 (qblk x0 f)) x1 x2 j) a := by
  induction j with
  | zero =>
    have := Row.zero (sc x h ((2 * n + f) * 512 + a.val)) w
    simpa only [Sums, steps, init_top, init_sum, init_acc, Nat.mul_zero] using this
  | succ j ih =>
    refine sums_step (ih (by omega)) _ _ (fun b => ?_) (values H (by omega)) (by omega)
    rw [scores H hf (by omega), sc_own]
    have := b.isLt
    omega

/-- The state after all blocks summarises all keys. -/
theorem sums_last (H : Holds x h n w x0 x1 x2) (hn : n < 4) {f : ℕ} (hf : f < 2) (a : Fin 512) :
    Sums x h ((2 * n + f) * 512 + a.val) w 4096 (last x0 x1 x2 n f) a := by
  have Z := sums_step (sums_steps H hn hf a (2 * n + f) le_rfl) (masked n f (k0_pay9 (k0_pay35 (qblk x0 f)) (blk x1 (2 * n + f)))) (blk x2 (2 * n + f))
    (fun b => by
      show (if ((2 * n + f) * 512 + b.val) / 64 ≤ ((2 * n + f) * 512 + a.val) / 64 then _ else _) = _
      rw [scores H hf (by omega), sc, Nat.mul_comm 512]) (values H (by omega)) (by omega)
  have M := Row.mask (n := 4096 - 512 * (2 * n + f + 1)) Z (fun j hj => if_neg (by have := a.isLt; omega)) (by omega)
  rwa [show 512 * (2 * n + f + 1) + (4096 - 512 * (2 * n + f + 1)) = 4096 by omega] at M

/-- The weighted sum of the values in the lane `c`, under the shift `t`. -/
def attn (x : Cert.Grad.Data) (h R : ℕ) (t : ℝ) (f : ℕ → EReal) : EReal :=
  ∑ j : Fin 4096, Ideal.div (Ideal.exp (sc x h R j - (t : EReal))) (∑ i : Fin 4096, Ideal.exp (sc x h R i - (t : EReal))) * f j

/-- The lanes that a point's rows leave. -/
theorem outs_row (H : Holds x h n w x0 x1 x2) (hn : n < 4) (r : Fin 1024) (c : Fin 128) (t : ℝ) :
    outs (last x0 x1 x2 n) (ix2 r c) = attn x h (1024 * n + r.val) t fun j => w j c := by
  have hr := r.isLt
  have e : (2 * n + r.val / 512) * 512 + (Fin.ofNat 512 r.val).val = 1024 * n + r.val := by
    show _ + r.val % 512 = _
    omega
  have Z := sums_last H hn (f := r.val / 512) (by omega) (Fin.ofNat 512 r.val)
  rw [e] at Z
  show quot (last x0 x1 x2 n (r.val / 512)) (ix2 (Fin.ofNat 512 r.val) c) = _
  rw [quot_at]
  exact Row.out Z (sc_ne_top x h _) t (⟨1024 * n + r.val, by omega⟩ : Fin 4096) (by rw [sc_own x h _ le_rfl]; exact EReal.coe_ne_bot _) c

/-- The logarithms that a point's rows leave. -/
theorem logs_row (H : Holds x h n w x0 x1 x2) (hn : n < 4) (e : Fin 1) (r : Fin 1024) (e' : Fin 1) (t : ℝ) :
    logs (last x0 x1 x2 n) (ix3 e r e')
      = (t : EReal) + Ideal.log (∑ i : Fin 4096, Ideal.exp (sc x h (1024 * n + r.val) i - (t : EReal))) := by
  have hr := r.isLt
  have e0 : (2 * n + r.val / 512) * 512 + (Fin.ofNat 512 r.val).val = 1024 * n + r.val := by
    show _ + r.val % 512 = _
    omega
  have Z := sums_last H hn (f := r.val / 512) (by omega) (Fin.ofNat 512 r.val)
  rw [e0] at Z
  show lses (last x0 x1 x2 n (r.val / 512)) (ix3 e (Fin.ofNat 512 r.val) e') = _
  rw [lses_at]
  exact Row.lse Z (sc_ne_top x h _) t (⟨1024 * n + r.val, by omega⟩ : Fin 4096) (by rw [sc_own x h _ le_rfl]; exact EReal.coe_ne_bot _)

end Cert.Kernel10Ideal.Fwd

end
-- ==== Proof.FwdRef.lean ====
/- The reference of the forward attention at an index. -/
module

public import proofs.«01_k».proof.Proof.Finite
public import proofs.«01_k».proof.Proof.Gen.Reference10Ideal.Read
public import proofs.«01_k».proof.Proof.Gen.Pre_finite10

@[expose] public section

set_option maxRecDepth 16384

noncomputable section

namespace Cert.Fwd10

open Cert.Reference10Ideal Cert.Reference10Ideal.Gen Cert.Reference10Ideal.Read
open Idealize.ShloMosaic Idealize.ShloMosaic.TcCoe Idealize.ShloMosaic.Pointwise

variable {q k : (⟨S8x4096x96, .f32⟩ : BufTy).Contents (Elt Ideal)} {v : (⟨S8x4096x64, .f32⟩ : BufTy).Contents (Elt Ideal)}

/-- The precondition: every query and key is real. -/
theorem pre (h : Cert.Pre_finite10.fn (F := Ideal) q k v = fun _ => 1#1) :
    (∀ i, q i = (((q i : EReal).toReal : ℝ) : EReal)) ∧ (∀ i, k i = (((k i : EReal).toReal : ℝ) : EReal)) := by
  have e := congrFun h (fun k => k.elim0)
  unfold Cert.Pre_finite10.fn at e
  obtain ⟨e1, e2⟩ := IntOp.andi_eq_one.1 e
  exact ⟨Cert.Finite.reals _ _ (fun _ => rfl) _ _ _ e1, Cert.Finite.reals _ _ (fun _ => rfl) _ _ _ e2⟩

/-- The real numbers of the queries and keys, and each row's largest score. -/
def data (q k : (⟨S8x4096x96, .f32⟩ : BufTy).Contents (Elt Ideal)) : Cert.Grad.Data where
  Q := Cert.Finite.arr3 q
  K := Cert.Finite.arr3 k
  V := fun _ _ _ => 0
  D := fun _ _ => 0
  T := Cert.Finite.arr2 (val_main_v11 (F := Ideal) q k)
  κ := (Ideal.ofBits .f32 0x3DD105EC#32 : EReal).toReal

/-- What the precondition gives of the queries, the keys, the masked scores and the rows' largest scores. -/
structure Reals (q k : (⟨S8x4096x96, .f32⟩ : BufTy).Contents (Elt Ideal)) : Prop where
  hq : ∀ (h : Fin 8) (r : Fin 4096) (c : Fin 96), q (ix3 h r c) = (((data q k).Q h r c : ℝ) : EReal)
  hk : ∀ (h : Fin 8) (r : Fin 4096) (c : Fin 96), k (ix3 h r c) = (((data q k).K h r c : ℝ) : EReal)
  hs : ∀ (h : Fin 8) (r j : Fin 4096), val_main_v10 (F := Ideal) q k (ix3 h r j)
    = if j.val / 64 ≤ r.val / 64 then (((data q k).score h r j : ℝ) : EReal) else ⊥
  ht : ∀ (h : Fin 8) (r : Fin 4096), val_main_v11 (F := Ideal) q k (ix2 h r) = (((data q k).T h r : ℝ) : EReal)

/-- The precondition makes the queries, the keys and the rows' largest scores real. -/
theorem reals (h : Cert.Pre_finite10.fn (F := Ideal) q k v = fun _ => 1#1) : Reals q k := by
  obtain ⟨hq, hk⟩ := pre h
  have hq' : ∀ (h : Fin 8) (r : Fin 4096) (c : Fin 96), q (ix3 h r c) = (((data q k).Q h r c : ℝ) : EReal) := fun h r c => by
    rw [hq]; exact congrArg _ (Cert.Finite.arr3_at q h r c).symm
  have hk' : ∀ (h : Fin 8) (r : Fin 4096) (c : Fin 96), k (ix3 h r c) = (((data q k).K h r c : ℝ) : EReal) := fun h r c => by
    rw [hk]; exact congrArg _ (Cert.Finite.arr3_at k h r c).symm
  have hs := Cert.Ref.scores_of hq' hk' Cert.Finite.scale_real
  have hT := Cert.Finite.top_real hs
  have e10 : Cert.ReferenceIdeal.Read.val_main_v10_0 (F := Ideal) q k = val_main_v10 (F := Ideal) q k := rfl
  have e11 : Cert.ReferenceIdeal.Read.val_main_v11 (F := Ideal) q k = val_main_v11 (F := Ideal) q k := rfl
  rw [e10] at hs
  rw [e11] at hT
  refine ⟨hq', hk', hs, fun h r => ?_⟩
  rw [hT]
  exact congrArg _ (Cert.Finite.arr2_at _ h r).symm

/-- The exponentials. -/
theorem exps (h : Fin 8) (r j : Fin 4096) : val_main_v15 (F := Ideal) q k (ix3 h r j)
    = Ideal.exp (val_main_v10 (F := Ideal) q k (ix3 h r j) - val_main_v11 (F := Ideal) q k (ix2 h r)) := by
  simp only [val_main_v15, val_main_v14, val_main_v13, val_main_v12]
  generalize val_main_v10 (F := Ideal) q k = s
  generalize val_main_v11 (F := Ideal) q k = t
  pointwise []

/-- The rows' sums of exponentials. -/
theorem sums (h : Fin 8) (r : Fin 4096) : val_main_v16 (F := Ideal) q k (ix2 h r)
    = ∑ j : Fin 4096, val_main_v15 (F := Ideal) q k (ix3 h r j) := by
  unfold val_main_v16
  generalize val_main_v15 (F := Ideal) q k = s
  simp only [val_main_cst_2]
  pointwise []

/-- The probabilities. -/
theorem probs (h : Fin 8) (r j : Fin 4096) : val_main_v19 (F := Ideal) q k (ix3 h r j)
    = Ideal.div (val_main_v15 (F := Ideal) q k (ix3 h r j)) (val_main_v16 (F := Ideal) q k (ix2 h r)) := by
  simp only [val_main_v19, val_main_v18, val_main_v17]
  generalize val_main_v15 (F := Ideal) q k = s
  generalize val_main_v16 (F := Ideal) q k = t
  pointwise []

/-- The attention's output. -/
theorem lanes (r : Fin 4096) (y : Fin 512) : val_main_v22 (F := Ideal) q k v (ix2 r y)
    = ∑ j : Fin 4096, v (ix3 ⟨y.val / 64, by omega⟩ j ⟨y.val % 64, by omega⟩) * val_main_v19 (F := Ideal) q k (ix3 ⟨y.val / 64, by omega⟩ r j) := by
  simp only [val_main_v22, val_main_v21, val_main_v20]
  generalize val_main_v19 (F := Ideal) q k = p
  pointwise []

/-- A shift and the logarithm of a sum, by rows. -/
def logOf (t l : FVec Ideal S8x4096 .f32) : FVec Ideal S8x4096x1 .f32 :=
  addf (broadcastInDim S8x4096x1 ![0, 1] bcast_S8x4096_S8x4096x1_0_1 t) (Host.log (broadcastInDim S8x4096x1 ![0, 1] bcast_S8x4096_S8x4096x1_0_1 l))

/-- The logarithm of a row's sum. -/
theorem logOf_at (t l : FVec Ideal S8x4096 .f32) (h : Fin 8) (r : Fin 4096) (e : Fin 1) :
    logOf t l (ix3 h r e) = t (ix2 h r) + Ideal.log (l (ix2 h r)) := by
  unfold logOf
  pointwise []

/-- The logarithms of the rows' sums. -/
theorem logs_eq : val_main_v24 (F := Ideal) q k = logOf (val_main_v11 (F := Ideal) q k) (val_main_v16 (F := Ideal) q k) := by
  unfold val_main_v24 val_main_v23 val_main_v17 val_main_v12 logOf
  rfl

end Cert.Fwd10

end
-- ==== Proof.FwdHost.lean ====
/- What the host operations of the forward attention leave in the arrays that its windows stage. -/
module

public import proofs.«01_k».proof.Proof.Gen.Kernel10Ideal.Value
public import Idealize.ShloMosaic.Lib.Claim
public import Idealize.ShloMosaic.Lib.StableHlo.ReadAt

@[expose] public section

set_option maxRecDepth 16384

noncomputable section

namespace Cert.Kernel10Ideal.Host

open Cert.Kernel10Ideal Cert.Kernel10Ideal.Gen
open Idealize.ShloMosaic Idealize.ShloMosaic.TcCoe
open Idealize.ShloMosaic.Pointwise

variable (m : (ℓ : Loc nD τ sig) → Buf (Elt Ideal) ℓ) (c : Dev nD)

/-- An argument as the launch finds it. -/
abbrev q : Vec Ideal S8x4096x96 .f32 := m ((c : Thread nD τ).loc main_arg0)
/-- The keys. -/
abbrev k : Vec Ideal S8x4096x96 .f32 := m ((c : Thread nD τ).loc main_arg1)
/-- The values. -/
abbrev v : Vec Ideal S8x4096x64 .f32 := m ((c : Thread nD τ).loc main_arg2)

/-- The padding is zero. -/
theorem zero_word : FloatOps.sitofp (F := Ideal) .f32 0#32 = (0 : EReal) := by simp [FloatOps.sitofp]

/-- The queries in 128 lanes. -/
theorem q_at (h : Fin 8) (r : Fin 4096) (y : Fin 128) :
    V m c main_v13 (ix3 h r y) = if hy : y.val < 96 then q m c (ix3 h r ⟨y.val, hy⟩) else (0 : EReal) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_at
  split
  · rfl
  · exact zero_word

/-- The keys in 128 lanes. -/
theorem k_at (h : Fin 8) (r : Fin 4096) (y : Fin 128) :
    V m c main_v14 (ix3 h r y) = if hy : y.val < 96 then k m c (ix3 h r ⟨y.val, hy⟩) else (0 : EReal) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_at
  split
  · rfl
  · exact zero_word

/-- The lanes of a pair of heads, read case by case. -/
theorem v_tail (A : FVec Ideal S8x4096x64 .f32) (h : Fin 8) (r : Fin 4096) (y : Fin 128) :
    (if h_1 : h.val % 2 < 1 then
      if h_2 : h.val / 2 < 4 ∧ y.val < 64 then A (ix3 ⟨h.val / 2 * 2, by omega⟩ r ⟨y.val, by omega⟩) else FloatOps.sitofp (F := Ideal) .f32 0#32
     else if h_2 : h.val / 2 < 4 ∧ 64 ≤ y.val ∧ y.val - 64 < 64 then A (ix3 ⟨h.val / 2 * 2 + 1, by omega⟩ r ⟨y.val - 64, by omega⟩)
       else FloatOps.sitofp (F := Ideal) .f32 0#32) = if y.val / 64 = h.val % 2 then A (ix3 h r ⟨y.val % 64, by omega⟩) else (0 : EReal) := by
  rw [zero_word]
  have hh := h.isLt
  have hy' := y.isLt
  split
  · split
    · rename_i h0 hy
      rw [if_pos (by omega)]
      congr 2
      · exact Fin.ext (show h.val / 2 * 2 = h.val by omega)
      · exact Fin.ext (show y.val = y.val % 64 by omega)
    · rw [if_neg (by omega)]
  · split
    · rename_i h0 hy
      rw [if_pos (by omega)]
      congr 2
      · exact Fin.ext (show h.val / 2 * 2 + 1 = h.val by omega)
      · exact Fin.ext (show y.val - 64 = y.val % 64 by omega)
    · rw [if_neg (by omega)]

/-- The values in the lanes of their pair of heads. -/
theorem v_at (h : Fin 8) (r : Fin 4096) (y : Fin 128) :
    V m c main_v15 (ix3 h r y) = if y.val / 64 = h.val % 2 then v m c (ix3 h r ⟨y.val % 64, by omega⟩) else (0 : EReal) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.after_cons,
    StableHlo.after_nil]
  after_results_simp
  after_results_loop
  clean_types
  pointwise [StableHlo.TRef.toBuf, StableHlo.TRef.ofBuf]
  simp only [cast_eq]
  pointwise []
  exact v_tail _ h r y

end Cert.Kernel10Ideal.Host

end
-- ==== Proof.AttnFwd.lean ====
/- The arrays that the forward attention leaves are the reference's. -/
module

public import proofs.«01_k».proof.Proof.FwdRow
public import proofs.«01_k».proof.Proof.FwdRef
public import proofs.«01_k».proof.Proof.FwdHost
public import proofs.«01_k».proof.Proof.Blocks

@[expose] public section

set_option maxRecDepth 16384

noncomputable section

namespace Cert.Kernel10Ideal.Fwd

open Cert.Kernel10Ideal Cert.Kernel10Ideal.Gen Cert.Kernel10Ideal.Host Cert.Blocks
open Idealize.ShloMosaic Idealize.ShloMosaic.TcCoe Idealize.ShloMosaic.Tactic
open Cert.Reference10Ideal.Read (val_main_v10 val_main_v11 val_main_v15 val_main_v16 val_main_v19 val_main_v22 val_main_v24)

variable (m : (ℓ : Loc nD τ sig) → Buf (Elt Ideal) ℓ) (c : Dev nD)

/-! ## The blocks of a point -/

/-- There are 32 points. -/
theorem lt (t : Fin cfg0.N) : t.val < 32 := t.isLt

/-- The head of a point. -/
def headOf (t : Fin cfg0.N) : Fin 8 := ⟨2 * (t.val / 8) + t.val % 2, by have := lt t; omega⟩
/-- The row of the arrays that row `r` of point `t`'s block is. -/
def rowOf (t : Fin cfg0.N) (r : Fin 1024) : Fin 4096 := ⟨1024 * (t.val / 2 % 4) + r.val, by have := r.isLt; omega⟩
/-- The lane of the output that lane `l` of point `t`'s block is. -/
def laneOf (t : Fin cfg0.N) (l : Fin 128) : Fin 512 := ⟨128 * (t.val / 8) + l.val, by have := lt t; omega⟩

/-- The pair of halves that a point takes. -/
theorem pair : ∀ t : Fin cfg0.N, (grid0.coords t 1).val = t.val / 2 % 4 :=
  (by decide +kernel : ∀ t : Fin grid0.N, (grid0.coords t 1).val = t.val / 2 % 4)
/-- The numbers of a point's block, window by window. -/
theorem idx0 : ∀ t : Fin cfg0.N, cc0_transform_0 (grid0.coords t) = ![2 * (t.val / 8) + t.val % 2, t.val / 2 % 4, 0] :=
  (by decide +kernel : ∀ t : Fin grid0.N, cc0_transform_0 (grid0.coords t) = ![2 * (t.val / 8) + t.val % 2, t.val / 2 % 4, 0])
/-- The keys. -/
theorem idx1 : ∀ t : Fin cfg0.N, cc0_transform_1 (grid0.coords t) = ![2 * (t.val / 8) + t.val % 2, 0, 0] :=
  (by decide +kernel : ∀ t : Fin grid0.N, cc0_transform_1 (grid0.coords t) = ![2 * (t.val / 8) + t.val % 2, 0, 0])
/-- The values. -/
theorem idx2 : ∀ t : Fin cfg0.N, cc0_transform_2 (grid0.coords t) = ![2 * (t.val / 8) + t.val % 2, 0, 0] :=
  (by decide +kernel : ∀ t : Fin grid0.N, cc0_transform_2 (grid0.coords t) = ![2 * (t.val / 8) + t.val % 2, 0, 0])
/-- The output. -/
theorem idx3 : ∀ t : Fin cfg0.N, cc0_transform_3 (grid0.coords t) = ![t.val / 2 % 4, t.val / 8] :=
  (by decide +kernel : ∀ t : Fin grid0.N, cc0_transform_3 (grid0.coords t) = ![t.val / 2 % 4, t.val / 8])
/-- The logarithms. -/
theorem idx4 : ∀ t : Fin cfg0.N, cc0_transform_4 (grid0.coords t) = ![2 * (t.val / 8) + t.val % 2, t.val / 2 % 4, 0] :=
  (by decide +kernel : ∀ t : Fin grid0.N, cc0_transform_4 (grid0.coords t) = ![2 * (t.val / 8) + t.val % 2, t.val / 2 % 4, 0])

section

attribute [local irreducible] Pipeline.Grid.coords cc0_transform_0 cc0_transform_1 cc0_transform_2 cc0_transform_3 cc0_transform_4

/-- A point's queries. -/
theorem blk0 (t : Fin cfg0.N) (r : Fin 1024) (l : Fin 128) : iblk m c 0 t (ix3 0 r l) = V m c main_v13 (ix3 (headOf t) (rowOf t r) l) := by
  unfold iblk
  change ((cfg0.win 0).blk t).view.read (Elt Ideal) (V m c main_v13) _ = _
  generalize V m c main_v13 = W
  refine Eq.trans ?_ (read_block (s := S8x4096x128) (α := EReal) W S1x1024x128.size (cc0_transform_0 (grid0.coords t)) (Facts₀.hinb0_0 _)
    (ix3 0 r l) (ix3 (headOf t) (rowOf t r) l) (idx0 t) (by intro a; fin_cases a <;> simp [ix3, headOf, rowOf, Nat.mul_comm]))
  rw [View.read_apply, cast_eq]
  rfl

/-- A point's keys. -/
theorem blk1 (t : Fin cfg0.N) (r : Fin 4096) (l : Fin 128) : iblk m c 1 t (ix3 0 r l) = V m c main_v14 (ix3 (headOf t) r l) := by
  unfold iblk
  change ((cfg0.win 1).blk t).view.read (Elt Ideal) (V m c main_v14) _ = _
  generalize V m c main_v14 = W
  refine Eq.trans ?_ (read_block (s := S8x4096x128) (α := EReal) W S1x4096x128.size (cc0_transform_1 (grid0.coords t)) (Facts₀.hinb0_1 _)
    (ix3 0 r l) (ix3 (headOf t) r l) (idx1 t) (by intro a; fin_cases a <;> simp [ix3, headOf]))
  rw [View.read_apply, cast_eq]
  rfl

/-- A point's values. -/
theorem blk2 (t : Fin cfg0.N) (r : Fin 4096) (l : Fin 128) : iblk m c 2 t (ix3 0 r l) = V m c main_v15 (ix3 (headOf t) r l) := by
  unfold iblk
  change ((cfg0.win 2).blk t).view.read (Elt Ideal) (V m c main_v15) _ = _
  generalize V m c main_v15 = W
  refine Eq.trans ?_ (read_block (s := S8x4096x128) (α := EReal) W S1x4096x128.size (cc0_transform_2 (grid0.coords t)) (Facts₀.hinb0_2 _)
    (ix3 0 r l) (ix3 (headOf t) r l) (idx2 t) (by intro a; fin_cases a <;> simp [ix3, headOf]))
  rw [View.read_apply, cast_eq]
  rfl

/-- The values of a head in the lanes of its pair, by the number of the key. -/
def lanesOf (A : Vec Ideal S8x4096x64 .f32) (h : Fin 8) (j : ℕ) (l : Fin 128) : EReal :=
  if l.val / 64 = h.val % 2 then A (ix3 h (Fin.ofNat 4096 j) ⟨l.val % 64, by omega⟩) else 0

/-- The real numbers of the arguments. -/
abbrev X : Cert.Grad.Data := Cert.Fwd10.data (q m c) (k m c)

variable (R : Cert.Fwd10.Reals (q m c) (k m c))

include R in
/-- What the windows of a point hold. -/
theorem holds (t : Fin cfg0.N) : Holds (X m c) (headOf t).val (grid0.coords t 1).val (lanesOf (v m c) (headOf t)) (iblk m c 0 t) (iblk m c 1 t) (iblk m c 2 t) := by
  have zq : ∀ h r c' : ℕ, 96 ≤ c' → (X m c).Q h r c' = 0 := fun h r c' hc => dif_neg (by omega)
  have zk : ∀ h r c' : ℕ, 96 ≤ c' → (X m c).K h r c' = 0 := fun h r c' hc => dif_neg (by omega)
  refine ⟨fun r l => ?_, fun j l => ?_, fun j l => ?_, Cert.Finite.scale_real, zq⟩
  · rw [blk0, q_at, pair]
    split
    · exact R.hq ..
    · rw [zq _ _ _ (by omega)]; rfl
  · rw [blk1, k_at]
    split
    · exact R.hk ..
    · rw [zk _ _ _ (by omega)]; rfl
  · rw [blk2, v_at, lanesOf]
    have e : Fin.ofNat 4096 j.val = j := Fin.ext (Nat.mod_eq_of_lt j.isLt)
    rw [e]

/-! ## What a point leaves, as the reference's entries -/

/-- A row's masked scores are the reference's. -/
theorem sc_eq (h : Fin 8) (r j : Fin 4096) (R : Cert.Fwd10.Reals (q m c) (k m c)) :
    sc (X m c) h.val r.val j.val = val_main_v10 (F := Ideal) (q m c) (k m c) (ix3 h r j) := (R.hs h r j).symm

include R in
/-- A row's sum of exponentials is the reference's. -/
theorem sum_eq (h : Fin 8) (r : Fin 4096) :
    (∑ i : Fin 4096, Ideal.exp (sc (X m c) h.val r.val i.val - (((X m c).T h r : ℝ) : EReal))) = val_main_v16 (F := Ideal) (q m c) (k m c) (ix2 h r) := by
  rw [Cert.Fwd10.sums]
  refine Finset.sum_congr rfl fun j _ => ?_
  rw [Cert.Fwd10.exps, R.ht, sc_eq m c h r j R]

include R in
/-- The lanes of a head that are its own hold the reference's output. -/
theorem attn_own (h : Fin 8) (r : Fin 4096) (l : Fin 128) (y : Fin 512) (hy : y.val = 64 * h.val + l.val % 64) (hl : l.val / 64 = h.val % 2) :
    attn (X m c) h.val r.val ((X m c).T h r) (fun j => lanesOf (v m c) h j l) = val_main_v22 (F := Ideal) (q m c) (k m c) (v m c) (ix2 r y) := by
  rw [Cert.Fwd10.lanes, attn]
  refine Finset.sum_congr rfl fun j _ => ?_
  have eh : (⟨y.val / 64, by omega⟩ : Fin 8) = h := Fin.ext (show y.val / 64 = h.val by omega)
  have el : (⟨y.val % 64, by omega⟩ : Fin 64) = ⟨l.val % 64, by omega⟩ := Fin.ext (show y.val % 64 = l.val % 64 by omega)
  have ej : Fin.ofNat 4096 j.val = j := Fin.ext (Nat.mod_eq_of_lt j.isLt)
  rw [eh, el, Cert.Fwd10.probs, ← sum_eq m c R h r, Cert.Fwd10.exps, R.ht, ← sc_eq m c h r j R, lanesOf, if_pos hl, ej]
  exact mul_comm _ _

/-- The other lanes of a head's pair hold zero. -/
theorem attn_other (h : Fin 8) (r : ℕ) (l : Fin 128) (t : ℝ) (hl : l.val / 64 ≠ h.val % 2) :
    attn (X m c) h.val r t (fun j => lanesOf (v m c) h j l) = 0 := by
  have e : (fun j => lanesOf (v m c) h j l) = fun _ => 0 := funext fun j => if_neg hl
  rw [e]
  exact Finset.sum_eq_zero fun j _ => mul_zero _

include R in
/-- The lanes that a point's rows leave. -/
theorem outs_at (t : Fin cfg0.N) (r : Fin 1024) (l : Fin 128) :
    outs (last (iblk m c 0 t) (iblk m c 1 t) (iblk m c 2 t) (grid0.coords t 1).val) (ix2 r l)
      = attn (X m c) (headOf t).val (rowOf t r).val ((X m c).T (headOf t) (rowOf t r)) fun j => lanesOf (v m c) (headOf t) j l := by
  rw [outs_row (holds m c R t) (by rw [pair]; omega) r l ((X m c).T (headOf t) (rowOf t r))]
  simp only [pair, rowOf]

include R in
/-- The logarithms that a point's rows leave. -/
theorem logs_at (t : Fin cfg0.N) (e : Fin 1) (r : Fin 1024) (e' : Fin 1) :
    logs (last (iblk m c 0 t) (iblk m c 1 t) (iblk m c 2 t) (grid0.coords t 1).val) (ix3 e r e')
      = val_main_v24 (F := Ideal) (q m c) (k m c) (ix3 (headOf t) (rowOf t r) e') := by
  rw [logs_row (holds m c R t) (by rw [pair]; omega) e r e' ((X m c).T (headOf t) (rowOf t r)), Cert.Fwd10.logs_eq, Cert.Fwd10.logOf_at, R.ht,
    ← sum_eq m c R]
  simp only [pair, rowOf]

/-- What an even point leaves in the lanes' block. -/
theorem lanes_even (t : Fin cfg0.N) (h : t.val % 2 = 0) (y : S1024x128.Idx) : (outsAt0 m c t.val t.isLt).1 y
    = outs (last (iblk m c 0 t) (iblk m c 1 t) (iblk m c 2 t) (grid0.coords t 1).val) y := by
  rw [outsAt0_A m c t h (by omega) h (by omega)]
  dsimp only
  rw [lanes_A]

/-- What an odd point leaves in the lanes' block. -/
theorem lanes_odd (t : Fin cfg0.N) (h : t.val % 2 = 1) (y : S1024x128.Idx) : (outsAt0 m c t.val t.isLt).1 y
    = (outsAt0 m c (t.val - 1) (Nat.lt_of_le_of_lt (Nat.sub_le _ _) t.isLt)).1 y
      + outs (last (iblk m c 0 t) (iblk m c 1 t) (iblk m c 2 t) (grid0.coords t 1).val) y := by
  rw [outsAt0_B m c t (by omega) h (by omega) h]
  dsimp only
  rw [lanes_B]

/-- What a point leaves in the logarithms' block. -/
theorem logs_pt (t : Fin cfg0.N) (y : S1x1024x1.Idx) : (outsAt0 m c t.val t.isLt).2 y
    = logs (last (iblk m c 0 t) (iblk m c 1 t) (iblk m c 2 t) (grid0.coords t 1).val) y := by
  by_cases h : t.val % 2 = 0
  · rw [outsAt0_A m c t h (by omega) h (by omega)]
    dsimp only
    rw [logs_A]
  · rw [outsAt0_B m c t h (by omega) h (by omega)]
    dsimp only
    rw [logs_B]

include R in
/-- The lanes after both heads of a pair. -/
theorem lanes_at (t : Fin cfg0.N) (h : t.val % 2 = 1) (r : Fin 1024) (l : Fin 128) : (outsAt0 m c t.val t.isLt).1 (ix2 r l)
    = val_main_v22 (F := Ideal) (q m c) (k m c) (v m c) (ix2 (rowOf t r) (laneOf t l)) := by
  have ht := lt t
  have hl := l.isLt
  obtain ⟨s, hs⟩ : ∃ s : Fin cfg0.N, s.val = t.val - 1 := ⟨⟨t.val - 1, Nat.lt_of_le_of_lt (Nat.sub_le _ _) t.isLt⟩, rfl⟩
  have e : (outsAt0 m c (t.val - 1) (Nat.lt_of_le_of_lt (Nat.sub_le _ _) t.isLt)).1 = (outsAt0 m c s.val s.isLt).1 := by simp only [hs]
  have er : rowOf s r = rowOf t r := Fin.ext (by show 1024 * (s.val / 2 % 4) + r.val = 1024 * (t.val / 2 % 4) + r.val; omega)
  have h0 : (headOf s).val = 2 * (t.val / 8) := by show 2 * (s.val / 8) + s.val % 2 = _; omega
  have h1 : (headOf t).val = 2 * (t.val / 8) + 1 := by show 2 * (t.val / 8) + t.val % 2 = _; omega
  have ey : (laneOf t l).val = 128 * (t.val / 8) + l.val := rfl
  rw [lanes_odd m c t h, e, lanes_even m c s (by omega), outs_at m c R, outs_at m c R, er]
  by_cases hh : l.val / 64 = 0
  · rw [attn_own m c R (headOf s) (rowOf t r) l (laneOf t l) (by omega) (by omega), attn_other m c (headOf t) _ l _ (by omega), add_zero]
  · rw [attn_own m c R (headOf t) (rowOf t r) l (laneOf t l) (by omega) (by omega), attn_other m c (headOf s) _ l _ (by omega), zero_add]

/-! ## The arrays after the run -/

include R in
/-- The attention's output is the reference's. -/
theorem arr_out : (dats m 0 c).arrAt 3 cfg0.N = val_main_v22 (F := Ideal) (q m c) (k m c) (v m c) := by
  have hr := lanes_at m c R
  generalize val_main_v22 (F := Ideal) (q m c) (k m c) (v m c) = Z at hr ⊢
  refine (dats m 0 c).arrAt_eq_of_covers 3 _ (by decide +kernel) fun t hf y => ?_
  rw [cast_eq, after0_3]
  have h1 : t.val % 2 = 1 := (flush0_3 t).mp hf
  have key : ∀ y : S1024x128.Idx, (outsAt0 m c t.val t.isLt).1 y
      = Z ((Rect.block (s := S4096x512) S1024x128.size (cc0_transform_3 (grid0.coords t)) (Facts₀.hinb0_3 _)).emb y) := by
    intro y
    obtain ⟨i, j, rfl⟩ : ∃ i j, y = ix2 i j := ⟨y 0, y 1, (eq_ix2 y)⟩
    rw [hr t h1, read_block (s := S4096x512) Z S1024x128.size (cc0_transform_3 (grid0.coords t)) (Facts₀.hinb0_3 _)
      (ix2 i j) (ix2 (rowOf t i) (laneOf t j)) (idx3 t) (by intro a; fin_cases a <;> simp [ix2, rowOf, laneOf, Nat.mul_comm])]
  exact key y

include R in
/-- The logarithms are the reference's. -/
theorem arr_log : (dats m 0 c).arrAt 4 cfg0.N = val_main_v24 (F := Ideal) (q m c) (k m c) := by
  have hr := fun t y => logs_pt m c t y
  have hs := logs_at m c R
  generalize val_main_v24 (F := Ideal) (q m c) (k m c) = Z at hs ⊢
  refine (dats m 0 c).arrAt_eq_of_covers 4 _ (by decide +kernel) fun t hf y => ?_
  rw [cast_eq, after0_4]
  have key : ∀ y : S1x1024x1.Idx, (outsAt0 m c t.val t.isLt).2 y
      = Z ((Rect.block (s := S8x4096x1) S1x1024x1.size (cc0_transform_4 (grid0.coords t)) (Facts₀.hinb0_4 _)).emb y) := by
    intro y
    obtain ⟨e, i, j, rfl⟩ : ∃ e i j, y = ix3 e i j := ⟨y 0, y 1, y 2, (eq_ix3 y)⟩
    rw [hr t, hs t, read_block (s := S8x4096x1) Z S1x1024x1.size (cc0_transform_4 (grid0.coords t)) (Facts₀.hinb0_4 _)
      (ix3 e i j) (ix3 (headOf t) (rowOf t i) j) (idx4 t) (by intro a; fin_cases a <;> simp [ix3, headOf, rowOf, Nat.mul_comm])]
  exact key y

end

end Cert.Kernel10Ideal.Fwd

end
-- ==== Proof.PreFwd.lean ====
/- The first RMSNorm of a layer and its modulation: the kernel's array is the reference's. -/
module

public import proofs.«01_k».proof.Proof.Blocks
public import proofs.«01_k».proof.Proof.Gen.Kernel11Ideal.Value
public import proofs.«01_k».proof.Proof.Gen.Reference11Ideal.Read

@[expose] public section

set_option maxRecDepth 16384

noncomputable section

namespace Cert.Kernel11Ideal.Norm

open Cert.Kernel11Ideal Cert.Kernel11Ideal.Gen Cert.Blocks Cert.Reference11Ideal.Read
open Idealize.ShloMosaic Idealize.ShloMosaic.TcCoe Idealize.ShloMosaic.Tactic

theorem hz : (![0, 0] : Fin 2 → Nat) = fun _ => 0 := funext fun a => by fin_cases a <;> rfl

theorem lt (t : Fin cfg0.N) : t.val < 8 := t.isLt

/-- The row of the arrays that row `i` of point `t`'s block is. -/
def rowOf (t : Fin cfg0.N) (i : Fin 512) : Fin 4096 := ⟨t.val * 512 + i.val, by have := lt t; omega⟩

theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![0, 0] :=
  (by decide +kernel : ∀ t : Fin grid0.N, cc0_transform_1 (grid0.coords t) = ![0, 0])
theorem idx2 : ∀ t : Fin cfg0.N, cc0_transform_2 (grid0.coords t) = ![0, 0] :=
  (by decide +kernel : ∀ t : Fin grid0.N, cc0_transform_2 (grid0.coords t) = ![0, 0])
theorem idx3 : ∀ t : Fin cfg0.N, cc0_transform_3 (grid0.coords t) = ![0, 1] :=
  (by decide +kernel : ∀ t : Fin grid0.N, cc0_transform_3 (grid0.coords t) = ![0, 1])
theorem idx4 : ∀ t : Fin cfg0.N, cc0_transform_4 (grid0.coords t) = ![t.val, 0] :=
  (by decide +kernel : ∀ t : Fin grid0.N, cc0_transform_4 (grid0.coords t) = ![t.val, 0])

/-! ## The arithmetic of a row -/

/-- What a point writes of a row is the reference's row. -/
theorem row {x : Vec Ideal S512x1024 .f32} {g' sh sc : Vec Ideal S1x1024 .f32} {X : Vec Ideal S4096x1024 .f32} {g : Vec Ideal S1x1024 .f32}
    {md : Vec Ideal S1x3072 .f32} {i : Fin 512} {n : Fin 4096} (hx : ∀ k : Fin 1024, x (ix2 i k) = X (ix2 n k))
    (hg : ∀ (e : Fin 1) (k : Fin 1024), g' (ix2 e k) = g (ix2 e k))
    (hsh : ∀ (e : Fin 1) (k : Fin 1024), sh (ix2 e k) = val_main_v0 (F := Ideal) md (ix2 e k))
    (hsc : ∀ (e : Fin 1) (k : Fin 1024), sc (ix2 e k) = val_main_v1 (F := Ideal) md (ix2 e k)) (k : Fin 1024) :
    k0_pay1 x g' sc sh (ix2 i k) = val_main_v21 (F := Ideal) X g md (ix2 n k) := by
  unfold k0_pay1 val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_cst val_main_cst_0
    val_main_cst_1 val_main_cst_2
  revert hsh hsc
  generalize val_main_v0 (F := Ideal) md = b0
  generalize val_main_v1 (F := Ideal) md = b1
  intro hsh hsc
  pointwise []
  simp only [hx, hg, hsh, hsc]

/-! ## The blocks of a point -/

variable (m : (ℓ : Loc nD τ sig) → Buf (Elt Ideal) ℓ) (c : Dev nD)

abbrev X : Vec Ideal S4096x1024 .f32 := m ((c : Thread nD τ).loc main_arg0)
abbrev G : Vec Ideal S1x1024 .f32 := m ((c : Thread nD τ).loc main_arg1)
abbrev Md : Vec Ideal S1x3072 .f32 := m ((c : Thread nD τ).loc main_arg2)

section

attribute [local irreducible] Pipeline.Grid.coords cc0_transform_0 cc0_transform_1 cc0_transform_2 cc0_transform_3 cc0_transform_4

theorem blk0 (t : Fin cfg0.N) (i : Fin 512) (k : Fin 1024) : iblk m c 0 t (ix2 i k) = X m c (ix2 (rowOf t i) k) := by
  unfold iblk
  change ((cfg0.win 0).blk t).view.read (Elt Ideal) (X m c) _ = _
  generalize X m c = W
  refine Eq.trans ?_ (read_block (s := S4096x1024) (α := EReal) W S512x1024.size (cc0_transform_0 (grid0.coords t)) (Facts₀.hinb0_0 _)
    (ix2 i k) (ix2 (rowOf t i) k) (idx0 t) (by intro a; fin_cases a <;> simp [ix2, rowOf]))
  rw [View.read_apply, cast_eq]
  rfl

theorem blk1 (t : Fin cfg0.N) (e : Fin 1) (k : Fin 1024) : iblk m c 1 t (ix2 e k) = G m c (ix2 e k) := by
  unfold iblk
  change ((cfg0.win 1).blk t).view.read (Elt Ideal) (G m c) _ = _
  generalize G m c = W
  refine Eq.trans ?_ (read_block (s := S1x1024) (α := EReal) W S1x1024.size (cc0_transform_1 (grid0.coords t)) (Facts₀.hinb0_1 _)
    (ix2 e k) (ix2 e k) (idx1 t) (by intro a; fin_cases a <;> simp [ix2]))
  rw [View.read_apply, cast_eq]
  rfl

theorem blk2 (t : Fin cfg0.N) (e : Fin 1) (k : Fin 1024) : iblk m c 2 t (ix2 e k) = val_main_v0 (F := Ideal) (Md m c) (ix2 e k) := by
  unfold iblk
  change ((cfg0.win 2).blk t).view.read (Elt Ideal) (Md m c) _ = _
  generalize Md m c = W
  rw [val_main_v0_apply]
  refine Eq.trans ?_ (read_block (s := S1x3072) (α := EReal) W S1x1024.size (cc0_transform_2 (grid0.coords t)) (Facts₀.hinb0_2 _)
    (ix2 e k) (idx_main_v0 (ix2 e k)) (idx2 t) (by intro a; fin_cases a <;> simp [ix2]))
  rw [View.read_apply, cast_eq]
  rfl

theorem blk3 (t : Fin cfg0.N) (e : Fin 1) (k : Fin 1024) : iblk m c 3 t (ix2 e k) = val_main_v1 (F := Ideal) (Md m c) (ix2 e k) := by
  unfold iblk
  change ((cfg0.win 3).blk t).view.read (Elt Ideal) (Md m c) _ = _
  generalize Md m c = W
  rw [val_main_v1_apply]
  refine Eq.trans ?_ (read_block (s := S1x3072) (α := EReal) W S1x1024.size (cc0_transform_3 (grid0.coords t)) (Facts₀.hinb0_3 _)
    (ix2 e k) (idx_main_v1 (ix2 e k)) (idx3 t) (by intro a; fin_cases a <;> simp [ix2]))
  rw [View.read_apply, cast_eq]
  rfl

/-- The rows a point writes. -/
theorem rows_at (t : Fin cfg0.N) (i : Fin 512) (k : Fin 1024) :
    out0_4 (iblk m c 0 t) (iblk m c 1 t) (iblk m c 2 t) (iblk m c 3 t) (ix2 i k)
      = val_main_v21 (F := Ideal) (X m c) (G m c) (Md m c) (ix2 (rowOf t i) k) := by
  unfold out0_4
  rw [View.canon_unit_zero hz]
  simp only [View.ld_unit_zero (S := S512x1024) hz, View.ld_unit_zero (S := S1x1024) hz]
  exact row (blk0 m c t i) (blk1 m c t) (blk2 m c t) (blk3 m c t) k

/-- The array after the run is the reference's. -/
theorem arr : (dats m 0 c).arrAt 4 cfg0.N = val_main_v21 (F := Ideal) (X m c) (G m c) (Md m c) := by
  have hr := rows_at m c
  generalize val_main_v21 (F := Ideal) (X m c) (G m c) (Md m c) = R at hr ⊢
  refine (dats m 0 c).arrAt_eq_of_covers 4 _ (by decide +kernel) fun t hf y => ?_
  rw [cast_eq, after0_4]
  have key : ∀ y : S512x1024.Idx, out0_4 (iblk m c 0 t) (iblk m c 1 t) (iblk m c 2 t) (iblk m c 3 t) y
      = R ((Rect.block (s := S4096x1024) S512x1024.size (cc0_transform_4 (grid0.coords t)) (Facts₀.hinb0_4 _)).emb y) := by
    intro y
    obtain ⟨i, j, rfl⟩ : ∃ i j, y = ix2 i j := ⟨y 0, y 1, (eq_ix2 y)⟩
    rw [hr, read_block (s := S4096x1024) R S512x1024.size (cc0_transform_4 (grid0.coords t)) (Facts₀.hinb0_4 _)
      (ix2 i j) (ix2 (rowOf t i) j) (idx4 t) (by intro a; fin_cases a <;> simp [ix2, rowOf])]
  exact key y

end

end Cert.Kernel11Ideal.Norm

end
-- ==== Proof.PostPreFwd.lean ====
/- The end of a layer and the start of the next: the kernel's two arrays are the reference's. -/
module

public import proofs.«01_k».proof.Proof.Blocks
public import proofs.«01_k».proof.Proof.Gen.Kernel12Ideal.Value
public import proofs.«01_k».proof.Proof.Gen.Reference12Ideal.Read

@[expose] public section

set_option maxRecDepth 16384

noncomputable section

namespace Cert.Kernel12Ideal.Norm

open Cert.Kernel12Ideal Cert.Kernel12Ideal.Gen Cert.Blocks Cert.Reference12Ideal.Read
open Idealize.ShloMosaic Idealize.ShloMosaic.TcCoe Idealize.ShloMosaic.Tactic

theorem hz : (![0, 0] : Fin 2 → Nat) = fun _ => 0 := funext fun a => by fin_cases a <;> rfl

theorem lt (t : Fin cfg0.N) : t.val < 8 := t.isLt

/-- The row of the arrays that row `i` of point `t`'s block is. -/
def rowOf (t : Fin cfg0.N) (i : Fin 512) : Fin 4096 := ⟨t.val * 512 + i.val, by have := lt t; omega⟩

theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![t.val, 0] :=
  (by decide +kernel : ∀ t : Fin grid0.N, cc0_transform_1 (grid0.coords t) = ![t.val, 0])
theorem idx2 : ∀ t : Fin cfg0.N, cc0_transform_2 (grid0.coords t) = ![0, 0] :=
  (by decide +kernel : ∀ t : Fin grid0.N, cc0_transform_2 (grid0.coords t) = ![0, 0])
theorem idx3 : ∀ t : Fin cfg0.N, cc0_transform_3 (grid0.coords t) = ![0, 2] :=
  (by decide +kernel : ∀ t : Fin grid0.N, cc0_transform_3 (grid0.coords t) = ![0, 2])
theorem idx4 : ∀ t : Fin cfg0.N, cc0_transform_4 (grid0.coords t) = ![0, 0] :=
  (by decide +kernel : ∀ t : Fin grid0.N, cc0_transform_4 (grid0.coords t) = ![0, 0])
theorem idx5 : ∀ t : Fin cfg0.N, cc0_transform_5 (grid0.coords t) = ![0, 0] :=
  (by decide +kernel : ∀ t : Fin grid0.N, cc0_transform_5 (grid0.coords t) = ![0, 0])
theorem idx6 : ∀ t : Fin cfg0.N, cc0_transform_6 (grid0.coords t) = ![0, 1] :=
  (by decide +kernel : ∀ t : Fin grid0.N, cc0_transform_6 (grid0.coords t) = ![0, 1])
theorem idx7 : ∀ t : Fin cfg0.N, cc0_transform_7 (grid0.coords t) = ![t.val, 0] :=
  (by decide +kernel : ∀ t : Fin grid0.N, cc0_transform_7 (grid0.coords t) = ![t.val, 0])
theorem idx8 : ∀ t : Fin cfg0.N, cc0_transform_8 (grid0.coords t) = ![t.val, 0] :=
  (by decide +kernel : ∀ t : Fin grid0.N, cc0_transform_8 (grid0.coords t) = ![t.val, 0])

/-! ## The arithmetic of a row -/

section

variable {x yo : Vec Ideal S512x1024 .f32} {gp gate g' sh sc : Vec Ideal S1x1024 .f32} {X Yo : Vec Ideal S4096x1024 .f32} {GP G : Vec Ideal S1x1024 .f32}
  {md mn : Vec Ideal S1x3072 .f32} {i : Fin 512} {n : Fin 4096}

/-- What a point writes of a row of the residual line is the reference's row. -/
theorem line (hx : ∀ k : Fin 1024, x (ix2 i k) = X (ix2 n k)) (hy : ∀ k : Fin 1024, yo (ix2 i k) = Yo (ix2 n k))
    (hg : ∀ (e : Fin 1) (k : Fin 1024), gp (ix2 e k) = GP (ix2 e k))
    (hgate : ∀ (e : Fin 1) (k : Fin 1024), gate (ix2 e k) = val_main_v2 (F := Ideal) md (ix2 e k)) (k : Fin 1024) :
    k0_pay2 x gate yo gp (ix2 i k) = val_main_v17 (F := Ideal) X Yo GP md (ix2 n k) := by
  unfold k0_pay2 val_main_v17 val_main_v16 val_main_v15 val_main_v14 val_main_v13 val_main_v12
    val_main_v11 val_main_v10 val_main_v9 val_main_v8 val_main_v7 val_main_v6 val_main_v5 val_main_v4 val_main_v3 val_main_cst val_main_cst_0
    val_main_cst_1
  revert hgate
  generalize val_main_v2 (F := Ideal) md = b2
  intro hgate
  pointwise []
  simp only [hx, hy, hg, hgate]

/-- What a point writes of a row of the next layer's input is the reference's row. -/
theorem next (hl : ∀ k : Fin 1024, k0_pay2 x gate yo gp (ix2 i k) = val_main_v17 (F := Ideal) X Yo GP md (ix2 n k))
    (hg : ∀ (e : Fin 1) (k : Fin 1024), g' (ix2 e k) = G (ix2 e k))
    (hsh : ∀ (e : Fin 1) (k : Fin 1024), sh (ix2 e k) = val_main_v18 (F := Ideal) mn (ix2 e k))
    (hsc : ∀ (e : Fin 1) (k : Fin 1024), sc (ix2 e k) = val_main_v19 (F := Ideal) mn (ix2 e k)) (k : Fin 1024) :
    k0_pay1 (k0_pay3 x gate yo gp g') (k0_pay4 sc) sh (ix2 i k) = val_main_v39 (F := Ideal) X Yo GP md G mn (ix2 n k) := by
  unfold k0_pay1 k0_pay3 k0_pay4 val_main_v39 val_main_v38 val_main_v37 val_main_v36 val_main_v35 val_main_v34 val_main_v33 val_main_v32 val_main_v31
    val_main_v30 val_main_v29 val_main_v28 val_main_v27 val_main_v26 val_main_v25 val_main_v24 val_main_v23 val_main_v22 val_main_v21
    val_main_cst_2 val_main_cst_3 val_main_cst_4 val_main_cst_5
  revert hl hsh hsc
  generalize k0_pay2 x gate yo gp = a
  generalize val_main_v17 (F := Ideal) X Yo GP md = b
  generalize val_main_v18 (F := Ideal) mn = b0
  generalize val_main_v19 (F := Ideal) mn = b1
  intro hl hsh hsc
  pointwise []
  simp only [hl, hg, hsh, hsc]

end

/-! ## The blocks of a point -/

variable (m : (ℓ : Loc nD τ sig) → Buf (Elt Ideal) ℓ) (c : Dev nD)

abbrev X : Vec Ideal S4096x1024 .f32 := m ((c : Thread nD τ).loc main_arg0)
abbrev Yo : Vec Ideal S4096x1024 .f32 := m ((c : Thread nD τ).loc main_arg1)
abbrev GP : Vec Ideal S1x1024 .f32 := m ((c : Thread nD τ).loc main_arg2)
abbrev Md : Vec Ideal S1x3072 .f32 := m ((c : Thread nD τ).loc main_arg3)
abbrev G : Vec Ideal S1x1024 .f32 := m ((c : Thread nD τ).loc main_arg4)
abbrev Mn : Vec Ideal S1x3072 .f32 := m ((c : Thread nD τ).loc main_arg5)

section

attribute [local irreducible] Pipeline.Grid.coords cc0_transform_0 cc0_transform_1 cc0_transform_2 cc0_transform_3 cc0_transform_4 cc0_transform_5 cc0_transform_6 cc0_transform_7 cc0_transform_8

theorem blk0 (t : Fin cfg0.N) (i : Fin 512) (k : Fin 1024) : iblk m c 0 t (ix2 i k) = X m c (ix2 (rowOf t i) k) := by
  unfold iblk
  change ((cfg0.win 0).blk t).view.read (Elt Ideal) (X m c) _ = _
  generalize X m c = W
  refine Eq.trans ?_ (read_block (s := S4096x1024) (α := EReal) W S512x1024.size (cc0_transform_0 (grid0.coords t)) (Facts₀.hinb0_0 _)
    (ix2 i k) (ix2 (rowOf t i) k) (idx0 t) (by intro a; fin_cases a <;> simp [ix2, rowOf]))
  rw [View.read_apply, cast_eq]
  rfl

theorem blk1 (t : Fin cfg0.N) (i : Fin 512) (k : Fin 1024) : iblk m c 1 t (ix2 i k) = Yo m c (ix2 (rowOf t i) k) := by
  unfold iblk
  change ((cfg0.win 1).blk t).view.read (Elt Ideal) (Yo m c) _ = _
  generalize Yo m c = W
  refine Eq.trans ?_ (read_block (s := S4096x1024) (α := EReal) W S512x1024.size (cc0_transform_1 (grid0.coords t)) (Facts₀.hinb0_1 _)
    (ix2 i k) (ix2 (rowOf t i) k) (idx1 t) (by intro a; fin_cases a <;> simp [ix2, rowOf]))
  rw [View.read_apply, cast_eq]
  rfl

theorem blk2 (t : Fin cfg0.N) (e : Fin 1) (k : Fin 1024) : iblk m c 2 t (ix2 e k) = GP m c (ix2 e k) := by
  unfold iblk
  change ((cfg0.win 2).blk t).view.read (Elt Ideal) (GP m c) _ = _
  generalize GP m c = W
  refine Eq.trans ?_ (read_block (s := S1x1024) (α := EReal) W S1x1024.size (cc0_transform_2 (grid0.coords t)) (Facts₀.hinb0_2 _)
    (ix2 e k) (ix2 e k) (idx2 t) (by intro a; fin_cases a <;> simp [ix2]))
  rw [View.read_apply, cast_eq]
  rfl

theorem blk3 (t : Fin cfg0.N) (e : Fin 1) (k : Fin 1024) : iblk m c 3 t (ix2 e k) = val_main_v2 (F := Ideal) (Md m c) (ix2 e k) := by
  unfold iblk
  change ((cfg0.win 3).blk t).view.read (Elt Ideal) (Md m c) _ = _
  generalize Md m c = W
  rw [val_main_v2_apply]
  refine Eq.trans ?_ (read_block (s := S1x3072) (α := EReal) W S1x1024.size (cc0_transform_3 (grid0.coords t)) (Facts₀.hinb0_3 _)
    (ix2 e k) (idx_main_v2 (ix2 e k)) (idx3 t) (by intro a; fin_cases a <;> simp [ix2]))
  rw [View.read_apply, cast_eq]
  rfl

theorem blk4 (t : Fin cfg0.N) (e : Fin 1) (k : Fin 1024) : iblk m c 4 t (ix2 e k) = G m c (ix2 e k) := by
  unfold iblk
  change ((cfg0.win 4).blk t).view.read (Elt Ideal) (G m c) _ = _
  generalize G m c = W
  refine Eq.trans ?_ (read_block (s := S1x1024) (α := EReal) W S1x1024.size (cc0_transform_4 (grid0.coords t)) (Facts₀.hinb0_4 _)
    (ix2 e k) (ix2 e k) (idx4 t) (by intro a; fin_cases a <;> simp [ix2]))
  rw [View.read_apply, cast_eq]
  rfl

theorem blk5 (t : Fin cfg0.N) (e : Fin 1) (k : Fin 1024) : iblk m c 5 t (ix2 e k) = val_main_v18 (F := Ideal) (Mn m c) (ix2 e k) := by
  unfold iblk
  change ((cfg0.win 5).blk t).view.read (Elt Ideal) (Mn m c) _ = _
  generalize Mn m c = W
  rw [val_main_v18_apply]
  refine Eq.trans ?_ (read_block (s := S1x3072) (α := EReal) W S1x1024.size (cc0_transform_5 (grid0.coords t)) (Facts₀.hinb0_5 _)
    (ix2 e k) (idx_main_v18 (ix2 e k)) (idx5 t) (by intro a; fin_cases a <;> simp [ix2]))
  rw [View.read_apply, cast_eq]
  rfl

theorem blk6 (t : Fin cfg0.N) (e : Fin 1) (k : Fin 1024) : iblk m c 6 t (ix2 e k) = val_main_v19 (F := Ideal) (Mn m c) (ix2 e k) := by
  unfold iblk
  change ((cfg0.win 6).blk t).view.read (Elt Ideal) (Mn m c) _ = _
  generalize Mn m c = W
  rw [val_main_v19_apply]
  refine Eq.trans ?_ (read_block (s := S1x3072) (α := EReal) W S1x1024.size (cc0_transform_6 (grid0.coords t)) (Facts₀.hinb0_6 _)
    (ix2 e k) (idx_main_v19 (ix2 e k)) (idx6 t) (by intro a; fin_cases a <;> simp [ix2]))
  rw [View.read_apply, cast_eq]
  rfl

/-- A row of the residual line. -/
theorem line_at (t : Fin cfg0.N) (i : Fin 512) (k : Fin 1024) : k0_pay2 (iblk m c 0 t) (iblk m c 3 t) (iblk m c 1 t) (iblk m c 2 t) (ix2 i k)
    = val_main_v17 (F := Ideal) (X m c) (Yo m c) (GP m c) (Md m c) (ix2 (rowOf t i) k) :=
  line (blk0 m c t i) (blk1 m c t i) (blk2 m c t) (blk3 m c t) k

/-- The rows of the residual line a point writes. -/
theorem rows_at (t : Fin cfg0.N) (i : Fin 512) (k : Fin 1024) : out0_7 (iblk m c 0 t) (iblk m c 1 t) (iblk m c 2 t) (iblk m c 3 t) (iblk m c 4 t) (iblk m c 5 t) (iblk m c 6 t) (ix2 i k)
    = val_main_v17 (F := Ideal) (X m c) (Yo m c) (GP m c) (Md m c) (ix2 (rowOf t i) k) := by
  unfold out0_7
  rw [View.canon_unit_zero hz]
  simp only [View.ld_unit_zero (S := S512x1024) hz, View.ld_unit_zero (S := S1x1024) hz]
  exact line_at m c t i k

/-- The rows of the next layer's input a point writes. -/
theorem next_at (t : Fin cfg0.N) (i : Fin 512) (k : Fin 1024) : out0_8 (iblk m c 0 t) (iblk m c 1 t) (iblk m c 2 t) (iblk m c 3 t) (iblk m c 4 t) (iblk m c 5 t) (iblk m c 6 t) (ix2 i k)
    = val_main_v39 (F := Ideal) (X m c) (Yo m c) (GP m c) (Md m c) (G m c) (Mn m c) (ix2 (rowOf t i) k) := by
  unfold out0_8
  rw [View.canon_unit_zero hz]
  simp only [View.ld_unit_zero (S := S512x1024) hz, View.ld_unit_zero (S := S1x1024) hz]
  exact next (line_at m c t i) (blk4 m c t) (blk5 m c t) (blk6 m c t) k

/-- The residual line is the reference's. -/
theorem arr_line : (dats m 0 c).arrAt 7 cfg0.N = val_main_v17 (F := Ideal) (X m c) (Yo m c) (GP m c) (Md m c) := by
  have hr := rows_at m c
  generalize val_main_v17 (F := Ideal) (X m c) (Yo m c) (GP m c) (Md m c) = R at hr ⊢
  refine (dats m 0 c).arrAt_eq_of_covers 7 _ (by decide +kernel) fun t hf y => ?_
  rw [cast_eq, after0_7]
  have key : ∀ y : S512x1024.Idx, out0_7 (iblk m c 0 t) (iblk m c 1 t) (iblk m c 2 t) (iblk m c 3 t) (iblk m c 4 t) (iblk m c 5 t) (iblk m c 6 t) y
      = R ((Rect.block (s := S4096x1024) S512x1024.size (cc0_transform_7 (grid0.coords t)) (Facts₀.hinb0_7 _)).emb y) := by
    intro y
    obtain ⟨i, j, rfl⟩ : ∃ i j, y = ix2 i j := ⟨y 0, y 1, (eq_ix2 y)⟩
    rw [hr, read_block (s := S4096x1024) R S512x1024.size (cc0_transform_7 (grid0.coords t)) (Facts₀.hinb0_7 _)
      (ix2 i j) (ix2 (rowOf t i) j) (idx7 t) (by intro a; fin_cases a <;> simp [ix2, rowOf])]
  exact key y

/-- The next layer's input is the reference's. -/
theorem arr_next : (dats m 0 c).arrAt 8 cfg0.N = val_main_v39 (F := Ideal) (X m c) (Yo m c) (GP m c) (Md m c) (G m c) (Mn m c) := by
  have hr := next_at m c
  generalize val_main_v39 (F := Ideal) (X m c) (Yo m c) (GP m c) (Md m c) (G m c) (Mn m c) = R at hr ⊢
  refine (dats m 0 c).arrAt_eq_of_covers 8 _ (by decide +kernel) fun t hf y => ?_
  rw [cast_eq, after0_8]
  have key : ∀ y : S512x1024.Idx, out0_8 (iblk m c 0 t) (iblk m c 1 t) (iblk m c 2 t) (iblk m c 3 t) (iblk m c 4 t) (iblk m c 5 t) (iblk m c 6 t) y
      = R ((Rect.block (s := S4096x1024) S512x1024.size (cc0_transform_8 (grid0.coords t)) (Facts₀.hinb0_8 _)).emb y) := by
    intro y
    obtain ⟨i, j, rfl⟩ : ∃ i j, y = ix2 i j := ⟨y 0, y 1, (eq_ix2 y)⟩
    rw [hr, read_block (s := S4096x1024) R S512x1024.size (cc0_transform_8 (grid0.coords t)) (Facts₀.hinb0_8 _)
      (ix2 i j) (ix2 (rowOf t i) j) (idx8 t) (by intro a; fin_cases a <;> simp [ix2, rowOf])]
  exact key y

end

end Cert.Kernel12Ideal.Norm

end
-- ==== Proof.PostLoss.lean ====
/- The end of the last layer and the loss: the kernel's two arrays are the reference's. -/
module

public import proofs.«01_k».proof.Proof.Blocks
public import proofs.«01_k».proof.Proof.Gen.Kernel13Ideal.Value
public import proofs.«01_k».proof.Proof.Gen.Reference13Ideal.Read

@[expose] public section

set_option maxRecDepth 16384

noncomputable section

namespace Cert.Kernel13Ideal.Loss

open Cert.Kernel13Ideal Cert.Kernel13Ideal.Gen Cert.Blocks Cert.Reference13Ideal.Read
open Idealize.ShloMosaic Idealize.ShloMosaic.TcCoe Idealize.ShloMosaic.Tactic

theorem hz : (![0, 0] : Fin 2 → Nat) = fun _ => 0 := funext fun a => by fin_cases a <;> rfl

theorem lt (t : Fin cfg0.N) : t.val < 8 := t.isLt

/-- The row of the arrays that row `i` of point `t`'s block is. -/
def rowOf (t : Fin cfg0.N) (i : Fin 512) : Fin 4096 := ⟨t.val * 512 + i.val, by have := lt t; omega⟩

theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![t.val, 0] :=
  (by decide +kernel : ∀ t : Fin grid0.N, cc0_transform_1 (grid0.coords t) = ![t.val, 0])
theorem idx2 : ∀ t : Fin cfg0.N, cc0_transform_2 (grid0.coords t) = ![0, 0] :=
  (by decide +kernel : ∀ t : Fin grid0.N, cc0_transform_2 (grid0.coords t) = ![0, 0])
theorem idx3 : ∀ t : Fin cfg0.N, cc0_transform_3 (grid0.coords t) = ![0, 2] :=
  (by decide +kernel : ∀ t : Fin grid0.N, cc0_transform_3 (grid0.coords t) = ![0, 2])
theorem idx4 : ∀ t : Fin cfg0.N, cc0_transform_4 (grid0.coords t) = ![t.val, 0] :=
  (by decide +kernel : ∀ t : Fin grid0.N, cc0_transform_4 (grid0.coords t) = ![t.val, 0])
theorem idx5 : ∀ t : Fin cfg0.N, cc0_transform_5 (grid0.coords t) = ![0, 0] :=
  (by decide +kernel : ∀ t : Fin grid0.N, cc0_transform_5 (grid0.coords t) = ![0, 0])
theorem idx6 : ∀ t : Fin cfg0.N, cc0_transform_6 (grid0.coords t) = ![t.val, 0] :=
  (by decide +kernel : ∀ t : Fin grid0.N, cc0_transform_6 (grid0.coords t) = ![t.val, 0])

/-! ## What a point leaves in its blocks -/

section

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S1x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S1x1 .f32) (h6 : a6.IsWhole) (a7 : Memref sig .tc .vmem S512x1024 .f32) (h7 : a7.IsWhole)
  (x0 x1 : Vec Ideal S512x1024 .f32) (x2 x3 : Vec Ideal S1x1024 .f32) (x4 : Vec Ideal S512x1024 .f32) (xo5 : Vec Ideal S1x1 .f32)

theorem rows_A (hc : cond0_0 i) : out0_A_6 c i a1 h1 a2 h2 a3 h3 a4 h4 a5 h5 a6 h6 a7 h7 hc x0 x1 x2 x3 x4
    = k0_pay3 x0 x3 x1 x2 x4 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1x1024) hz]

theorem rows_B (hc : ¬cond0_0 i) : out0_B_6 c i a1 h1 a2 h2 a3 h3 a4 h4 a5 h5 a6 h6 a7 h7 hc x0 x1 x2 x3 x4 xo5
    = k0_pay3 x0 x3 x1 x2 x4 := by
  unfold out0_B_6
  rw [View.read_writes_eq_canon _ _ _ (cover0_B_6 c i a1 h1 a2 h2 a3 h3 a4 h4 a5 h5 a6 h6 a7 h7 hc x0 x1 x2 x3 x4 xo5)]
  unfold kernelRun0_B
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1x1024) hz]

theorem loss_A (hc : cond0_0 i) : out0_A_5 c i a1 h1 a2 h2 a3 h3 a4 h4 a5 h5 a6 h6 a7 h7 hc x0 x1 x2 x3 x4
    = k0_pay1 (k0_pay5 (k0_pay4 (F := Ideal))) (k0_pay6 x0 x3 x1 x2 x4) := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S512x1024) hz, View.ld_unit_zero (S := S1x1024) hz]

theorem loss_B (hc : ¬cond0_0 i) : out0_B_5 c i a1 h1 a2 h2 a3 h3 a4 h4 a5 h5 a6 h6 a7 h7 hc x0 x1 x2 x3 x4 xo5
    = k0_pay1 (k0_pay5 xo5) (k0_pay6 x0 x3 x1 x2 x4) := by
  unfold out0_B_5
  rw [View.read_writes_eq_canon _ _ _ (cover0_B_5 c i a1 h1 a2 h2 a3 h3 a4 h4 a5 h5 a6 h6 a7 h7 hc x0 x1 x2 x3 x4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S512x1024) hz, View.ld_unit_zero (S := S1x1024) hz, View.ld_unit_zero (S := S1x1) hz]

end

/-! ## The constants -/

/-- One 1024th. -/
theorem inv_kilo : Ideal.ofBits .f32 0x3A800000#32 = ((1 / 1024 : ℝ) : EReal) := by
  simp [Ideal.ofBits, Ideal.ieee]
  norm_num
  exact (EReal.coe_mul _ _).symm.trans (congrArg _ (by norm_num))

/-- One half. -/
theorem half : Ideal.ofBits .f32 0x3F000000#32 = ((1 / 2 : ℝ) : EReal) := by
  simp [Ideal.ofBits, Ideal.ieee]
  norm_num
  exact (EReal.coe_mul _ _).symm.trans (congrArg _ (by norm_num))

/-- Two. -/
theorem two : Ideal.ofBits .f32 0x40000000#32 = ((2 : ℝ) : EReal) := by
  simp [Ideal.ofBits, Ideal.ieee]
  norm_num
  exact (EReal.coe_mul _ _).symm.trans (congrArg _ (by norm_num))

/-- 1024. -/
theorem kilo : Ideal.ofBits .f32 0x44800000#32 = ((1024 : ℝ) : EReal) := by
  simp [Ideal.ofBits, Ideal.ieee]
  norm_num
  exact (EReal.coe_mul _ _).symm.trans (congrArg _ (by norm_num))

/-- Dividing by 1024 is multiplying by its inverse. -/
theorem kilo_div (a : EReal) : a * ((1 / 1024 : ℝ) : EReal) = Ideal.div a ((1024 : ℝ) : EReal) := by
  have h0 : ((1024 : ℝ) : EReal) ≠ 0 := by norm_num
  unfold Ideal.div
  simp [h0, div_eq_mul_inv, ← EReal.coe_inv]

/-- Half of the 1024th part of twice a number is its 1024th part. -/
theorem kilo_two (a : EReal) : a * ((1 / 1024 : ℝ) : EReal)
    = Ideal.div ((1 / 2 : ℝ) : EReal) ((1024 : ℝ) : EReal) * (((2 : ℝ) : EReal) * a) := by
  rw [← kilo_div, ← mul_assoc, ← EReal.coe_mul, ← EReal.coe_mul, mul_comm]
  norm_num

/-! ## The arithmetic of a row -/

section

variable {x yo tg : Vec Ideal S512x1024 .f32} {gp gate : Vec Ideal S1x1024 .f32} {X Yo Tg : Vec Ideal S4096x1024 .f32} {G : Vec Ideal S1x1024 .f32}
  {md : Vec Ideal S1x3072 .f32} {i : Fin 512} {n : Fin 4096}

/-- A row's difference from the target. -/
theorem err (hx : ∀ k : Fin 1024, x (ix2 i k) = X (ix2 n k)) (hy : ∀ k : Fin 1024, yo (ix2 i k) = Yo (ix2 n k))
    (ht : ∀ k : Fin 1024, tg (ix2 i k) = Tg (ix2 n k)) (hg : ∀ (e : Fin 1) (k : Fin 1024), gp (ix2 e k) = G (ix2 e k))
    (hgate : ∀ (e : Fin 1) (k : Fin 1024), gate (ix2 e k) = val_main_v2 (F := Ideal) md (ix2 e k)) (k : Fin 1024) :
    k0_pay2 x gate yo gp tg (ix2 i k) = val_main_v18 (F := Ideal) X Yo G md Tg (ix2 n k) := by
  unfold k0_pay2 val_main_v18 val_main_v17 val_main_v16 val_main_v15 val_main_v14 val_main_v13 val_main_v12
    val_main_v11 val_main_v10 val_main_v9 val_main_v8 val_main_v7 val_main_v6 val_main_v5 val_main_v4 val_main_v3 val_main_cst val_main_cst_0
    val_main_cst_1
  revert hgate
  generalize val_main_v2 (F := Ideal) md = b2
  intro hgate
  pointwise []
  simp only [hx, hy, ht, hg, hgate]

/-- A row's gradient. -/
theorem grad (he : ∀ k : Fin 1024, k0_pay2 x gate yo gp tg (ix2 i k) = val_main_v18 (F := Ideal) X Yo G md Tg (ix2 n k)) (k : Fin 1024) :
    k0_pay3 x gate yo gp tg (ix2 i k) = val_main_v33 (F := Ideal) X Yo G md Tg (ix2 n k) := by
  unfold k0_pay3 val_main_v33 val_main_v32 val_main_v31 val_main_v30 val_main_v29 val_main_v28 val_main_v21 val_main_v20 val_main_cst_2 val_main_cst_7
    val_main_cst_8 val_main_cst_9
  revert he
  generalize k0_pay2 x gate yo gp tg = a
  generalize val_main_v18 (F := Ideal) X Yo G md Tg = b
  intro he
  pointwise []
  simp only [he]
  rw [inv_kilo, half, two, kilo]
  exact kilo_two _

/-- A row's part of the loss, before it is halved. -/
theorem part (he : ∀ k : Fin 1024, k0_pay2 x gate yo gp tg (ix2 i k) = val_main_v18 (F := Ideal) X Yo G md Tg (ix2 n k)) (e : Fin 1) :
    k0_pay6 x gate yo gp tg (ix2 i e) = val_main_v24 (F := Ideal) X Yo G md Tg (ix1 n) := by
  unfold k0_pay6 val_main_v24 val_main_v23 val_main_v22 val_main_v19 val_main_cst_3 val_main_cst_4
  revert he
  generalize k0_pay2 x gate yo gp tg = a
  generalize val_main_v18 (F := Ideal) X Yo G md Tg = b
  intro he
  pointwise []
  simp only [he]
  rw [inv_kilo, kilo]
  exact kilo_div _

/-- The block's part of the loss. -/
theorem loss_rows (w : Vec Ideal S1x1 .f32) (v : Vec Ideal S512x1 .f32) (e f : Fin 1) :
    k0_pay1 (k0_pay5 w) v (ix2 e f) = w (ix2 e f) + ((1 / 2 : ℝ) : EReal) * ∑ i : Fin 512, v (ix2 i f) := by
  unfold k0_pay1 k0_pay5
  pointwise []
  rw [half, show (0 : Fin 1) = f from Subsingleton.elim _ _]

/-- The first point starts from zero. -/
theorem zero_loss (e f : Fin 1) : k0_pay4 (F := Ideal) (ix2 e f) = 0 := by
  unfold k0_pay4
  pointwise []

/-- The reference's loss is half the sum of its rows' parts. -/
theorem loss_sum (e f : Fin 1) :
    val_main_v27 (F := Ideal) X Yo G md Tg (ix2 e f) = ((1 / 2 : ℝ) : EReal) * ∑ n : Fin 4096, val_main_v24 (F := Ideal) X Yo G md Tg (ix1 n) := by
  unfold val_main_v27 val_main_v26 val_main_v25 val_main_cst_5 val_main_cst_6
  generalize val_main_v24 (F := Ideal) X Yo G md Tg = b
  pointwise []
  rw [half]

/-- Half of a sum is the sum of the halves. -/
theorem half_sum (f : ℕ → EReal) (n : ℕ) : (∑ b ∈ Finset.range n, ((1 / 2 : ℝ) : EReal) * f b) = ((1 / 2 : ℝ) : EReal) * ∑ b ∈ Finset.range n, f b := by
  induction n with
  | zero => simp
  | succ n ih =>
    rw [Finset.sum_range_succ, Finset.sum_range_succ, ih, EReal.left_distrib_of_nonneg_of_ne_top (EReal.coe_nonneg.mpr (by norm_num)) (EReal.coe_ne_top _)]

end

/-! ## The blocks of a point -/

variable (m : (ℓ : Loc nD τ sig) → Buf (Elt Ideal) ℓ) (c : Dev nD)

abbrev X : Vec Ideal S4096x1024 .f32 := m ((c : Thread nD τ).loc main_arg0)
abbrev Yo : Vec Ideal S4096x1024 .f32 := m ((c : Thread nD τ).loc main_arg1)
abbrev G : Vec Ideal S1x1024 .f32 := m ((c : Thread nD τ).loc main_arg2)
abbrev Md : Vec Ideal S1x3072 .f32 := m ((c : Thread nD τ).loc main_arg3)
abbrev Tg : Vec Ideal S4096x1024 .f32 := m ((c : Thread nD τ).loc main_arg4)

section

attribute [local irreducible] Pipeline.Grid.coords cc0_transform_0 cc0_transform_1 cc0_transform_2 cc0_transform_3 cc0_transform_4 cc0_transform_5 cc0_transform_6

theorem blk0 (t : Fin cfg0.N) (i : Fin 512) (k : Fin 1024) : iblk m c 0 t (ix2 i k) = X m c (ix2 (rowOf t i) k) := by
  unfold iblk
  change ((cfg0.win 0).blk t).view.read (Elt Ideal) (X m c) _ = _
  generalize X m c = W
  refine Eq.trans ?_ (read_block (s := S4096x1024) (α := EReal) W S512x1024.size (cc0_transform_0 (grid0.coords t)) (Facts₀.hinb0_0 _)
    (ix2 i k) (ix2 (rowOf t i) k) (idx0 t) (by intro a; fin_cases a <;> simp [ix2, rowOf]))
  rw [View.read_apply, cast_eq]
  rfl

theorem blk1 (t : Fin cfg0.N) (i : Fin 512) (k : Fin 1024) : iblk m c 1 t (ix2 i k) = Yo m c (ix2 (rowOf t i) k) := by
  unfold iblk
  change ((cfg0.win 1).blk t).view.read (Elt Ideal) (Yo m c) _ = _
  generalize Yo m c = W
  refine Eq.trans ?_ (read_block (s := S4096x1024) (α := EReal) W S512x1024.size (cc0_transform_1 (grid0.coords t)) (Facts₀.hinb0_1 _)
    (ix2 i k) (ix2 (rowOf t i) k) (idx1 t) (by intro a; fin_cases a <;> simp [ix2, rowOf]))
  rw [View.read_apply, cast_eq]
  rfl

theorem blk2 (t : Fin cfg0.N) (e : Fin 1) (k : Fin 1024) : iblk m c 2 t (ix2 e k) = G m c (ix2 e k) := by
  unfold iblk
  change ((cfg0.win 2).blk t).view.read (Elt Ideal) (G m c) _ = _
  generalize G m c = W
  refine Eq.trans ?_ (read_block (s := S1x1024) (α := EReal) W S1x1024.size (cc0_transform_2 (grid0.coords t)) (Facts₀.hinb0_2 _)
    (ix2 e k) (ix2 e k) (idx2 t) (by intro a; fin_cases a <;> simp [ix2]))
  rw [View.read_apply, cast_eq]
  rfl

theorem blk3 (t : Fin cfg0.N) (e : Fin 1) (k : Fin 1024) : iblk m c 3 t (ix2 e k) = val_main_v2 (F := Ideal) (Md m c) (ix2 e k) := by
  unfold iblk
  change ((cfg0.win 3).blk t).view.read (Elt Ideal) (Md m c) _ = _
  generalize Md m c = W
  rw [val_main_v2_apply]
  refine Eq.trans ?_ (read_block (s := S1x3072) (α := EReal) W S1x1024.size (cc0_transform_3 (grid0.coords t)) (Facts₀.hinb0_3 _)
    (ix2 e k) (idx_main_v2 (ix2 e k)) (idx3 t) (by intro a; fin_cases a <;> simp [ix2]))
  rw [View.read_apply, cast_eq]
  rfl

theorem blk4 (t : Fin cfg0.N) (i : Fin 512) (k : Fin 1024) : iblk m c 4 t (ix2 i k) = Tg m c (ix2 (rowOf t i) k) := by
  unfold iblk
  change ((cfg0.win 4).blk t).view.read (Elt Ideal) (Tg m c) _ = _
  generalize Tg m c = W
  refine Eq.trans ?_ (read_block (s := S4096x1024) (α := EReal) W S512x1024.size (cc0_transform_4 (grid0.coords t)) (Facts₀.hinb0_4 _)
    (ix2 i k) (ix2 (rowOf t i) k) (idx4 t) (by intro a; fin_cases a <;> simp [ix2, rowOf]))
  rw [View.read_apply, cast_eq]
  rfl

/-- A row's difference from the target. -/
theorem err_at (t : Fin cfg0.N) (i : Fin 512) (k : Fin 1024) :
    k0_pay2 (iblk m c 0 t) (iblk m c 3 t) (iblk m c 1 t) (iblk m c 2 t) (iblk m c 4 t) (ix2 i k)
      = val_main_v18 (F := Ideal) (X m c) (Yo m c) (G m c) (Md m c) (Tg m c) (ix2 (rowOf t i) k) :=
  err (blk0 m c t i) (blk1 m c t i) (blk4 m c t i) (blk2 m c t) (blk3 m c t) k

/-! ## What the points leave -/

/-- The rows a point writes. -/
theorem rows_at (t : Fin cfg0.N) (i : Fin 512) (k : Fin 1024) :
    (outsAt0 m c t.val t.isLt).2 (ix2 i k) = val_main_v33 (F := Ideal) (X m c) (Yo m c) (G m c) (Md m c) (Tg m c) (ix2 (rowOf t i) k) := by
  by_cases h : t.val % 8 = 0
  · rw [outsAt0_A m c t h]
    dsimp only
    rw [rows_A]
    exact grad (err_at m c t i) k
  · rw [outsAt0_B m c t h]
    dsimp only
    rw [rows_B]
    exact grad (err_at m c t i) k

/-- An entry of a column, by its row's number. -/
def entry (W : Vec Ideal Cert.Reference13Ideal.S4096 .f32) (n : ℕ) : EReal := if h : n < 4096 then W (ix1 ⟨n, h⟩) else 0

/-- An entry of a point's block, by its row's number. -/
theorem entry_row (W : Vec Ideal Cert.Reference13Ideal.S4096 .f32) (t : Fin cfg0.N) (i : Fin 512) :
    entry W (t.val * 512 + i.val) = W (ix1 (rowOf t i)) := by
  have := lt t
  rw [entry, dif_pos (by omega)]
  rfl

/-- Eight sums over 512 rows are one over all of them. -/
theorem sum_entries (W : Vec Ideal Cert.Reference13Ideal.S4096 .f32) :
    (∑ n ∈ Finset.range 8, ∑ i : Fin 512, entry W (n * 512 + i.val)) = ∑ n : Fin 4096, W (ix1 n) := by
  have e : ∀ n : Fin 4096, W (ix1 n) = entry W n.val := fun n => by rw [entry, dif_pos n.isLt]
  rw [Finset.sum_congr rfl fun n _ => e n, Fin.sum_univ_eq_sum_range (entry W) 4096, show (4096 : ℕ) = 8 * 512 from rfl]
  simp only [fun n => Fin.sum_univ_eq_sum_range (fun a => entry W (n * 512 + a)) 512]
  generalize 8 = b
  induction b with
  | zero => simp
  | succ b ih => rw [Finset.sum_range_succ, ih, Nat.succ_mul, Finset.sum_range_add]

/-- The loss after a point. -/
theorem loss_at (e f : Fin 1) : ∀ (n : ℕ) (h : n < cfg0.N), (outsAt0 m c n h).1 (ix2 e f)
    = ∑ b ∈ Finset.range (n + 1), ((1 / 2 : ℝ) : EReal) * ∑ i : Fin 512, entry (val_main_v24 (F := Ideal) (X m c) (Yo m c) (G m c) (Md m c) (Tg m c)) (b * 512 + i.val) := by
  intro n
  induction n with
  | zero =>
    intro h
    rw [outsAt0_A m c ⟨0, h⟩ rfl]
    dsimp only
    rw [loss_A, loss_rows, zero_loss, zero_add, Finset.sum_range_one]
    refine congrArg _ (Finset.sum_congr rfl fun i _ => ?_)
    rw [part (err_at m c ⟨0, h⟩ i)]
    exact (entry_row _ ⟨0, h⟩ i).symm
  | succ n ih =>
    intro h
    have hB : ¬(⟨n + 1, h⟩ : Fin cfg0.N).val % 8 = 0 := by have := lt ⟨n + 1, h⟩; dsimp only at this ⊢; omega
    rw [outsAt0_B m c ⟨n + 1, h⟩ hB]
    dsimp only
    rw [loss_B, loss_rows, Finset.sum_range_succ]
    refine congrArg₂ (· + ·) (ih _) (congrArg _ (Finset.sum_congr rfl fun i _ => ?_))
    rw [part (err_at m c ⟨n + 1, h⟩ i)]
    exact (entry_row _ ⟨n + 1, h⟩ i).symm

/-! ## The arrays after the run -/

/-- The gradient that the backward pass starts from is the reference's. -/
theorem arr_rows : (dats m 0 c).arrAt 6 cfg0.N = val_main_v33 (F := Ideal) (X m c) (Yo m c) (G m c) (Md m c) (Tg m c) := by
  have hr := rows_at m c
  generalize val_main_v33 (F := Ideal) (X m c) (Yo m c) (G m c) (Md m c) (Tg m c) = R at hr ⊢
  refine (dats m 0 c).arrAt_eq_of_covers 6 _ (by decide +kernel) fun t hf y => ?_
  rw [cast_eq, after0_6]
  have key : ∀ y : S512x1024.Idx, (outsAt0 m c t.val t.isLt).2 y
      = R ((Rect.block (s := S4096x1024) S512x1024.size (cc0_transform_6 (grid0.coords t)) (Facts₀.hinb0_6 _)).emb y) := by
    intro y
    obtain ⟨i, j, rfl⟩ : ∃ i j, y = ix2 i j := ⟨y 0, y 1, (eq_ix2 y)⟩
    rw [hr, read_block (s := S4096x1024) R S512x1024.size (cc0_transform_6 (grid0.coords t)) (Facts₀.hinb0_6 _)
      (ix2 i j) (ix2 (rowOf t i) j) (idx6 t) (by intro a; fin_cases a <;> simp [ix2, rowOf])]
  exact key y

/-- The loss is the reference's. -/
theorem arr_loss : (dats m 0 c).arrAt 5 cfg0.N = val_main_v27 (F := Ideal) (X m c) (Yo m c) (G m c) (Md m c) (Tg m c) := by
  have hr : ∀ (h : 7 < cfg0.N) (e f : Fin 1), (outsAt0 m c 7 h).1 (ix2 e f) = val_main_v27 (F := Ideal) (X m c) (Yo m c) (G m c) (Md m c) (Tg m c) (ix2 e f) :=
    fun h e f => by rw [loss_at, half_sum, sum_entries, loss_sum]
  generalize val_main_v27 (F := Ideal) (X m c) (Yo m c) (G m c) (Md m c) (Tg m c) = R at hr ⊢
  refine (dats m 0 c).arrAt_eq_of_covers 5 _ (by decide +kernel) fun t hf y => ?_
  rw [cast_eq, after0_5]
  have h7 : t.val = 7 := by have := (flush0_5 t).mp hf; have := lt t; omega
  have key : ∀ y : S1x1.Idx, (outsAt0 m c t.val t.isLt).1 y
      = R ((Rect.block (s := S1x1) S1x1.size (cc0_transform_5 (grid0.coords t)) (Facts₀.hinb0_5 _)).emb y) := by
    intro y
    obtain ⟨i, j, rfl⟩ : ∃ i j, y = ix2 i j := ⟨y 0, y 1, (eq_ix2 y)⟩
    rw [read_block (s := S1x1) R S1x1.size (cc0_transform_5 (grid0.coords t)) (Facts₀.hinb0_5 _)
      (ix2 i j) (ix2 i j) (idx5 t) (by intro a; fin_cases a <;> simp [ix2]), ← hr (by rw [← h7]; exact t.isLt)]
    simp only [h7]
  exact key y

end

end Cert.Kernel13Ideal.Loss

end
-- ==== Proof.AdaBwd.lean ====
/- The gradient of the modulation's weights: the kernel's array is the reference's. -/
module

public import proofs.«01_k».proof.Proof.Blocks
public import proofs.«01_k».proof.Proof.Gen.Kernel14Ideal.Value
public import proofs.«01_k».proof.Proof.Gen.Reference14Ideal.Read

@[expose] public section

set_option maxRecDepth 16384

noncomputable section

namespace Cert.Kernel14Ideal.Ada

open Cert.Kernel14Ideal Cert.Kernel14Ideal.Gen Cert.Blocks Cert.Reference14Ideal.Read
open Idealize.ShloMosaic Idealize.ShloMosaic.TcCoe Idealize.ShloMosaic.Tactic

theorem hz2 : (![0, 0] : Fin 2 → Nat) = fun _ => 0 := funext fun a => by fin_cases a <;> rfl

theorem hz3 : (![0, 0, 0] : Fin 3 → Nat) = fun _ => 0 := funext fun a => by fin_cases a <;> rfl

theorem lt (t : Fin cfg0.N) : t.val < 16 := t.isLt

/-- The layer of a point. -/
def layer (t : Fin cfg0.N) : Fin 4 := ⟨t.val / 4, by have := lt t; omega⟩

/-- The row of the weights that row `i` of point `t`'s block is. -/
def rowOf (t : Fin cfg0.N) (i : Fin 256) : Fin 1024 := ⟨t.val % 4 * 256 + i.val, by omega⟩

theorem idx0 : ∀ t : Fin cfg0.N, cc0_transform_0 (grid0.coords t) = ![t.val % 4, 0] :=
  (by decide +kernel : ∀ t : Fin grid0.N, cc0_transform_0 (grid0.coords t) = ![t.val % 4, 0])
theorem idx1 : ∀ t : Fin cfg0.N, cc0_transform_1 (grid0.coords t) = ![t.val / 4, 0, 0] :=
  (by decide +kernel : ∀ t : Fin grid0.N, cc0_transform_1 (grid0.coords t) = ![t.val / 4, 0, 0])
theorem idx2 : ∀ t : Fin cfg0.N, cc0_transform_2 (grid0.coords t) = ![t.val / 4, t.val % 4, 0] :=
  (by decide +kernel : ∀ t : Fin grid0.N, cc0_transform_2 (grid0.coords t) = ![t.val / 4, t.val % 4, 0])

/-! ## What a point computes -/

/-- One example's row of a block. -/
theorem ld_at (x : Vec Ideal S1x8x768 .f32) (n : Fin 8) (inb : ∀ a, (![0, n.val, 0] : Fin 3 → ℕ) a + S1x1x768.size a ≤ S1x8x768.size a) (a b : Fin 1) (j : Fin 768) :
    View.ld x (Rect.unit (s := S1x8x768) ![0, n.val, 0] S1x1x768.size inb) (ix3 a b j) = x (ix3 0 n j) := by
  refine View.ld_unit_apply_of x _ _ inb _ _ fun d => ?_
  fin_cases d <;> simp [ix3]

/-- The activation of one example's conditioning. -/
def act (x : EReal) : EReal := x * Ideal.div (Ideal.ofBits .f32 0x3F800000#32) (Ideal.ofBits .f32 0x3F800000#32 + Ideal.exp (-x))

theorem act_at (x : Vec Ideal S256x8 .f32) (i : Fin 256) (e : Fin 8) : k0_pay2 x (ix2 i e) = act (x (ix2 i e)) := by
  unfold k0_pay2 act
  pointwise []
  rw [sub_eq_add_neg, zero_add]

/-- The sum over the examples. -/
theorem out_at (x : Vec Ideal S256x8 .f32) (d : Vec Ideal S1x8x768 .f32) (a : Fin 1) (i : Fin 256) (j : Fin 768) :
    out0_2 x d (ix3 a i j) = ∑ e : Fin 8, d (ix3 0 e j) * act (x (ix2 i e)) := by
  unfold out0_2
  rw [View.canon_unit_zero hz3, View.ld_unit_zero hz2]
  unfold k0_pay1 k0_pay3 k0_pay4
  have ha := act_at x
  generalize k0_pay2 x = y at ha ⊢
  have h0 := ld_at d 0
  have h1 := ld_at d 1
  have h2 := ld_at d 2
  have h3 := ld_at d 3
  have h4 := ld_at d 4
  have h5 := ld_at d 5
  have h6 := ld_at d 6
  have h7 := ld_at d 7
  pointwise []
  rw [Fin.sum_univ_eight]
  simp only [ha, mul_comm]

/-- The reference's activation. -/
theorem ref_act (x : Vec Ideal S8x1024 .f32) (e : Fin 8) (i : Fin 1024) : val_main_v0 (F := Ideal) x (ix2 e i) = act (x (ix2 e i)) := by
  unfold val_main_v0 val_main_call0_v5 val_main_call0_v4 val_main_call0_v3 val_main_call0_v2 val_main_call0_v1 val_main_call0_v0 val_main_call0_cst
    val_main_call0_cst_0 act
  pointwise []

/-- The reference's sum over the examples. -/
theorem ref_at (x : Vec Ideal S8x1024 .f32) (d : Vec Ideal S8x4x768 .f32) (l : Fin 4) (i : Fin 1024) (j : Fin 768) :
    val_main_v3 (F := Ideal) x d (ix3 l i j) = ∑ e : Fin 8, d (ix3 e l j) * act (x (ix2 e i)) := by
  unfold val_main_v3 val_main_v2
  have h := ref_act x
  generalize val_main_v0 (F := Ideal) x = y at h ⊢
  pointwise []
  simp only [h]

/-! ## The blocks of a point -/

variable (m : (ℓ : Loc nD τ sig) → Buf (Elt Ideal) ℓ) (c : Dev nD)

/-- The conditioning, transposed. -/
theorem V_v0 (k : Fin 1024) (e : Fin 8) : V m c main_v0 (ix2 k e) = m ((c : Thread nD τ).loc main_arg0) (ix2 e k) := by
  have h : V m c main_v0 = transpose S1024x8 [1, 0] (m ((c : Thread nD τ).loc main_arg0)) transposes_S8x1024_S1024x8_1_0 := by
    unfold V
    simp only [hostOps0]
    after_results_simp
  rw [h]
  pointwise []

/-- The gradients of the modulations, by layers. -/
theorem V_v1 (l : Fin 4) (e : Fin 8) (j : Fin 768) : V m c main_v1 (ix3 l e j) = m ((c : Thread nD τ).loc main_arg2) (ix3 e l j) := by
  have h : V m c main_v1 = transpose S4x8x768 [1, 0, 2] (m ((c : Thread nD τ).loc main_arg2)) transposes_S8x4x768_S4x8x768_1_0_2 := by
    unfold V
    simp only [hostOps0]
    after_results_simp
  rw [h]
  pointwise []

section

attribute [local irreducible] Pipeline.Grid.coords cc0_transform_0 cc0_transform_1 cc0_transform_2

theorem blk0 (t : Fin cfg0.N) (i : Fin 256) (e : Fin 8) : iblk m c 0 t (ix2 i e) = m ((c : Thread nD τ).loc main_arg0) (ix2 e (rowOf t i)) := by
  rw [← V_v0 m c]
  unfold iblk
  change ((cfg0.win 0).blk t).view.read (Elt Ideal) (V m c main_v0) _ = _
  generalize V m c main_v0 = W
  refine Eq.trans ?_ (read_block (s := S1024x8) (α := EReal) W S256x8.size (cc0_transform_0 (grid0.coords t)) (Facts₀.hinb0_0 _)
    (ix2 i e) (ix2 (rowOf t i) e) (idx0 t) (by intro a; fin_cases a <;> simp [ix2, rowOf]))
  rw [View.read_apply, cast_eq]
  rfl

theorem blk1 (t : Fin cfg0.N) (e : Fin 8) (j : Fin 768) : iblk m c 1 t (ix3 0 e j) = m ((c : Thread nD τ).loc main_arg2) (ix3 e (layer t) j) := by
  rw [← V_v1 m c]
  unfold iblk
  change ((cfg0.win 1).blk t).view.read (Elt Ideal) (V m c main_v1) _ = _
  generalize V m c main_v1 = W
  refine Eq.trans ?_ (read_block (s := S4x8x768) (α := EReal) W S1x8x768.size (cc0_transform_1 (grid0.coords t)) (Facts₀.hinb0_1 _)
    (ix3 0 e j) (ix3 (layer t) e j) (idx1 t) (by intro a; fin_cases a <;> simp [ix3, layer]))
  rw [View.read_apply, cast_eq]
  rfl

/-- The array after the run is the reference's. -/
theorem arr : (dats m 0 c).arrAt 2 cfg0.N
    = val_main_v3 (F := Ideal) (m ((c : Thread nD τ).loc main_arg0)) (m ((c : Thread nD τ).loc main_arg2)) := by
  have hr := ref_at (m ((c : Thread nD τ).loc main_arg0)) (m ((c : Thread nD τ).loc main_arg2))
  have hb0 := blk0 m c
  have hb1 := blk1 m c
  generalize val_main_v3 (F := Ideal) (m ((c : Thread nD τ).loc main_arg0)) (m ((c : Thread nD τ).loc main_arg2)) = R at hr ⊢
  refine (dats m 0 c).arrAt_eq_of_covers 2 _ (by decide +kernel) fun t hf y => ?_
  rw [cast_eq, after0_2]
  have key : ∀ y : S1x256x768.Idx, out0_2 (iblk m c 0 t) (iblk m c 1 t) y
      = R ((Rect.block (s := S4x1024x768) S1x256x768.size (cc0_transform_2 (grid0.coords t)) (Facts₀.hinb0_2 _)).emb y) := by
    intro y
    obtain ⟨a, i, j, rfl⟩ : ∃ a i j, y = ix3 a i j := ⟨y 0, y 1, y 2, (eq_ix3 y)⟩
    rw [out_at, read_block (s := S4x1024x768) R S1x256x768.size (cc0_transform_2 (grid0.coords t)) (Facts₀.hinb0_2 _)
      (ix3 a i j) (ix3 (layer t) (rowOf t i) j) (idx2 t) (by intro b; fin_cases b <;> simp [ix3, rowOf, layer]), hr]
    simp only [hb0, hb1]
  exact key y

end

end Cert.Kernel14Ideal.Ada

end
-- ==== Proof.EvenGate.lean ====
/- The gates of an even layer: the kernel's array is the reference's. -/
module

public import proofs.«01_k».proof.Proof.Blocks
public import proofs.«01_k».proof.Proof.Gen.Kernel15Ideal.Value
public import proofs.«01_k».proof.Proof.Gen.Reference15Ideal.Read

@[expose] public section

set_option maxRecDepth 16384

noncomputable section

namespace Cert.Kernel15Ideal.Gate

open Cert.Kernel15Ideal Cert.Kernel15Ideal.Gen Cert.Blocks Cert.Reference15Ideal.Read
open Idealize.ShloMosaic Idealize.ShloMosaic.TcCoe Idealize.ShloMosaic.Tactic

/-- The zero offsets. -/
theorem hz : (![0, 0] : Fin 2 → Nat) = fun _ => 0 := funext fun a => by fin_cases a <;> rfl

/-- There are eight points. -/
theorem lt (t : Fin cfg0.N) : t.val < 8 := t.isLt

/-- The row of the arrays that row `i` of point `t`'s block is. -/
def rowOf (t : Fin cfg0.N) (i : Fin 512) : Fin 4096 := ⟨t.val * 512 + i.val, by have := lt t; omega⟩

/-- Where the windows lie, point by point: the block of each, in units of its size. -/
theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![t.val, 1] :=
  (by decide +kernel : ∀ t : Fin grid0.N, cc0_transform_1 (grid0.coords t) = ![t.val, 1])
theorem idx2 : ∀ t : Fin cfg0.N, cc0_transform_2 (grid0.coords t) = ![t.val, 2] :=
  (by decide +kernel : ∀ t : Fin grid0.N, cc0_transform_2 (grid0.coords t) = ![t.val, 2])
theorem idx3 : ∀ t : Fin cfg0.N, cc0_transform_3 (grid0.coords t) = ![t.val, 3] :=
  (by decide +kernel : ∀ t : Fin grid0.N, cc0_transform_3 (grid0.coords t) = ![t.val, 3])
theorem idx4 : ∀ t : Fin cfg0.N, cc0_transform_4 (grid0.coords t) = ![t.val, 5] :=
  (by decide +kernel : ∀ t : Fin grid0.N, cc0_transform_4 (grid0.coords t) = ![t.val, 5])
theorem idx5 : ∀ t : Fin cfg0.N, cc0_transform_5 (grid0.coords t) = ![t.val * 64 - 1, 1] :=
  (by decide +kernel : ∀ t : Fin grid0.N, cc0_transform_5 (grid0.coords t) = ![t.val * 64 - 1, 1])
theorem idx6 : ∀ t : Fin cfg0.N, cc0_transform_6 (grid0.coords t) = ![t.val * 64 - 1, 2] :=
  (by decide +kernel : ∀ t : Fin grid0.N, cc0_transform_6 (grid0.coords t) = ![t.val * 64 - 1, 2])
theorem idx7 : ∀ t : Fin cfg0.N, cc0_transform_7 (grid0.coords t) = ![t.val, 0] :=
  (by decide +kernel : ∀ t : Fin grid0.N, cc0_transform_7 (grid0.coords t) = ![t.val, 0])
theorem idx8 : ∀ t : Fin cfg0.N, cc0_transform_8 (grid0.coords t) = ![0, 0] :=
  (by decide +kernel : ∀ t : Fin grid0.N, cc0_transform_8 (grid0.coords t) = ![0, 0])
theorem idx9 : ∀ t : Fin cfg0.N, cc0_transform_9 (grid0.coords t) = ![0, 0] :=
  (by decide +kernel : ∀ t : Fin grid0.N, cc0_transform_9 (grid0.coords t) = ![0, 0])
theorem idx10 : ∀ t : Fin cfg0.N, cc0_transform_10 (grid0.coords t) = ![t.val, 0] :=
  (by decide +kernel : ∀ t : Fin grid0.N, cc0_transform_10 (grid0.coords t) = ![t.val, 0])

/-- The body's test whether there are rows before the block. -/
theorem test : ∀ t : Fin cfg0.N, Scalar.cmpi .sgt (BitVec.ofNat 32 (grid0.coords t 0).val) 0#32 = if 0 < t.val then 1#1 else 0#1 :=
  (by decide +kernel : ∀ t : Fin grid0.N, Scalar.cmpi .sgt (BitVec.ofNat 32 (grid0.coords t 0).val) 0#32 = if 0 < t.val then 1#1 else 0#1)

/-! ## The arithmetic of an entry -/

/-- An entry times its logistic. -/
def act (x : EReal) : EReal := x * Ideal.div 1 (1 + Ideal.exp (-x))

/-- A column of `z`. -/
def col (o : Nat) (ho : o + 512 ≤ 2976) (k : Fin 512) : Fin 2976 := ⟨o + k.val, by omega⟩

section

variable (Z : Vec Ideal S4096x2976 .f32) (O : Vec Ideal S4096x512 .f32) (W : Vec Ideal S3x512 .f32) (B : Vec Ideal S1x512 .f32)

/-- What the convolution reads, two rows early: zeros before the first row. -/
def early (n : Nat) (k : Fin 512) : EReal :=
  if h : 2 ≤ n ∧ n < 4098 then
    Z (ix2 ⟨n - 2, by omega⟩ (col 512 (by omega) k)) * Z (ix2 ⟨n - 2, by omega⟩ (col 1024 (by omega) k))
  else 0

/-- The convolution, its bias and its gates, of one entry. -/
def conv (n : Fin 4096) (k : Fin 512) : EReal :=
  Z (ix2 n (col 0 (by omega) k)) * (W (ix2 0 k) * early Z n.val k + W (ix2 1 k) * early Z (n.val + 1) k + W (ix2 2 k) * early Z (n.val + 2) k
    + B (ix2 0 k)) * act (Z (ix2 n (col 1536 (by omega) k)))

/-- The attention's output times its gate, of one entry. -/
def gated (n : Fin 4096) (k : Fin 512) : EReal := O (ix2 n k) * act (Z (ix2 n (col 2464 (by omega) k)))

/-! ## The reference -/

/-- What the reference reads of its padded product. -/
theorem ref_early (n : Fin 4098) (k : Fin 512) : val_main_v10 (F := Ideal) Z (ix2 n k) = early Z n.val k := by
  unfold val_main_v10 val_main_v8 val_main_v1 val_main_v2 early col
  pointwise [val_main_call0_v0, val_main_c]
  have e0 : FloatOps.sitofp (F := Ideal) .f32 0#32 = (0 : EReal) := by simp [FloatOps.sitofp]
  have hn := n.isLt
  rw [e0]
  split_ifs <;> first | rfl | omega

/-- The convolution's gate in the reference. -/
theorem ref_act (n : Fin 4096) (k : Fin 512) : val_main_v37 (F := Ideal) Z (ix2 n k) = act (Z (ix2 n (col 1536 (by omega) k))) := by
  unfold act col
  pointwise [val_main_v37, val_main_call1_v0, val_main_call1_v1, val_main_call1_cst, val_main_call1_v2, val_main_call1_v3, val_main_call1_cst_0,
    val_main_call1_v4, val_main_call1_v5, val_main_v3]

/-- The attention's gate in the reference. -/
theorem ref_act' (n : Fin 4096) (k : Fin 512) : val_main_v39 (F := Ideal) Z (ix2 n k) = act (Z (ix2 n (col 2464 (by omega) k))) := by
  unfold act col
  pointwise [val_main_v39, val_main_call2_v0, val_main_call2_v1, val_main_call2_cst, val_main_call2_v2, val_main_call2_v3, val_main_call2_cst_0,
    val_main_call2_v4, val_main_call2_v5, val_main_v7]

/-- The left half of the reference's rows. -/
theorem ref_lo (n : Fin 4096) (k : Fin 512) :
    val_main_v42 (F := Ideal) Z O W B (ix2 n ⟨k.val, by omega⟩) = conv Z W B n k := by
  have h1 := ref_early Z
  have h2 := ref_act Z n k
  unfold val_main_v42 val_main_v41 val_main_v38 val_main_v36 val_main_v35 val_main_v32 val_main_v25 val_main_v18 val_main_v31 val_main_v24 val_main_v16
    val_main_v13 val_main_v21 val_main_v28 conv
  generalize val_main_v10 (F := Ideal) Z = P at h1 ⊢
  generalize val_main_v37 (F := Ideal) Z = Q at h2 ⊢
  generalize val_main_v40 (F := Ideal) Z O = Q'
  pointwise [val_main_v0, val_main_v11, val_main_v12, val_main_v14, val_main_v15, val_main_v17, val_main_v19, val_main_v20, val_main_v22, val_main_v23,
    val_main_v26, val_main_v27, val_main_v29, val_main_v30, val_main_v9, val_main_v33, val_main_v34, val_main_cst]
  rw [h1, h1, h1, h2]
  have e1 : early Z (1 + n.val) k = early Z (n.val + 1) k := by rw [Nat.add_comm]
  have e2 : early Z (2 + n.val) k = early Z (n.val + 2) k := by rw [Nat.add_comm]
  have e0 : col 0 (by omega) k = ⟨k.val, by omega⟩ := Fin.ext (Nat.zero_add _)
  rw [e0, ← e1, ← e2]

/-- The right half of the reference's rows. -/
theorem ref_hi (n : Fin 4096) (k : Fin 512) :
    val_main_v42 (F := Ideal) Z O W B (ix2 n ⟨512 + k.val, by omega⟩) = gated Z O n k := by
  have h2 := ref_act' Z n k
  unfold val_main_v42 val_main_v41 val_main_v40 gated
  generalize val_main_v39 (F := Ideal) Z = Q at h2 ⊢
  generalize val_main_v38 (F := Ideal) Z W B = Q'
  pointwise []
  rw [h2]

/-! ## The array of columns that the kernel takes -/

/-- `z` with zeros around the rotary key. -/
def spread : Vec Ideal S4096x3072 .f32 :=
  concatenate S4096x3072 1
    [⟨S4096x2432, extractStridedSlice S4096x2432 ![0, 0] Z slices_S4096x2976_S4096x2432_0_0⟩,
      ⟨S4096x64, broadcastInDim S4096x64 ![] bcast_S_S4096x64 (constant (F := Ideal) S_ .f32 0x00000000#32)⟩,
      ⟨S4096x32, extractStridedSlice S4096x32 ![0, 2432] Z slices_S4096x2976_S4096x32_0_2432⟩,
      ⟨S4096x32, broadcastInDim S4096x32 ![] bcast_S_S4096x32 (constant (F := Ideal) S_ .f32 0x00000000#32)⟩,
      ⟨S4096x512, extractStridedSlice S4096x512 ![0, 2464] Z slices_S4096x2976_S4096x512_0_2464⟩]
    concatenates_S4096x2432_S4096x64_S4096x32_S4096x32_S4096x512_S4096x3072_d1

/-- A column of the array of columns. -/
def wide (o : Nat) (ho : o + 512 ≤ 3072) (k : Fin 512) : Fin 3072 := ⟨o + k.val, by omega⟩

/-- Left of the rotary key the array of columns is `z`. -/
theorem spread_lo (o : Nat) (ho : o + 512 ≤ 2432) (n : Fin 4096) (k : Fin 512) :
    spread Z (ix2 n (wide o (by omega) k)) = Z (ix2 n (col o (by omega) k)) := by
  unfold spread wide col
  have hk := k.isLt
  pointwise []
  rw [dif_pos (by omega)]

/-- The last columns of the array are the last of `z`. -/
theorem spread_hi (n : Fin 4096) (k : Fin 512) :
    spread Z (ix2 n (wide 2560 (by omega) k)) = Z (ix2 n (col 2464 (by omega) k)) := by
  unfold spread wide col
  pointwise []
  rw [dif_neg (by omega), dif_neg (by omega), dif_neg (by omega), dif_neg (by omega)]
  refine congrArg (fun j => Z (ix2 n j)) (Fin.ext ?_)
  show 2464 + (2560 + k.val - 2432 - 64 - 32 - 32) = 2464 + k.val
  omega

end

/-! ## What the scratch holds -/

section

variable (D : Vec Ideal S512x512 .f32) (E : Vec Ideal S8x512 .f32)

/-- The scratch: eight rows, and the block's own after them. -/
def buf : Vec Ideal S520x512 .f32 :=
  View.canon [⟨Rect.unit ![8, 0] S512x512.size inb_S520x512_S512x512_8_0, D⟩, ⟨Rect.unit ![0, 0] S8x512.size inb_S520x512_S8x512_0_0, E⟩]

/-- The scratch from its ninth row on is the block's product. -/
theorem buf_own (r : Fin 512) (k : Fin 512) (j : Fin 520) (hj : j.val = 8 + r.val) : buf D E (ix2 j k) = D (ix2 r k) := by
  unfold buf
  rw [show ix2 j k = (Rect.unit (s := S520x512) ![8, 0] S512x512.size inb_S520x512_S512x512_8_0).emb (ix2 r k) from ?_, View.canon_cons_emb]
  funext a
  refine Fin.ext ?_
  rw [ValueKit.rect_emb_unit_val]
  fin_cases a
  · exact hj
  · exact (Nat.zero_add _).symm

/-- The scratch's first eight rows are the ones before the block. -/
theorem buf_before (r : Fin 8) (k : Fin 512) (j : Fin 520) (hj : j.val = r.val) : buf D E (ix2 j k) = E (ix2 r k) := by
  unfold buf
  rw [View.canon_cons_of_not_mem, show ix2 j k = (Rect.unit (s := S520x512) ![0, 0] S8x512.size inb_S520x512_S8x512_0_0).emb (ix2 r k) from ?_,
    View.canon_cons_emb]
  · funext a
    refine Fin.ext ?_
    rw [ValueKit.rect_emb_unit_val]
    fin_cases a
    · exact hj.trans (Nat.zero_add _).symm
    · exact (Nat.zero_add _).symm
  · intro hm
    have := (Rect.mem_set_unit.mp (show ix2 j k ∈ (Rect.unit (s := S520x512) ![8, 0] S512x512.size inb_S520x512_S512x512_8_0).set from hm)) 0
    have hr := r.isLt
    have h2 : 8 ≤ j.val := this.1
    omega

end

/-! ## What a point leaves in its block -/

section

variable (c : Dev nD) (i : grid0.Coords) (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x512 .f32) (h4 : a4.IsWhole)
  (a5 : Memref sig .tc .vmem S512x512 .f32) (h5 : a5.IsWhole) (a6 : Memref sig .tc .vmem S8x512 .f32) (h6 : a6.IsWhole)
  (a7 : Memref sig .tc .vmem S8x512 .f32) (h7 : a7.IsWhole) (a8 : Memref sig .tc .vmem S512x512 .f32) (h8 : a8.IsWhole)
  (a9 : Memref sig .tc .vmem S3x512 .f32) (h9 : a9.IsWhole) (a10 : Memref sig .tc .vmem S1x512 .f32) (h10 : a10.IsWhole)
  (a11 : Memref sig .tc .vmem S512x1024 .bf16) (h11 : a11.IsWhole) (a12 : Memref sig .tc .vmem S520x512 .f32) (h12 : a12.IsWhole)
  (x0 x1 x2 x3 x4 x7 : Vec Ideal S512x512 .f32) (x5 x6 : Vec Ideal S8x512 .f32) (x8 : Vec Ideal S3x512 .f32) (x9 : Vec Ideal S1x512 .f32)

/-- The product of the block's two columns, and the eight rows before it. -/
def held : Vec Ideal S520x512 .f32 := buf (k0_pay5 x1 x2) (k0_pay4 i x5 x6)

/-- What the body leaves in the left half, as its own arithmetic of the blocks. -/
theorem left (r : Fin 512) (k : Fin 512) : out0_A_10 c i a1 h1 a2 h2 a3 h3 a4 h4 a5 h5 a6 h6 a7 h7 a8 h8 a9 h9 a10 h10 a11 h11 a12 h12 x0 x1 x2 x3 x4 x5 x6 x7 x8 x9 (ix2 r ⟨k.val, by omega⟩)
    = k0_pay1 (k0_pay6 x1 x2 (View.ld x8 (Rect.unit ![2, 0] S1x512.size inb_S3x512_S1x512_2_0)) (View.ld x8 (Rect.unit ![1, 0] S1x512.size inb_S3x512_S1x512_1_0))
        (View.ld (held i x1 x2 x5 x6) (Rect.unit ![7, 0] S512x512.size inb_S520x512_S512x512_7_0))
        (View.ld x8 (Rect.unit ![0, 0] S1x512.size inb_S3x512_S1x512_0_0))
        (View.ld (held i x1 x2 x5 x6) (Rect.unit ![6, 0] S512x512.size inb_S520x512_S512x512_6_0))) x9 x0 x3 (ix2 r k) := by
  unfold out0_A_10
  rw [View.read_writes_eq_canon _ _ _ (cover0_A_10 c i a1 h1 a2 h2 a3 h3 a4 h4 a5 h5 a6 h6 a7 h7 a8 h8 a9 h9 a10 h10 a11 h11 a12 h12 x0 x1 x2 x3 x4 x5 x6 x7 x8 x9)]
  unfold kernelRun0_A
  dsimp only
  sl_unfold_words
  simp only [View.readAt_eq_ld, h1.read_unread, h2.read_unread, h3.read_unread, h4.read_unread, h5.read_unread, h6.read_unread, h7.read_unread,
    h8.read_unread, h9.read_unread, h10.read_unread, View.readCov_eq_canon',
    View.ld_unit_zero (S := S512x512) hz, View.ld_unit_zero (S := S8x512) hz, View.ld_unit_zero (S := S1x512) hz]
  rw [View.canon_cons_of_not_mem, show (ix2 r ⟨k.val, by omega⟩ : S512x1024.Idx) = (Rect.unit (s := S512x1024) ![0, 0] ![512, 512] inb_S512x1024_S512x512_0_0).emb (ix2 r k) from ?_,
    View.canon_cons_emb]
  · rfl
  · funext a
    refine Fin.ext ?_
    rw [ValueKit.rect_emb_unit_val]
    fin_cases a <;> exact (Nat.zero_add _).symm
  · intro hm
    have := (Rect.mem_set_unit.mp (show (ix2 r ⟨k.val, by omega⟩ : S512x1024.Idx) ∈ (Rect.unit (s := S512x1024) ![0, 512] ![512, 512] inb_S512x1024_S512x512_0_512).set from hm)) 1
    have hk := k.isLt
    have h2 : 512 ≤ k.val := this.1
    omega

/-- What the body leaves in the right half. -/
theorem right (r : Fin 512) (k : Fin 512) : out0_A_10 c i a1 h1 a2 h2 a3 h3 a4 h4 a5 h5 a6 h6 a7 h7 a8 h8 a9 h9 a10 h10 a11 h11 a12 h12 x0 x1 x2 x3 x4 x5 x6 x7 x8 x9 (ix2 r ⟨512 + k.val, by omega⟩) = k0_pay2 x7 x4 (ix2 r k) := by
  unfold out0_A_10
  rw [View.read_writes_eq_canon _ _ _ (cover0_A_10 c i a1 h1 a2 h2 a3 h3 a4 h4 a5 h5 a6 h6 a7 h7 a8 h8 a9 h9 a10 h10 a11 h11 a12 h12 x0 x1 x2 x3 x4 x5 x6 x7 x8 x9)]
  unfold kernelRun0_A
  dsimp only
  sl_unfold_words
  simp only [View.readAt_eq_ld, h5.read_unread, h8.read_unread, View.ld_unit_zero (S := S512x512) hz]
  rw [show (ix2 r ⟨512 + k.val, by omega⟩ : S512x1024.Idx) = (Rect.unit (s := S512x1024) ![0, 512] ![512, 512] inb_S512x1024_S512x512_0_512).emb (ix2 r k) from ?_,
    View.canon_cons_emb]
  funext a
  refine Fin.ext ?_
  rw [ValueKit.rect_emb_unit_val]
  fin_cases a
  · exact (Nat.zero_add _).symm
  · rfl

/-- The convolution, its bias and its gates, of one entry of a block. -/
theorem pay_conv (p q : Vec Ideal S512x512 .f32) (r : Fin 512) (k : Fin 512) :
    k0_pay1 (k0_pay6 x1 x2 (View.ld x8 (Rect.unit ![2, 0] S1x512.size inb_S3x512_S1x512_2_0)) (View.ld x8 (Rect.unit ![1, 0] S1x512.size inb_S3x512_S1x512_1_0)) p
        (View.ld x8 (Rect.unit ![0, 0] S1x512.size inb_S3x512_S1x512_0_0)) q) x9 x0 x3 (ix2 r k)
    = x0 (ix2 r k) * (x8 (ix2 0 k) * q (ix2 r k) + x8 (ix2 1 k) * p (ix2 r k) + x8 (ix2 2 k) * (x1 (ix2 r k) * x2 (ix2 r k)) + x9 (ix2 0 k))
      * act (x3 (ix2 r k)) := by
  have hw : ∀ (b : Fin 3) (inb) (u : Fin 1), View.ld x8 (Rect.unit ![b.val, 0] S1x512.size inb) (ix2 u k) = x8 (ix2 b k) := by
    intro b inb u
    refine View.ld_unit_apply_of x8 _ _ inb _ _ fun d => ?_
    fin_cases d
    · show b.val = b.val + u.val
      omega
    · exact (Nat.zero_add _).symm
  have h0 : ∀ u : Fin 1, View.ld x8 (Rect.unit ![0, 0] S1x512.size inb_S3x512_S1x512_0_0) (ix2 u k) = x8 (ix2 0 k) := hw 0 inb_S3x512_S1x512_0_0
  have h1 : ∀ u : Fin 1, View.ld x8 (Rect.unit ![1, 0] S1x512.size inb_S3x512_S1x512_1_0) (ix2 u k) = x8 (ix2 1 k) := hw 1 inb_S3x512_S1x512_1_0
  have h2 : ∀ u : Fin 1, View.ld x8 (Rect.unit ![2, 0] S1x512.size inb_S3x512_S1x512_2_0) (ix2 u k) = x8 (ix2 2 k) := hw 2 inb_S3x512_S1x512_2_0
  unfold k0_pay1 k0_pay6 k0_pay3 act
  generalize View.ld x8 (Rect.unit ![2, 0] S1x512.size inb_S3x512_S1x512_2_0) = w2 at h2 ⊢
  generalize View.ld x8 (Rect.unit ![1, 0] S1x512.size inb_S3x512_S1x512_1_0) = w1 at h1 ⊢
  generalize View.ld x8 (Rect.unit ![0, 0] S1x512.size inb_S3x512_S1x512_0_0) = w0 at h0 ⊢
  pointwise []
  rw [h0 0, h1 0, h2 0, sub_eq_add_neg, zero_add (-x3 (ix2 r k)), add_comm (x8 (ix2 0 k) * q (ix2 r k)), add_comm (x8 (ix2 1 k) * p (ix2 r k) + _), add_assoc (x8 (ix2 2 k) * _)]

/-- The attention's output times its gate, of one entry of a block. -/
theorem pay_gate (r : Fin 512) (k : Fin 512) : k0_pay2 x7 x4 (ix2 r k) = x7 (ix2 r k) * act (x4 (ix2 r k)) := by
  unfold k0_pay2 act
  pointwise []
  rw [sub_eq_add_neg, zero_add]

end

/-! ## The blocks -/

section

variable (m : (ℓ : Loc nD τ sig) → Buf (Elt Ideal) ℓ) (c : Dev nD)

abbrev Z0 : Vec Ideal S4096x2976 .f32 := m ((c : Thread nD τ).loc main_arg0)
abbrev O0 : Vec Ideal S4096x512 .f32 := m ((c : Thread nD τ).loc main_arg1)
abbrev W0 : Vec Ideal S3x512 .f32 := m ((c : Thread nD τ).loc main_arg2)
abbrev B0 : Vec Ideal S1x512 .f32 := m ((c : Thread nD τ).loc main_arg3)

/-- The array of columns. -/
theorem V_v5 : V m c main_v5 = spread (Z0 m c) := by
  unfold V
  simp only [hostOps0]
  after_results_simp
  rfl

/-- The attention's output goes in as it is. -/
theorem V_a1 : V m c main_arg1 = O0 m c := by
  unfold V
  simp only [hostOps0]
  after_results_simp

/-- The taps go in as they are. -/
theorem V_a2 : V m c main_arg2 = W0 m c := by
  unfold V
  simp only [hostOps0]
  after_results_simp

/-- The bias goes in as it is. -/
theorem V_a3 : V m c main_arg3 = B0 m c := by
  unfold V
  simp only [hostOps0]
  after_results_simp

/-- The row of the arrays that row `r` of the eight before point `t`'s block is. -/
def before (t : Fin cfg0.N) (r : Fin 8) : Fin 4096 := ⟨(t.val * 64 - 1) * 8 + r.val, by have := lt t; omega⟩

section

attribute [local irreducible] Pipeline.Grid.coords cc0_transform_0 cc0_transform_1 cc0_transform_2 cc0_transform_3 cc0_transform_4 cc0_transform_5 cc0_transform_6 cc0_transform_7 cc0_transform_8 cc0_transform_9 cc0_transform_10

/-- The convolution's outer gate, as a point's block holds it. -/
theorem blk0 (t : Fin cfg0.N) (r : Fin 512) (k : Fin 512) : iblk m c 0 t (ix2 r k) = Z0 m c (ix2 (rowOf t r) (col 0 (by omega) k)) := by
  rw [← spread_lo (Z0 m c) 0 (by omega) (rowOf t r) k, ← V_v5 m c]
  unfold iblk
  change ((cfg0.win 0).blk t).view.read (Elt Ideal) (V m c main_v5) _ = _
  generalize V m c main_v5 = X
  refine Eq.trans ?_ (read_block (s := S4096x3072) (α := EReal) X S512x512.size (cc0_transform_0 (grid0.coords t)) (Facts₀.hinb0_0 _)
    (ix2 r k) (ix2 (rowOf t r) (wide 0 (by omega) k)) (idx0 t) (by intro a; fin_cases a <;> simp [ix2, rowOf, wide]))
  rw [View.read_apply, cast_eq]
  rfl

/-- The first factor, as a point's block holds it. -/
theorem blk1 (t : Fin cfg0.N) (r : Fin 512) (k : Fin 512) : iblk m c 1 t (ix2 r k) = Z0 m c (ix2 (rowOf t r) (col 512 (by omega) k)) := by
  rw [← spread_lo (Z0 m c) 512 (by omega) (rowOf t r) k, ← V_v5 m c]
  unfold iblk
  change ((cfg0.win 1).blk t).view.read (Elt Ideal) (V m c main_v5) _ = _
  generalize V m c main_v5 = X
  refine Eq.trans ?_ (read_block (s := S4096x3072) (α := EReal) X S512x512.size (cc0_transform_1 (grid0.coords t)) (Facts₀.hinb0_1 _)
    (ix2 r k) (ix2 (rowOf t r) (wide 512 (by omega) k)) (idx1 t) (by intro a; fin_cases a <;> simp [ix2, rowOf, wide]))
  rw [View.read_apply, cast_eq]
  rfl

/-- The second factor, as a point's block holds it. -/
theorem blk2 (t : Fin cfg0.N) (r : Fin 512) (k : Fin 512) : iblk m c 2 t (ix2 r k) = Z0 m c (ix2 (rowOf t r) (col 1024 (by omega) k)) := by
  rw [← spread_lo (Z0 m c) 1024 (by omega) (rowOf t r) k, ← V_v5 m c]
  unfold iblk
  change ((cfg0.win 2).blk t).view.read (Elt Ideal) (V m c main_v5) _ = _
  generalize V m c main_v5 = X
  refine Eq.trans ?_ (read_block (s := S4096x3072) (α := EReal) X S512x512.size (cc0_transform_2 (grid0.coords t)) (Facts₀.hinb0_2 _)
    (ix2 r k) (ix2 (rowOf t r) (wide 1024 (by omega) k)) (idx2 t) (by intro a; fin_cases a <;> simp [ix2, rowOf, wide]))
  rw [View.read_apply, cast_eq]
  rfl

/-- The convolution's gate, as a point's block holds it. -/
theorem blk3 (t : Fin cfg0.N) (r : Fin 512) (k : Fin 512) : iblk m c 3 t (ix2 r k) = Z0 m c (ix2 (rowOf t r) (col 1536 (by omega) k)) := by
  rw [← spread_lo (Z0 m c) 1536 (by omega) (rowOf t r) k, ← V_v5 m c]
  unfold iblk
  change ((cfg0.win 3).blk t).view.read (Elt Ideal) (V m c main_v5) _ = _
  generalize V m c main_v5 = X
  refine Eq.trans ?_ (read_block (s := S4096x3072) (α := EReal) X S512x512.size (cc0_transform_3 (grid0.coords t)) (Facts₀.hinb0_3 _)
    (ix2 r k) (ix2 (rowOf t r) (wide 1536 (by omega) k)) (idx3 t) (by intro a; fin_cases a <;> simp [ix2, rowOf, wide]))
  rw [View.read_apply, cast_eq]
  rfl

/-- The attention's gate, as a point's block holds it. -/
theorem blk4 (t : Fin cfg0.N) (r : Fin 512) (k : Fin 512) : iblk m c 4 t (ix2 r k) = Z0 m c (ix2 (rowOf t r) (col 2464 (by omega) k)) := by
  rw [← spread_hi (Z0 m c) (rowOf t r) k, ← V_v5 m c]
  unfold iblk
  change ((cfg0.win 4).blk t).view.read (Elt Ideal) (V m c main_v5) _ = _
  generalize V m c main_v5 = X
  refine Eq.trans ?_ (read_block (s := S4096x3072) (α := EReal) X S512x512.size (cc0_transform_4 (grid0.coords t)) (Facts₀.hinb0_4 _)
    (ix2 r k) (ix2 (rowOf t r) (wide 2560 (by omega) k)) (idx4 t) (by intro a; fin_cases a <;> simp [ix2, rowOf, wide]))
  rw [View.read_apply, cast_eq]
  rfl

/-- The first factor's eight rows before, as a point's block holds it. -/
theorem blk5 (t : Fin cfg0.N) (r : Fin 8) (k : Fin 512) : iblk m c 5 t (ix2 r k) = Z0 m c (ix2 (before t r) (col 512 (by omega) k)) := by
  rw [← spread_lo (Z0 m c) 512 (by omega) (before t r) k, ← V_v5 m c]
  unfold iblk
  change ((cfg0.win 5).blk t).view.read (Elt Ideal) (V m c main_v5) _ = _
  generalize V m c main_v5 = X
  refine Eq.trans ?_ (read_block (s := S4096x3072) (α := EReal) X S8x512.size (cc0_transform_5 (grid0.coords t)) (Facts₀.hinb0_5 _)
    (ix2 r k) (ix2 (before t r) (wide 512 (by omega) k)) (idx5 t) (by intro a; fin_cases a <;> simp [ix2, before, wide]))
  rw [View.read_apply, cast_eq]
  rfl

/-- The second factor's eight rows before, as a point's block holds it. -/
theorem blk6 (t : Fin cfg0.N) (r : Fin 8) (k : Fin 512) : iblk m c 6 t (ix2 r k) = Z0 m c (ix2 (before t r) (col 1024 (by omega) k)) := by
  rw [← spread_lo (Z0 m c) 1024 (by omega) (before t r) k, ← V_v5 m c]
  unfold iblk
  change ((cfg0.win 6).blk t).view.read (Elt Ideal) (V m c main_v5) _ = _
  generalize V m c main_v5 = X
  refine Eq.trans ?_ (read_block (s := S4096x3072) (α := EReal) X S8x512.size (cc0_transform_6 (grid0.coords t)) (Facts₀.hinb0_6 _)
    (ix2 r k) (ix2 (before t r) (wide 1024 (by omega) k)) (idx6 t) (by intro a; fin_cases a <;> simp [ix2, before, wide]))
  rw [View.read_apply, cast_eq]
  rfl

/-- The attention's output, as a point's block holds it. -/
theorem blk7 (t : Fin cfg0.N) (r : Fin 512) (k : Fin 512) : iblk m c 7 t (ix2 r k) = O0 m c (ix2 (rowOf t r) k) := by
  rw [← V_a1 m c]
  unfold iblk
  change ((cfg0.win 7).blk t).view.read (Elt Ideal) (V m c main_arg1) _ = _
  generalize V m c main_arg1 = X
  refine Eq.trans ?_ (read_block (s := S4096x512) (α := EReal) X S512x512.size (cc0_transform_7 (grid0.coords t)) (Facts₀.hinb0_7 _)
    (ix2 r k) (ix2 (rowOf t r) k) (idx7 t) (by intro a; fin_cases a <;> simp [ix2, rowOf]))
  rw [View.read_apply, cast_eq]
  rfl

/-- The taps, as a point's block holds it. -/
theorem blk8 (t : Fin cfg0.N) (r : Fin 3) (k : Fin 512) : iblk m c 8 t (ix2 r k) = W0 m c (ix2 r k) := by
  rw [← V_a2 m c]
  unfold iblk
  change ((cfg0.win 8).blk t).view.read (Elt Ideal) (V m c main_arg2) _ = _
  generalize V m c main_arg2 = X
  refine Eq.trans ?_ (read_block (s := S3x512) (α := EReal) X S3x512.size (cc0_transform_8 (grid0.coords t)) (Facts₀.hinb0_8 _)
    (ix2 r k) (ix2 r k) (idx8 t) (by intro a; fin_cases a <;> simp [ix2, rowOf]))
  rw [View.read_apply, cast_eq]
  rfl

/-- The bias, as a point's block holds it. -/
theorem blk9 (t : Fin cfg0.N) (r : Fin 1) (k : Fin 512) : iblk m c 9 t (ix2 r k) = B0 m c (ix2 r k) := by
  rw [← V_a3 m c]
  unfold iblk
  change ((cfg0.win 9).blk t).view.read (Elt Ideal) (V m c main_arg3) _ = _
  generalize V m c main_arg3 = X
  refine Eq.trans ?_ (read_block (s := S1x512) (α := EReal) X S1x512.size (cc0_transform_9 (grid0.coords t)) (Facts₀.hinb0_9 _)
    (ix2 r k) (ix2 r k) (idx9 t) (by intro a; fin_cases a <;> simp [ix2, rowOf]))
  rw [View.read_apply, cast_eq]
  rfl

end

/-- The eight rows of the scratch before the block's own. -/
theorem halo_at (t : Fin cfg0.N) (r : Fin 8) (k : Fin 512) (x y : Vec Ideal S8x512 .f32) :
    k0_pay4 (grid0.coords t) x y (ix2 r k) = if 0 < t.val then x (ix2 r k) * y (ix2 r k) else 0 := by
  unfold k0_pay4
  dsimp only
  rw [test t]
  split_ifs
  · rw [Scalar.select, if_pos (show (1#1 : BitVec 1) = 1 from rfl)]
    pointwise []
  · rw [Scalar.select, if_neg (by decide)]
    pointwise []

/-- The scratch holds the rows of the convolution's reading, from the sixth on. -/
theorem held_at (t : Fin cfg0.N) (j : Fin 520) (hj : 6 ≤ j.val) (k : Fin 512) :
    held (grid0.coords t) (iblk m c 1 t) (iblk m c 2 t) (iblk m c 5 t) (iblk m c 6 t) (ix2 j k) = early (Z0 m c) (t.val * 512 + (j.val - 6)) k := by
  have ht := lt t
  have hj' := j.isLt
  unfold held
  by_cases h : 8 ≤ j.val
  · rw [buf_own _ _ ⟨j.val - 8, by omega⟩ k j (by show j.val = 8 + (j.val - 8); omega)]
    unfold k0_pay5 k0_pay3
    have h1 := blk1 m c t ⟨j.val - 8, by omega⟩ k
    have h2 := blk2 m c t ⟨j.val - 8, by omega⟩ k
    generalize iblk m c 1 t = x at h1 ⊢
    generalize iblk m c 2 t = y at h2 ⊢
    pointwise []
    rw [h1, h2]
    unfold early
    rw [dif_pos (by omega)]
    have e : rowOf t ⟨j.val - 8, by omega⟩ = ⟨t.val * 512 + (j.val - 6) - 2, by omega⟩ := Fin.ext (by simp only [rowOf]; omega)
    rw [e]
  · rw [buf_before _ _ ⟨j.val, by omega⟩ k j rfl, halo_at, blk5, blk6]
    unfold early
    by_cases h0 : 0 < t.val
    · rw [if_pos h0, dif_pos (by omega)]
      have e : before t ⟨j.val, by omega⟩ = ⟨t.val * 512 + (j.val - 6) - 2, by omega⟩ := Fin.ext (by simp only [before]; omega)
      rw [e]
    · rw [if_neg h0, dif_neg (by omega)]

/-- A load of the scratch from row `o` on. -/
theorem load_at (t : Fin cfg0.N) (o : Nat) (ho : 6 ≤ o ∧ o ≤ 8) (inb) (r k : Fin 512) :
    View.ld (held (grid0.coords t) (iblk m c 1 t) (iblk m c 2 t) (iblk m c 5 t) (iblk m c 6 t)) (Rect.unit ![o, 0] S512x512.size inb) (ix2 r k)
      = early (Z0 m c) ((rowOf t r).val + (o - 6)) k := by
  have e : (rowOf t r).val + (o - 6) = t.val * 512 + (o + r.val - 6) := by simp only [rowOf]; omega
  rw [e, ← held_at m c t ⟨o + r.val, by omega⟩ (by show 6 ≤ o + r.val; omega) k]
  refine View.ld_unit_apply_of _ _ _ inb _ _ fun d => ?_
  fin_cases d
  · rfl
  · exact (Nat.zero_add _).symm

/-- What a point leaves in the left half of its block. -/
theorem left_at (t : Fin cfg0.N) (r k : Fin 512) : outsAt0 m c t (ix2 r ⟨k.val, by omega⟩) = conv (Z0 m c) (W0 m c) (B0 m c) (rowOf t r) k := by
  unfold outsAt0
  rw [left, pay_conv, load_at m c t 6 (by omega), load_at m c t 7 (by omega)]
  have e : ∀ x y : EReal, x = Z0 m c (ix2 (rowOf t r) (col 512 (by omega) k)) → y = Z0 m c (ix2 (rowOf t r) (col 1024 (by omega) k)) → x * y = early (Z0 m c) ((rowOf t r).val + 2) k := by
    intro x y hx hy
    have hr := (rowOf t r).isLt
    rw [hx, hy]
    unfold early
    rw [dif_pos (by omega)]
    rfl
  rw [e _ _ (blk1 m c t r k) (blk2 m c t r k), blk0, blk3, blk8, blk8, blk8, blk9]
  rfl

/-- What a point leaves in the right half of its block. -/
theorem right_at (t : Fin cfg0.N) (r k : Fin 512) : outsAt0 m c t (ix2 r ⟨512 + k.val, by omega⟩) = gated (Z0 m c) (O0 m c) (rowOf t r) k := by
  unfold outsAt0
  rw [right, pay_gate, blk7, blk4]
  rfl

/-- What a point leaves is the reference's. -/
theorem out_at (t : Fin cfg0.N) (r : Fin 512) (l : Fin 1024) :
    outsAt0 m c t (ix2 r l) = val_main_v42 (F := Ideal) (Z0 m c) (O0 m c) (W0 m c) (B0 m c) (ix2 (rowOf t r) l) := by
  by_cases h : l.val < 512
  · have e : l = ⟨(⟨l.val, h⟩ : Fin 512).val, by omega⟩ := rfl
    rw [e, left_at, ← ref_lo (Z0 m c) (O0 m c)]
  · have hl := l.isLt
    have e : l = ⟨512 + (⟨l.val - 512, by omega⟩ : Fin 512).val, by simp only; omega⟩ := Fin.ext (by simp only; omega)
    rw [e, right_at, ← ref_hi (Z0 m c) (O0 m c) (W0 m c) (B0 m c)]

section

attribute [local irreducible] Pipeline.Grid.coords cc0_transform_10

/-- The kernel's array is the reference's. -/
theorem arr : (dats m 0 c).arrAt 10 cfg0.N = val_main_v42 (F := Ideal) (Z0 m c) (O0 m c) (W0 m c) (B0 m c) := by
  have hr := out_at m c
  generalize val_main_v42 (F := Ideal) (Z0 m c) (O0 m c) (W0 m c) (B0 m c) = R at hr ⊢
  refine (dats m 0 c).arrAt_eq_of_covers 10 _ (by decide +kernel) fun t hf y => ?_
  rw [cast_eq, after0_10]
  have key : ∀ y : S512x1024.Idx, outsAt0 m c t y
      = R ((Rect.block (s := S4096x1024) S512x1024.size (cc0_transform_10 (grid0.coords t)) (Facts₀.hinb0_10 _)).emb y) := by
    intro y
    obtain ⟨i, j, rfl⟩ : ∃ i j, y = ix2 i j := ⟨y 0, y 1, (eq_ix2 y)⟩
    rw [hr, read_block (s := S4096x1024) R S512x1024.size (cc0_transform_10 (grid0.coords t)) (Facts₀.hinb0_10 _)
      (ix2 i j) (ix2 (rowOf t i) j) (idx10 t) (by intro a; fin_cases a <;> simp [ix2, rowOf])]
  exact key y

end

end

end Cert.Kernel15Ideal.Gate

end
-- ==== Proof.AdamW.lean ====
/- AdamW's step on the modulation's weights: the kernel's three arrays are the reference's. -/
module

public import proofs.«01_k».proof.Proof.Blocks
public import proofs.«01_k».proof.Proof.Gen.Kernel16Ideal.Value
public import proofs.«01_k».proof.Proof.Gen.Reference16Ideal.Read

@[expose] public section

set_option maxRecDepth 16384

noncomputable section

namespace Cert.Kernel16Ideal.Adam

open Cert.Kernel16Ideal Cert.Kernel16Ideal.Gen Cert.Blocks Cert.Reference16Ideal.Read
open Idealize.ShloMosaic Idealize.ShloMosaic.TcCoe Idealize.ShloMosaic.Tactic

theorem hz : (![0, 0] : Fin 2 → Nat) = fun _ => 0 := funext fun a => by fin_cases a <;> rfl

theorem lt (t : Fin cfg0.N) : t.val < 8 := t.isLt

/-- The row of the arrays that row `i` of point `t`'s block is. -/
def rowOf (t : Fin cfg0.N) (i : Fin 512) : Fin 4096 := ⟨t.val * 512 + i.val, by have := lt t; omega⟩

theorem idx0 : ∀ t : Fin cfg0.N, cc0_transform_0 (grid0.coords t) = ![t.val, 0] :=
  (by decide +kernel : ∀ t : Fin grid0.N, cc0_transform_0 (grid0.coords t) = ![t.val, 0])
theorem idx1 : ∀ t : Fin cfg0.N, cc0_transform_1 (grid0.coords t) = ![t.val, 0] :=
  (by decide +kernel : ∀ t : Fin grid0.N, cc0_transform_1 (grid0.coords t) = ![t.val, 0])
theorem idx2 : ∀ t : Fin cfg0.N, cc0_transform_2 (grid0.coords t) = ![t.val, 0] :=
  (by decide +kernel : ∀ t : Fin grid0.N, cc0_transform_2 (grid0.coords t) = ![t.val, 0])
theorem idx3 : ∀ t : Fin cfg0.N, cc0_transform_3 (grid0.coords t) = ![t.val, 0] :=
  (by decide +kernel : ∀ t : Fin grid0.N, cc0_transform_3 (grid0.coords t) = ![t.val, 0])
theorem idx4 : ∀ t : Fin cfg0.N, cc0_transform_4 (grid0.coords t) = ![t.val, 0] :=
  (by decide +kernel : ∀ t : Fin grid0.N, cc0_transform_4 (grid0.coords t) = ![t.val, 0])
theorem idx5 : ∀ t : Fin cfg0.N, cc0_transform_5 (grid0.coords t) = ![t.val, 0] :=
  (by decide +kernel : ∀ t : Fin grid0.N, cc0_transform_5 (grid0.coords t) = ![t.val, 0])
theorem idx6 : ∀ t : Fin cfg0.N, cc0_transform_6 (grid0.coords t) = ![t.val, 0] :=
  (by decide +kernel : ∀ t : Fin grid0.N, cc0_transform_6 (grid0.coords t) = ![t.val, 0])

/-! ## The arithmetic of an entry -/

/-- An array of the weights' shape, by rows. -/
def flat (x : Vec Ideal S4x1024x768 .f32) : Vec Ideal S4096x768 .f32 := shapeCast S4096x768 x shapeCasts_S4x1024x768_S4096x768

/-- The first moment after the step, of one entry. -/
def first (g m : EReal) : EReal := Ideal.ofBits .f32 0x3F666666#32 * m + Ideal.ofBits .f32 0x3DCCCCCD#32 * g

/-- The second moment after the step, of one entry. -/
def second (g v : EReal) : EReal := Ideal.ofBits .f32 0x3F7FBE77#32 * v + Ideal.ofBits .f32 0x3A83126F#32 * (g * g)

/-- The step itself, of one entry. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

section

variable (w g m v : Vec Ideal S512x768 .f32) (i : Fin 512) (k : Fin 768)

theorem pay_first : k0_pay2 g m (ix2 i k) = first (g (ix2 i k)) (m (ix2 i k)) := by
  unfold k0_pay2 k0_pay1 first
  pointwise []

theorem pay_second : k0_pay3 g v (ix2 i k) = second (g (ix2 i k)) (v (ix2 i k)) := by
  unfold k0_pay3 k0_pay1 second
  pointwise []

theorem pay_delta : k0_pay4 g w m v (ix2 i k) = delta (w (ix2 i k)) (g (ix2 i k)) (m (ix2 i k)) (v (ix2 i k)) := by
  unfold k0_pay4 delta
  have h1 := pay_first g m
  have h2 := pay_second g v
  generalize k0_pay2 g m = a at h1 ⊢
  generalize k0_pay3 g v = b at h2 ⊢
  pointwise []
  rw [h1, h2]

end

section

variable (W G M V : Vec Ideal S4x1024x768 .f32) (p : S4096x768.Idx)

theorem ref_first : val_main_v25 (F := Ideal) G M p = first (flat G p) (flat M p) := rfl

theorem ref_second : val_main_v26 (F := Ideal) G V p = second (flat G p) (flat V p) := rfl

theorem ref_delta : val_main_v24 (F := Ideal) W G M V p = delta (flat W p) (flat G p) (flat M p) (flat V p) := rfl

end

/-! ## The blocks of a point -/

variable (m : (ℓ : Loc nD τ sig) → Buf (Elt Ideal) ℓ) (c : Dev nD)

abbrev W : Vec Ideal S4x1024x768 .f32 := m ((c : Thread nD τ).loc main_arg0)
abbrev Mo : Vec Ideal S4x1024x768 .f32 := m ((c : Thread nD τ).loc main_arg2)
abbrev Vo : Vec Ideal S4x1024x768 .f32 := m ((c : Thread nD τ).loc main_arg3)
abbrev G : Vec Ideal S4x1024x768 .f32 := m ((c : Thread nD τ).loc main_arg1)

theorem V_v0 : V m c main_v0 = flat (W m c) := by
  unfold V
  simp only [hostOps0]
  after_results_simp
  rfl

theorem V_v1 : V m c main_v1 = flat (Mo m c) := by
  unfold V
  simp only [hostOps0]
  after_results_simp
  rfl

theorem V_v2 : V m c main_v2 = flat (Vo m c) := by
  unfold V
  simp only [hostOps0]
  after_results_simp
  rfl

theorem V_v3 : V m c main_v3 = flat (G m c) := by
  unfold V
  simp only [hostOps0]
  after_results_simp
  rfl

section

attribute [local irreducible] Pipeline.Grid.coords cc0_transform_0 cc0_transform_1 cc0_transform_2 cc0_transform_3 cc0_transform_4 cc0_transform_5 cc0_transform_6

theorem blk0 (t : Fin cfg0.N) (i : Fin 512) (k : Fin 768) : iblk m c 0 t (ix2 i k) = flat (W m c) (ix2 (rowOf t i) k) := by
  rw [← V_v0 m c]
  unfold iblk
  change ((cfg0.win 0).blk t).view.read (Elt Ideal) (V m c main_v0) _ = _
  generalize V m c main_v0 = W
  refine Eq.trans ?_ (read_block (s := S4096x768) (α := EReal) W S512x768.size (cc0_transform_0 (grid0.coords t)) (Facts₀.hinb0_0 _)
    (ix2 i k) (ix2 (rowOf t i) k) (idx0 t) (by intro a; fin_cases a <;> simp [ix2, rowOf]))
  rw [View.read_apply, cast_eq]
  rfl

theorem blk1 (t : Fin cfg0.N) (i : Fin 512) (k : Fin 768) : iblk m c 1 t (ix2 i k) = flat (Mo m c) (ix2 (rowOf t i) k) := by
  rw [← V_v1 m c]
  unfold iblk
  change ((cfg0.win 1).blk t).view.read (Elt Ideal) (V m c main_v1) _ = _
  generalize V m c main_v1 = W
  refine Eq.trans ?_ (read_block (s := S4096x768) (α := EReal) W S512x768.size (cc0_transform_1 (grid0.coords t)) (Facts₀.hinb0_1 _)
    (ix2 i k) (ix2 (rowOf t i) k) (idx1 t) (by intro a; fin_cases a <;> simp [ix2, rowOf]))
  rw [View.read_apply, cast_eq]
  rfl

theorem blk2 (t : Fin cfg0.N) (i : Fin 512) (k : Fin 768) : iblk m c 2 t (ix2 i k) = flat (Vo m c) (ix2 (rowOf t i) k) := by
  rw [← V_v2 m c]
  unfold iblk
  change ((cfg0.win 2).blk t).view.read (Elt Ideal) (V m c main_v2) _ = _
  generalize V m c main_v2 = W
  refine Eq.trans ?_ (read_block (s := S4096x768) (α := EReal) W S512x768.size (cc0_transform_2 (grid0.coords t)) (Facts₀.hinb0_2 _)
    (ix2 i k) (ix2 (rowOf t i) k) (idx2 t) (by intro a; fin_cases a <;> simp [ix2, rowOf]))
  rw [View.read_apply, cast_eq]
  rfl

theorem blk3 (t : Fin cfg0.N) (i : Fin 512) (k : Fin 768) : iblk m c 3 t (ix2 i k) = flat (G m c) (ix2 (rowOf t i) k) := by
  rw [← V_v3 m c]
  unfold iblk
  change ((cfg0.win 3).blk t).view.read (Elt Ideal) (V m c main_v3) _ = _
  generalize V m c main_v3 = W
  refine Eq.trans ?_ (read_block (s := S4096x768) (α := EReal) W S512x768.size (cc0_transform_3 (grid0.coords t)) (Facts₀.hinb0_3 _)
    (ix2 i k) (ix2 (rowOf t i) k) (idx3 t) (by intro a; fin_cases a <;> simp [ix2, rowOf]))
  rw [View.read_apply, cast_eq]
  rfl

/-- What a point writes. -/
theorem delta_at (t : Fin cfg0.N) (i : Fin 512) (k : Fin 768) : out0_4 (iblk m c 0 t) (iblk m c 1 t) (iblk m c 2 t) (iblk m c 3 t) (ix2 i k) = val_main_v24 (F := Ideal) (W m c) (G m c) (Mo m c) (Vo m c) (ix2 (rowOf t i) k) := by
  unfold out0_4
  rw [View.canon_unit_zero hz]
  simp only [View.ld_unit_zero (S := S512x768) hz]
  rw [pay_delta, blk0, blk1, blk2, blk3, ref_delta]

/-- The steps are the reference's. -/
theorem arr_delta : (dats m 0 c).arrAt 4 cfg0.N = val_main_v24 (F := Ideal) (W m c) (G m c) (Mo m c) (Vo m c) := by
  have hr := delta_at m c
  generalize val_main_v24 (F := Ideal) (W m c) (G m c) (Mo m c) (Vo m c) = R at hr ⊢
  refine (dats m 0 c).arrAt_eq_of_covers 4 _ (by decide +kernel) fun t hf y => ?_
  rw [cast_eq, after0_4]
  have key : ∀ y : S512x768.Idx, out0_4 (iblk m c 0 t) (iblk m c 1 t) (iblk m c 2 t) (iblk m c 3 t) y
      = R ((Rect.block (s := S4096x768) S512x768.size (cc0_transform_4 (grid0.coords t)) (Facts₀.hinb0_4 _)).emb y) := by
    intro y
    obtain ⟨i, j, rfl⟩ : ∃ i j, y = ix2 i j := ⟨y 0, y 1, (eq_ix2 y)⟩
    rw [hr, read_block (s := S4096x768) R S512x768.size (cc0_transform_4 (grid0.coords t)) (Facts₀.hinb0_4 _)
      (ix2 i j) (ix2 (rowOf t i) j) (idx4 t) (by intro a; fin_cases a <;> simp [ix2, rowOf])]
  exact key y

/-- What a point writes. -/
theorem first_at (t : Fin cfg0.N) (i : Fin 512) (k : Fin 768) : out0_5 (iblk m c 0 t) (iblk m c 1 t) (iblk m c 2 t) (iblk m c 3 t) (ix2 i k) = val_main_v25 (F := Ideal) (G m c) (Mo m c) (ix2 (rowOf t i) k) := by
  unfold out0_5
  rw [View.canon_unit_zero hz]
  simp only [View.ld_unit_zero (S := S512x768) hz]
  rw [pay_first, blk3, blk1, ref_first]

/-- The first moments are the reference's. -/
theorem arr_first : (dats m 0 c).arrAt 5 cfg0.N = val_main_v25 (F := Ideal) (G m c) (Mo m c) := by
  have hr := first_at m c
  generalize val_main_v25 (F := Ideal) (G m c) (Mo m c) = R at hr ⊢
  refine (dats m 0 c).arrAt_eq_of_covers 5 _ (by decide +kernel) fun t hf y => ?_
  rw [cast_eq, after0_5]
  have key : ∀ y : S512x768.Idx, out0_5 (iblk m c 0 t) (iblk m c 1 t) (iblk m c 2 t) (iblk m c 3 t) y
      = R ((Rect.block (s := S4096x768) S512x768.size (cc0_transform_5 (grid0.coords t)) (Facts₀.hinb0_5 _)).emb y) := by
    intro y
    obtain ⟨i, j, rfl⟩ : ∃ i j, y = ix2 i j := ⟨y 0, y 1, (eq_ix2 y)⟩
    rw [hr, read_block (s := S4096x768) R S512x768.size (cc0_transform_5 (grid0.coords t)) (Facts₀.hinb0_5 _)
      (ix2 i j) (ix2 (rowOf t i) j) (idx5 t) (by intro a; fin_cases a <;> simp [ix2, rowOf])]
  exact key y

/-- What a point writes. -/
theorem second_at (t : Fin cfg0.N) (i : Fin 512) (k : Fin 768) : out0_6 (iblk m c 0 t) (iblk m c 1 t) (iblk m c 2 t) (iblk m c 3 t) (ix2 i k) = val_main_v26 (F := Ideal) (G m c) (Vo m c) (ix2 (rowOf t i) k) := by
  unfold out0_6
  rw [View.canon_unit_zero hz]
  simp only [View.ld_unit_zero (S := S512x768) hz]
  rw [pay_second, blk3, blk2, ref_second]

/-- The second moments are the reference's. -/
theorem arr_second : (dats m 0 c).arrAt 6 cfg0.N = val_main_v26 (F := Ideal) (G m c) (Vo m c) := by
  have hr := second_at m c
  generalize val_main_v26 (F := Ideal) (G m c) (Vo m c) = R at hr ⊢
  refine (dats m 0 c).arrAt_eq_of_covers 6 _ (by decide +kernel) fun t hf y => ?_
  rw [cast_eq, after0_6]
  have key : ∀ y : S512x768.Idx, out0_6 (iblk m c 0 t) (iblk m c 1 t) (iblk m c 2 t) (iblk m c 3 t) y
      = R ((Rect.block (s := S4096x768) S512x768.size (cc0_transform_6 (grid0.coords t)) (Facts₀.hinb0_6 _)).emb y) := by
    intro y
    obtain ⟨i, j, rfl⟩ : ∃ i j, y = ix2 i j := ⟨y 0, y 1, (eq_ix2 y)⟩
    rw [hr, read_block (s := S4096x768) R S512x768.size (cc0_transform_6 (grid0.coords t)) (Facts₀.hinb0_6 _)
      (ix2 i j) (ix2 (rowOf t i) j) (idx6 t) (by intro a; fin_cases a <;> simp [ix2, rowOf])]
  exact key y

end

end Cert.Kernel16Ideal.Adam

end
-- ==== Proof.lean ====
/- The proof of the claim: the two programs of the kernel run to their ends and change no argument, so does the
   reference, the named constant is what it is named, and the two idealized programs compute the same gradients. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel10
public import proofs.«01_k».proof.Proof.Gen.Kernel10.Skeleton
public import proofs.«01_k».proof.Proof.Gen.Kernel10.Loops
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Loops
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite10
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Run
public import proofs.«01_k».proof.Proof.RunK
public import proofs.«01_k».proof.Proof.Tail
public import proofs.«01_k».proof.Proof.Finite
public import proofs.«01_k».proof.Proof.OutBwdX
public import proofs.«01_k».proof.Proof.OutBwdW
public import proofs.«01_k».proof.Proof.InBwdW
public import proofs.«01_k».proof.Proof.InBwdWEven
public import proofs.«01_k».proof.Proof.InFwd
public import proofs.«01_k».proof.Proof.OutFwd
public import proofs.«01_k».proof.Proof.PreBwd
public import proofs.«01_k».proof.Proof.PostBwd
public import proofs.«01_k».proof.Proof.AttnFwd
public import proofs.«01_k».proof.Proof.PreFwd
public import proofs.«01_k».proof.Proof.PostPreFwd
public import proofs.«01_k».proof.Proof.PostLoss
public import proofs.«01_k».proof.Proof.AdaBwd
public import proofs.«01_k».proof.Proof.EvenGate
public import proofs.«01_k».proof.Proof.AdamW
public import Idealize.ShloMosaic.Adequacy
public import Idealize.ShloMosaic.Init

@[expose] public section

set_option maxRecDepth 16384

noncomputable section

namespace Cert.Proof

open Idealize.ShloMosaic Idealize.SL.Sem

/-- The kernel's program as printed ends with its arguments unchanged and its counters at zero. -/
theorem frame_kernel : Cert.quiescent_Kernel := fun m ρ _ =>
  θ_run_with_sems (Cert.Kernel.Gen.frame_of m ρ (Cert.Kernel.Body.dats m) fun _ _ => rfl) (Cert.Kernel.Body.run_main (F := Bits) m ρ)

/-- So does its idealization. -/
theorem frame_ideal : Cert.quiescent_KernelIdeal := fun m ρ _ =>
  θ_run_with_sems (Cert.KernelIdeal.Gen.frame_of m ρ (Cert.KernelIdeal.Body.dats m) fun _ _ => rfl) (Cert.KernelIdeal.Body.run_main (F := Ideal) m ρ)

/-- So does the reference. -/
theorem frame_reference : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run (F := Ideal) m ρ)

/-- The constant named in the kernel is what it is named. -/
theorem preserves : Cert.preserves_Kernel_KernelIdeal :=
  IdealRules.named_const.statement Cert.KernelIdeal.κ "mask" .f32 0xF149F2CA#32 ⊥ rfl

/-- The kernel's three results are the reference's three gradients, whenever every entry of the arguments is finite. -/
theorem algebraic : Cert.algebraic_KernelIdeal_ReferenceIdeal_pre_finite := by
  intro m g m' g' hpre hagree
  refine ⟨fun c => Pipeline.afterTail₀ Cert.KernelIdeal.cfgs (Cert.KernelIdeal.Body.dats m) 0 (Cert.KernelIdeal.Gen.V0 m) [Cert.KernelIdeal.Gen.hostOps1] c Cert.KernelIdeal.main_v76,
    fun c => Pipeline.afterTail₀ Cert.KernelIdeal.cfgs (Cert.KernelIdeal.Body.dats m) 0 (Cert.KernelIdeal.Gen.V0 m) [Cert.KernelIdeal.Gen.hostOps1] c Cert.KernelIdeal.main_v77,
    fun c => Pipeline.afterTail₀ Cert.KernelIdeal.cfgs (Cert.KernelIdeal.Body.dats m) 0 (Cert.KernelIdeal.Gen.V0 m) [Cert.KernelIdeal.Gen.hostOps1] c Cert.KernelIdeal.main_v75, ?_, ?_⟩
  · refine θ_run_mono (θ_run_and (Cert.KernelIdeal.Body.run_main (F := Ideal) m g)
      (Cert.KernelIdeal.Gen.frame_of m g (Cert.KernelIdeal.Body.dats m) (fun _ _ => rfl)
        (θ_run_mono (Cert.KernelIdeal.Body.run_main (F := Ideal) m g) fun r h => h.1))) ?_
    intro r h c
    exact ⟨(h.1.1 c).2 _ (by decide), (h.1.1 c).2 _ (by decide), (h.1.1 c).2 _ (by decide), h.2 c⟩
  · refine θ_run_mono (Cert.ReferenceIdeal.Value.run (F := Ideal) m' g') ?_
    intro r h c
    obtain ⟨h0, h1, h2, h3⟩ := h c
    obtain ⟨a0, a1, a2, a3⟩ := hagree c
    have H := Cert.Finite.holds (hpre c)
    refine ⟨h0.trans ?_, h1.trans ?_, h2.trans ?_, h3⟩
    · rw [Cert.ReferenceIdeal.Read.val_main_v63_eq, a0, a1, a2, a3]
      exact (Cert.KernelIdeal.Tail.grad_q H).symm
    · rw [Cert.ReferenceIdeal.Read.val_main_v62_eq, a0, a1, a2, a3]
      exact (Cert.KernelIdeal.Tail.grad_k H).symm
    · rw [Cert.ReferenceIdeal.Read.val_main_v46_eq, a0, a1, a3]
      exact (Cert.KernelIdeal.Tail.grad_v H).symm

/-- The second program, the gradient through the first normalisation and the input projection, ends with its arguments unchanged. -/
theorem frame_kernel2 : Cert.quiescent_Kernel2 := fun m ρ _ => Cert.Kernel2.Gen.frame (F := Bits) m ρ

/-- So does its idealization. -/
theorem frame_ideal2 : Cert.quiescent_Kernel2Ideal := fun m ρ _ => Cert.Kernel2Ideal.Gen.frame (F := Ideal) m ρ

/-- So does its reference. -/
theorem frame_reference2 : Cert.quiescent_Reference2Ideal := fun m ρ _ =>
  (θ_run Cert.Reference2Ideal.defs _ _).mono
    (fun r h => ⟨fun c => (h c).2.2.2.2, sem_eq_zero_of_no_sems (by decide) r.2⟩) (Cert.Reference2Ideal.Value.run (F := Ideal) m ρ)

/-- The second program's four results are its reference's. -/
theorem algebraic2 : Cert.algebraic_Kernel2Ideal_Reference2Ideal := by
  intro m g m' g' _ hagree
  refine ⟨fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, fun c => (Cert.Kernel2Ideal.Gen.dats m 0 c).arrAt 10 Cert.Kernel2Ideal.cfg0.N,
    Cert.Kernel2Ideal.Value.run_blocks (F := Ideal) m g, ?_⟩
  refine θ_run_mono (Cert.Reference2Ideal.Value.run (F := Ideal) m' g') fun r h c =>
    ⟨((h c).1.trans (Cert.Reference2Ideal.Read.val_main_v52_eq m' c)).trans ?_,
      ((h c).2.1.trans (Cert.Reference2Ideal.Read.val_main_v27_eq _ _)).trans ?_,
      ((h c).2.2.1.trans (Cert.Reference2Ideal.Read.val_main_v30_eq _ _ _ _)).trans ?_,
      ((h c).2.2.2.1.trans (Cert.Reference2Ideal.Read.val_main_v35_eq _ _ _ _)).trans ?_, (h c).2.2.2.2⟩
  all_goals obtain ⟨a0, a1, a2, a3, a4, a5⟩ := hagree c
  · rw [a0, a1, a2, a3, a4, a5]
    exact (Cert.Kernel2Ideal.Norm.arr_rows m c).symm
  · rw [a1, a5]
    exact (Cert.Kernel2Ideal.Norm.arr_shift m c).symm
  · rw [a1, a2, a3, a5]
    exact (Cert.Kernel2Ideal.Norm.arr_scale m c).symm
  · rw [a1, a2, a4, a5]
    exact (Cert.Kernel2Ideal.Norm.arr_gain m c).symm

/-- The third program, the gradient through the second normalisation, ends with its arguments unchanged. -/
theorem frame_kernel3 : Cert.quiescent_Kernel3 := fun m ρ _ => Cert.Kernel3.Gen.frame (F := Bits) m ρ

/-- So does its idealization. -/
theorem frame_ideal3 : Cert.quiescent_Kernel3Ideal := fun m ρ _ => Cert.Kernel3Ideal.Gen.frame (F := Ideal) m ρ

/-- So does its reference. -/
theorem frame_reference3 : Cert.quiescent_Reference3Ideal := fun m ρ _ =>
  (θ_run Cert.Reference3Ideal.defs _ _).mono
    (fun r h => ⟨fun c => (h c).2.2.2, sem_eq_zero_of_no_sems (by decide) r.2⟩) (Cert.Reference3Ideal.Value.run (F := Ideal) m ρ)

/-- The third program's three results are its reference's. -/
theorem algebraic3 : Cert.algebraic_Kernel3Ideal_Reference3Ideal := by
  intro m g m' g' _ hagree
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    fun c => (Cert.Kernel3Ideal.Gen.dats m 0 c).arrAt 6 Cert.Kernel3Ideal.cfg0.N, Cert.Kernel3Ideal.Value.run_blocks (F := Ideal) m g, ?_⟩
  refine θ_run_mono (Cert.Reference3Ideal.Value.run (F := Ideal) m' g') fun r h c =>
    ⟨((h c).1.trans (Cert.Reference3Ideal.Read.val_main_v45_eq m' c)).trans ?_,
      ((h c).2.1.trans (Cert.Reference3Ideal.Read.val_main_v25_eq _ _ _)).trans ?_,
      ((h c).2.2.1.trans (Cert.Reference3Ideal.Read.val_main_v28_eq _ _ _)).trans ?_, (h c).2.2.2⟩
  all_goals obtain ⟨a0, _, a2, a3, a4⟩ := hagree c
  · rw [a0, a2, a3, a4]
    exact (Cert.Kernel3Ideal.Norm.arr_rows m c).symm
  · rw [a0, a2, a3]
    exact (Cert.Kernel3Ideal.Norm.arr_gate m c).symm
  · rw [a0, a2, a4]
    exact (Cert.Kernel3Ideal.Norm.arr_gain m c).symm

/-- The fourth program, the gradient of the output projection's operand, ends with its arguments unchanged. -/
theorem frame_kernel4 : Cert.quiescent_Kernel4 := fun m ρ _ => Cert.Kernel4.Gen.frame (F := Bits) m ρ

/-- So does its idealization. -/
theorem frame_ideal4 : Cert.quiescent_Kernel4Ideal := fun m ρ _ => Cert.Kernel4Ideal.Gen.frame (F := Ideal) m ρ

/-- So does its reference. -/
theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

/-- The fourth program's result is its reference's. -/
theorem algebraic4 : Cert.algebraic_Kernel4Ideal_Reference4Ideal := by
  intro m g m' g' _ hagree
  refine ⟨fun c => (Cert.Kernel4Ideal.Gen.dats m 0 c).arrAt 2 Cert.Kernel4Ideal.cfg0.N, Cert.Kernel4Ideal.Value.run_blocks (F := Ideal) m g, ?_⟩
  refine θ_run_mono (Cert.Reference4Ideal.Value.run (F := Ideal) m' g') fun r h c => ⟨(h c).1.trans ?_, (h c).2⟩
  obtain ⟨_, a1, a2⟩ := hagree c
  rw [a1, a2]
  exact (Cert.Kernel4Ideal.Product.arr m c).symm

/-- The fifth program, the gradient of the output projection's weights, ends with its arguments unchanged. -/
theorem frame_kernel5 : Cert.quiescent_Kernel5 := fun m ρ _ => Cert.Kernel5.Gen.frame (F := Bits) m ρ

/-- So does its idealization. -/
theorem frame_ideal5 : Cert.quiescent_Kernel5Ideal := fun m ρ _ => Cert.Kernel5Ideal.Gen.frame (F := Ideal) m ρ

/-- So does its reference. -/
theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run (F := Ideal) m ρ)

/-- The fifth program's result is its reference's. -/
theorem algebraic5 : Cert.algebraic_Kernel5Ideal_Reference5Ideal := by
  intro m g m' g' _ hagree
  refine ⟨fun c => (Cert.Kernel5Ideal.Gen.dats m 0 c).arrAt 2 Cert.Kernel5Ideal.cfg0.N, Cert.Kernel5Ideal.Value.run_blocks (F := Ideal) m g, ?_⟩
  refine θ_run_mono (Cert.Reference5Ideal.Value.run (F := Ideal) m' g') fun r h c => ⟨(h c).1.trans ?_, (h c).2⟩
  obtain ⟨a0, _, a2⟩ := hagree c
  rw [a0, a2]
  exact (Cert.Kernel5Ideal.Product.arr m c).symm

/-- The sixth program, the gradient of an odd layer's input projection's weights, ends with its arguments unchanged. -/
theorem frame_kernel6 : Cert.quiescent_Kernel6 := fun m ρ _ => Cert.Kernel6.Gen.frame (F := Bits) m ρ

/-- So does its idealization. -/
theorem frame_ideal6 : Cert.quiescent_Kernel6Ideal := fun m ρ _ => Cert.Kernel6Ideal.Gen.frame (F := Ideal) m ρ

/-- So does its reference. -/
theorem frame_reference6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run (F := Ideal) m ρ)

/-- The sixth program's result is its reference's. -/
theorem algebraic6 : Cert.algebraic_Kernel6Ideal_Reference6Ideal := by
  intro m g m' g' _ hagree
  refine ⟨fun c => (Cert.Kernel6Ideal.Gen.dats m 0 c).arrAt 2 Cert.Kernel6Ideal.cfg0.N, Cert.Kernel6Ideal.Value.run_blocks (F := Ideal) m g, ?_⟩
  refine θ_run_mono (Cert.Reference6Ideal.Value.run (F := Ideal) m' g') fun r h c => ⟨(h c).1.trans ?_, (h c).2⟩
  obtain ⟨a0, _, a2⟩ := hagree c
  rw [a0, a2]
  exact (Cert.Kernel6Ideal.Product.arr m c).symm

/-- The seventh program, the gradient of an even layer's input projection's weights, ends with its arguments unchanged. -/
theorem frame_kernel7 : Cert.quiescent_Kernel7 := fun m ρ _ => Cert.Kernel7.Gen.frame (F := Bits) m ρ

/-- So does its idealization. -/
theorem frame_ideal7 : Cert.quiescent_Kernel7Ideal := fun m ρ _ => Cert.Kernel7Ideal.Gen.frame (F := Ideal) m ρ

/-- So does its reference. -/
theorem frame_reference7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run (F := Ideal) m ρ)

/-- The seventh program's result is its reference's. -/
theorem algebraic7 : Cert.algebraic_Kernel7Ideal_Reference7Ideal := by
  intro m g m' g' _ hagree
  refine ⟨fun c => (Cert.Kernel7Ideal.Gen.dats m 0 c).arrAt 2 Cert.Kernel7Ideal.cfg0.N, Cert.Kernel7Ideal.Value.run_blocks (F := Ideal) m g, ?_⟩
  refine θ_run_mono (Cert.Reference7Ideal.Value.run (F := Ideal) m' g') fun r h c => ⟨(h c).1.trans ?_, (h c).2⟩
  obtain ⟨a0, _, a2⟩ := hagree c
  rw [a0, a2]
  exact (Cert.Kernel7Ideal.Product.arr m c).symm

/-- The eighth program, the input projection, ends with its arguments unchanged. -/
theorem frame_kernel8 : Cert.quiescent_Kernel8 := fun m ρ _ => Cert.Kernel8.Gen.frame (F := Bits) m ρ

/-- So does its idealization. -/
theorem frame_ideal8 : Cert.quiescent_Kernel8Ideal := fun m ρ _ => Cert.Kernel8Ideal.Gen.frame (F := Ideal) m ρ

/-- So does its reference. -/
theorem frame_reference8 : Cert.quiescent_Reference8Ideal := fun m ρ _ =>
  (θ_run Cert.Reference8Ideal.defs _ _).mono
    (fun r h => ⟨fun c => (h c).2, sem_eq_zero_of_no_sems (by decide) r.2⟩) (Cert.Reference8Ideal.Value.run (F := Ideal) m ρ)

/-- The eighth program's result is its reference's. -/
theorem algebraic8 : Cert.algebraic_Kernel8Ideal_Reference8Ideal := by
  intro m g m' g' _ hagree
  refine ⟨fun c => (Cert.Kernel8Ideal.Gen.dats m 0 c).arrAt 2 Cert.Kernel8Ideal.cfg0.N, Cert.Kernel8Ideal.Value.run_blocks (F := Ideal) m g, ?_⟩
  refine θ_run_mono (Cert.Reference8Ideal.Value.run (F := Ideal) m' g') fun r h c => ⟨(h c).1.trans ?_, (h c).2⟩
  obtain ⟨a0, a1⟩ := hagree c
  rw [a0, a1]
  exact (Cert.Kernel8Ideal.Product.arr m c).symm

/-- The ninth program, the output projection, ends with its arguments unchanged. -/
theorem frame_kernel9 : Cert.quiescent_Kernel9 := fun m ρ _ => Cert.Kernel9.Gen.frame (F := Bits) m ρ

/-- So does its idealization. -/
theorem frame_ideal9 : Cert.quiescent_Kernel9Ideal := fun m ρ _ => Cert.Kernel9Ideal.Gen.frame (F := Ideal) m ρ

/-- So does its reference. -/
theorem frame_reference9 : Cert.quiescent_Reference9Ideal := fun m ρ _ =>
  (θ_run Cert.Reference9Ideal.defs _ _).mono
    (fun r h => ⟨fun c => (h c).2, sem_eq_zero_of_no_sems (by decide) r.2⟩) (Cert.Reference9Ideal.Value.run (F := Ideal) m ρ)

/-- The ninth program's result is its reference's. -/
theorem algebraic9 : Cert.algebraic_Kernel9Ideal_Reference9Ideal := by
  intro m g m' g' _ hagree
  refine ⟨fun c => (Cert.Kernel9Ideal.Gen.dats m 0 c).arrAt 2 Cert.Kernel9Ideal.cfg0.N, Cert.Kernel9Ideal.Value.run_blocks (F := Ideal) m g, ?_⟩
  refine θ_run_mono (Cert.Reference9Ideal.Value.run (F := Ideal) m' g') fun r h c => ⟨(h c).1.trans ?_, (h c).2⟩
  obtain ⟨a0, a1⟩ := hagree c
  rw [a0, a1]
  exact (Cert.Kernel9Ideal.Product.arr m c).symm

/-- The tenth program, the forward attention, ends with its arguments unchanged. -/
theorem frame_kernel10 : Cert.quiescent_Kernel10 := fun m ρ _ => Cert.Kernel10.Gen.frame (F := Bits) m ρ

/-- So does its idealization. -/
theorem frame_ideal10 : Cert.quiescent_Kernel10Ideal := fun m ρ _ => Cert.Kernel10Ideal.Gen.frame (F := Ideal) m ρ

/-- So does its reference. -/
theorem frame_reference10 : Cert.quiescent_Reference10Ideal := fun m ρ _ =>
  (θ_run Cert.Reference10Ideal.defs _ _).mono
    (fun r h => ⟨fun c => (h c).2.2, sem_eq_zero_of_no_sems (by decide) r.2⟩) (Cert.Reference10Ideal.Value.run (F := Ideal) m ρ)

/-- The constant named in the tenth program is what it is named. -/
theorem preserves10 : Cert.preserves_Kernel10_Kernel10Ideal :=
  IdealRules.named_const.statement Cert.Kernel10Ideal.κ "mask" .f32 0xF149F2CA#32 ⊥ rfl

/-- The tenth program's two results are its reference's, whenever every query and key is finite. -/
theorem algebraic10 : Cert.algebraic_Kernel10Ideal_Reference10Ideal_pre_finite10 := by
  intro m g m' g' hpre hagree
  refine ⟨fun c => (Cert.Kernel10Ideal.Gen.dats m 0 c).arrAt 3 Cert.Kernel10Ideal.cfg0.N, fun c => (Cert.Kernel10Ideal.Gen.dats m 0 c).arrAt 4 Cert.Kernel10Ideal.cfg0.N,
    Cert.Kernel10Ideal.Value.run_blocks (F := Ideal) m g, ?_⟩
  refine θ_run_mono (Cert.Reference10Ideal.Value.run (F := Ideal) m' g') fun r h c =>
    ⟨((h c).1.trans (Cert.Reference10Ideal.Read.val_main_v22_eq m' c)).trans ?_,
      ((h c).2.1.trans (Cert.Reference10Ideal.Read.val_main_v24_eq m' c)).trans ?_, (h c).2.2⟩
  all_goals
    obtain ⟨a0, a1, a2⟩ := hagree c
    have R := Cert.Fwd10.reals (hpre c)
  · rw [a0, a1, a2]
    exact (Cert.Kernel10Ideal.Fwd.arr_out m c R).symm
  · rw [a0, a1]
    exact (Cert.Kernel10Ideal.Fwd.arr_log m c R).symm

/-- The eleventh program, the first normalisation of the step, ends with its arguments unchanged. -/
theorem frame_kernel11 : Cert.quiescent_Kernel11 := fun m ρ _ => Cert.Kernel11.Gen.frame (F := Bits) m ρ

/-- So does its idealization. -/
theorem frame_ideal11 : Cert.quiescent_Kernel11Ideal := fun m ρ _ => Cert.Kernel11Ideal.Gen.frame (F := Ideal) m ρ

/-- So does its reference. -/
theorem frame_reference11 : Cert.quiescent_Reference11Ideal := fun m ρ _ =>
  (θ_run Cert.Reference11Ideal.defs _ _).mono
    (fun r h => ⟨fun c => (h c).2, sem_eq_zero_of_no_sems (by decide) r.2⟩) (Cert.Reference11Ideal.Value.run (F := Ideal) m ρ)

/-- The eleventh program's result is its reference's. -/
theorem algebraic11 : Cert.algebraic_Kernel11Ideal_Reference11Ideal := by
  intro m g m' g' _ hagree
  refine ⟨fun c => (Cert.Kernel11Ideal.Gen.dats m 0 c).arrAt 4 Cert.Kernel11Ideal.cfg0.N, Cert.Kernel11Ideal.Value.run_blocks (F := Ideal) m g, ?_⟩
  refine θ_run_mono (Cert.Reference11Ideal.Value.run (F := Ideal) m' g') fun r h c =>
    ⟨((h c).1.trans (Cert.Reference11Ideal.Read.val_main_v21_eq _ _ _)).trans ?_, (h c).2⟩
  obtain ⟨a0, a1, a2⟩ := hagree c
  rw [a0, a1, a2]
  exact (Cert.Kernel11Ideal.Norm.arr m c).symm

/-- The twelfth program, the end of a layer and the normalisation that starts the next, ends with its arguments unchanged. -/
theorem frame_kernel12 : Cert.quiescent_Kernel12 := fun m ρ _ => Cert.Kernel12.Gen.frame (F := Bits) m ρ

/-- So does its idealization. -/
theorem frame_ideal12 : Cert.quiescent_Kernel12Ideal := fun m ρ _ => Cert.Kernel12Ideal.Gen.frame (F := Ideal) m ρ

/-- So does its reference. -/
theorem frame_reference12 : Cert.quiescent_Reference12Ideal := fun m ρ _ =>
  (θ_run Cert.Reference12Ideal.defs _ _).mono
    (fun r h => ⟨fun c => (h c).2.2, sem_eq_zero_of_no_sems (by decide) r.2⟩) (Cert.Reference12Ideal.Value.run (F := Ideal) m ρ)

/-- The twelfth program's two results are its reference's. -/
theorem algebraic12 : Cert.algebraic_Kernel12Ideal_Reference12Ideal := by
  intro m g m' g' _ hagree
  refine ⟨fun c => (Cert.Kernel12Ideal.Gen.dats m 0 c).arrAt 7 Cert.Kernel12Ideal.cfg0.N,
    fun c => (Cert.Kernel12Ideal.Gen.dats m 0 c).arrAt 8 Cert.Kernel12Ideal.cfg0.N, Cert.Kernel12Ideal.Value.run_blocks (F := Ideal) m g, ?_⟩
  refine θ_run_mono (Cert.Reference12Ideal.Value.run (F := Ideal) m' g') fun r h c =>
    ⟨((h c).1.trans (Cert.Reference12Ideal.Read.val_main_v17_eq _ _ _ _)).trans ?_,
      ((h c).2.1.trans (Cert.Reference12Ideal.Read.val_main_v39_eq _ _ _ _ _ _)).trans ?_, (h c).2.2⟩
  all_goals obtain ⟨a0, a1, a2, a3, a4, a5⟩ := hagree c
  · rw [a0, a1, a2, a3]
    exact (Cert.Kernel12Ideal.Norm.arr_line m c).symm
  · rw [a0, a1, a2, a3, a4, a5]
    exact (Cert.Kernel12Ideal.Norm.arr_next m c).symm

/-- The thirteenth program, the end of the last layer and the loss, ends with its arguments unchanged. -/
theorem frame_kernel13 : Cert.quiescent_Kernel13 := fun m ρ _ => Cert.Kernel13.Gen.frame (F := Bits) m ρ

/-- So does its idealization. -/
theorem frame_ideal13 : Cert.quiescent_Kernel13Ideal := fun m ρ _ => Cert.Kernel13Ideal.Gen.frame (F := Ideal) m ρ

/-- So does its reference. -/
theorem frame_reference13 : Cert.quiescent_Reference13Ideal := fun m ρ _ =>
  (θ_run Cert.Reference13Ideal.defs _ _).mono
    (fun r h => ⟨fun c => (h c).2.2, sem_eq_zero_of_no_sems (by decide) r.2⟩) (Cert.Reference13Ideal.Value.run (F := Ideal) m ρ)

/-- The thirteenth program's two results are its reference's. -/
theorem algebraic13 : Cert.algebraic_Kernel13Ideal_Reference13Ideal := by
  intro m g m' g' _ hagree
  refine ⟨fun c => (Cert.Kernel13Ideal.Gen.dats m 0 c).arrAt 5 Cert.Kernel13Ideal.cfg0.N,
    fun c => (Cert.Kernel13Ideal.Gen.dats m 0 c).arrAt 6 Cert.Kernel13Ideal.cfg0.N, Cert.Kernel13Ideal.Value.run_blocks (F := Ideal) m g, ?_⟩
  refine θ_run_mono (Cert.Reference13Ideal.Value.run (F := Ideal) m' g') fun r h c =>
    ⟨((h c).1.trans (Cert.Reference13Ideal.Read.val_main_v27_eq _ _ _ _ _)).trans ?_,
      ((h c).2.1.trans (Cert.Reference13Ideal.Read.val_main_v33_eq _ _ _ _ _)).trans ?_, (h c).2.2⟩
  all_goals obtain ⟨a0, a1, a2, a3, a4⟩ := hagree c
  · rw [a0, a1, a2, a3, a4]
    exact (Cert.Kernel13Ideal.Loss.arr_loss m c).symm
  · rw [a0, a1, a2, a3, a4]
    exact (Cert.Kernel13Ideal.Loss.arr_rows m c).symm

/-- The kernel of the modulations' weight gradient ends and leaves its arguments as they were. -/
theorem frame_kernel14 : Cert.quiescent_Kernel14 := fun m ρ _ => Cert.Kernel14.Gen.frame (F := Bits) m ρ

/-- So does its ideal program. -/
theorem frame_ideal14 : Cert.quiescent_Kernel14Ideal := fun m ρ _ => Cert.Kernel14Ideal.Gen.frame (F := Ideal) m ρ

/-- So does its reference. -/
theorem frame_reference14 : Cert.quiescent_Reference14Ideal := fun m ρ _ =>
  (θ_run Cert.Reference14Ideal.defs _ _).mono
    (fun r h => ⟨fun c => (h c).2, sem_eq_zero_of_no_sems (by decide) r.2⟩) (Cert.Reference14Ideal.Value.run (F := Ideal) m ρ)

/-- Over the extended reals the gradient of the modulations' weights is the reference's. -/
theorem algebraic14 : Cert.algebraic_Kernel14Ideal_Reference14Ideal := by
  intro m g m' g' _ hagree
  refine ⟨fun c => (Cert.Kernel14Ideal.Gen.dats m 0 c).arrAt 2 Cert.Kernel14Ideal.cfg0.N, Cert.Kernel14Ideal.Value.run_blocks (F := Ideal) m g, ?_⟩
  refine θ_run_mono (Cert.Reference14Ideal.Value.run (F := Ideal) m' g') fun r h c =>
    ⟨((h c).1.trans (Cert.Reference14Ideal.Read.val_main_v3_eq _ _)).trans ?_, (h c).2⟩
  obtain ⟨a0, a1, a2⟩ := hagree c
  rw [a0, a2]
  exact (Cert.Kernel14Ideal.Ada.arr m c).symm

/-- The kernel of the gates ends and leaves its arguments as they were. -/
theorem frame_kernel15 : Cert.quiescent_Kernel15 := fun m ρ _ => Cert.Kernel15.Gen.frame (F := Bits) m ρ

/-- So does its ideal program. -/
theorem frame_ideal15 : Cert.quiescent_Kernel15Ideal := fun m ρ _ => Cert.Kernel15Ideal.Gen.frame (F := Ideal) m ρ

/-- So does its reference. -/
theorem frame_reference15 : Cert.quiescent_Reference15Ideal := fun m ρ _ =>
  (θ_run Cert.Reference15Ideal.defs _ _).mono
    (fun r h => ⟨fun c => (h c).2, sem_eq_zero_of_no_sems (by decide) r.2⟩) (Cert.Reference15Ideal.Value.run (F := Ideal) m ρ)

/-- Over the extended reals the gated branches of an even layer are the reference's. -/
theorem algebraic15 : Cert.algebraic_Kernel15Ideal_Reference15Ideal := by
  intro m g m' g' _ hagree
  refine ⟨fun c => (Cert.Kernel15Ideal.Gen.dats m 0 c).arrAt 10 Cert.Kernel15Ideal.cfg0.N, Cert.Kernel15Ideal.Value.run_blocks (F := Ideal) m g, ?_⟩
  refine θ_run_mono (Cert.Reference15Ideal.Value.run (F := Ideal) m' g') fun r h c =>
    ⟨((h c).1.trans (Cert.Reference15Ideal.Read.val_main_v42_eq _ _ _ _)).trans ?_, (h c).2⟩
  obtain ⟨a0, a1, a2, a3⟩ := hagree c
  rw [a0, a1, a2, a3]
  exact (Cert.Kernel15Ideal.Gate.arr m c).symm

/-- The kernel of the weights' step ends and leaves its arguments as they were. -/
theorem frame_kernel16 : Cert.quiescent_Kernel16 := fun m ρ _ => Cert.Kernel16.Gen.frame (F := Bits) m ρ

/-- So does its ideal program. -/
theorem frame_ideal16 : Cert.quiescent_Kernel16Ideal := fun m ρ _ => Cert.Kernel16Ideal.Gen.frame (F := Ideal) m ρ

/-- So does its reference. -/
theorem frame_reference16 : Cert.quiescent_Reference16Ideal := fun m ρ _ =>
  (θ_run Cert.Reference16Ideal.defs _ _).mono
    (fun r h => ⟨fun c => (h c).2.2.2, sem_eq_zero_of_no_sems (by decide) r.2⟩) (Cert.Reference16Ideal.Value.run (F := Ideal) m ρ)

/-- Over the extended reals the step of AdamW and its two moments are the reference's. -/
theorem algebraic16 : Cert.algebraic_Kernel16Ideal_Reference16Ideal := by
  intro m g m' g' _ hagree
  refine ⟨fun c => (Cert.Kernel16Ideal.Gen.dats m 0 c).arrAt 4 Cert.Kernel16Ideal.cfg0.N,
    fun c => (Cert.Kernel16Ideal.Gen.dats m 0 c).arrAt 5 Cert.Kernel16Ideal.cfg0.N,
    fun c => (Cert.Kernel16Ideal.Gen.dats m 0 c).arrAt 6 Cert.Kernel16Ideal.cfg0.N, Cert.Kernel16Ideal.Value.run_blocks (F := Ideal) m g, ?_⟩
  refine θ_run_mono (Cert.Reference16Ideal.Value.run (F := Ideal) m' g') fun r h c =>
    ⟨((h c).1.trans (Cert.Reference16Ideal.Read.val_main_v24_eq _ _ _ _)).trans ?_,
      ((h c).2.1.trans (Cert.Reference16Ideal.Read.val_main_v25_eq _ _)).trans ?_,
      ((h c).2.2.1.trans (Cert.Reference16Ideal.Read.val_main_v26_eq _ _)).trans ?_, (h c).2.2.2⟩
  all_goals obtain ⟨a0, a1, a2, a3⟩ := hagree c
  · rw [a0, a1, a2, a3]
    exact (Cert.Kernel16Ideal.Adam.arr_delta m c).symm
  · rw [a1, a2]
    exact (Cert.Kernel16Ideal.Adam.arr_first m c).symm
  · rw [a1, a3]
    exact (Cert.Kernel16Ideal.Adam.arr_second m c).symm

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts,
    Cert.Kernel9Ideal.Gen.facts, Cert.Reference9Ideal.Gen.facts, Cert.Kernel10.Gen.facts, Cert.Kernel10Ideal.Gen.facts,
    Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts,
    Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts,
    Cert.Pre_finite.Gen.facts, Cert.Pre_finite10.Gen.facts, frame_kernel, frame_ideal,
    fun m ρ _ => frame_ideal m ρ trivial, frame_reference, fun m ρ _ => frame_reference m ρ trivial, frame_kernel2, frame_ideal2, frame_reference2,
    frame_kernel3, frame_ideal3, frame_reference3, frame_kernel4, frame_ideal4, frame_reference4, frame_kernel5, frame_ideal5, frame_reference5,
    frame_kernel6, frame_ideal6, frame_reference6, frame_kernel7, frame_ideal7, frame_reference7, frame_kernel8, frame_ideal8, frame_reference8,
    frame_kernel9, frame_ideal9, frame_reference9,
    frame_kernel10, frame_ideal10, fun m ρ _ => frame_ideal10 m ρ trivial, frame_reference10, fun m ρ _ => frame_reference10 m ρ trivial,
    frame_kernel11, frame_ideal11, frame_reference11, frame_kernel12, frame_ideal12, frame_reference12, frame_kernel13, frame_ideal13, frame_reference13,
    frame_kernel14, frame_ideal14, frame_reference14, frame_kernel15, frame_ideal15, frame_reference15, frame_kernel16, frame_ideal16, frame_reference16,
    preserves, algebraic, trivial, algebraic2, trivial, algebraic3, trivial, algebraic4, trivial,
    algebraic5, trivial, algebraic6, trivial, algebraic7, trivial, algebraic8, trivial, algebraic9,
    preserves10, algebraic10, trivial, algebraic11, trivial, algebraic12, trivial, algebraic13, trivial, algebraic14, trivial, algebraic15, trivial, algebraic16⟩

end Cert.Proof

end
